-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_cond [hPre_finite_cond : Cert.Pre_finite_cond.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_cond.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_cond [hPre_finite_cond : Cert.Pre_finite_cond.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_cond.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_cond [hKernel5Ideal : Cert.Kernel5Ideal.Facts] [hPre_finite_cond : Cert.Pre_finite_cond.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_cond m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_cond [hReference5Ideal : Cert.Reference5Ideal.Facts] [hPre_finite_cond : Cert.Pre_finite_cond.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_cond m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v209) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v128) = v0 c
          ∧ r.2.mem ((c.tc : Thread Cert.Reference4Ideal.nD Cert.Reference4Ideal.τ).loc Cert.Reference4Ideal.main_v135) = v1 c
          ∧ r.2.mem ((c.tc : Thread Cert.Reference4Ideal.nD Cert.Reference4Ideal.τ).loc Cert.Reference4Ideal.main_v136) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_finite_cond [hKernel5Ideal : Cert.Kernel5Ideal.Facts] [hReference5Ideal : Cert.Reference5Ideal.Facts] [hPre_finite_cond : Cert.Pre_finite_cond.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_cond m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts) (hPre_finite : Cert.Pre_finite.Facts) (hPre_finite_cond : Cert.Pre_finite_cond.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite_cond (hKernel5Ideal := hKernel5Ideal) (hPre_finite_cond := hPre_finite_cond)
    ∧ quiescent_Reference5Ideal (hReference5Ideal := hReference5Ideal)
    ∧ quiescent_Reference5Ideal_pre_finite_cond (hReference5Ideal := hReference5Ideal) (hPre_finite_cond := hPre_finite_cond)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite_cond (hKernel5Ideal := hKernel5Ideal) (hReference5Ideal := hReference5Ideal) (hPre_finite_cond := hPre_finite_cond)
-- ==== Pre_finite.lean ====
abbrev S40960x1024 : Shape := ⟨2, ![40960, 1024]⟩
abbrev S32x256x2048 : Shape := ⟨3, ![32, 256, 2048]⟩
abbrev S8x4096x2048 : Shape := ⟨3, ![8, 4096, 2048]⟩
abbrev S16x12288 : Shape := ⟨2, ![16, 12288]⟩
abbrev S2048x2048 : Shape := ⟨2, ![2048, 2048]⟩
abbrev S2048 : Shape := ⟨1, ![2048]⟩
abbrev S2048x64 : Shape := ⟨2, ![2048, 64]⟩
abbrev S2048x512 : Shape := ⟨2, ![2048, 512]⟩
abbrev S512x2048 : Shape := ⟨2, ![512, 2048]⟩
abbrev S_ : Shape := ⟨0, ![]⟩

class Facts : Prop where
  bitsLt_bf16_f32 : FTy.bits .bf16 < FTy.bits .f32
  bcast_S_S40960x1024 : S_.BroadcastsInDim S40960x1024 (![] : Fin 0 → Fin S40960x1024.rank)
  reducesTo_S40960x1024_S_d0_1 : S40960x1024.ReducesTo [0, 1] S_
  h_S_ : 0 < S_.numel
  bcast_S_S32x256x2048 : S_.BroadcastsInDim S32x256x2048 (![] : Fin 0 → Fin S32x256x2048.rank)
  reducesTo_S32x256x2048_S_d0_1_2 : S32x256x2048.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S16x12288 : S_.BroadcastsInDim S16x12288 (![] : Fin 0 → Fin S16x12288.rank)
  reducesTo_S16x12288_S_d0_1 : S16x12288.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x64 : S_.BroadcastsInDim S2048x64 (![] : Fin 0 → Fin S2048x64.rank)
  reducesTo_S2048x64_S_d0_1 : S2048x64.ReducesTo [0, 1] S_

variable [Facts]

def fn_part2 {F : FTy → Type} [FloatOps F] (main_arg7 : FVec F S2048 .f32) (main_arg8 : FVec F S2048x64 .f32) (main_v30 : IVec S_ 1) (main_v33 : IVec S2048 1) (main_c_11 : IVec S_ 1) : IVec S_ 1 :=
  let main_v34 : IVec S_ 1 := (fun x v => Host.reduce IntOp.andi x v reducesTo_S2048_S_d0 h_S_) main_v33 main_c_11
  let main_v35 : IVec S_ 1 := andi main_v30 main_v34
  let main_v36 : FVec F S2048 .f32 := Host.absf main_arg7
  let main_cst_12 : FVec F S_ .f32 := constant S_ .f32 0x7F800000#32
  let main_v37 : FVec F S2048 .f32 := broadcastInDim S2048 ![] bcast_S_S2048 main_cst_12
  let main_v38 : IVec S2048 1 := cmpf .olt main_v36 main_v37
  let main_c_13 : IVec S_ 1 := constantI S_ 1 1#1
  let main_v39 : IVec S_ 1 := (fun x v => Host.reduce IntOp.andi x v reducesTo_S2048_S_d0 h_S_) main_v38 main_c_13
  let main_v40 : IVec S_ 1 := andi main_v35 main_v39
  let main_v41 : FVec F S2048x64 .f32 := Host.absf main_arg8
  let main_cst_14 : FVec F S_ .f32 := constant S_ .f32 0x7F800000#32
  let main_v42 : FVec F S2048x64 .f32 := broadcastInDim S2048x64 ![] bcast_S_S2048x64 main_cst_14
  let main_v43 : IVec S2048x64 1 := cmpf .olt main_v41 main_v42
  let main_c_15 : IVec S_ 1 := constantI S_ 1 1#1
  let main_v44 : IVec S_ 1 := (fun x v => Host.reduce IntOp.andi x v reducesTo_S2048x64_S_d0_1 h_S_) main_v43 main_c_15
  let main_v45 : IVec S_ 1 := andi main_v40 main_v44
  main_v45

def fn_part1 {F : FTy → Type} [FloatOps F] (main_arg4 : FVec F S16x12288 .f32) (main_arg5 : FVec F S2048x2048 .f32) (main_arg6 : FVec F S2048 .f32) (main_arg7 : FVec F S2048 .f32) (main_arg8 : FVec F S2048x64 .f32) (main_v15 : IVec S_ 1) (main_v16 : FVec F S8x4096x2048 .f32) (main_cst_4 : FVec F S_ .f32) : IVec S_ 1 :=
  let main_v17 : FVec F S8x4096x2048 .f32 := broadcastInDim S8x4096x2048 ![] bcast_S_S8x4096x2048 main_cst_4
  let main_v18 : IVec S8x4096x2048 1 := cmpf .olt main_v16 main_v17
  let main_c_5 : IVec S_ 1 := constantI S_ 1 1#1
  let main_v19 : IVec S_ 1 := (fun x v => Host.reduce IntOp.andi x v reducesTo_S8x4096x2048_S_d0_1_2 h_S_) main_v18 main_c_5
  let main_v20 : IVec S_ 1 := andi main_v15 main_v19
  let main_v21 : FVec F S16x12288 .f32 := Host.absf main_arg4
  let main_cst_6 : FVec F S_ .f32 := constant S_ .f32 0x7F800000#32
  let main_v22 : FVec F S16x12288 .f32 := broadcastInDim S16x12288 ![] bcast_S_S16x12288 main_cst_6
  let main_v23 : IVec S16x12288 1 := cmpf .olt main_v21 main_v22
  let main_c_7 : IVec S_ 1 := constantI S_ 1 1#1
  let main_v24 : IVec S_ 1 := (fun x v => Host.reduce IntOp.andi x v reducesTo_S16x12288_S_d0_1 h_S_) main_v23 main_c_7
  let main_v25 : IVec S_ 1 := andi main_v20 main_v24
  let main_v26 : FVec F S2048x2048 .f32 := Host.absf main_arg5
  let main_cst_8 : FVec F S_ .f32 := constant S_ .f32 0x7F800000#32
  let main_v27 : FVec F S2048x2048 .f32 := broadcastInDim S2048x2048 ![] bcast_S_S2048x2048 main_cst_8
  let main_v28 : IVec S2048x2048 1 := cmpf .olt main_v26 main_v27
  let main_c_9 : IVec S_ 1 := constantI S_ 1 1#1
  let main_v29 : IVec S_ 1 := (fun x v => Host.reduce IntOp.andi x v reducesTo_S2048x2048_S_d0_1 h_S_) main_v28 main_c_9
  let main_v30 : IVec S_ 1 := andi main_v25 main_v29
  let main_v31 : FVec F S2048 .f32 := Host.absf main_arg6
  let main_cst_10 : FVec F S_ .f32 := constant S_ .f32 0x7F800000#32
  let main_v32 : FVec F S2048 .f32 := broadcastInDim S2048 ![] bcast_S_S2048 main_cst_10
  let main_v33 : IVec S2048 1 := cmpf .olt main_v31 main_v32
  let main_c_11 : IVec S_ 1 := constantI S_ 1 1#1
  fn_part2 (F := F) main_arg7 main_arg8 main_v30 main_v33 main_c_11

def fn {F : FTy → Type} [FloatOps F] (main_arg0 : FVec F S40960x1024 .bf16) (main_arg1 : FVec F S40960x1024 .bf16) (main_arg2 : FVec F S32x256x2048 .f32) (main_arg3 : FVec F S8x4096x2048 .f32) (main_arg4 : FVec F S16x12288 .f32) (main_arg5 : FVec F S2048x2048 .f32) (main_arg6 : FVec F S2048 .f32) (main_arg7 : FVec F S2048 .f32) (main_arg8 : FVec F S2048x64 .f32) (main_arg9 : FVec F S2048x512 .f32) (main_arg10 : FVec F S2048x512 .f32) (main_arg11 : FVec F S512x2048 .f32) : IVec S_ 1 :=
  let main_v0 : FVec F S40960x1024 .f32 := (extf .f32 · bitsLt_bf16_f32) main_arg0
  let main_v1 : FVec F S40960x1024 .f32 := Host.absf main_v0
  let main_cst : FVec F S_ .f32 := constant S_ .f32 0x7F800000#32
  let main_v2 : FVec F S40960x1024 .f32 := broadcastInDim S40960x1024 ![] bcast_S_S40960x1024 main_cst
  let main_v3 : IVec S40960x1024 1 := cmpf .olt main_v1 main_v2
  let main_c : IVec S_ 1 := constantI S_ 1 1#1
  let main_v4 : IVec S_ 1 := (fun x v => Host.reduce IntOp.andi x v reducesTo_S40960x1024_S_d0_1 h_S_) main_v3 main_c
  let main_v5 : FVec F S40960x1024 .f32 := (extf .f32 · bitsLt_bf16_f32) main_arg1
  let main_v6 : FVec F S40960x1024 .f32 := Host.absf main_v5
  let main_cst_0 : FVec F S_ .f32 := constant S_ .f32 0x7F800000#32
  let main_v7 : FVec F S40960x1024 .f32 := broadcastInDim S40960x1024 ![] bcast_S_S40960x1024 main_cst_0
  let main_v8 : IVec S40960x1024 1 := cmpf .olt main_v6 main_v7
  let main_c_1 : IVec S_ 1 := constantI S_ 1 1#1
  let main_v9 : IVec S_ 1 := (fun x v => Host.reduce IntOp.andi x v reducesTo_S40960x1024_S_d0_1 h_S_) main_v8 main_c_1
  let main_v10 : IVec S_ 1 := andi main_v4 main_v9
  let main_v11 : FVec F S32x256x2048 .f32 := Host.absf main_arg2
  let main_cst_2 : FVec F S_ .f32 := constant S_ .f32 0x7F800000#32
  let main_v12 : FVec F S32x256x2048 .f32 := broadcastInDim S32x256x2048 ![] bcast_S_S32x256x2048 main_cst_2
  let main_v13 : IVec S32x256x2048 1 := cmpf .olt main_v11 main_v12
  let main_c_3 : IVec S_ 1 := constantI S_ 1 1#1
  let main_v14 : IVec S_ 1 := (fun x v => Host.reduce IntOp.andi x v reducesTo_S32x256x2048_S_d0_1_2 h_S_) main_v13 main_c_3
  let main_v15 : IVec S_ 1 := andi main_v10 main_v14
  let main_v16 : FVec F S8x4096x2048 .f32 := Host.absf main_arg3
  let main_cst_4 : FVec F S_ .f32 := constant S_ .f32 0x7F800000#32
  fn_part1 (F := F) main_arg4 main_arg5 main_arg6 main_arg7 main_arg8 main_v15 main_v16 main_cst_4
-- ==== Pre_finite_cond.lean ====
abbrev S16x2048 : Shape := ⟨2, ![16, 2048]⟩
abbrev S2048x12288 : Shape := ⟨2, ![2048, 12288]⟩
abbrev S12288 : Shape := ⟨1, ![12288]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S2048x12288 : S_.BroadcastsInDim S2048x12288 (![] : Fin 0 → Fin S2048x12288.rank)
  reducesTo_S2048x12288_S_d0_1 : S2048x12288.ReducesTo [0, 1] S_

variable [Facts]

def fn {F : FTy → Type} [FloatOps F] (main_arg0 : FVec F S16x2048 .f32) (main_arg1 : FVec F S2048x12288 .f32) (main_arg2 : FVec F S12288 .f32) : IVec S_ 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_c : IVec S_ 1 := constantI S_ 1 1#1
  let main_v3 : IVec S_ 1 := (fun x v => Host.reduce IntOp.andi x v reducesTo_S16x2048_S_d0_1 h_S_) main_v2 main_c
  let main_v4 : FVec F S2048x12288 .f32 := Host.absf main_arg1
  let main_cst_0 : FVec F S_ .f32 := constant S_ .f32 0x7F800000#32
  let main_v5 : FVec F S2048x12288 .f32 := broadcastInDim S2048x12288 ![] bcast_S_S2048x12288 main_cst_0
  let main_v6 : IVec S2048x12288 1 := cmpf .olt main_v4 main_v5
  let main_c_1 : IVec S_ 1 := constantI S_ 1 1#1
  let main_v7 : IVec S_ 1 := (fun x v => Host.reduce IntOp.andi x v reducesTo_S2048x12288_S_d0_1 h_S_) main_v6 main_c_1
  let main_v8 : IVec S_ 1 := andi main_v3 main_v7
  main_v8
-- ==== Pre_in_range.lean ====
abbrev S5775360x128 : Shape := ⟨2, ![5775360, 128]⟩
abbrev S704 : Shape := ⟨1, ![704]⟩
abbrev S1 : Shape := ⟨1, ![1]⟩
abbrev S64x2048x512 : Shape := ⟨3, ![64, 2048, 512]⟩
abbrev S64x512x2048 : Shape := ⟨3, ![64, 512, 2048]⟩
abbrev S_ : Shape := ⟨0, ![]⟩

class Facts : Prop where
  bcast_S_S704 : S_.BroadcastsInDim S704 (![] : Fin 0 → Fin S704.rank)
  shapeCasts_S1_S_ : S1.ShapeCasts S_

variable [Facts]

def fn {F : FTy → Type} [FloatOps F] (main_arg0 : FVec F S5775360x128 .f32) (main_arg1 : IVec S704 32) (main_arg2 : IVec S1 32) (main_arg3 : FVec F S64x2048x512 .bf16) (main_arg4 : FVec F S64x2048x512 .bf16) (main_arg5 : FVec F S64x512x2048 .bf16) : IVec S704 1 :=
  let main_c : IVec S_ 32 := constantI S_ 32 0#32
  let main_v0 : IVec S704 32 := broadcastInDim S704 ![] bcast_S_S704 main_c
  let main_v1 : IVec S704 1 := cmpi .sge main_arg1 main_v0
  let main_c_0 : IVec S_ 32 := constantI S_ 32 64#32
  let main_v2 : IVec S704 32 := broadcastInDim S704 ![] bcast_S_S704 main_c_0
  let main_v3 : IVec S704 1 := cmpi .slt main_arg1 main_v2
  let main_v4 : IVec S704 1 := andi main_v1 main_v3
  let main_v5 : IVec S_ 32 := shapeCast S_ main_arg2 shapeCasts_S1_S_
  let main_c_1 : IVec S_ 32 := constantI S_ 32 1#32
  let main_v6 : IVec S_ 1 := cmpi .sge main_v5 main_c_1
  let main_v7 : IVec S704 1 := broadcastInDim S704 ![] bcast_S_S704 main_v6
  let main_v8 : IVec S704 1 := andi main_v4 main_v7
  let main_v9 : IVec S_ 32 := shapeCast S_ main_arg2 shapeCasts_S1_S_
  let main_c_2 : IVec S_ 32 := constantI S_ 32 704#32
  let main_v10 : IVec S_ 1 := cmpi .sle main_v9 main_c_2
  let main_v11 : IVec S704 1 := broadcastInDim S704 ![] bcast_S_S704 main_v10
  let main_v12 : IVec S704 1 := andi main_v8 main_v11
  main_v12
-- ==== Kernel.lean ====
abbrev S40960x7168 : Shape := ⟨2, ![40960, 7168]⟩
abbrev S8 : Shape := ⟨1, ![8]⟩
abbrev S_ : Shape := ⟨0, ![]⟩
abbrev S1x8 : Shape := ⟨2, ![1, 8]⟩
abbrev S2x8 : Shape := ⟨2, ![2, 8]⟩
abbrev S32x8x128x128 : Shape := ⟨4, ![32, 8, 128, 128]⟩
abbrev S8x128 : Shape := ⟨2, ![8, 128]⟩
abbrev S8192x1024 : Shape := ⟨2, ![8192, 1024]⟩
abbrev S256x128 : Shape := ⟨2, ![256, 128]⟩
abbrev S1x1x128x128 : Shape := ⟨4, ![1, 1, 128, 128]⟩
abbrev S128x128 : Shape := ⟨2, ![128, 128]⟩
abbrev S128x1 : Shape := ⟨2, ![128, 1]⟩
abbrev S1x1 : Shape := ⟨2, ![1, 1]⟩
abbrev S256 : Shape := ⟨1, ![256]⟩
abbrev S256x1 : Shape := ⟨2, ![256, 1]⟩

abbrev nBuf : Space → Nat
  | .hbm => 47
  | .vmem => 24
  | .smem => 1
  | _ => 0

abbrev bufTy : (tb : Table) → Fin (tcTables nBuf tb) → BufTy
  | .hbm, ⟨0, _⟩ => ⟨S40960x7168, .bf16⟩
  | .hbm, ⟨1, _⟩ => ⟨S8, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .i1⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S8, .i1⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S1x8, .f32⟩
  | .hbm, ⟨36, _⟩ => ⟨S1x8, .f32⟩
  | .hbm, ⟨37, _⟩ => ⟨S2x8, .f32⟩
  | .hbm, ⟨38, _⟩ => ⟨S_, .f32⟩
  | .hbm, ⟨39, _⟩ => ⟨S32x8x128x128, .f32⟩
  | .hbm, ⟨40, _⟩ => ⟨S_, .f32⟩
  | .hbm, ⟨41, _⟩ => ⟨S8x128, .f32⟩
  | .hbm, ⟨42, _⟩ => ⟨S_, .f32⟩
  | .hbm, ⟨43, _⟩ => ⟨S8x128, .f32⟩
  | .hbm, ⟨44, _⟩ => ⟨S8192x1024, .bf16⟩
  | .hbm, ⟨45, _⟩ => ⟨S32x8x128x128, .f32⟩
  | .hbm, ⟨46, _⟩ => ⟨S32x8x128x128, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S8x128, .f32⟩
  | .local _ .vmem, ⟨9, _⟩ => ⟨S8x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1x1x128x128, .f32⟩
  | .local _ .vmem, ⟨14, _⟩ => ⟨S256x128, .bf16⟩
  | .local _ .vmem, ⟨15, _⟩ => ⟨S256x128, .bf16⟩
  | .local _ .vmem, ⟨16, _⟩ => ⟨S1x1x128x128, .f32⟩
  | .local _ .vmem, ⟨17, _⟩ => ⟨S1x1x128x128, .f32⟩
  | .local _ .vmem, ⟨18, _⟩ => ⟨S1x1x128x128, .f32⟩
  | .local _ .vmem, ⟨19, _⟩ => ⟨S1x1x128x128, .f32⟩
  | .local _ .vmem, ⟨20, _⟩ => ⟨S256x128, .f32⟩
  | .local _ .vmem, ⟨21, _⟩ => ⟨S256x128, .f32⟩
  | .local _ .vmem, ⟨22, _⟩ => ⟨S256x128, .bf16⟩
  | .local _ .vmem, ⟨23, _⟩ => ⟨S256x128, .f32⟩
  | .local _ .smem, ⟨0, _⟩ => ⟨S2x8, .f32⟩
  | _, _ => ⟨S40960x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v0 : Ref sig .tc := ⟨.hbm, 18, rfl⟩
abbrev main_call1_v0 : Ref sig .tc := ⟨.hbm, 19, rfl⟩
abbrev main_call1_call0_cst : Ref sig .tc := ⟨.hbm, 20, rfl⟩
abbrev main_call1_call0_v0 : Ref sig .tc := ⟨.hbm, 21, rfl⟩
abbrev main_call1_call0_v1 : Ref sig .tc := ⟨.hbm, 22, rfl⟩
abbrev main_call1_call0_v2 : Ref sig .tc := ⟨.hbm, 23, rfl⟩
abbrev main_call1_call0_v3 : Ref sig .tc := ⟨.hbm, 24, rfl⟩
abbrev main_call1_call0_v4 : Ref sig .tc := ⟨.hbm, 25, rfl⟩
abbrev main_call1_call0_v5 : Ref sig .tc := ⟨.hbm, 26, rfl⟩
abbrev main_call1_call0_v6 : Ref sig .tc := ⟨.hbm, 27, rfl⟩
abbrev main_call1_call0_v7 : Ref sig .tc := ⟨.hbm, 28, rfl⟩
abbrev main_call1_call0_v8 : Ref sig .tc := ⟨.hbm, 29, rfl⟩
abbrev main_call1_call0_v9 : Ref sig .tc := ⟨.hbm, 30, rfl⟩
abbrev main_call1_call0_v10 : Ref sig .tc := ⟨.hbm, 31, rfl⟩
abbrev main_call1_call0_v11 : Ref sig .tc := ⟨.hbm, 32, rfl⟩
abbrev main_call1_v1 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_cst_0 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8_0 : Ref sig .tc := ⟨.hbm, 44, rfl⟩
abbrev main_v8_1 : Ref sig .tc := ⟨.hbm, 45, rfl⟩
abbrev main_v8_2 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 8], ![false, false]⟩

def k0_off1 (i : grid0.Coords) : Fin 2 → Nat :=
  let c0_11 : Index := 0#32
  let arg1 : BitVec 32 := BitVec.ofNat 32 (i 1).val
  let v22 : Index := Scalar.indexCast arg1
  ![0, v22.toNat]
@[reducible] def k0_t1_loop : Scf.Loop 32 :=
  let c0_i32 : BitVec 32 := 0#32
  let c2_i32 : BitVec 32 := 2#32
  let v48 : BitVec 32 := Scalar.addi c0_i32 c2_i32
  let c1_i32 : BitVec 32 := 1#32
  ⟨c0_i32, v48, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32 : BitVec 32 := 128#32
  let v108 : BitVec 32 := Scalar.muli arg18 c128_i32
  v108
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c128_i32 : BitVec 32 := 128#32
  let v108 : BitVec 32 := Scalar.muli arg18 c128_i32
  let v109 : BitVec 32 := v108
  let v110 : Index := Scalar.indexCast v109
  let c0_55 : Index := 0#32
  ![v110.toNat, 0]
def k0_off3 (i : grid0.Coords) : Fin 2 → Nat :=
  let c1 : Index := 1#32
  let arg1 : BitVec 32 := BitVec.ofNat 32 (i 1).val
  let v50 : Index := Scalar.indexCast arg1
  ![1, v50.toNat]
@[reducible] def k0_t2_loop : Scf.Loop 32 :=
  let c0_i32_32 : BitVec 32 := 0#32
  let c2_i32_33 : BitVec 32 := 2#32
  let v74 : BitVec 32 := Scalar.addi c0_i32_32 c2_i32_33
  let c1_i32_34 : BitVec 32 := 1#32
  ⟨c0_i32_32, v74, c1_i32_34⟩
def k0_mult2 (k0_t2 : Fin k0_t2_loop.trips) : BitVec 32 :=
  let c1_i32_55 : BitVec 32 := 1#32
  let c0_i32_32 : BitVec 32 := 0#32
  let c1_i32_34 : BitVec 32 := 1#32
  let arg18 : BitVec 32 := Scf.iv c0_i32_32 c1_i32_34 k0_t2
  let v108 : BitVec 32 := Scalar.subi c1_i32_55 arg18
  let c128_i32 : BitVec 32 := 128#32
  let v109 : BitVec 32 := Scalar.muli v108 c128_i32
  v109
def k0_off4 (k0_t2 : Fin k0_t2_loop.trips) : Fin 2 → Nat :=
  let c1_i32_55 : BitVec 32 := 1#32
  let c0_i32_32 : BitVec 32 := 0#32
  let c1_i32_34 : BitVec 32 := 1#32
  let arg18 : BitVec 32 := Scf.iv c0_i32_32 c1_i32_34 k0_t2
  let v108 : BitVec 32 := Scalar.subi c1_i32_55 arg18
  let c128_i32 : BitVec 32 := 128#32
  let v109 : BitVec 32 := Scalar.muli v108 c128_i32
  let v110 : BitVec 32 := v109
  let v111 : Index := Scalar.indexCast v110
  let c0_56 : Index := 0#32
  ![v111.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.addi c32_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c40_i32 : BitVec 32 := 40#32
  let v1 : BitVec 32 := Scalar.addi c40_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c48_i32 : BitVec 32 := 48#32
  let v1 : BitVec 32 := Scalar.addi c48_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S40960x7168 : Shape := ⟨2, ![40960, 7168]⟩
abbrev S8 : Shape := ⟨1, ![8]⟩
abbrev S8192x7168 : Shape := ⟨2, ![8192, 7168]⟩
abbrev S32x256x7168 : Shape := ⟨3, ![32, 256, 7168]⟩
abbrev S_ : Shape := ⟨0, ![]⟩
abbrev S32x8x128x128 : Shape := ⟨4, ![32, 8, 128, 128]⟩
abbrev S32x256x4096 : Shape := ⟨3, ![32, 256, 4096]⟩
abbrev S32x256x1024 : Shape := ⟨3, ![32, 256, 1024]⟩
abbrev S32x256x8x128 : Shape := ⟨4, ![32, 256, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S32x2x128x8x128 : Shape := ⟨5, ![32, 2, 128, 8, 128]⟩
abbrev S2x32x8x128x128 : Shape := ⟨5, ![2, 32, 8, 128, 128]⟩
abbrev S1x32x8x128x128 : Shape := ⟨5, ![1, 32, 8, 128, 128]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S32x256x8 : Shape := ⟨3, ![32, 256, 8]⟩
abbrev S32x256x8x1 : Shape := ⟨4, ![32, 256, 8, 1]⟩
abbrev S8192x1024 : Shape := ⟨2, ![8192, 1024]⟩

abbrev nBuf : Space → Nat
  | .hbm => 306
  | .vmem => 0
  | .smem => 0
  | _ => 0

abbrev hbmTy0_0 (i : Nat) : BufTy := match i % 128 with
  | 0 => ⟨S40960x7168, .bf16⟩
  | 1 => ⟨S8, .f32⟩
  | 2 => ⟨S8, .f32⟩
  | 3 => ⟨S8192x7168, .bf16⟩
  | 4 => ⟨S8192x7168, .f32⟩
  | 5 => ⟨S32x256x7168, .f32⟩
  | 6 => ⟨S_, .f32⟩
  | 7 => ⟨S32x8x128x128, .f32⟩
  | 8 => ⟨S32x256x4096, .f32⟩
  | 9 => ⟨S32x256x1024, .f32⟩
  | 10 => ⟨S32x256x1024, .f32⟩
  | 11 => ⟨S32x256x1024, .f32⟩
  | 12 => ⟨S32x256x1024, .f32⟩
  | 13 => ⟨S32x256x8x128, .f32⟩
  | 14 => ⟨S32x256x8x128, .f32⟩
  | 15 => ⟨S_, .f32⟩
  | 16 => ⟨S32x256x8x128, .f32⟩
  | 17 => ⟨S32x256x8x128, .f32⟩
  | 18 => ⟨S32x256x8x128, .f32⟩
  | 19 => ⟨S8, .f32⟩
  | 20 => ⟨S_, .f32⟩
  | 21 => ⟨S8, .f32⟩
  | 22 => ⟨S8, .f32⟩
  | 23 => ⟨S8, .f32⟩
  | 24 => ⟨S8, .f32⟩
  | 25 => ⟨S8, .i1⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S8, .f32⟩
  | 41 => ⟨S8, .i1⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S128, .f32⟩
  | 52 => ⟨S128x1, .f32⟩
  | 53 => ⟨S1x128, .f32⟩
  | 54 => ⟨S128x128, .f32⟩
  | 55 => ⟨S128x128, .f32⟩
  | 56 => ⟨S128x128, .f32⟩
  | 57 => ⟨S_, .f32⟩
  | 58 => ⟨S128x128, .f32⟩
  | 59 => ⟨S128x128, .i1⟩
  | 60 => ⟨S8x1x1, .f32⟩
  | 61 => ⟨S_, .f32⟩
  | 62 => ⟨S128x128, .f32⟩
  | 63 => ⟨S128x128, .f32⟩
  | 64 => ⟨S1x128x128, .f32⟩
  | 65 => ⟨S8x128x128, .f32⟩
  | 66 => ⟨S8x128x128, .f32⟩
  | 67 => ⟨S8x128x128, .f32⟩
  | 68 => ⟨S8x128x128, .f32⟩
  | 69 => ⟨S_, .f32⟩
  | 70 => ⟨S_, .f32⟩
  | 71 => ⟨S8x128x128, .i1⟩
  | 72 => ⟨S8x128x128, .f32⟩
  | 73 => ⟨S8x128x128, .f32⟩
  | 74 => ⟨S8x1, .f32⟩
  | 75 => ⟨S_, .f32⟩
  | 76 => ⟨S128, .f32⟩
  | 77 => ⟨S128, .f32⟩
  | 78 => ⟨S1x128, .f32⟩
  | 79 => ⟨S8x128, .f32⟩
  | 80 => ⟨S8x128, .f32⟩
  | 81 => ⟨S8x128, .f32⟩
  | 82 => ⟨S8x128, .f32⟩
  | 83 => ⟨S8x128x1, .f32⟩
  | 84 => ⟨S8x1, .f32⟩
  | 85 => ⟨S_, .f32⟩
  | 86 => ⟨S128, .f32⟩
  | 87 => ⟨S128, .f32⟩
  | 88 => ⟨S1x128, .f32⟩
  | 89 => ⟨S8x128, .f32⟩
  | 90 => ⟨S8x128, .f32⟩
  | 91 => ⟨S8x128, .f32⟩
  | 92 => ⟨S8x128, .f32⟩
  | 93 => ⟨S8x128x1, .f32⟩
  | 94 => ⟨S_, .f32⟩
  | 95 => ⟨S8, .f32⟩
  | 96 => ⟨S8, .f32⟩
  | 97 => ⟨S8, .f32⟩
  | 98 => ⟨S8x1x1, .f32⟩
  | 99 => ⟨S32x2x128x8x128, .f32⟩
  | 100 => ⟨S2x32x8x128x128, .f32⟩
  | 101 => ⟨S32x2x128x8x128, .f32⟩
  | 102 => ⟨S2x32x8x128x128, .f32⟩
  | 103 => ⟨S32x2x128x8x128, .f32⟩
  | 104 => ⟨S2x32x8x128x128, .f32⟩
  | 105 => ⟨S1x32x8x128x128, .f32⟩
  | 106 => ⟨S32x8x128x128, .f32⟩
  | 107 => ⟨S1x32x8x128x128, .f32⟩
  | 108 => ⟨S32x8x128x128, .f32⟩
  | 109 => ⟨S1x32x8x128x128, .f32⟩
  | 110 => ⟨S32x8x128x128, .f32⟩
  | 111 => ⟨S32x8x128x128, .f32⟩
  | 112 => ⟨S1x8x128x128, .f32⟩
  | 113 => ⟨S32x8x128x128, .f32⟩
  | 114 => ⟨S32x8x128x128, .f32⟩
  | 115 => ⟨S32x8x128x128, .f32⟩
  | 116 => ⟨S1x8x128x1, .f32⟩
  | 117 => ⟨S32x8x128x128, .f32⟩
  | 118 => ⟨S32x8x128x128, .f32⟩
  | 119 => ⟨S32x8x128x128, .f32⟩
  | 120 => ⟨S32x8x128x128, .f32⟩
  | 121 => ⟨S1x8x1x1, .f32⟩
  | 122 => ⟨S32x8x128x128, .f32⟩
  | 123 => ⟨S32x8x128x128, .f32⟩
  | 124 => ⟨S1x8x128x1, .f32⟩
  | 125 => ⟨S32x8x128x128, .f32⟩
  | 126 => ⟨S32x8x128x128, .f32⟩
  | 127 => ⟨S32x8x128x128, .f32⟩
  | _ => ⟨S40960x7168, .bf16⟩

abbrev hbmTy0_1 (i : Nat) : BufTy := match i % 128 with
  | 0 => ⟨S32x8x128x128, .f32⟩
  | 1 => ⟨S1x32x8x128x128, .f32⟩
  | 2 => ⟨S32x8x128x128, .f32⟩
  | 3 => ⟨S1x32x8x128x128, .f32⟩
  | 4 => ⟨S32x8x128x128, .f32⟩
  | 5 => ⟨S1x32x8x128x128, .f32⟩
  | 6 => ⟨S32x8x128x128, .f32⟩
  | 7 => ⟨S32x8x128x128, .f32⟩
  | 8 => ⟨S1x8x128x128, .f32⟩
  | 9 => ⟨S32x8x128x128, .f32⟩
  | 10 => ⟨S32x8x128x128, .f32⟩
  | 11 => ⟨S32x8x128x128, .f32⟩
  | 12 => ⟨S1x8x128x1, .f32⟩
  | 13 => ⟨S32x8x128x128, .f32⟩
  | 14 => ⟨S32x8x128x128, .f32⟩
  | 15 => ⟨S32x8x128x128, .f32⟩
  | 16 => ⟨S32x8x128x128, .f32⟩
  | 17 => ⟨S1x8x1x1, .f32⟩
  | 18 => ⟨S32x8x128x128, .f32⟩
  | 19 => ⟨S32x8x128x128, .f32⟩
  | 20 => ⟨S1x8x128x1, .f32⟩
  | 21 => ⟨S32x8x128x128, .f32⟩
  | 22 => ⟨S32x8x128x128, .f32⟩
  | 23 => ⟨S32x8x128x128, .f32⟩
  | 24 => ⟨S32x8x128x128, .f32⟩
  | 25 => ⟨S1x32x8x128x128, .f32⟩
  | 26 => ⟨S1x32x8x128x128, .f32⟩
  | 27 => ⟨S2x32x8x128x128, .f32⟩
  | 28 => ⟨S32x2x128x8x128, .f32⟩
  | 29 => ⟨S32x256x8x128, .f32⟩
  | 30 => ⟨S32x256x8x128, .f32⟩
  | 31 => ⟨S32x256x8x128, .f32⟩
  | 32 => ⟨S32x256x8x128, .f32⟩
  | 33 => ⟨S128, .f32⟩
  | 34 => ⟨S128x1, .f32⟩
  | 35 => ⟨S1x128, .f32⟩
  | 36 => ⟨S128x128, .f32⟩
  | 37 => ⟨S128x128, .f32⟩
  | 38 => ⟨S128x128, .f32⟩
  | 39 => ⟨S_, .f32⟩
  | 40 => ⟨S128x128, .f32⟩
  | 41 => ⟨S128x128, .i1⟩
  | 42 => ⟨S8x1x1, .f32⟩
  | 43 => ⟨S_, .f32⟩
  | 44 => ⟨S128x128, .f32⟩
  | 45 => ⟨S128x128, .f32⟩
  | 46 => ⟨S1x128x128, .f32⟩
  | 47 => ⟨S8x128x128, .f32⟩
  | 48 => ⟨S8x128x128, .f32⟩
  | 49 => ⟨S8x128x128, .f32⟩
  | 50 => ⟨S8x128x128, .f32⟩
  | 51 => ⟨S_, .f32⟩
  | 52 => ⟨S_, .f32⟩
  | 53 => ⟨S8x128x128, .i1⟩
  | 54 => ⟨S8x128x128, .f32⟩
  | 55 => ⟨S8x128x128, .f32⟩
  | 56 => ⟨S8x1, .f32⟩
  | 57 => ⟨S_, .f32⟩
  | 58 => ⟨S128, .f32⟩
  | 59 => ⟨S128, .f32⟩
  | 60 => ⟨S1x128, .f32⟩
  | 61 => ⟨S8x128, .f32⟩
  | 62 => ⟨S8x128, .f32⟩
  | 63 => ⟨S8x128, .f32⟩
  | 64 => ⟨S8x128, .f32⟩
  | 65 => ⟨S8x128x1, .f32⟩
  | 66 => ⟨S8x1, .f32⟩
  | 67 => ⟨S_, .f32⟩
  | 68 => ⟨S128, .f32⟩
  | 69 => ⟨S128, .f32⟩
  | 70 => ⟨S1x128, .f32⟩
  | 71 => ⟨S8x128, .f32⟩
  | 72 => ⟨S8x128, .f32⟩
  | 73 => ⟨S8x128, .f32⟩
  | 74 => ⟨S8x128, .f32⟩
  | 75 => ⟨S8x128x1, .f32⟩
  | 76 => ⟨S_, .f32⟩
  | 77 => ⟨S8, .f32⟩
  | 78 => ⟨S8, .f32⟩
  | 79 => ⟨S8, .f32⟩
  | 80 => ⟨S8x1x1, .f32⟩
  | 81 => ⟨S32x2x128x8x128, .f32⟩
  | 82 => ⟨S2x32x8x128x128, .f32⟩
  | 83 => ⟨S32x2x128x8x128, .f32⟩
  | 84 => ⟨S2x32x8x128x128, .f32⟩
  | 85 => ⟨S32x2x128x8x128, .f32⟩
  | 86 => ⟨S2x32x8x128x128, .f32⟩
  | 87 => ⟨S1x32x8x128x128, .f32⟩
  | 88 => ⟨S32x8x128x128, .f32⟩
  | 89 => ⟨S1x32x8x128x128, .f32⟩
  | 90 => ⟨S32x8x128x128, .f32⟩
  | 91 => ⟨S1x32x8x128x128, .f32⟩
  | 92 => ⟨S32x8x128x128, .f32⟩
  | 93 => ⟨S32x8x128x128, .f32⟩
  | 94 => ⟨S1x8x128x128, .f32⟩
  | 95 => ⟨S32x8x128x128, .f32⟩
  | 96 => ⟨S32x8x128x128, .f32⟩
  | 97 => ⟨S32x8x128x128, .f32⟩
  | 98 => ⟨S1x8x128x1, .f32⟩
  | 99 => ⟨S32x8x128x128, .f32⟩
  | 100 => ⟨S32x8x128x128, .f32⟩
  | 101 => ⟨S32x8x128x128, .f32⟩
  | 102 => ⟨S32x8x128x128, .f32⟩
  | 103 => ⟨S1x8x1x1, .f32⟩
  | 104 => ⟨S32x8x128x128, .f32⟩
  | 105 => ⟨S32x8x128x128, .f32⟩
  | 106 => ⟨S1x8x128x1, .f32⟩
  | 107 => ⟨S32x8x128x128, .f32⟩
  | 108 => ⟨S32x8x128x128, .f32⟩
  | 109 => ⟨S32x8x128x128, .f32⟩
  | 110 => ⟨S32x8x128x128, .f32⟩
  | 111 => ⟨S1x32x8x128x128, .f32⟩
  | 112 => ⟨S32x8x128x128, .f32⟩
  | 113 => ⟨S1x32x8x128x128, .f32⟩
  | 114 => ⟨S32x8x128x128, .f32⟩
  | 115 => ⟨S1x32x8x128x128, .f32⟩
  | 116 => ⟨S32x8x128x128, .f32⟩
  | 117 => ⟨S32x8x128x128, .f32⟩
  | 118 => ⟨S1x8x128x128, .f32⟩
  | 119 => ⟨S32x8x128x128, .f32⟩
  | 120 => ⟨S32x8x128x128, .f32⟩
  | 121 => ⟨S32x8x128x128, .f32⟩
  | 122 => ⟨S1x8x128x1, .f32⟩
  | 123 => ⟨S32x8x128x128, .f32⟩
  | 124 => ⟨S32x8x128x128, .f32⟩
  | 125 => ⟨S32x8x128x128, .f32⟩
  | 126 => ⟨S32x8x128x128, .f32⟩
  | 127 => ⟨S1x8x1x1, .f32⟩
  | _ => ⟨S40960x7168, .bf16⟩

abbrev hbmTy0_2 (i : Nat) : BufTy := match i % 128 with
  | 0 => ⟨S32x8x128x128, .f32⟩
  | 1 => ⟨S32x8x128x128, .f32⟩
  | 2 => ⟨S1x8x128x1, .f32⟩
  | 3 => ⟨S32x8x128x128, .f32⟩
  | 4 => ⟨S32x8x128x128, .f32⟩
  | 5 => ⟨S32x8x128x128, .f32⟩
  | 6 => ⟨S32x8x128x128, .f32⟩
  | 7 => ⟨S1x32x8x128x128, .f32⟩
  | 8 => ⟨S1x32x8x128x128, .f32⟩
  | 9 => ⟨S2x32x8x128x128, .f32⟩
  | 10 => ⟨S32x2x128x8x128, .f32⟩
  | 11 => ⟨S32x256x8x128, .f32⟩
  | 12 => ⟨S32x256x8x128, .f32⟩
  | 13 => ⟨S32x256x8x128, .f32⟩
  | 14 => ⟨S_, .f32⟩
  | 15 => ⟨S32x256x8, .f32⟩
  | 16 => ⟨S32x256x8x1, .f32⟩
  | 17 => ⟨S_, .f32⟩
  | 18 => ⟨S32x256x8x1, .f32⟩
  | 19 => ⟨S32x256x8x1, .f32⟩
  | 20 => ⟨S32x256x8x128, .f32⟩
  | 21 => ⟨S32x256x8x128, .f32⟩
  | 22 => ⟨S32x256x8x128, .f32⟩
  | 23 => ⟨S_, .f32⟩
  | 24 => ⟨S32x256x8, .f32⟩
  | 25 => ⟨S32x256x8x1, .f32⟩
  | 26 => ⟨S_, .f32⟩
  | 27 => ⟨S32x256x8x1, .f32⟩
  | 28 => ⟨S32x256x8x1, .f32⟩
  | 29 => ⟨S32x256x8x128, .f32⟩
  | 30 => ⟨S32x256x8x128, .f32⟩
  | 31 => ⟨S_, .f32⟩
  | 32 => ⟨S32x256x8x1, .f32⟩
  | 33 => ⟨S32x256x8x1, .f32⟩
  | 34 => ⟨S32x256x8x1, .f32⟩
  | 35 => ⟨S32x256x8x128, .f32⟩
  | 36 => ⟨S32x256x8x128, .f32⟩
  | 37 => ⟨S32x256x1024, .f32⟩
  | 38 => ⟨S32x256x1024, .f32⟩
  | 39 => ⟨S32x256x1024, .f32⟩
  | 40 => ⟨S_, .f32⟩
  | 41 => ⟨S32x256x1024, .f32⟩
  | 42 => ⟨S32x256x1024, .f32⟩
  | 43 => ⟨S_, .f32⟩
  | 44 => ⟨S32x256x1024, .f32⟩
  | 45 => ⟨S32x256x1024, .f32⟩
  | 46 => ⟨S32x256x1024, .f32⟩
  | 47 => ⟨S32x256x1024, .f32⟩
  | 48 => ⟨S8192x1024, .f32⟩
  | 49 => ⟨S8192x1024, .bf16⟩
  | _ => ⟨S40960x7168, .bf16⟩

abbrev hbmTy (i : Nat) : BufTy := match i / 128 with
  | 0 => hbmTy0_0 i
  | 1 => hbmTy0_1 i
  | 2 => hbmTy0_2 i
  | _ => ⟨S40960x7168, .bf16⟩

abbrev bufTy : (tb : Table) → Fin (tcTables nBuf tb) → BufTy
  | .hbm, ⟨i, _⟩ => hbmTy i
  | _, _ => ⟨S40960x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_2 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v32 : Ref sig .tc := ⟨.hbm, 73, rfl⟩
abbrev main_v33 : Ref sig .tc := ⟨.hbm, 74, rfl⟩
abbrev main_cst_4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_5 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_6 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_7 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_8 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_9 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_v133 : Ref sig .tc := ⟨.hbm, 183, rfl⟩
abbrev main_v134 : Ref sig .tc := ⟨.hbm, 184, rfl⟩
abbrev main_cst_10 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_11 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_12 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_cst_13 : Ref sig .tc := ⟨.hbm, 270, rfl⟩
abbrev main_v217 : Ref sig .tc := ⟨.hbm, 271, rfl⟩
abbrev main_v218 : Ref sig .tc := ⟨.hbm, 272, rfl⟩
abbrev main_cst_14 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_cst_15 : Ref sig .tc := ⟨.hbm, 279, rfl⟩
abbrev main_v224 : Ref sig .tc := ⟨.hbm, 280, rfl⟩
abbrev main_v225 : Ref sig .tc := ⟨.hbm, 281, rfl⟩
abbrev main_cst_16 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_cst_17 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_call4_v0 : Ref sig .tc := ⟨.hbm, 294, rfl⟩
abbrev main_call4_v1 : Ref sig .tc := ⟨.hbm, 295, rfl⟩
abbrev main_call4_cst : Ref sig .tc := ⟨.hbm, 296, rfl⟩
abbrev main_call4_v2 : Ref sig .tc := ⟨.hbm, 297, rfl⟩
abbrev main_call4_v3 : Ref sig .tc := ⟨.hbm, 298, rfl⟩
abbrev main_call4_cst_0 : Ref sig .tc := ⟨.hbm, 299, rfl⟩
abbrev main_call4_v4 : Ref sig .tc := ⟨.hbm, 300, rfl⟩
abbrev main_call4_v5 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩

abbrev nD : Nat := 1
abbrev τ : Topo := Topo.v7x

variable {F : FTy → Type} [FloatOps F]
-- ==== Kernel2.lean ====
abbrev S5775360x128 : Shape := ⟨2, ![5775360, 128]⟩
abbrev S704 : Shape := ⟨1, ![704]⟩
abbrev S1 : Shape := ⟨1, ![1]⟩
abbrev S64x2048x512 : Shape := ⟨3, ![64, 2048, 512]⟩
abbrev S64x512x2048 : Shape := ⟨3, ![64, 512, 2048]⟩
abbrev S5767168x128 : Shape := ⟨2, ![5767168, 128]⟩
abbrev S8192x128 : Shape := ⟨2, ![8192, 128]⟩
abbrev S1x2048x512 : Shape := ⟨3, ![1, 2048, 512]⟩
abbrev S1x512x2048 : Shape := ⟨3, ![1, 512, 2048]⟩
abbrev S512x128 : Shape := ⟨2, ![512, 128]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 10
  | .smem => 2
  | _ => 0

abbrev bufTy : (tb : Table) → Fin (tcTables nBuf tb) → BufTy
  | .hbm, ⟨0, _⟩ => ⟨S5775360x128, .f32⟩
  | .hbm, ⟨1, _⟩ => ⟨S64x2048x512, .bf16⟩
  | .hbm, ⟨2, _⟩ => ⟨S64x2048x512, .bf16⟩
  | .hbm, ⟨3, _⟩ => ⟨S64x512x2048, .bf16⟩
  | .hbm, ⟨4, _⟩ => ⟨S5767168x128, .f32⟩
  | .local _ .vmem, ⟨0, _⟩ => ⟨S8192x128, .f32⟩
  | .local _ .vmem, ⟨1, _⟩ => ⟨S8192x128, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S8192x128, .f32⟩
  | .local _ .vmem, ⟨9, _⟩ => ⟨S8192x128, .f32⟩
  | .local _ .smem, ⟨0, _⟩ => ⟨S704, .i32⟩
  | .local _ .smem, ⟨1, _⟩ => ⟨S1, .i32⟩
  | _, _ => ⟨S5775360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![704], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S704.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S704.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S704.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S5775360x128 : Shape := ⟨2, ![5775360, 128]⟩
abbrev S704 : Shape := ⟨1, ![704]⟩
abbrev S1 : Shape := ⟨1, ![1]⟩
abbrev S64x2048x512 : Shape := ⟨3, ![64, 2048, 512]⟩
abbrev S64x512x2048 : Shape := ⟨3, ![64, 512, 2048]⟩
abbrev S360960x2048 : Shape := ⟨2, ![360960, 2048]⟩
abbrev S360448x2048 : Shape := ⟨2, ![360448, 2048]⟩
abbrev S704x1 : Shape := ⟨2, ![704, 1]⟩
abbrev S704x512 : Shape := ⟨2, ![704, 512]⟩
abbrev S360448 : Shape := ⟨1, ![360448]⟩
abbrev S_ : Shape := ⟨0, ![]⟩
abbrev S360448x1 : Shape := ⟨2, ![360448, 1]⟩
abbrev S360448x2048x512 : Shape := ⟨3, ![360448, 2048, 512]⟩
abbrev S360448x512 : Shape := ⟨2, ![360448, 512]⟩
abbrev S360448x512x2048 : Shape := ⟨3, ![360448, 512, 2048]⟩
abbrev S5767168x128 : Shape := ⟨2, ![5767168, 128]⟩

abbrev nBuf : Space → Nat
  | .hbm => 67
  | .vmem => 0
  | .smem => 0
  | _ => 0

abbrev bufTy : (tb : Table) → Fin (tcTables nBuf tb) → BufTy
  | .hbm, ⟨0, _⟩ => ⟨S5775360x128, .f32⟩
  | .hbm, ⟨1, _⟩ => ⟨S704, .i32⟩
  | .hbm, ⟨2, _⟩ => ⟨S1, .i32⟩
  | .hbm, ⟨3, _⟩ => ⟨S64x2048x512, .bf16⟩
  | .hbm, ⟨4, _⟩ => ⟨S64x2048x512, .bf16⟩
  | .hbm, ⟨5, _⟩ => ⟨S64x512x2048, .bf16⟩
  | .hbm, ⟨6, _⟩ => ⟨S360960x2048, .f32⟩
  | .hbm, ⟨7, _⟩ => ⟨S360448x2048, .f32⟩
  | .hbm, ⟨8, _⟩ => ⟨S64x2048x512, .f32⟩
  | .hbm, ⟨9, _⟩ => ⟨S64x2048x512, .f32⟩
  | .hbm, ⟨10, _⟩ => ⟨S64x512x2048, .f32⟩
  | .hbm, ⟨11, _⟩ => ⟨S704x1, .i32⟩
  | .hbm, ⟨12, _⟩ => ⟨S704x512, .i32⟩
  | .hbm, ⟨13, _⟩ => ⟨S360448, .i32⟩
  | .hbm, ⟨14, _⟩ => ⟨S_, .i32⟩
  | .hbm, ⟨15, _⟩ => ⟨S360448, .i32⟩
  | .hbm, ⟨16, _⟩ => ⟨S360448, .i1⟩
  | .hbm, ⟨17, _⟩ => ⟨S_, .i32⟩
  | .hbm, ⟨18, _⟩ => ⟨S360448, .i32⟩
  | .hbm, ⟨19, _⟩ => ⟨S360448, .i32⟩
  | .hbm, ⟨20, _⟩ => ⟨S360448, .i32⟩
  | .hbm, ⟨21, _⟩ => ⟨S360448x1, .i32⟩
  | .hbm, ⟨22, _⟩ => ⟨S360448x2048x512, .f32⟩
  | .hbm, ⟨23, _⟩ => ⟨S360448x512, .f32⟩
  | .hbm, ⟨24, _⟩ => ⟨S_, .i32⟩
  | .hbm, ⟨25, _⟩ => ⟨S360448, .i32⟩
  | .hbm, ⟨26, _⟩ => ⟨S360448, .i1⟩
  | .hbm, ⟨27, _⟩ => ⟨S_, .i32⟩
  | .hbm, ⟨28, _⟩ => ⟨S360448, .i32⟩
  | .hbm, ⟨29, _⟩ => ⟨S360448, .i32⟩
  | .hbm, ⟨30, _⟩ => ⟨S360448, .i32⟩
  | .hbm, ⟨31, _⟩ => ⟨S360448x1, .i32⟩
  | .hbm, ⟨32, _⟩ => ⟨S360448x2048x512, .f32⟩
  | .hbm, ⟨33, _⟩ => ⟨S360448x512, .f32⟩
  | .hbm, ⟨34, _⟩ => ⟨S360448x512, .f32⟩
  | .hbm, ⟨35, _⟩ => ⟨S360448x512, .f32⟩
  | .hbm, ⟨36, _⟩ => ⟨S_, .f32⟩
  | .hbm, ⟨37, _⟩ => ⟨S360448x512, .f32⟩
  | .hbm, ⟨38, _⟩ => ⟨S360448x512, .f32⟩
  | .hbm, ⟨39, _⟩ => ⟨S_, .f32⟩
  | .hbm, ⟨40, _⟩ => ⟨S360448x512, .f32⟩
  | .hbm, ⟨41, _⟩ => ⟨S360448x512, .f32⟩
  | .hbm, ⟨42, _⟩ => ⟨S360448x512, .f32⟩
  | .hbm, ⟨43, _⟩ => ⟨S360448x512, .f32⟩
  | .hbm, ⟨44, _⟩ => ⟨S_, .i32⟩
  | .hbm, ⟨45, _⟩ => ⟨S360448, .i32⟩
  | .hbm, ⟨46, _⟩ => ⟨S360448, .i1⟩
  | .hbm, ⟨47, _⟩ => ⟨S_, .i32⟩
  | .hbm, ⟨48, _⟩ => ⟨S360448, .i32⟩
  | .hbm, ⟨49, _⟩ => ⟨S360448, .i32⟩
  | .hbm, ⟨50, _⟩ => ⟨S360448, .i32⟩
  | .hbm, ⟨51, _⟩ => ⟨S360448x1, .i32⟩
  | .hbm, ⟨52, _⟩ => ⟨S360448x512x2048, .f32⟩
  | .hbm, ⟨53, _⟩ => ⟨S360448x2048, .f32⟩
  | .hbm, ⟨54, _⟩ => ⟨S360448, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S360448, .i32⟩
  | .hbm, ⟨59, _⟩ => ⟨S360448, .i1⟩
  | .hbm, ⟨60, _⟩ => ⟨S360448x1, .i1⟩
  | .hbm, ⟨61, _⟩ => ⟨S_, .f32⟩
  | .hbm, ⟨62, _⟩ => ⟨S_, .f32⟩
  | .hbm, ⟨63, _⟩ => ⟨S360448x2048, .i1⟩
  | .hbm, ⟨64, _⟩ => ⟨S360448x2048, .f32⟩
  | .hbm, ⟨65, _⟩ => ⟨S360448x2048, .f32⟩
  | .hbm, ⟨66, _⟩ => ⟨S5767168x128, .f32⟩
  | _, _ => ⟨S5775360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== Kernel3.lean ====
abbrev S32x256x2048 : Shape := ⟨3, ![32, 256, 2048]⟩
abbrev S8x4096x2048 : Shape := ⟨3, ![8, 4096, 2048]⟩
abbrev S16x12288 : Shape := ⟨2, ![16, 12288]⟩
abbrev S2048x7168 : Shape := ⟨2, ![2048, 7168]⟩
abbrev S8192x2048 : Shape := ⟨2, ![8192, 2048]⟩
abbrev S32768x2048 : Shape := ⟨2, ![32768, 2048]⟩
abbrev S40960x2048 : Shape := ⟨2, ![40960, 2048]⟩
abbrev S16x1x12288 : Shape := ⟨3, ![16, 1, 12288]⟩
abbrev S40960x7168 : Shape := ⟨2, ![40960, 7168]⟩
abbrev S256x2048 : Shape := ⟨2, ![256, 2048]⟩
abbrev S1x1x2048 : Shape := ⟨3, ![1, 1, 2048]⟩
abbrev S2048x1024 : Shape := ⟨2, ![2048, 1024]⟩
abbrev S256x1024 : Shape := ⟨2, ![256, 1024]⟩
abbrev S1x2048 : Shape := ⟨2, ![1, 2048]⟩

abbrev nBuf : Space → Nat
  | .hbm => 10
  | .vmem => 11
  | .smem => 0
  | _ => 0

abbrev bufTy : (tb : Table) → Fin (tcTables nBuf tb) → BufTy
  | .hbm, ⟨0, _⟩ => ⟨S32x256x2048, .f32⟩
  | .hbm, ⟨1, _⟩ => ⟨S8x4096x2048, .f32⟩
  | .hbm, ⟨2, _⟩ => ⟨S16x12288, .f32⟩
  | .hbm, ⟨3, _⟩ => ⟨S2048x7168, .f32⟩
  | .hbm, ⟨4, _⟩ => ⟨S8192x2048, .f32⟩
  | .hbm, ⟨5, _⟩ => ⟨S32768x2048, .f32⟩
  | .hbm, ⟨6, _⟩ => ⟨S40960x2048, .f32⟩
  | .hbm, ⟨7, _⟩ => ⟨S16x1x12288, .f32⟩
  | .hbm, ⟨8, _⟩ => ⟨S2048x7168, .bf16⟩
  | .hbm, ⟨9, _⟩ => ⟨S40960x7168, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![160, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 1 := Scalar.cmpi .slt v0 c8192_i32
  let c256_i32_0 : BitVec 32 := 256#32
  let v2 : BitVec 32 := Scalar.muli arg0 c256_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c1_i32_9 : BitVec 32 := 1#32
  let c0_i32_10 : BitVec 32 := 0#32
  ![v22.toNat, c0_i32_8.toNat, c1_i32_9.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 1 := Scalar.cmpi .slt v0 c8192_i32
  let c256_i32_0 : BitVec 32 := 256#32
  let v2 : BitVec 32 := Scalar.muli arg0 c256_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S32x256x2048 : Shape := ⟨3, ![32, 256, 2048]⟩
abbrev S8x4096x2048 : Shape := ⟨3, ![8, 4096, 2048]⟩
abbrev S16x12288 : Shape := ⟨2, ![16, 12288]⟩
abbrev S2048x7168 : Shape := ⟨2, ![2048, 7168]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S32x256x7168 : Shape := ⟨3, ![32, 256, 7168]⟩
abbrev S8x12288 : Shape := ⟨2, ![8, 12288]⟩
abbrev S8x1x12288 : Shape := ⟨3, ![8, 1, 12288]⟩
abbrev S8x1x2048 : Shape := ⟨3, ![8, 1, 2048]⟩
abbrev S8x4096x7168 : Shape := ⟨3, ![8, 4096, 7168]⟩
abbrev S8192x7168 : Shape := ⟨2, ![8192, 7168]⟩
abbrev S32768x7168 : Shape := ⟨2, ![32768, 7168]⟩
abbrev S40960x7168 : Shape := ⟨2, ![40960, 7168]⟩

abbrev nBuf : Space → Nat
  | .hbm => 40
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S8x4096x2048, .f32⟩
  | .hbm, ⟨2, _⟩ => ⟨S16x12288, .f32⟩
  | .hbm, ⟨3, _⟩ => ⟨S2048x7168, .f32⟩
  | .hbm, ⟨4, _⟩ => ⟨S1x12288, .f32⟩
  | .hbm, ⟨5, _⟩ => ⟨S1x1x12288, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S_, .f32⟩
  | .hbm, ⟨13, _⟩ => ⟨S1x1x2048, .f32⟩
  | .hbm, ⟨14, _⟩ => ⟨S1x1x2048, .f32⟩
  | .hbm, ⟨15, _⟩ => ⟨S32x256x2048, .f32⟩
  | .hbm, ⟨16, _⟩ => ⟨S32x256x2048, .f32⟩
  | .hbm, ⟨17, _⟩ => ⟨S32x256x2048, .f32⟩
  | .hbm, ⟨18, _⟩ => ⟨S32x256x2048, .f32⟩
  | .hbm, ⟨19, _⟩ => ⟨S32x256x7168, .f32⟩
  | .hbm, ⟨20, _⟩ => ⟨S8x12288, .f32⟩
  | .hbm, ⟨21, _⟩ => ⟨S8x1x12288, .f32⟩
  | .hbm, ⟨22, _⟩ => ⟨S8x1x2048, .f32⟩
  | .hbm, ⟨23, _⟩ => ⟨S8x1x2048, .f32⟩
  | .hbm, ⟨24, _⟩ => ⟨S8x1x2048, .f32⟩
  | .hbm, ⟨25, _⟩ => ⟨S8x1x2048, .f32⟩
  | .hbm, ⟨26, _⟩ => ⟨S8x1x2048, .f32⟩
  | .hbm, ⟨27, _⟩ => ⟨S8x1x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x7168, .f32⟩
  | .hbm, ⟨36, _⟩ => ⟨S8192x7168, .f32⟩
  | .hbm, ⟨37, _⟩ => ⟨S32768x7168, .f32⟩
  | .hbm, ⟨38, _⟩ => ⟨S40960x7168, .f32⟩
  | .hbm, ⟨39, _⟩ => ⟨S40960x7168, .bf16⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel4.lean ====
abbrev S40960x1024 : Shape := ⟨2, ![40960, 1024]⟩
abbrev S32x256x2048 : Shape := ⟨3, ![32, 256, 2048]⟩
abbrev S8x4096x2048 : Shape := ⟨3, ![8, 4096, 2048]⟩
abbrev S16x12288 : Shape := ⟨2, ![16, 12288]⟩
abbrev S2048x2048 : Shape := ⟨2, ![2048, 2048]⟩
abbrev S2048 : Shape := ⟨1, ![2048]⟩
abbrev S2048x64 : Shape := ⟨2, ![2048, 64]⟩
abbrev S2048x512 : Shape := ⟨2, ![2048, 512]⟩
abbrev S512x2048 : Shape := ⟨2, ![512, 2048]⟩
abbrev S8192x2048 : Shape := ⟨2, ![8192, 2048]⟩
abbrev S32768x2048 : Shape := ⟨2, ![32768, 2048]⟩
abbrev S40960x2048 : Shape := ⟨2, ![40960, 2048]⟩
abbrev S16x1x12288 : Shape := ⟨3, ![16, 1, 12288]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S655360x128 : Shape := ⟨2, ![655360, 128]⟩
abbrev S40960x128 : Shape := ⟨2, ![40960, 128]⟩
abbrev S256x1024 : Shape := ⟨2, ![256, 1024]⟩
abbrev S256x2048 : Shape := ⟨2, ![256, 2048]⟩
abbrev S1x1x2048 : Shape := ⟨3, ![1, 1, 2048]⟩
abbrev S4096x128 : Shape := ⟨2, ![4096, 128]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x512 : Shape := ⟨2, ![256, 512]⟩

abbrev nBuf : Space → Nat
  | .hbm => 34
  | .vmem => 28
  | .smem => 0
  | _ => 0

abbrev bufTy : (tb : Table) → Fin (tcTables nBuf tb) → BufTy
  | .hbm, ⟨0, _⟩ => ⟨S40960x1024, .bf16⟩
  | .hbm, ⟨1, _⟩ => ⟨S40960x1024, .bf16⟩
  | .hbm, ⟨2, _⟩ => ⟨S32x256x2048, .f32⟩
  | .hbm, ⟨3, _⟩ => ⟨S8x4096x2048, .f32⟩
  | .hbm, ⟨4, _⟩ => ⟨S16x12288, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x64, .f32⟩
  | .hbm, ⟨9, _⟩ => ⟨S2048x512, .f32⟩
  | .hbm, ⟨10, _⟩ => ⟨S2048x512, .f32⟩
  | .hbm, ⟨11, _⟩ => ⟨S512x2048, .f32⟩
  | .hbm, ⟨12, _⟩ => ⟨S8192x2048, .f32⟩
  | .hbm, ⟨13, _⟩ => ⟨S32768x2048, .f32⟩
  | .hbm, ⟨14, _⟩ => ⟨S40960x2048, .f32⟩
  | .hbm, ⟨15, _⟩ => ⟨S16x1x12288, .f32⟩
  | .hbm, ⟨16, _⟩ => ⟨S_, .f32⟩
  | .hbm, ⟨17, _⟩ => ⟨S2048x128, .f32⟩
  | .hbm, ⟨18, _⟩ => ⟨S_, .i32⟩
  | .hbm, ⟨19, _⟩ => ⟨S1, .i32⟩
  | .hbm, ⟨20, _⟩ => ⟨S2048x128, .f32⟩
  | .hbm, ⟨21, _⟩ => ⟨S2048x128, .bf16⟩
  | .hbm, ⟨22, _⟩ => ⟨S2048x128, .f32⟩
  | .hbm, ⟨23, _⟩ => ⟨S2048x128, .f32⟩
  | .hbm, ⟨24, _⟩ => ⟨S2048x128, .bf16⟩
  | .hbm, ⟨25, _⟩ => ⟨S1x2048, .f32⟩
  | .hbm, ⟨26, _⟩ => ⟨S1x2048, .f32⟩
  | .hbm, ⟨27, _⟩ => ⟨S2048x2048, .bf16⟩
  | .hbm, ⟨28, _⟩ => ⟨S2048x512, .bf16⟩
  | .hbm, ⟨29, _⟩ => ⟨S2048x512, .bf16⟩
  | .hbm, ⟨30, _⟩ => ⟨S512x2048, .bf16⟩
  | .hbm, ⟨31, _⟩ => ⟨S40960x2048, .f32⟩
  | .hbm, ⟨32, _⟩ => ⟨S655360x128, .f32⟩
  | .hbm, ⟨33, _⟩ => ⟨S40960x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x2048, .f32⟩
  | .local _ .vmem, ⟨16, _⟩ => ⟨S2048x2048, .bf16⟩
  | .local _ .vmem, ⟨17, _⟩ => ⟨S2048x512, .bf16⟩
  | .local _ .vmem, ⟨18, _⟩ => ⟨S2048x512, .bf16⟩
  | .local _ .vmem, ⟨19, _⟩ => ⟨S512x2048, .bf16⟩
  | .local _ .vmem, ⟨20, _⟩ => ⟨S2048x128, .bf16⟩
  | .local _ .vmem, ⟨21, _⟩ => ⟨S2048x128, .bf16⟩
  | .local _ .vmem, ⟨22, _⟩ => ⟨S256x2048, .f32⟩
  | .local _ .vmem, ⟨23, _⟩ => ⟨S256x2048, .f32⟩
  | .local _ .vmem, ⟨24, _⟩ => ⟨S4096x128, .f32⟩
  | .local _ .vmem, ⟨25, _⟩ => ⟨S4096x128, .f32⟩
  | .local _ .vmem, ⟨26, _⟩ => ⟨S256x128, .f32⟩
  | .local _ .vmem, ⟨27, _⟩ => ⟨S256x128, .f32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c256_i32_0 : BitVec 32 := 256#32
  let v2 : BitVec 32 := Scalar.muli arg0 c256_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c2_i32 : BitVec 32 := 2#32
  let c0_i32_9 : BitVec 32 := 0#32
  ![v22.toNat, c0_i32_8.toNat, c2_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c256_i32_0 : BitVec 32 := 256#32
  let v2 : BitVec 32 := Scalar.muli arg0 c256_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c4_i32 : BitVec 32 := 4#32
  let c0_i32_9 : BitVec 32 := 0#32
  ![v22.toNat, c0_i32_8.toNat, c4_i32.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c256_i32_0 : BitVec 32 := 256#32
  let v2 : BitVec 32 := Scalar.muli arg0 c256_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c3_i32 : BitVec 32 := 3#32
  let c0_i32_9 : BitVec 32 := 0#32
  ![v22.toNat, c0_i32_8.toNat, c3_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c256_i32_0 : BitVec 32 := 256#32
  let v2 : BitVec 32 := Scalar.muli arg0 c256_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c5_i32 : BitVec 32 := 5#32
  let c0_i32_9 : BitVec 32 := 0#32
  ![v22.toNat, c0_i32_8.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S40960x1024 : Shape := ⟨2, ![40960, 1024]⟩
abbrev S32x256x2048 : Shape := ⟨3, ![32, 256, 2048]⟩
abbrev S8x4096x2048 : Shape := ⟨3, ![8, 4096, 2048]⟩
abbrev S16x12288 : Shape := ⟨2, ![16, 12288]⟩
abbrev S2048x2048 : Shape := ⟨2, ![2048, 2048]⟩
abbrev S2048 : Shape := ⟨1, ![2048]⟩
abbrev S2048x64 : Shape := ⟨2, ![2048, 64]⟩
abbrev S2048x512 : Shape := ⟨2, ![2048, 512]⟩
abbrev S512x2048 : Shape := ⟨2, ![512, 2048]⟩
abbrev S8192x1024 : Shape := ⟨2, ![8192, 1024]⟩
abbrev S32x256x1024 : Shape := ⟨3, ![32, 256, 1024]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S32x256x512 : Shape := ⟨3, ![32, 256, 512]⟩
abbrev S32x256x64 : Shape := ⟨3, ![32, 256, 64]⟩
abbrev S32768x1024 : Shape := ⟨2, ![32768, 1024]⟩
abbrev S8x4096x1024 : Shape := ⟨3, ![8, 4096, 1024]⟩
abbrev S8x12288 : Shape := ⟨2, ![8, 12288]⟩
abbrev S8x1x12288 : Shape := ⟨3, ![8, 1, 12288]⟩
abbrev S8x1x2048 : Shape := ⟨3, ![8, 1, 2048]⟩
abbrev S8x4096 : Shape := ⟨2, ![8, 4096]⟩
abbrev S8x4096x1 : Shape := ⟨3, ![8, 4096, 1]⟩
abbrev S8x4096x512 : Shape := ⟨3, ![8, 4096, 512]⟩
abbrev S8x4096x64 : Shape := ⟨3, ![8, 4096, 64]⟩
abbrev S8192x2048 : Shape := ⟨2, ![8192, 2048]⟩
abbrev S32768x2048 : Shape := ⟨2, ![32768, 2048]⟩
abbrev S40960x2048 : Shape := ⟨2, ![40960, 2048]⟩
abbrev S8192x64 : Shape := ⟨2, ![8192, 64]⟩
abbrev S32768x64 : Shape := ⟨2, ![32768, 64]⟩
abbrev S40960x64 : Shape := ⟨2, ![40960, 64]⟩
abbrev S655360x128 : Shape := ⟨2, ![655360, 128]⟩
abbrev S40960x128 : Shape := ⟨2, ![40960, 128]⟩

abbrev nBuf : Space → Nat
  | .hbm => 183
  | .vmem => 0
  | .smem => 0
  | _ => 0

abbrev hbmTy0_0 (i : Nat) : BufTy := match i % 128 with
  | 0 => ⟨S40960x1024, .bf16⟩
  | 1 => ⟨S40960x1024, .bf16⟩
  | 2 => ⟨S32x256x2048, .f32⟩
  | 3 => ⟨S8x4096x2048, .f32⟩
  | 4 => ⟨S16x12288, .f32⟩
  | 5 => ⟨S2048x2048, .f32⟩
  | 6 => ⟨S2048, .f32⟩
  | 7 => ⟨S2048, .f32⟩
  | 8 => ⟨S2048x64, .f32⟩
  | 9 => ⟨S2048x512, .f32⟩
  | 10 => ⟨S2048x512, .f32⟩
  | 11 => ⟨S512x2048, .f32⟩
  | 12 => ⟨S40960x1024, .f32⟩
  | 13 => ⟨S40960x1024, .f32⟩
  | 14 => ⟨S8192x1024, .f32⟩
  | 15 => ⟨S32x256x1024, .f32⟩
  | 16 => ⟨S8192x1024, .f32⟩
  | 17 => ⟨S32x256x1024, .f32⟩
  | 18 => ⟨S1x12288, .f32⟩
  | 19 => ⟨S1x1x12288, .f32⟩
  | 20 => ⟨S1x1x2048, .f32⟩
  | 21 => ⟨S1x1x2048, .f32⟩
  | 22 => ⟨S1x1x2048, .f32⟩
  | 23 => ⟨S1x1x2048, .f32⟩
  | 24 => ⟨S1x1x2048, .f32⟩
  | 25 => ⟨S1x1x2048, .f32⟩
  | 26 => ⟨S32x256x2048, .f32⟩
  | 27 => ⟨S32x256x2048, .f32⟩
  | 28 => ⟨S_, .f32⟩
  | 29 => ⟨S32x256x2048, .f32⟩
  | 30 => ⟨S32x256x2048, .f32⟩
  | 31 => ⟨S32x256x2048, .f32⟩
  | 32 => ⟨S32x256x2048, .f32⟩
  | 33 => ⟨S32x256x2048, .f32⟩
  | 34 => ⟨S_, .f32⟩
  | 35 => ⟨S32x256, .f32⟩
  | 36 => ⟨S32x256x1, .f32⟩
  | 37 => ⟨S_, .f32⟩
  | 38 => ⟨S32x256x1, .f32⟩
  | 39 => ⟨S32x256x1, .f32⟩
  | 40 => ⟨S32x256x2048, .f32⟩
  | 41 => ⟨S32x256x2048, .f32⟩
  | 42 => ⟨S32x256x2048, .f32⟩
  | 43 => ⟨S32x256x2048, .f32⟩
  | 44 => ⟨S32x256x2048, .f32⟩
  | 45 => ⟨S_, .f32⟩
  | 46 => ⟨S32x256, .f32⟩
  | 47 => ⟨S32x256x1, .f32⟩
  | 48 => ⟨S_, .f32⟩
  | 49 => ⟨S32x256x1, .f32⟩
  | 50 => ⟨S32x256x1, .f32⟩
  | 51 => ⟨S32x256x2048, .f32⟩
  | 52 => ⟨S32x256x2048, .f32⟩
  | 53 => ⟨S_, .f32⟩
  | 54 => ⟨S32x256x1, .f32⟩
  | 55 => ⟨S32x256x1, .f32⟩
  | 56 => ⟨S32x256x1, .f32⟩
  | 57 => ⟨S32x256x2048, .f32⟩
  | 58 => ⟨S32x256x2048, .f32⟩
  | 59 => ⟨S1x1x2048, .f32⟩
  | 60 => ⟨S32x256x2048, .f32⟩
  | 61 => ⟨S32x256x2048, .f32⟩
  | 62 => ⟨S1x1x2048, .f32⟩
  | 63 => ⟨S32x256x2048, .f32⟩
  | 64 => ⟨S32x256x2048, .f32⟩
  | 65 => ⟨S_, .f32⟩
  | 66 => ⟨S1x1x2048, .f32⟩
  | 67 => ⟨S1x1x2048, .f32⟩
  | 68 => ⟨S32x256x2048, .f32⟩
  | 69 => ⟨S32x256x2048, .f32⟩
  | 70 => ⟨S32x256x2048, .f32⟩
  | 71 => ⟨S32x256x2048, .f32⟩
  | 72 => ⟨S32x256x512, .f32⟩
  | 73 => ⟨S32x256x512, .f32⟩
  | 74 => ⟨S32x256x512, .f32⟩
  | 75 => ⟨S_, .f32⟩
  | 76 => ⟨S32x256x512, .f32⟩
  | 77 => ⟨S32x256x512, .f32⟩
  | 78 => ⟨S_, .f32⟩
  | 79 => ⟨S32x256x512, .f32⟩
  | 80 => ⟨S32x256x512, .f32⟩
  | 81 => ⟨S32x256x512, .f32⟩
  | 82 => ⟨S32x256x512, .f32⟩
  | 83 => ⟨S32x256x512, .f32⟩
  | 84 => ⟨S32x256x2048, .f32⟩
  | 85 => ⟨S_, .f32⟩
  | 86 => ⟨S32x256x2048, .f32⟩
  | 87 => ⟨S32x256x2048, .f32⟩
  | 88 => ⟨S32x256x2048, .f32⟩
  | 89 => ⟨S32x256x2048, .f32⟩
  | 90 => ⟨S32x256x2048, .f32⟩
  | 91 => ⟨S32x256x64, .f32⟩
  | 92 => ⟨S32768x1024, .f32⟩
  | 93 => ⟨S8x4096x1024, .f32⟩
  | 94 => ⟨S32768x1024, .f32⟩
  | 95 => ⟨S8x4096x1024, .f32⟩
  | 96 => ⟨S8x12288, .f32⟩
  | 97 => ⟨S8x1x12288, .f32⟩
  | 98 => ⟨S8x1x2048, .f32⟩
  | 99 => ⟨S8x1x2048, .f32⟩
  | 100 => ⟨S8x1x2048, .f32⟩
  | 101 => ⟨S8x1x2048, .f32⟩
  | 102 => ⟨S8x1x2048, .f32⟩
  | 103 => ⟨S8x1x2048, .f32⟩
  | 104 => ⟨S8x4096x2048, .f32⟩
  | 105 => ⟨S8x4096x2048, .f32⟩
  | 106 => ⟨S_, .f32⟩
  | 107 => ⟨S8x4096x2048, .f32⟩
  | 108 => ⟨S8x4096x2048, .f32⟩
  | 109 => ⟨S8x4096x2048, .f32⟩
  | 110 => ⟨S8x4096x2048, .f32⟩
  | 111 => ⟨S8x4096x2048, .f32⟩
  | 112 => ⟨S_, .f32⟩
  | 113 => ⟨S8x4096, .f32⟩
  | 114 => ⟨S8x4096x1, .f32⟩
  | 115 => ⟨S_, .f32⟩
  | 116 => ⟨S8x4096x1, .f32⟩
  | 117 => ⟨S8x4096x1, .f32⟩
  | 118 => ⟨S8x4096x2048, .f32⟩
  | 119 => ⟨S8x4096x2048, .f32⟩
  | 120 => ⟨S8x4096x2048, .f32⟩
  | 121 => ⟨S8x4096x2048, .f32⟩
  | 122 => ⟨S8x4096x2048, .f32⟩
  | 123 => ⟨S_, .f32⟩
  | 124 => ⟨S8x4096, .f32⟩
  | 125 => ⟨S8x4096x1, .f32⟩
  | 126 => ⟨S_, .f32⟩
  | 127 => ⟨S8x4096x1, .f32⟩
  | _ => ⟨S40960x1024, .bf16⟩

abbrev hbmTy0_1 (i : Nat) : BufTy := match i % 128 with
  | 0 => ⟨S8x4096x1, .f32⟩
  | 1 => ⟨S8x4096x2048, .f32⟩
  | 2 => ⟨S8x4096x2048, .f32⟩
  | 3 => ⟨S_, .f32⟩
  | 4 => ⟨S8x4096x1, .f32⟩
  | 5 => ⟨S8x4096x1, .f32⟩
  | 6 => ⟨S8x4096x1, .f32⟩
  | 7 => ⟨S8x4096x2048, .f32⟩
  | 8 => ⟨S8x4096x2048, .f32⟩
  | 9 => ⟨S1x1x2048, .f32⟩
  | 10 => ⟨S8x4096x2048, .f32⟩
  | 11 => ⟨S8x4096x2048, .f32⟩
  | 12 => ⟨S1x1x2048, .f32⟩
  | 13 => ⟨S8x4096x2048, .f32⟩
  | 14 => ⟨S8x4096x2048, .f32⟩
  | 15 => ⟨S_, .f32⟩
  | 16 => ⟨S8x1x2048, .f32⟩
  | 17 => ⟨S8x1x2048, .f32⟩
  | 18 => ⟨S8x4096x2048, .f32⟩
  | 19 => ⟨S8x4096x2048, .f32⟩
  | 20 => ⟨S8x4096x2048, .f32⟩
  | 21 => ⟨S8x4096x2048, .f32⟩
  | 22 => ⟨S8x4096x512, .f32⟩
  | 23 => ⟨S8x4096x512, .f32⟩
  | 24 => ⟨S8x4096x512, .f32⟩
  | 25 => ⟨S_, .f32⟩
  | 26 => ⟨S8x4096x512, .f32⟩
  | 27 => ⟨S8x4096x512, .f32⟩
  | 28 => ⟨S_, .f32⟩
  | 29 => ⟨S8x4096x512, .f32⟩
  | 30 => ⟨S8x4096x512, .f32⟩
  | 31 => ⟨S8x4096x512, .f32⟩
  | 32 => ⟨S8x4096x512, .f32⟩
  | 33 => ⟨S8x4096x512, .f32⟩
  | 34 => ⟨S8x4096x2048, .f32⟩
  | 35 => ⟨S_, .f32⟩
  | 36 => ⟨S8x4096x2048, .f32⟩
  | 37 => ⟨S8x4096x2048, .f32⟩
  | 38 => ⟨S8x4096x2048, .f32⟩
  | 39 => ⟨S8x4096x2048, .f32⟩
  | 40 => ⟨S8x4096x2048, .f32⟩
  | 41 => ⟨S8x4096x64, .f32⟩
  | 42 => ⟨S8192x2048, .f32⟩
  | 43 => ⟨S32768x2048, .f32⟩
  | 44 => ⟨S40960x2048, .f32⟩
  | 45 => ⟨S8192x2048, .f32⟩
  | 46 => ⟨S32768x2048, .f32⟩
  | 47 => ⟨S40960x2048, .f32⟩
  | 48 => ⟨S8192x64, .f32⟩
  | 49 => ⟨S32768x64, .f32⟩
  | 50 => ⟨S40960x64, .f32⟩
  | 51 => ⟨S655360x128, .f32⟩
  | 52 => ⟨S_, .i32⟩
  | 53 => ⟨S_, .f32⟩
  | 54 => ⟨S40960x128, .f32⟩
  | _ => ⟨S40960x1024, .bf16⟩

abbrev hbmTy (i : Nat) : BufTy := match i / 128 with
  | 0 => hbmTy0_0 i
  | 1 => hbmTy0_1 i
  | _ => ⟨S40960x1024, .bf16⟩

abbrev bufTy : (tb : Table) → Fin (tcTables nBuf tb) → BufTy
  | .hbm, ⟨i, _⟩ => hbmTy i
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_7 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_8 : Ref sig .tc := ⟨.hbm, 112, rfl⟩
abbrev main_v83 : Ref sig .tc := ⟨.hbm, 113, rfl⟩
abbrev main_v84 : Ref sig .tc := ⟨.hbm, 114, rfl⟩
abbrev main_cst_9 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_10 : Ref sig .tc := ⟨.hbm, 123, rfl⟩
abbrev main_v92 : Ref sig .tc := ⟨.hbm, 124, rfl⟩
abbrev main_v93 : Ref sig .tc := ⟨.hbm, 125, rfl⟩
abbrev main_cst_11 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_12 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_13 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_call1_v0 : Ref sig .tc := ⟨.hbm, 151, rfl⟩
abbrev main_call1_v1 : Ref sig .tc := ⟨.hbm, 152, rfl⟩
abbrev main_call1_cst : Ref sig .tc := ⟨.hbm, 153, rfl⟩
abbrev main_call1_v2 : Ref sig .tc := ⟨.hbm, 154, rfl⟩
abbrev main_call1_v3 : Ref sig .tc := ⟨.hbm, 155, rfl⟩
abbrev main_call1_cst_0 : Ref sig .tc := ⟨.hbm, 156, rfl⟩
abbrev main_call1_v4 : Ref sig .tc := ⟨.hbm, 157, rfl⟩
abbrev main_call1_v5 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_14 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_c : Ref sig .tc := ⟨.hbm, 180, rfl⟩
abbrev main_call2_v0 : Ref sig .tc := ⟨.hbm, 181, rfl⟩
abbrev main_v136 : Ref sig .tc := ⟨.hbm, 182, rfl⟩

abbrev nD : Nat := 1
abbrev τ : Topo := Topo.v7x

variable {F : FTy → Type} [FloatOps F]
-- ==== Kernel5.lean ====
abbrev S16x2048 : Shape := ⟨2, ![16, 2048]⟩
abbrev S2048x12288 : Shape := ⟨2, ![2048, 12288]⟩
abbrev S12288 : Shape := ⟨1, ![12288]⟩
abbrev S1x12288 : Shape := ⟨2, ![1, 12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x2048 : Shape := ⟨2, ![16, 2048]⟩
abbrev S2048x12288 : Shape := ⟨2, ![2048, 12288]⟩
abbrev S12288 : Shape := ⟨1, ![12288]⟩
abbrev S_ : Shape := ⟨0, ![]⟩
abbrev S16x12288 : Shape := ⟨2, ![16, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x12288, .f32⟩
  | .hbm, ⟨13, _⟩ => ⟨S1x12288, .f32⟩
  | .hbm, ⟨14, _⟩ => ⟨S16x12288, .f32⟩
  | .hbm, ⟨15, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.ProjKernel.lean ====
/-
  THE INPUT PROJECTION'S KERNEL: what its result array holds after the run.

  The grid is 160 row tiles by 7 column tiles. At the first column tile of a row tile the body writes the modulated rows
  `x * (1 + scale) + shift` into a scratch buffer that the six following points read again; every point multiplies the
  scratch by one column tile of the weights. So the array ends holding, at row `r` and column `j`,
  `∑ k, (x r k * (1 + scale k) + shift k) * w k j`, the scale and shift being those of the sequence that `r` belongs to.
-/
module

public import proofs.«01_k».proof.Proof.Gen.Kernel3Ideal.Frame
public import Idealize.ShloMosaic.Lib.Pipeline.Value
public import Idealize.ShloMosaic.Lib.Pointwise
public import Idealize.ShloMosaic.Lib.StableHlo.Run

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A point that starts a row tile leaves the modulated rows in the scratch. -/
theorem scratch_A (c : Dev nD) (i : grid0.Coords) (a2 : Memref sig .tc .vmem S256x2048 .f32) (h2 : a2.IsWhole) (a3 : Memref sig .tc .vmem S1x1x2048 .f32) (h3 : a3.IsWhole) (a4 : Memref sig .tc .vmem S1x1x2048 .f32) (h4 : a4.IsWhole) (a5 : Memref sig .tc .vmem S2048x1024 .bf16) (h5 : a5.IsWhole) (a6 : Memref sig .tc .vmem S256x1024 .bf16) (h6 : a6.IsWhole) (a7 : Memref sig .tc .vmem S256x2048 .bf16) (h7 : a7.IsWhole) (hc : cond0_0 i)
    (x0 : Vec Ideal S256x2048 .f32) (x1 : Vec Ideal S1x1x2048 .f32) (x2 : Vec Ideal S1x1x2048 .f32) (x3 : Vec Ideal S2048x1024 .bf16) :
    sout0_A_0 c i a2 h2 a3 h3 a4 h4 a5 h5 a6 h6 a7 h7 hc x0 x1 x2 x3 = k0_pay1 x0 x1 x2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero (S := S256x2048) hz2]
  simp only [View.readAt_eq_ld, h2.read_unread, h3.read_unread, h4.read_unread, View.ld_unit_zero (S := S256x2048) hz2,
    View.ld_unit_zero (S := S1x1x2048) hz3]

/-- … and the product of those rows with the weights' column tile in the result's block. -/
theorem out_A (c : Dev nD) (i : grid0.Coords) (a2 : Memref sig .tc .vmem S256x2048 .f32) (h2 : a2.IsWhole) (a3 : Memref sig .tc .vmem S1x1x2048 .f32) (h3 : a3.IsWhole) (a4 : Memref sig .tc .vmem S1x1x2048 .f32) (h4 : a4.IsWhole) (a5 : Memref sig .tc .vmem S2048x1024 .bf16) (h5 : a5.IsWhole) (a6 : Memref sig .tc .vmem S256x1024 .bf16) (h6 : a6.IsWhole) (a7 : Memref sig .tc .vmem S256x2048 .bf16) (h7 : a7.IsWhole) (hc : cond0_0 i)
    (x0 : Vec Ideal S256x2048 .f32) (x1 : Vec Ideal S1x1x2048 .f32) (x2 : Vec Ideal S1x1x2048 .f32) (x3 : Vec Ideal S2048x1024 .bf16) :
    out0_A_4 c i a2 h2 a3 h3 a4 h4 a5 h5 a6 h6 a7 h7 hc x0 x1 x2 x3 = k0_pay2 (k0_pay1 x0 x1 x2) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero (S := S256x1024) hz2]
  simp only [View.readCov_unit_zero (S := S256x2048) _ hz2, View.readAt_eq_ld, h2.read_unread, h3.read_unread, h4.read_unread, h5.read_unread, View.ld_unit_zero (S := S256x2048) hz2,
    View.ld_unit_zero (S := S1x1x2048) hz3, View.ld_unit_zero (S := S2048x1024) hz2]

/-- Every other point multiplies what the scratch already holds. -/
theorem out_B (c : Dev nD) (i : grid0.Coords) (a2 : Memref sig .tc .vmem S256x2048 .f32) (h2 : a2.IsWhole) (a3 : Memref sig .tc .vmem S1x1x2048 .f32) (h3 : a3.IsWhole) (a4 : Memref sig .tc .vmem S1x1x2048 .f32) (h4 : a4.IsWhole) (a5 : Memref sig .tc .vmem S2048x1024 .bf16) (h5 : a5.IsWhole) (a6 : Memref sig .tc .vmem S256x1024 .bf16) (h6 : a6.IsWhole) (a7 : Memref sig .tc .vmem S256x2048 .bf16) (h7 : a7.IsWhole) (hc : ¬cond0_0 i)
    (x0 : Vec Ideal S256x2048 .f32) (x1 : Vec Ideal S1x1x2048 .f32) (x2 : Vec Ideal S1x1x2048 .f32) (x3 : Vec Ideal S2048x1024 .bf16) (xs : Vec Ideal S256x2048 .bf16) :
    out0_B_4 c i a2 h2 a3 h3 a4 h4 a5 h5 a6 h6 a7 h7 hc x0 x1 x2 x3 xs = k0_pay2 xs x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero (S := S256x1024) hz2]
  simp only [View.readAt_eq_ld, h5.read_unread, h7.read_unread, View.ld_unit_zero (S := S256x2048) hz2, View.ld_unit_zero (S := S2048x1024) hz2]

/-- The first point of point `n`'s row tile. -/
def first (n : ℕ) (hn : n < cfg0.N) : Fin cfg0.N := ⟨7 * (n / 7), by omega⟩

/-- What the two components are at a point that starts a row tile. -/
theorem step_A (c : Dev nD) (t : Fin cfg0.N) (h0 : t.val % 7 = 0) :
    (outsAt0 m c t.val t.isLt).1 = k0_pay2 (k0_pay1 (iblk m c 0 t) (iblk m c 1 t) (iblk m c 2 t)) (iblk m c 3 t)
      ∧ (outsAt0 m c t.val t.isLt).2 = k0_pay1 (iblk m c 0 t) (iblk m c 1 t) (iblk m c 2 t) := by
  have h := outsAt0_A m c t h0
  rw [out_A, scratch_A] at h
  constructor <;> rw [h]

/-- … and at any other point, over the scratch the point before left. -/
theorem step_B (c : Dev nD) (t : Fin cfg0.N) (h0 : ¬t.val % 7 = 0) :
    (outsAt0 m c t.val t.isLt).1 = k0_pay2 (outsAt0 m c (t.val - 1) (Nat.lt_of_le_of_lt (Nat.sub_le _ _) t.isLt)).2 (iblk m c 3 t)
      ∧ (outsAt0 m c t.val t.isLt).2 = (outsAt0 m c (t.val - 1) (Nat.lt_of_le_of_lt (Nat.sub_le _ _) t.isLt)).2 := by
  have h := outsAt0_B m c t h0
  rw [out_B] at h
  unfold sout0_B_0 at h
  constructor <;> rw [h]

/-- After a point the scratch holds the modulated rows of the row tile's first point: by induction on the place of the
    point in its row tile. -/
theorem scratch_eq (c : Dev nD) : ∀ (k : ℕ) (t : Fin cfg0.N), t.val % 7 = k → (outsAt0 m c t.val t.isLt).2
      = k0_pay1 (iblk m c 0 (first t.val t.isLt)) (iblk m c 1 (first t.val t.isLt)) (iblk m c 2 (first t.val t.isLt)) := by
  intro k
  induction k with
  | zero =>
    intro t h0
    have e : first t.val t.isLt = t := Fin.ext (by show 7 * (t.val / 7) = t.val; omega)
    rw [e]
    exact (step_A m c t h0).2
  | succ k ih =>
    intro t hk
    rw [(step_B m c t (by omega)).2]
    have e : first (t.val - 1) (Nat.lt_of_le_of_lt (Nat.sub_le _ _) t.isLt) = first t.val t.isLt :=
      Fin.ext (by show 7 * ((t.val - 1) / 7) = 7 * (t.val / 7); omega)
    rw [← e]
    exact ih ⟨t.val - 1, Nat.lt_of_le_of_lt (Nat.sub_le _ _) t.isLt⟩ (by show (t.val - 1) % 7 = k; omega)

/-- After any point the result's block is the product of the row tile's modulated rows with the point's weights. -/
theorem out_eq (c : Dev nD) (t : Fin cfg0.N) : (outsAt0 m c t.val t.isLt).1
      = k0_pay2 (k0_pay1 (iblk m c 0 (first t.val t.isLt)) (iblk m c 1 (first t.val t.isLt)) (iblk m c 2 (first t.val t.isLt)))
          (iblk m c 3 t) := by
  rw [← scratch_eq m c _ t rfl]
  by_cases h0 : t.val % 7 = 0
  · rw [(step_A m c t h0).1, (step_A m c t h0).2]
  · rw [(step_B m c t h0).1, (step_B m c t h0).2]

/-- The index maps in closed form: row tile `t / 7`, column tile `t % 7`, and the row of the modulations. -/
theorem maps : ∀ t : Fin cfg0.N, (win0_0.index t = ![t.val / 7, 0] ∧ win0_3.index t = ![0, t.val % 7] ∧ win0_4.index t = ![t.val / 7, t.val % 7])
    ∧ win0_1.index t = ![if t.val / 7 < 32 then 0 else 1 + (t.val / 7 - 32) / 16, 0, 1]
    ∧ win0_2.index t = ![if t.val / 7 < 32 then 0 else 1 + (t.val / 7 - 32) / 16, 0, 0] :=
  (by decide +kernel : ∀ t : Fin grid0.N, _)

/-- The modulated rows at an index. -/
theorem pay1_apply (x : Vec Ideal S256x2048 .f32) (sc sh : Vec Ideal S1x1x2048 .f32) (a : Fin 256) (k : Fin 2048) :
    k0_pay1 x sc sh (ix2 a k) = x (ix2 a k) * (1 + sc (ix3 0 0 k)) + sh (ix3 0 0 k) := by
  unfold k0_pay1
  simp only [pointwise]
  simp

/-- The product at an index. -/
theorem pay2_apply (h : Vec Ideal S256x2048 .bf16) (w : Vec Ideal S2048x1024 .bf16) (a : Fin 256) (b : Fin 1024) :
    k0_pay2 h w (ix2 a b) = ∑ k : Fin 2048, h (ix2 a k) * w (ix2 k b) := by
  unfold k0_pay2
  simp only [pointwise]
  exact zero_add _

/-- The row of the modulations that token row `r` takes: the first 8192 rows share row 0, each later run of 4096 rows has
    one of its own. -/
def rowOf (r : ℕ) : ℕ := if r < 8192 then 0 else 1 + (r - 8192) / 4096

theorem rowOf_lt (r : Fin 40960) : rowOf r.val < 16 := by
  unfold rowOf; split <;> omega

/-- The projection of the modulated rows, as a function of the rows, the modulations and the weights. -/
def proj (X : Vec Ideal S40960x2048 .f32) (M : Vec Ideal S16x1x12288 .f32) (W : Vec Ideal S2048x7168 .bf16) (i : S40960x7168.Idx) : EReal :=
  ∑ k : Fin 2048, (X (ix2 (i 0) k) * (1 + M (ix3 ⟨rowOf (i 0).val, rowOf_lt (i 0)⟩ 0 ⟨2048 + k.val, by omega⟩))
      + M (ix3 ⟨rowOf (i 0).val, rowOf_lt (i 0)⟩ 0 ⟨k.val, by omega⟩)) * W (ix2 k (i 1))

/-- Membership in a point's block of the result. -/
theorem mem_blk (t : Fin cfg0.N) (i : S40960x7168.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v5).slice (win0_4.rect t)).set ↔ _
  rw [View.set_slice_whole, Rect.mem_set_unit]
  exact Iff.rfl

/-- The result's blocks tile it. -/
theorem cover (i : S40960x7168.Idx) : ∃ t : Fin cfg0.N, (cfg0.win 4).flush t = true ∧ i ∈ ((cfg0.win 4).blk t).view.set := by
  have h0 : (i 0).val < 40960 := (i 0).isLt
  have h1 : (i 1).val < 7168 := (i 1).isLt
  have ht : 7 * ((i 0).val / 256) + (i 1).val / 1024 < cfg0.N := by show _ < grid0.N; rw [N_0]; omega
  refine ⟨⟨_, ht⟩, flush0_4 _, ?_⟩
  rw [mem_blk]
  have e := (maps ⟨_, ht⟩).1.2.2
  have e0 : win0_4.index ⟨_, ht⟩ 0 = (i 0).val / 256 := (congrFun e 0).trans (by show (7 * ((i 0).val / 256) + (i 1).val / 1024) / 7 = _; omega)
  have e1 : win0_4.index ⟨_, ht⟩ 1 = (i 1).val / 1024 := (congrFun e 1).trans (by show (7 * ((i 0).val / 256) + (i 1).val / 1024) % 7 = _; omega)
  intro a
  match a with
  | ⟨0, _⟩ => show win0_4.index ⟨_, ht⟩ 0 * 256 ≤ (i 0).val ∧ (i 0).val < win0_4.index ⟨_, ht⟩ 0 * 256 + 256; rw [e0]; omega
  | ⟨1, _⟩ => show win0_4.index ⟨_, ht⟩ 1 * 1024 ≤ (i 1).val ∧ (i 1).val < win0_4.index ⟨_, ht⟩ 1 * 1024 + 1024; rw [e1]; omega

/-- The array of rows, the modulations and the weights as the region finds them. -/
abbrev Xv (c : Dev nD) : Vec Ideal S40960x2048 .f32 := V m c main_v2
abbrev Mv (c : Dev nD) : Vec Ideal S16x1x12288 .f32 := V m c main_v3
abbrev Wv (c : Dev nD) : Vec Ideal S2048x7168 .bf16 := V m c main_v4

theorem iblk0_apply (c : Dev nD) (t : Fin cfg0.N) (a : Fin 256) (k : Fin 2048) (r : Fin 40960) (hr : r.val = t.val / 7 * 256 + a.val) :
    iblk m c 0 t (ix2 a k) = Xv m c (ix2 r k) := by
  have e := (maps t).1.1
  show V m c main_v2 (((cfg0.win 0).blk t).view.emb (ix2 a k)) = _
  congr 1
  funext x
  apply Fin.ext
  match x with
  | ⟨0, _⟩ => show win0_0.index t 0 * 256 + 1 * a.val = r.val; rw [congrFun e 0, hr]; show t.val / 7 * 256 + 1 * a.val = _; omega
  | ⟨1, _⟩ => show win0_0.index t 1 * 2048 + 1 * k.val = k.val; rw [congrFun e 1]; show 0 * 2048 + 1 * k.val = _; omega

theorem iblk3_apply (c : Dev nD) (t : Fin cfg0.N) (k : Fin 2048) (b : Fin 1024) (j : Fin 7168) (hj : j.val = t.val % 7 * 1024 + b.val) :
    iblk m c 3 t (ix2 k b) = Wv m c (ix2 k j) := by
  have e := (maps t).1.2.1
  show V m c main_v4 (((cfg0.win 3).blk t).view.emb (ix2 k b)) = _
  congr 1
  funext x
  apply Fin.ext
  match x with
  | ⟨0, _⟩ => show win0_3.index t 0 * 2048 + 1 * k.val = k.val; rw [congrFun e 0]; show 0 * 2048 + 1 * k.val = _; omega
  | ⟨1, _⟩ => show win0_3.index t 1 * 1024 + 1 * b.val = j.val; rw [congrFun e 1, hj]; show t.val % 7 * 1024 + 1 * b.val = _; omega

theorem row_eq (q : ℕ) (r : ℕ) (h : r / 256 = q) : (if q < 32 then 0 else 1 + (q - 32) / 16) = rowOf r := by
  unfold rowOf
  by_cases h' : q < 32
  · rw [if_pos h', if_pos (by omega)]
  · rw [if_neg h', if_neg (by omega)]; omega

theorem iblk1_apply (c : Dev nD) (t : Fin cfg0.N) (k : Fin 2048) (r : Fin 40960) (hr : r.val / 256 = t.val / 7) :
    iblk m c 1 t (ix3 0 0 k) = Mv m c (ix3 ⟨rowOf r.val, rowOf_lt r⟩ 0 ⟨2048 + k.val, by omega⟩) := by
  have e := (maps t).2.1
  show V m c main_v3 (((cfg0.win 1).blk t).view.emb (ix3 0 0 k)) = _
  congr 1
  funext x
  apply Fin.ext
  match x with
  | ⟨0, _⟩ => show win0_1.index t 0 * 1 + 1 * 0 = rowOf r.val; rw [congrFun e 0, ← row_eq _ _ hr]; exact Nat.mul_one _
  | ⟨1, _⟩ => show win0_1.index t 1 * 1 + 1 * 0 = 0; rw [congrFun e 1]; rfl
  | ⟨2, _⟩ => show win0_1.index t 2 * 2048 + 1 * k.val = 2048 + k.val; rw [congrFun e 2]; show 1 * 2048 + 1 * k.val = _; omega

theorem iblk2_apply (c : Dev nD) (t : Fin cfg0.N) (k : Fin 2048) (r : Fin 40960) (hr : r.val / 256 = t.val / 7) :
    iblk m c 2 t (ix3 0 0 k) = Mv m c (ix3 ⟨rowOf r.val, rowOf_lt r⟩ 0 ⟨k.val, by omega⟩) := by
  have e := (maps t).2.2
  show V m c main_v3 (((cfg0.win 2).blk t).view.emb (ix3 0 0 k)) = _
  congr 1
  funext x
  apply Fin.ext
  match x with
  | ⟨0, _⟩ => show win0_2.index t 0 * 1 + 1 * 0 = rowOf r.val; rw [congrFun e 0, ← row_eq _ _ hr]; exact Nat.mul_one _
  | ⟨1, _⟩ => show win0_2.index t 1 * 1 + 1 * 0 = 0; rw [congrFun e 1]; rfl
  | ⟨2, _⟩ => show win0_2.index t 2 * 2048 + 1 * k.val = k.val; rw [congrFun e 2]; show 0 * 2048 + 1 * k.val = _; omega

/-- What a point writes back is its block of the projection. -/
theorem flushed_eq (c : Dev nD) (t : Fin cfg0.N) :
    (dats m 0 c).flushed 4 t = ((cfg0.win 4).blk t).view.read (Elt Ideal) (proj (Xv m c) (Mv m c) (Wv m c)) := by
  show (cfg0.win 4).cut (grid0.coords t) ((dats m 0 c).after 4 t) = _
  rw [after0_4, out_eq]
  funext y
  obtain ⟨a, b, rfl⟩ : ∃ (a : Fin 256) (b : Fin 1024), y = ix2 a b := ⟨y 0, y 1, by idx_vars y⟩
  have e := (maps t).1.2.2
  have ht : t.val < 1120 := lt_of_lt_of_eq t.isLt N_0
  show k0_pay2 (k0_pay1 (iblk m c 0 (first t.val t.isLt)) (iblk m c 1 (first t.val t.isLt)) (iblk m c 2 (first t.val t.isLt))) (iblk m c 3 t) (ix2 a b) = proj (Xv m c) (Mv m c) (Wv m c) (((cfg0.win 4).blk t).view.emb (ix2 a b))
  have e0 : ((((cfg0.win 4).blk t).view.emb (ix2 a b)) 0).val = t.val / 7 * 256 + a.val := by
    show win0_4.index t 0 * 256 + 1 * a.val = _
    rw [congrFun e 0]; show t.val / 7 * 256 + 1 * a.val = _; omega
  have e1 : ((((cfg0.win 4).blk t).view.emb (ix2 a b)) 1).val = t.val % 7 * 1024 + b.val := by
    show win0_4.index t 1 * 1024 + 1 * b.val = _
    rw [congrFun e 1]; show t.val % 7 * 1024 + 1 * b.val = _; omega
  rw [pay2_apply]
  unfold proj
  refine Finset.sum_congr rfl fun k _ => ?_
  have hf : (first t.val t.isLt).val / 7 = t.val / 7 := by show 7 * (t.val / 7) / 7 = _; omega
  rw [pay1_apply, iblk0_apply m c _ a k _ (by rw [hf]; exact e0), iblk1_apply m c _ k ((((cfg0.win 4).blk t).view.emb (ix2 a b)) 0) (by rw [hf, e0]; omega),
    iblk2_apply m c _ k ((((cfg0.win 4).blk t).view.emb (ix2 a b)) 0) (by rw [hf, e0]; omega), iblk3_apply m c t k b _ e1]

/-- The result array after the run. -/
theorem final (c : Dev nD) : (dats m 0 c).arrAt 4 cfg0.N = proj (Xv m c) (Mv m c) (Wv m c) :=
  (dats m 0 c).arrAt_eq_of_cover 4 _ (fun t _ => flushed_eq m c t) cover

/-- The kernel's run: the result holds the projection of the arrays the host operations made, the arguments are unchanged. -/
theorem run : θ_run defs (onTc (τ := τ) (main (F := Ideal))) ⟨m, fun _ => 0, ρ⟩ fun r => ∀ c : Dev nD,
      r.2.mem ((c : Thread nD τ).loc main_v5) = proj (Xv m c) (Mv m c) (Wv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel3Ideal.Proj

end
-- ==== Proof.ProjRef.lean ====
/-
  THE INPUT PROJECTION'S REFERENCE, and the agreement of the two programs: the arrays the kernel's host operations hand to
  the grid, read at an index, and the reference's result read at an index.
-/
module

public import proofs.«01_k».proof.Proof.ProjKernel
public import proofs.«01_k».proof.Proof.Gen.Reference3Ideal.Run

@[expose] public section

set_option maxRecDepth 16384

noncomputable section

namespace Cert.Kernel3Ideal.Proj

open Cert.Kernel3Ideal Cert.Kernel3Ideal.Gen Idealize.ShloMosaic Idealize.ShloMosaic.TcCoe Idealize.SL.Sem Idealize.ShloMosaic.StableHlo
open Idealize.ShloMosaic.Pipeline (Dat)

/-- The rows of both batches, one array: the first batch's 32 sequences of 256, then the second's 8 of 4096. -/
def rows (x : Vec Ideal S32x256x2048 .f32) (y : Vec Ideal S8x4096x2048 .f32) : Vec Ideal S40960x2048 .f32 := fun i =>
  if h : (i 0).val < 8192 then x (ix3 ⟨(i 0).val / 256, by omega⟩ ⟨(i 0).val % 256, by omega⟩ (i 1))
  else y (ix3 ⟨((i 0).val - 8192) / 4096, by have := (i 0).isLt; have : (i 0).val < 40960 := this; omega⟩ ⟨((i 0).val - 8192) % 4096, by omega⟩ (i 1))

/-- The modulations as the kernel reads them: a middle axis of one. -/
def mods (a : Vec Ideal S16x12288 .f32) : Vec Ideal S16x1x12288 .f32 := fun i => a (ix2 (i 0) (i 2))

variable (m : (ℓ : Loc nD τ sig) → Buf (Elt Ideal) ℓ)

theorem Xv_eq (c : Dev nD) : Xv m c = rows (m ((c : Thread nD τ).loc main_arg0)) (m ((c : Thread nD τ).loc main_arg1)) := by
  have e : Xv m c = concatenate S40960x2048 0 [⟨S8192x2048, shapeCast S8192x2048 (m ((c : Thread nD τ).loc main_arg0) : Vec Ideal S32x256x2048 .f32) shapeCasts_S32x256x2048_S8192x2048⟩,
      ⟨S32768x2048, shapeCast S32768x2048 (m ((c : Thread nD τ).loc main_arg1) : Vec Ideal S8x4096x2048 .f32) shapeCasts_S8x4096x2048_S32768x2048⟩] concatenates_S8192x2048_S32768x2048_S40960x2048_d0 := by
    show StableHlo.after _ _ _ = _
    after_results
    rfl
  rw [e]
  funext i
  idx_vars i
  unfold rows
  simp only [pointwise]
  rfl

theorem Mv_eq (c : Dev nD) : Mv m c = mods (m ((c : Thread nD τ).loc main_arg2)) := by
  have e : Mv m c = shapeCast S16x1x12288 (m ((c : Thread nD τ).loc main_arg2) : Vec Ideal S16x12288 .f32) shapeCasts_S16x12288_S16x1x12288 := by
    show StableHlo.after _ _ _ = _
    after_results
    rfl
  rw [e]
  funext i
  idx_vars i
  unfold mods
  simp only [pointwise]

theorem Wv_eq (c : Dev nD) : Wv m c = m ((c : Thread nD τ).loc main_arg3) := by
  show StableHlo.after _ _ _ = _
  after_results
  rfl

/-- The kernel's run, its result the projection of its arguments. -/
theorem run_args (ρ : Dev nD → PrngReg) : θ_run defs (onTc (τ := τ) (main (F := Ideal))) ⟨m, fun _ => 0, ρ⟩ fun r => ∀ c : Dev nD,
      r.2.mem ((c : Thread nD τ).loc main_v5) = proj (rows (m ((c : Thread nD τ).loc main_arg0)) (m ((c : Thread nD τ).loc main_arg1)))
          (mods (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (run m ρ)
  rw [Xv_eq, Mv_eq, Wv_eq]

end Cert.Kernel3Ideal.Proj

namespace Cert.Reference3Ideal.Proj

open Cert.Reference3Ideal Cert.Reference3Ideal.Gen Idealize.ShloMosaic Idealize.ShloMosaic.TcCoe Idealize.SL.Sem
open Cert.Kernel3Ideal.Proj (proj rows mods rowOf rowOf_lt)

variable (m : (ℓ : Loc nD τ sig) → Buf (Elt Ideal) ℓ) (ρ : Dev nD → PrngReg)

theorem dot0_apply (x : FVec Ideal S32x256x2048 .f32) (w : FVec Ideal S2048x7168 .f32) (p : Fin 32) (q : Fin 256) (j : Fin 7168) :
    Host.dotGeneral (F := Ideal) dot_S32x256x2048_S2048x7168_S32x256x7168_2_0_01_1_n_n none x w (ix3 p q j) = ∑ k : Fin 2048, x (ix3 p q k) * w (ix2 k j) := by
  simp only [pointwise]
  exact zero_add _

theorem dot1_apply (x : FVec Ideal S8x4096x2048 .f32) (w : FVec Ideal S2048x7168 .f32) (p : Fin 8) (q : Fin 4096) (j : Fin 7168) :
    Host.dotGeneral (F := Ideal) dot_S8x4096x2048_S2048x7168_S8x4096x7168_2_0_01_1_n_n none x w (ix3 p q j) = ∑ k : Fin 2048, x (ix3 p q k) * w (ix2 k j) := by
  simp only [pointwise]
  exact zero_add _

/-- The first batch, as the reference's operations make it. -/
def batch0 (x : FVec Ideal S32x256x2048 .f32) (a : FVec Ideal S16x12288 .f32) (w : FVec Ideal S2048x7168 .f32) : FVec Ideal S32x256x7168 .f32 :=
  Host.dotGeneral (F := Ideal) dot_S32x256x2048_S2048x7168_S32x256x7168_2_0_01_1_n_n none (addf (mulf x (broadcastInDim S32x256x2048 ![0, 1, 2] bcast_S1x1x2048_S32x256x2048_0_1_2 (addf (broadcastInDim S1x1x2048 ![] bcast_S_S1x1x2048 (constant S_ .f32 0x3F800000#32)) (extractStridedSlice S1x1x2048 ![0, 0, 2048] (broadcastInDim S1x1x12288 ![0, 2] bcast_S1x12288_S1x1x12288_0_2 (extractStridedSlice S1x12288 ![0, 0] a slices_S16x12288_S1x12288_0_0)) slices_S1x1x12288_S1x1x2048_0_0_2048)))) (broadcastInDim S32x256x2048 ![0, 1, 2] bcast_S1x1x2048_S32x256x2048_0_1_2 (extractStridedSlice S1x1x2048 ![0, 0, 0] (broadcastInDim S1x1x12288 ![0, 2] bcast_S1x12288_S1x1x12288_0_2 (extractStridedSlice S1x12288 ![0, 0] a slices_S16x12288_S1x12288_0_0)) slices_S1x1x12288_S1x1x2048_0_0_0))) w

/-- The second batch. -/
def batch1 (x : FVec Ideal S8x4096x2048 .f32) (a : FVec Ideal S16x12288 .f32) (w : FVec Ideal S2048x7168 .f32) : FVec Ideal S8x4096x7168 .f32 :=
  Host.dotGeneral (F := Ideal) dot_S8x4096x2048_S2048x7168_S8x4096x7168_2_0_01_1_n_n none (addf (mulf x (broadcastInDim S8x4096x2048 ![0, 1, 2] bcast_S8x1x2048_S8x4096x2048_0_1_2 (addf (broadcastInDim S8x1x2048 ![] bcast_S_S8x1x2048 (constant S_ .f32 0x3F800000#32)) (extractStridedSlice S8x1x2048 ![0, 0, 2048] (broadcastInDim S8x1x12288 ![0, 2] bcast_S8x12288_S8x1x12288_0_2 (extractStridedSlice S8x12288 ![1, 0] a slices_S16x12288_S8x12288_1_0)) slices_S8x1x12288_S8x1x2048_0_0_2048)))) (broadcastInDim S8x4096x2048 ![0, 1, 2] bcast_S8x1x2048_S8x4096x2048_0_1_2 (extractStridedSlice S8x1x2048 ![0, 0, 0] (broadcastInDim S8x1x12288 ![0, 2] bcast_S8x12288_S8x1x12288_0_2 (extractStridedSlice S8x12288 ![1, 0] a slices_S16x12288_S8x12288_1_0)) slices_S8x1x12288_S8x1x2048_0_0_0))) w

/-- The modulated and projected rows of one batch, at an index: batch entry `p`, row `q`, column `j`. -/
theorem batch0_apply (x : FVec Ideal S32x256x2048 .f32) (a : FVec Ideal S16x12288 .f32) (w : FVec Ideal S2048x7168 .f32) (p : Fin 32) (q : Fin 256) (j : Fin 7168) :
    batch0 x a w (ix3 p q j) = ∑ k : Fin 2048, (x (ix3 p q k) * (1 + a (ix2 0 ⟨2048 + k.val, by omega⟩)) + a (ix2 0 ⟨k.val, by omega⟩)) * w (ix2 k j) := by
  unfold batch0
  rw [dot0_apply]
  refine Finset.sum_congr rfl fun k _ => ?_
  simp only [pointwise]
  simp

/-- The modulated and projected rows of one batch, at an index: batch entry `p`, row `q`, column `j`. -/
theorem batch1_apply (x : FVec Ideal S8x4096x2048 .f32) (a : FVec Ideal S16x12288 .f32) (w : FVec Ideal S2048x7168 .f32) (p : Fin 8) (q : Fin 4096) (j : Fin 7168) :
    batch1 x a w (ix3 p q j) = ∑ k : Fin 2048, (x (ix3 p q k) * (1 + a (ix2 ⟨1 + p.val, by omega⟩ ⟨2048 + k.val, by omega⟩)) + a (ix2 ⟨1 + p.val, by omega⟩ ⟨k.val, by omega⟩)) * w (ix2 k j) := by
  unfold batch1
  rw [dot1_apply]
  refine Finset.sum_congr rfl fun k _ => ?_
  simp only [pointwise]
  simp

/-- Both batches, one array of rows. -/
theorem result_eq (x : FVec Ideal S32x256x2048 .f32) (y : FVec Ideal S8x4096x2048 .f32) (a : FVec Ideal S16x12288 .f32) (w : FVec Ideal S2048x7168 .f32) :
    truncf (F := Ideal) .bf16 (concatenate S40960x7168 0 [⟨S8192x7168, shapeCast S8192x7168 (batch0 x a w) shapeCasts_S32x256x7168_S8192x7168⟩,
      ⟨S32768x7168, shapeCast S32768x7168 (batch1 y a w) shapeCasts_S8x4096x7168_S32768x7168⟩] concatenates_S8192x7168_S32768x7168_S40960x7168_d0) bitsLt_bf16_f32
      = proj (rows x y) (mods a) w := by
  funext i
  idx_vars i
  simp only [pointwise]
  by_cases h : i0.val < 8192
  · rw [dif_pos h, batch0_apply]
    refine Finset.sum_congr rfl fun k _ => ?_
    have e : (⟨rowOf i0.val, rowOf_lt i0⟩ : Fin 16) = 0 := Fin.ext (if_pos h)
    show _ = (rows x y (ix2 i0 k) * (1 + a (ix2 ⟨rowOf i0.val, rowOf_lt i0⟩ ⟨2048 + k.val, by omega⟩)) + a (ix2 ⟨rowOf i0.val, rowOf_lt i0⟩ ⟨k.val, by omega⟩)) * w (ix2 k i1)
    rw [e, show rows x y (ix2 i0 k) = x (ix3 ⟨i0.val / 256, by omega⟩ ⟨i0.val % 256, by omega⟩ k) from dif_pos h]
  · rw [dif_neg h]
    show batch1 y a w (ix3 ⟨(i0.val - 8192) / 4096, by omega⟩ ⟨(i0.val - 8192) % 4096, by omega⟩ i1) = _
    rw [batch1_apply]
    refine Finset.sum_congr rfl fun k _ => ?_
    have e : (⟨rowOf i0.val, rowOf_lt i0⟩ : Fin 16) = ⟨1 + (i0.val - 8192) / 4096, by omega⟩ := Fin.ext (if_neg h)
    show _ = (rows x y (ix2 i0 k) * (1 + a (ix2 ⟨rowOf i0.val, rowOf_lt i0⟩ ⟨2048 + k.val, by omega⟩)) + a (ix2 ⟨rowOf i0.val, rowOf_lt i0⟩ ⟨k.val, by omega⟩)) * w (ix2 k i1)
    rw [e, show rows x y (ix2 i0 k) = y (ix3 ⟨(i0.val - 8192) / 4096, by omega⟩ ⟨(i0.val - 8192) % 4096, by omega⟩ k) from dif_neg h]

/-- The reference's run: its result is the same projection of its arguments. -/
theorem run : θ_run defs (onTc (τ := τ) (main (F := Ideal))) ⟨m, fun _ => 0, ρ⟩ fun r => ∀ c : Dev nD,
      r.2.mem ((c : Thread nD τ).loc main_v33) = proj (rows (m ((c : Thread nD τ).loc main_arg0)) (m ((c : Thread nD τ).loc main_arg1)))
          (mods (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (Value.run (F := Ideal) m ρ)
  exact result_eq _ _ _ _

end Cert.Reference3Ideal.Proj

end
-- ==== Proof.RetRun.lean ====
/-
  One grid point of the retention kernel, run: the program's body is taken instruction by instruction, its two loops
  by their invariants, and the pieces it stores into its three outputs are collected.
-/
module

public import proofs.«01_k».proof.Proof.Gen.KernelIdeal.Loops
public import proofs.«01_k».proof.Proof.Gen.KernelIdeal.Skeleton
public import proofs.«01_k».proof.Proof.Gen.KernelIdeal.Frame

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 2000000 in
/-- The pieces the body stores into the output rows and the two final states, as functions of what the four scratch
    buffers held at its start, with the proof that the body, on whole buffers holding the inputs `x0 … x8`, runs to
    the end, leaves the inputs alone and leaves those pieces in the outputs. -/
def pointRun (c : Dev nD) (i : grid0.Coords) (arg2 : Memref sig .tc .smem S2x8 .f32) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8x128 .f32) (harg7 : arg7.IsWhole) (arg8 : Memref sig .tc .vmem S8x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S256x128 .bf16) (harg11 : arg11.IsWhole) (arg12 : Memref sig .tc .vmem S1x1x128x128 .f32) (harg12 : arg12.IsWhole) (arg13 : Memref sig .tc .vmem S1x1x128x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .bf16) (harg16 : arg16.IsWhole) (arg17 : Memref sig .tc .vmem S256x128 .f32) (harg17 : arg17.IsWhole)
    (x0 : Vec F S2x8 .f32) (x1 : Vec F S256x128 .bf16) (x2 : Vec F S256x128 .bf16) (x3 : Vec F S256x128 .bf16) (x4 : Vec F S256x128 .bf16) (x5 : Vec F S8x128 .f32) (x6 : Vec F S8x128 .f32) (x7 : Vec F S1x1x128x128 .f32) (x8 : Vec F S1x1x128x128 .f32) :
    Σ' (L11 : BufTy.Contents (Elt F) arg14.view.ty → BufTy.Contents (Elt F) arg15.view.ty → BufTy.Contents (Elt F) arg16.view.ty → BufTy.Contents (Elt F) arg17.view.ty → List (View.Piece (Elt F) S256x128 .bf16)) (L12 : BufTy.Contents (Elt F) arg14.view.ty → BufTy.Contents (Elt F) arg15.view.ty → BufTy.Contents (Elt F) arg16.view.ty → BufTy.Contents (Elt F) arg17.view.ty → List (View.Piece (Elt F) S1x1x128x128 .f32)), { L13 : BufTy.Contents (Elt F) arg14.view.ty → BufTy.Contents (Elt F) arg15.view.ty → BufTy.Contents (Elt F) arg16.view.ty → BufTy.Contents (Elt F) arg17.view.ty → List (View.Piece (Elt F) S1x1x128x128 .f32) //
      ∀ (E : Set ℕ) (K : PUnit → sProp 𝕄) (e14 : BufTy.Contents (Elt F) arg14.view.ty) (e15 : BufTy.Contents (Elt F) arg15.view.ty) (e16 : BufTy.Contents (Elt F) arg16.view.ty) (e17 : BufTy.Contents (Elt F) arg17.view.ty),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} e14) ∗ (arg15.view.loc (c : Thread nD τ) ↦[arg15.view.set]{fullShare} e15) ∗ (arg16.view.loc (c : Thread nD τ) ↦[arg16.view.set]{fullShare} e16) ∗ (arg17.view.loc (c : Thread nD τ) ↦[arg17.view.set]{fullShare} e17)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f (L11 e14 e15 e16 e17)) ∗ (∃ f, arg12.view.loc (c : Thread nD τ) ↦[arg12.view.set]{fullShare} arg12.view.writes (Elt F) f (L12 e14 e15 e16 e17)) ∗ (∃ f, arg13.view.loc (c : Thread nD τ) ↦[arg13.view.set]{fullShare} arg13.view.writes (Elt F) f (L13 e14 e15 e16 e17)) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0__ret_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K e14 e15 e16 e17 => ?run⟩
  case run =>
    simp only [cc0__ret_kernel_eq_skeleton]; unfold cc0__ret_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, HS0, HS1, HS2, HS3, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Ret

end
-- ==== Proof.RetRead.lean ====
/-
  What one grid point of the retention kernel computes: the pieces its run leaves in the outputs, read as one function of
  the point's input blocks. Rows `0 … 127` of a block are its first chunk, rows `128 … 255` its second.
-/
module

public import proofs.«01_k».proof.Proof.RetRun
public import Idealize.ShloMosaic.Lib.Pointwise
public import Idealize.ShloMosaic.Lib.WritesUnit
public import Idealize.ShloMosaic.Lib.VecWindow

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Rows `o … o + 127` of a block of 256 rows. -/
def rows {e : EltTy} (x : Vec F S256x128 e) (o : ℕ) (ho : o ≤ 128) : Vec F S128x128 e := fun y =>
  x (ix2 ⟨o + (y 0).val, Nat.lt_of_lt_of_le (Nat.add_lt_add_left (y 0).isLt o) (Nat.add_le_add_right ho 128)⟩ (y 1))

/-- A load of 128 whole rows from row `o` on reads `rows`. -/
theorem ld_rows {e : EltTy} (x : Vec F S256x128 e) (o : ℕ) (ho : o ≤ 128) {off : Fin 2 → ℕ} (hoff : off = ![o, 0])
    (inb : ∀ a, off a + S128x128.size a ≤ S256x128.size a) :
    View.ld x (Rect.unit (s := S256x128) off S128x128.size inb) = rows x o ho := by
  subst hoff
  funext y
  refine congrArg x (funext fun a => Fin.ext ?_)
  match a with
  | ⟨0, _⟩ => show o + 1 * (y 0).val = o + (y 0).val; omega
  | ⟨1, _⟩ => show 0 + 1 * (y 1).val = (y 1).val; omega

/-- A load of 128 whole rows just after 128 whole rows were stored at the same place or at the other half. -/
theorem ld_store {sp : Space} {s : Memref sig .tc sp S256x128 .f32} (f : BufTy.Contents (Elt F) s.view.ty) (o : ℕ) (ho : o ≤ 128)
    {off off' : Fin 2 → ℕ} (hoff : off = ![o, 0]) (hoff' : off' = ![o, 0])
    (inb : ∀ a, off a + S128x128.size a ≤ S256x128.size a) (inb' : ∀ a, off' a + S128x128.size a ≤ S256x128.size a)
    (w : FVec F S128x128 .f32) (L : List (View.Piece (Elt F) S256x128 .f32)) :
    View.ld (s.view.read (Elt F) (s.view.writes (Elt F) f (⟨Rect.unit (s := S256x128) off S128x128.size inb, w⟩ :: L)))
      (Rect.unit (s := S256x128) off' S128x128.size inb') = w := by
  subst hoff hoff'
  funext y
  refine (View.read_writes_cons_rows_of_mem s.view f inb w L _ y rfl ?_ ?_)
  · show o + 1 * (y 0).val = o + (y 0).val; omega
  · show 0 + 1 * (y 1).val = (y 1).val; omega

/-- A load of 128 whole rows passes over a store to the other half. -/
theorem ld_skip {sp : Space} {s : Memref sig .tc sp S256x128 .f32} (f : BufTy.Contents (Elt F) s.view.ty) (o o' : ℕ)
    (hd : o + 128 ≤ o' ∨ o' + 128 ≤ o)
    {off off' : Fin 2 → ℕ} (hoff : off = ![o, 0]) (hoff' : off' = ![o', 0])
    (inb : ∀ a, off a + S128x128.size a ≤ S256x128.size a) (inb' : ∀ a, off' a + S128x128.size a ≤ S256x128.size a)
    (w : FVec F S128x128 .f32) (L : List (View.Piece (Elt F) S256x128 .f32)) :
    View.ld (s.view.read (Elt F) (s.view.writes (Elt F) f (⟨Rect.unit (s := S256x128) off S128x128.size inb, w⟩ :: L)))
      (Rect.unit (s := S256x128) off' S128x128.size inb')
    = View.ld (s.view.read (Elt F) (s.view.writes (Elt F) f L)) (Rect.unit (s := S256x128) off' S128x128.size inb') := by
  subst hoff hoff'
  funext y
  have h0 : (y 0).val < 128 := (y 0).isLt
  refine (View.read_writes_cons_rows_of_not_mem (W := 128) s.view f inb w L _ rfl rfl ?_)
  show o' + 1 * (y 0).val < o ∨ o + 128 ≤ o' + 1 * (y 0).val
  omega

section Trips

variable (𝒱 : Variants) (c : Dev nD) (bd : Option 𝒱.V) (i : grid0.Coords)
  (arg2 : Memref sig .tc .smem S2x8 .f32) (harg2 : arg2.IsWhole) (arg3 : Memref sig .tc .vmem S256x128 .bf16) (harg3 : arg3.IsWhole)
  (arg4 : Memref sig .tc .vmem S256x128 .bf16) (harg4 : arg4.IsWhole) (arg5 : Memref sig .tc .vmem S256x128 .bf16) (harg5 : arg5.IsWhole)
  (arg6 : Memref sig .tc .vmem S256x128 .bf16) (harg6 : arg6.IsWhole) (arg7 : Memref sig .tc .vmem S8x128 .f32) (harg7 : arg7.IsWhole)
  (arg8 : Memref sig .tc .vmem S8x128 .f32) (harg8 : arg8.IsWhole) (arg9 : Memref sig .tc .vmem S1x1x128x128 .f32) (harg9 : arg9.IsWhole)
  (arg10 : Memref sig .tc .vmem S1x1x128x128 .f32) (harg10 : arg10.IsWhole) (arg11 : Memref sig .tc .vmem S256x128 .bf16) (harg11 : arg11.IsWhole)
  (arg12 : Memref sig .tc .vmem S1x1x128x128 .f32) (harg12 : arg12.IsWhole) (arg13 : Memref sig .tc .vmem S1x1x128x128 .f32) (harg13 : arg13.IsWhole)
  (arg14 : Memref sig .tc .vmem S256x128 .f32) (harg14 : arg14.IsWhole) (arg15 : Memref sig .tc .vmem S256x128 .f32) (harg15 : arg15.IsWhole)
  (arg16 : Memref sig .tc .vmem S256x128 .bf16) (harg16 : arg16.IsWhole) (arg17 : Memref sig .tc .vmem S256x128 .f32) (harg17 : arg17.IsWhole)

/-- What one trip of the forward loop yields. -/
theorem trip1_fst (w1 : BitVec 32) (v17 v19 : FVec F S128x128 .f32) (v21 : FVec F S128x1 .f32) (v23 : Elt F .f32) (v25 v26 : FVec F S128x128 .f32) (v31 v33 v34 : FVec F S128x1 .f32) (X14 : BufTy.Contents (Elt F) arg14.view.ty) (X15 : BufTy.Contents (Elt F) arg15.view.ty) (X16 : BufTy.Contents (Elt F) arg16.view.ty) (k : Fin k0_t1_loop.trips) (acc : FVec F S128x128 .f32) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w1 v17 v19 v21 v23 v25 v26 v31 v33 v34 X14 X15 X16 k).1 acc
      = k0_pay18 v23 v33 v34 acc (View.ld (arg15.view.read (Elt F) X15) (Rect.unit (s := S256x128) (k0_off2 k) S128x128.size (k0_off2_inb k))) (View.ld (arg16.view.read (Elt F) X16) (Rect.unit (s := S256x128) (k0_off2 k) S128x128.size (k0_off2_inb k))) := by
  unfold trip_k0_t1; dsimp only; sl_unfold_words; rfl

/-- What one trip of the forward loop stores. -/
theorem trip1_snd (w1 : BitVec 32) (v17 v19 : FVec F S128x128 .f32) (v21 : FVec F S128x1 .f32) (v23 : Elt F .f32) (v25 v26 : FVec F S128x128 .f32) (v31 v33 v34 : FVec F S128x1 .f32) (X14 : BufTy.Contents (Elt F) arg14.view.ty) (X15 : BufTy.Contents (Elt F) arg15.view.ty) (X16 : BufTy.Contents (Elt F) arg16.view.ty) (k : Fin k0_t1_loop.trips) (acc : FVec F S128x128 .f32) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w1 v17 v19 v21 v23 v25 v26 v31 v33 v34 X14 X15 X16 k).2.1 acc
      = [⟨Rect.unit (s := S256x128) (k0_off2 k) S128x128.size (k0_off2_inb k), k0_pay17 v23 v26 v31 acc (View.ld (arg14.view.read (Elt F) X14) (Rect.unit (s := S256x128) (k0_off2 k) S128x128.size (k0_off2_inb k))) (View.ld (arg15.view.read (Elt F) X15) (Rect.unit (s := S256x128) (k0_off2 k) S128x128.size (k0_off2_inb k))) (View.ld (arg16.view.read (Elt F) X16) (Rect.unit (s := S256x128) (k0_off2 k) S128x128.size (k0_off2_inb k)))⟩] := by
  unfold trip_k0_t1; dsimp only; sl_unfold_words; rfl

/-- What one trip of the reversed loop yields. -/
theorem trip2_fst (v59 v62 : FVec F S128x1 .f32) (v71 : FVec F S128x128 .f32) (v73 : F .f32) (X14 : BufTy.Contents (Elt F) arg14.view.ty) (X15 : BufTy.Contents (Elt F) arg15.view.ty) (X16 : BufTy.Contents (Elt F) arg16.view.ty) (k : Fin k0_t2_loop.trips) (acc : FVec F S128x128 .f32) (f : BufTy.Contents (Elt F) arg17.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v59 v62 v71 v73 X14 X15 X16 k).1 acc f
      = k0_pay2 v62 v73 acc (View.ld (arg15.view.read (Elt F) X15) (Rect.unit (s := S256x128) (k0_off4 k) S128x128.size (k0_off4_inb k))) (View.ld (arg16.view.read (Elt F) X16) (Rect.unit (s := S256x128) (k0_off4 k) S128x128.size (k0_off4_inb k))) := by
  unfold trip_k0_t2; dsimp only; sl_unfold_words; rfl

/-- What one trip of the reversed loop stores. -/
theorem trip2_snd (v59 v62 : FVec F S128x1 .f32) (v71 : FVec F S128x128 .f32) (v73 : F .f32) (X14 : BufTy.Contents (Elt F) arg14.view.ty) (X15 : BufTy.Contents (Elt F) arg15.view.ty) (X16 : BufTy.Contents (Elt F) arg16.view.ty) (k : Fin k0_t2_loop.trips) (acc : FVec F S128x128 .f32) (f : BufTy.Contents (Elt F) arg17.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v59 v62 v71 v73 X14 X15 X16 k).2.1 acc f
      = [⟨Rect.unit (s := S256x128) (k0_off4 k) S128x128.size (k0_off4_inb k), k0_pay1 v59 v71 acc (View.ld (arg14.view.read (Elt F) X14) (Rect.unit (s := S256x128) (k0_off4 k) S128x128.size (k0_off4_inb k))) (View.ld (arg15.view.read (Elt F) X15) (Rect.unit (s := S256x128) (k0_off4 k) S128x128.size (k0_off4_inb k))) (View.ld (arg16.view.read (Elt F) X16) (Rect.unit (s := S256x128) (k0_off4 k) S128x128.size (k0_off4_inb k))) (View.ld (arg17.view.read (Elt F) f) (Rect.unit (s := S256x128) (k0_off4 k) S128x128.size (k0_off4_inb k)))⟩] := by
  unfold trip_k0_t2; dsimp only; sl_unfold_words; rfl

/-- Both loops run two trips. -/
theorem trips1 : Scf.trips k0_t1_loop.lb k0_t1_loop.ub k0_t1_loop.st = 2 := by decide
/-- Both loops run two trips. -/
theorem trips2 : Scf.trips k0_t2_loop.lb k0_t2_loop.ub k0_t2_loop.st = 2 := by decide

/-- The forward state after the first chunk. -/
def fwd1 (v23 : Elt F .f32) (v33 v34 : FVec F S128x1 .f32) (s : FVec F S128x128 .f32) (K : Vec F S256x128 .f32) (V : Vec F S256x128 .bf16) : FVec F S128x128 .f32 :=
  k0_pay18 v23 v33 v34 s (rows K 0 (by decide)) (rows V 0 (by decide))
/-- The forward state after the second chunk. -/
def fwd2 (v23 : Elt F .f32) (v33 v34 : FVec F S128x1 .f32) (s : FVec F S128x128 .f32) (K : Vec F S256x128 .f32) (V : Vec F S256x128 .bf16) : FVec F S128x128 .f32 :=
  k0_pay18 v23 v33 v34 (fwd1 v23 v33 v34 s K V) (rows K 128 (by decide)) (rows V 128 (by decide))

/-- The forward loop's result: the state after both chunks, and the two chunks' outputs as the pieces stored. -/
theorem st1_two (w1 : BitVec 32) (v17 v19 : FVec F S128x128 .f32) (v21 : FVec F S128x1 .f32) (v23 : Elt F .f32) (v25 v26 : FVec F S128x128 .f32) (v31 v33 v34 : FVec F S128x1 .f32) (X14 : BufTy.Contents (Elt F) arg14.view.ty) (X15 : BufTy.Contents (Elt F) arg15.view.ty) (X16 : BufTy.Contents (Elt F) arg16.view.ty) (Q K : Vec F S256x128 .f32) (V : Vec F S256x128 .bf16) (hQ : arg14.view.read (Elt F) X14 = Q) (hK : arg15.view.read (Elt F) X15 = K) (hV : arg16.view.read (Elt F) X16 = V) (init : FVec F S128x128 .f32) :
    ∃ inb1 inb0, st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w1 v17 v19 v21 v23 v25 v26 v31 v33 v34 X14 X15 X16 init (Scf.trips k0_t1_loop.lb k0_t1_loop.ub k0_t1_loop.st)
      = (fwd2 v23 v33 v34 init K V,
        [⟨Rect.unit (s := S256x128) ![128, 0] S128x128.size inb1, k0_pay17 v23 v26 v31 (fwd1 v23 v33 v34 init K V) (rows Q 128 (by decide)) (rows K 128 (by decide)) (rows V 128 (by decide))⟩,
         ⟨Rect.unit (s := S256x128) ![0, 0] S128x128.size inb0, k0_pay17 v23 v26 v31 init (rows Q 0 (by decide)) (rows K 0 (by decide)) (rows V 0 (by decide))⟩]) := by
  subst hQ hK hV
  have e1 : k0_off2 ⟨1, by decide⟩ = ![128, 0] := k0_off2_eq ⟨1, by decide⟩
  have e0 : k0_off2 ⟨0, by decide⟩ = ![0, 0] := k0_off2_eq ⟨0, by decide⟩
  refine ⟨by decide, by decide, ?_⟩
  rw [trips1, st_k0_t1_succ 𝒱 c bd i _ _ _ _ _ _ _ _ _ _ _ _ _ _ _ _ _ _ _ _ _ _ _ _ _ _ _ _ _ _ _ _ w1 v17 v19 v21 v23 v25 v26 v31 v33 v34 X14 X15 X16 init ⟨1, by decide⟩,
    st_k0_t1_succ 𝒱 c bd i _ _ _ _ _ _ _ _ _ _ _ _ _ _ _ _ _ _ _ _ _ _ _ _ _ _ _ _ _ _ _ _ w1 v17 v19 v21 v23 v25 v26 v31 v33 v34 X14 X15 X16 init ⟨0, by decide⟩]
  simp only [tripR_k0_t1, tripL_k0_t1, trip1_fst, trip1_snd, st_k0_t1]
  simp only [ld_rows _ 0 (by decide) e0, ld_rows _ 128 (by decide) e1, e0, e1]
  rfl

/-- The reversed state after the second chunk, which comes first. -/
def bwd1 (v62 : FVec F S128x1 .f32) (v73 : F .f32) (s : FVec F S128x128 .f32) (K : Vec F S256x128 .f32) (V : Vec F S256x128 .bf16) : FVec F S128x128 .f32 :=
  k0_pay2 v62 v73 s (rows K 128 (by decide)) (rows V 128 (by decide))
/-- The reversed state after both chunks. -/
def bwd2 (v62 : FVec F S128x1 .f32) (v73 : F .f32) (s : FVec F S128x128 .f32) (K : Vec F S256x128 .f32) (V : Vec F S256x128 .bf16) : FVec F S128x128 .f32 :=
  k0_pay2 v62 v73 (bwd1 v62 v73 s K V) (rows K 0 (by decide)) (rows V 0 (by decide))

/-- The reversed loop's result, entered when the forward outputs `o1`, `o0` are stored. -/
theorem st2_two (v59 v62 : FVec F S128x1 .f32) (v71 : FVec F S128x128 .f32) (v73 : F .f32) (X14 : BufTy.Contents (Elt F) arg14.view.ty) (X15 : BufTy.Contents (Elt F) arg15.view.ty) (X16 : BufTy.Contents (Elt F) arg16.view.ty) (Q K : Vec F S256x128 .f32) (V : Vec F S256x128 .bf16) (hQ : arg14.view.read (Elt F) X14 = Q) (hK : arg15.view.read (Elt F) X15 = K) (hV : arg16.view.read (Elt F) X16 = V) (init : FVec F S128x128 .f32) (G : BufTy.Contents (Elt F) arg17.view.ty) (o1 o0 : FVec F S128x128 .f32)
    (inb1 : ∀ a, (![128, 0] : Fin 2 → ℕ) a + S128x128.size a ≤ S256x128.size a) (inb0 : ∀ a, (![0, 0] : Fin 2 → ℕ) a + S128x128.size a ≤ S256x128.size a) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v59 v62 v71 v73 X14 X15 X16 (arg17.view.writes (Elt F) G [⟨Rect.unit (s := S256x128) ![128, 0] S128x128.size inb1, o1⟩, ⟨Rect.unit (s := S256x128) ![0, 0] S128x128.size inb0, o0⟩]) init (Scf.trips k0_t2_loop.lb k0_t2_loop.ub k0_t2_loop.st)
      = (bwd2 v62 v73 init K V,
        [⟨Rect.unit (s := S256x128) ![0, 0] S128x128.size inb0, k0_pay1 v59 v71 (bwd1 v62 v73 init K V) (rows Q 0 (by decide)) (rows K 0 (by decide)) (rows V 0 (by decide)) o0⟩,
         ⟨Rect.unit (s := S256x128) ![128, 0] S128x128.size inb1, k0_pay1 v59 v71 init (rows Q 128 (by decide)) (rows K 128 (by decide)) (rows V 128 (by decide)) o1⟩]) := by
  subst hQ hK hV
  have e1 : k0_off4 ⟨1, by decide⟩ = ![0, 0] := k0_off4_eq ⟨1, by decide⟩
  have e0 : k0_off4 ⟨0, by decide⟩ = ![128, 0] := k0_off4_eq ⟨0, by decide⟩
  rw [trips2, st_k0_t2_succ 𝒱 c bd i _ _ _ _ _ _ _ _ _ _ _ _ _ _ _ _ _ _ _ _ _ _ _ _ _ _ _ _ _ _ _ _ v59 v62 v71 v73 X14 X15 X16 _ init ⟨1, by decide⟩,
    st_k0_t2_succ 𝒱 c bd i _ _ _ _ _ _ _ _ _ _ _ _ _ _ _ _ _ _ _ _ _ _ _ _ _ _ _ _ _ _ _ _ v59 v62 v71 v73 X14 X15 X16 _ init ⟨0, by decide⟩]
  simp only [tripR_k0_t2, tripL_k0_t2, trip2_fst, trip2_snd, st_k0_t2, List.append_nil, View.writes_nil, ← View.writes_append]
  simp only [List.cons_append, List.nil_append]
  simp only [ld_skip _ 128 0 (by decide) e0 e1, ld_skip _ 128 0 (by decide) rfl e1, ld_store _ 0 (by decide) rfl e1, ld_store _ 128 (by decide) rfl e0]
  simp only [ld_rows _ 128 (by decide) e0, ld_rows _ 0 (by decide) e1, e0, e1]
  rfl

end Trips

/-- The outputs of the two chunks side by side: both directions added. -/
def both (o0 o1 : FVec F S128x128 .f32) : FVec F S256x128 .f32 := fun y =>
  if h : (y 0).val < 128 then o0 (ix2 ⟨(y 0).val, h⟩ (y 1))
  else o1 (ix2 ⟨(y 0).val - 128, by have : (y 0).val < 256 := (y 0).isLt; omega⟩ (y 1))

/-- What is read of a buffer whose two halves were stored. -/
theorem read_both {sp : Space} {s : Memref sig .tc sp S256x128 .f32} (f : BufTy.Contents (Elt F) s.view.ty) (o0 o1 : FVec F S128x128 .f32)
    (inb1 : ∀ a, (![128, 0] : Fin 2 → ℕ) a + S128x128.size a ≤ S256x128.size a) (inb0 : ∀ a, (![0, 0] : Fin 2 → ℕ) a + S128x128.size a ≤ S256x128.size a)
    (L : List (View.Piece (Elt F) S256x128 .f32)) :
    s.view.read (Elt F) (s.view.writes (Elt F) f (⟨Rect.unit (s := S256x128) ![0, 0] S128x128.size inb0, o0⟩ :: ⟨Rect.unit (s := S256x128) ![128, 0] S128x128.size inb1, o1⟩ :: L)) = both o0 o1 := by
  funext y
  have hy : (y 0).val < 256 := (y 0).isLt
  unfold both
  by_cases h : (y 0).val < 128
  · rw [dif_pos h]
    exact View.read_writes_cons_rows_of_mem s.view f inb0 o0 _ y (ix2 ⟨(y 0).val, h⟩ (y 1)) rfl (Nat.zero_add _).symm rfl
  · rw [dif_neg h, View.read_writes_cons_rows_of_not_mem (o := 0) (W := 128) s.view f inb0 o0 _ y rfl rfl (by omega)]
    refine View.read_writes_cons_rows_of_mem s.view f inb1 o1 _ y (ix2 ⟨(y 0).val - 128, by omega⟩ (y 1)) rfl ?_ rfl
    show (y 0).val = 128 + ((y 0).val - 128)
    omega

variable (i : grid0.Coords) (x0 : Vec F S2x8 .f32) (x1 : Vec F S256x128 .bf16) (x2 : Vec F S256x128 .bf16) (x3 : Vec F S256x128 .bf16) (x4 : Vec F S256x128 .bf16) (x5 : Vec F S8x128 .f32) (x6 : Vec F S8x128 .f32) (x7 : Vec F S1x1x128x128 .f32) (x8 : Vec F S1x1x128x128 .f32)

/-- The head's forward log decay: the scalar the kernel loads from row 0 of the table. -/
def lgF : F .f32 := View.ld x0 (Rect.unit (s := S2x8) (k0_off1 i) S1x1.size (k0_off1_inb i)) (Shape.Idx.first (s := S1x1) (by decide))
/-- The head's reversed log decay: the scalar the kernel loads from row 1 of the table. -/
def lgB : F .f32 := View.ld x0 (Rect.unit (s := S2x8) (k0_off3 i) S1x1.size (k0_off3_inb i)) (Shape.Idx.first (s := S1x1) (by decide))

/-- The scalar the kernel loads from row `r` of the decay table. -/
theorem lg_at (r : ℕ) (hr : r < 2) {off : Fin 2 → ℕ} (hoff : off = ![r, (i 1).val]) (inb : ∀ a, off a + S1x1.size a ≤ S2x8.size a) :
    View.ld x0 (Rect.unit (s := S2x8) off S1x1.size inb) = fun _ => x0 (ix2 ⟨r, hr⟩ (i 1)) := by
  subst hoff
  funext x
  refine congrArg x0 (funext fun a => Fin.ext ?_)
  match a with
  | ⟨0, _⟩ => have h : (x 0).val < 1 := (x 0).isLt
              show r + 1 * (x 0).val = r
              omega
  | ⟨1, _⟩ => have h : (x 1).val < 1 := (x 1).isLt
              show (i 1).val + 1 * (x 1).val = (i 1).val
              omega

/-- The head's column of the decay table, as the kernel computes it. -/
theorem lg_col (r : ℕ) : (![r, BitVec.toNat (Scalar.indexCast (BitVec.ofNat 32 (i 1).val))] : Fin 2 → ℕ) = ![r, (i 1).val] := by
  have h : ∀ j : Fin 8, BitVec.toNat (Scalar.indexCast (BitVec.ofNat 32 j.val)) = j.val := by decide
  exact congrArg (fun n => (![r, n] : Fin 2 → ℕ)) (h (i 1))

/-- The forward decay is the head's entry of row 0. -/
theorem lgF_eq : lgF i x0 = x0 (ix2 0 (i 1)) := congrFun (lg_at i x0 0 (by decide) (lg_col i 0) _) _
/-- The reversed decay is the head's entry of row 1. -/
theorem lgB_eq : lgB i x0 = x0 (ix2 1 (i 1)) := congrFun (lg_at i x0 1 (by decide) (lg_col i 1) _) _

/-- The forward state before the second chunk. -/
def sF1 : FVec F S128x128 .f32 := fwd1 (lgF i x0) k0_pay15 (k0_pay16 (lgF i x0)) (k0_pay12 x7) (k0_pay7 x2) (k0_pay8 x3)
/-- The forward state after both chunks. -/
def sF2 : FVec F S128x128 .f32 := fwd2 (lgF i x0) k0_pay15 (k0_pay16 (lgF i x0)) (k0_pay12 x7) (k0_pay7 x2) (k0_pay8 x3)
/-- The reversed state before the first chunk. -/
def sB1 : FVec F S128x128 .f32 := bwd1 (k0_pay21 k0_pay11 (lgB i x0)) (k0_pay23 (lgB i x0)) (k0_pay19 x8) (k0_pay7 x2) (k0_pay8 x3)
/-- The reversed state after both chunks. -/
def sB2 : FVec F S128x128 .f32 := bwd2 (k0_pay21 k0_pay11 (lgB i x0)) (k0_pay23 (lgB i x0)) (k0_pay19 x8) (k0_pay7 x2) (k0_pay8 x3)
/-- The forward output of the chunk at row `o`, from the state `s` before it. -/
def oF (s : FVec F S128x128 .f32) (o : ℕ) (ho : o ≤ 128) : FVec F S128x128 .f32 :=
  k0_pay17 (lgF i x0) k0_pay13 (k0_pay14 (lgF i x0)) s (rows (k0_pay6 x1) o ho) (rows (k0_pay7 x2) o ho) (rows (k0_pay8 x3) o ho)
/-- The forward output `p` of the chunk at row `o` with the reversed output added, from the reversed state `s` before it. -/
def oB (s : FVec F S128x128 .f32) (o : ℕ) (ho : o ≤ 128) (p : FVec F S128x128 .f32) : FVec F S128x128 .f32 :=
  k0_pay1 (k0_pay20 k0_pay11 (lgB i x0)) (k0_pay22 k0_pay9 k0_pay10 (lgB i x0)) s (rows (k0_pay6 x1) o ho) (rows (k0_pay7 x2) o ho) (rows (k0_pay8 x3) o ho) p
/-- Both chunks' outputs. -/
def oAll : FVec F S256x128 .f32 :=
  both (oB i x0 x1 x2 x3 (sB1 i x0 x2 x3 x8) 0 (by decide) (oF i x0 x1 x2 x3 (k0_pay12 x7) 0 (by decide)))
    (oB i x0 x1 x2 x3 (k0_pay19 x8) 128 (by decide) (oF i x0 x1 x2 x3 (sF1 i x0 x2 x3 x7) 128 (by decide)))
/-- The block of normed and gated rows the point leaves. -/
def outY : FVec F S256x128 .bf16 := k0_pay5 (oAll i x0 x1 x2 x3 x7 x8) x4
/-- The final forward state the point leaves. -/
def outF : FVec F S1x1x128x128 .f32 := k0_pay3 (sF2 i x0 x2 x3 x7)
/-- The final reversed state the point leaves. -/
def outB : FVec F S1x1x128x128 .f32 := k0_pay4 (sB2 i x0 x2 x3 x8)

/-- The offsets of a whole load are zero. -/
theorem hz2 : (![0, 0] : Fin 2 → ℕ) = fun _ => 0 := by decide
/-- The offsets of a whole load are zero. -/
theorem hz4 : (![0, 0, 0, 0] : Fin 4 → ℕ) = fun _ => 0 := by decide

variable (c : Dev nD)
  (arg2 : Memref sig .tc .smem S2x8 .f32) (harg2 : arg2.IsWhole) (arg3 : Memref sig .tc .vmem S256x128 .bf16) (harg3 : arg3.IsWhole)
  (arg4 : Memref sig .tc .vmem S256x128 .bf16) (harg4 : arg4.IsWhole) (arg5 : Memref sig .tc .vmem S256x128 .bf16) (harg5 : arg5.IsWhole)
  (arg6 : Memref sig .tc .vmem S256x128 .bf16) (harg6 : arg6.IsWhole) (arg7 : Memref sig .tc .vmem S8x128 .f32) (harg7 : arg7.IsWhole)
  (arg8 : Memref sig .tc .vmem S8x128 .f32) (harg8 : arg8.IsWhole) (arg9 : Memref sig .tc .vmem S1x1x128x128 .f32) (harg9 : arg9.IsWhole)
  (arg10 : Memref sig .tc .vmem S1x1x128x128 .f32) (harg10 : arg10.IsWhole) (arg11 : Memref sig .tc .vmem S256x128 .bf16) (harg11 : arg11.IsWhole)
  (arg12 : Memref sig .tc .vmem S1x1x128x128 .f32) (harg12 : arg12.IsWhole) (arg13 : Memref sig .tc .vmem S1x1x128x128 .f32) (harg13 : arg13.IsWhole)
  (arg14 : Memref sig .tc .vmem S256x128 .f32) (harg14 : arg14.IsWhole) (arg15 : Memref sig .tc .vmem S256x128 .f32) (harg15 : arg15.IsWhole)
  (arg16 : Memref sig .tc .vmem S256x128 .bf16) (harg16 : arg16.IsWhole) (arg17 : Memref sig .tc .vmem S256x128 .f32) (harg17 : arg17.IsWhole)
  (e14 : BufTy.Contents (Elt F) arg14.view.ty) (e15 : BufTy.Contents (Elt F) arg15.view.ty) (e16 : BufTy.Contents (Elt F) arg16.view.ty) (e17 : BufTy.Contents (Elt F) arg17.view.ty)

/-- A whole buffer just written with `x`. -/
abbrev held {e : EltTy} (s : Memref sig .tc .vmem S256x128 e) (x : Vec F S256x128 e) : BufTy.Contents (Elt F) s.view.ty :=
  s.view.writes (Elt F) s.view.junk [⟨Rect.unit ![0, 0] S256x128.size inb_S256x128_S256x128_0_0, x⟩]

set_option maxHeartbeats 2000000 in
/-- The final forward state is what is read of the second output's pieces. -/
theorem read_L12 (f : BufTy.Contents (Elt F) arg12.view.ty) :
    arg12.view.read (Elt F) (arg12.view.writes (Elt F) f ((pointRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.1 e14 e15 e16 e17)) = outF i x0 x2 x3 x7 := by
  obtain ⟨inb1, inb0, h1⟩ := st1_two (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) k0_pay9 k0_pay10 k0_pay11 (lgF i x0) (k0_pay12 x7) k0_pay13 (k0_pay14 (lgF i x0)) k0_pay15 (k0_pay16 (lgF i x0))
    (held arg14 (k0_pay6 x1)) (held arg15 (k0_pay7 x2)) (held arg16 (k0_pay8 x3)) (k0_pay6 x1) (k0_pay7 x2) (k0_pay8 x3) (View.read_writes_full _ _ _ _ _) (View.read_writes_full _ _ _ _ _) (View.read_writes_full _ _ _ _ _) (k0_pay12 x7)
  unfold pointRun; dsimp only; sl_unfold_words
  simp only [View.readAt_eq_ld, Memref.IsWhole.read_unread, View.ld_unit_zero (S := S256x128) hz2, View.ld_unit_zero (S := S1x1x128x128) hz4]
  refine (View.read_writes_full arg12.view f inb_S1x1x128x128_S1x1x128x128_0_0_0_0 _ _).trans ?_
  exact congrArg (fun p => k0_pay3 p.1) h1

set_option maxHeartbeats 2000000 in
/-- The final reversed state is what is read of the third output's pieces. -/
theorem read_L13 (f : BufTy.Contents (Elt F) arg13.view.ty) :
    arg13.view.read (Elt F) (arg13.view.writes (Elt F) f ((pointRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.2.1 e14 e15 e16 e17)) = outB i x0 x2 x3 x8 := by
  obtain ⟨inb1, inb0, h1⟩ := st1_two (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) k0_pay9 k0_pay10 k0_pay11 (lgF i x0) (k0_pay12 x7) k0_pay13 (k0_pay14 (lgF i x0)) k0_pay15 (k0_pay16 (lgF i x0))
    (held arg14 (k0_pay6 x1)) (held arg15 (k0_pay7 x2)) (held arg16 (k0_pay8 x3)) (k0_pay6 x1) (k0_pay7 x2) (k0_pay8 x3) (View.read_writes_full _ _ _ _ _) (View.read_writes_full _ _ _ _ _) (View.read_writes_full _ _ _ _ _) (k0_pay12 x7)
  have h2 := fun o1 o0 => st2_two (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay20 k0_pay11 (lgB i x0)) (k0_pay21 k0_pay11 (lgB i x0)) (k0_pay22 k0_pay9 k0_pay10 (lgB i x0)) (k0_pay23 (lgB i x0))
    (held arg14 (k0_pay6 x1)) (held arg15 (k0_pay7 x2)) (held arg16 (k0_pay8 x3)) (k0_pay6 x1) (k0_pay7 x2) (k0_pay8 x3) (View.read_writes_full _ _ _ _ _) (View.read_writes_full _ _ _ _ _) (View.read_writes_full _ _ _ _ _) (k0_pay19 x8) e17 o1 o0 inb1 inb0
  unfold pointRun; dsimp only; sl_unfold_words
  simp only [View.readAt_eq_ld, Memref.IsWhole.read_unread, View.ld_unit_zero (S := S256x128) hz2, View.ld_unit_zero (S := S1x1x128x128) hz4]
  refine (View.read_writes_full arg13.view f inb_S1x1x128x128_S1x1x128x128_0_0_0_0 _ _).trans ?_
  refine congrArg (fun p => k0_pay4 p.1) (Eq.trans ?_ (h2 (oF i x0 x1 x2 x3 (sF1 i x0 x2 x3 x7) 128 (by decide)) (oF i x0 x1 x2 x3 (k0_pay12 x7) 0 (by decide))))
  exact congrArg (fun p => st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay20 k0_pay11 (lgB i x0)) (k0_pay21 k0_pay11 (lgB i x0)) (k0_pay22 k0_pay9 k0_pay10 (lgB i x0)) (k0_pay23 (lgB i x0))
    (held arg14 (k0_pay6 x1)) (held arg15 (k0_pay7 x2)) (held arg16 (k0_pay8 x3)) (arg17.view.writes (Elt F) e17 p.2) (k0_pay19 x8) (Scf.trips k0_t2_loop.lb k0_t2_loop.ub k0_t2_loop.st)) h1

set_option maxHeartbeats 2000000 in
/-- The normed and gated rows are what is read of the first output's pieces. -/
theorem read_L11 (f : BufTy.Contents (Elt F) arg11.view.ty) :
    arg11.view.read (Elt F) (arg11.view.writes (Elt F) f ((pointRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).1 e14 e15 e16 e17)) = outY i x0 x1 x2 x3 x4 x7 x8 := by
  obtain ⟨inb1, inb0, h1⟩ := st1_two (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) k0_pay9 k0_pay10 k0_pay11 (lgF i x0) (k0_pay12 x7) k0_pay13 (k0_pay14 (lgF i x0)) k0_pay15 (k0_pay16 (lgF i x0))
    (held arg14 (k0_pay6 x1)) (held arg15 (k0_pay7 x2)) (held arg16 (k0_pay8 x3)) (k0_pay6 x1) (k0_pay7 x2) (k0_pay8 x3) (View.read_writes_full _ _ _ _ _) (View.read_writes_full _ _ _ _ _) (View.read_writes_full _ _ _ _ _) (k0_pay12 x7)
  have h2 := fun o1 o0 => st2_two (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay20 k0_pay11 (lgB i x0)) (k0_pay21 k0_pay11 (lgB i x0)) (k0_pay22 k0_pay9 k0_pay10 (lgB i x0)) (k0_pay23 (lgB i x0))
    (held arg14 (k0_pay6 x1)) (held arg15 (k0_pay7 x2)) (held arg16 (k0_pay8 x3)) (k0_pay6 x1) (k0_pay7 x2) (k0_pay8 x3) (View.read_writes_full _ _ _ _ _) (View.read_writes_full _ _ _ _ _) (View.read_writes_full _ _ _ _ _) (k0_pay19 x8) e17 o1 o0 inb1 inb0
  unfold pointRun; dsimp only; sl_unfold_words
  simp only [View.readAt_eq_ld, Memref.IsWhole.read_unread, View.ld_unit_zero (S := S256x128) hz2, View.ld_unit_zero (S := S1x1x128x128) hz4]
  refine (View.read_writes_full arg11.view f inb_S256x128_S256x128_0_0 _ _).trans ?_
  have e2 := (congrArg (fun p => st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay20 k0_pay11 (lgB i x0)) (k0_pay21 k0_pay11 (lgB i x0)) (k0_pay22 k0_pay9 k0_pay10 (lgB i x0)) (k0_pay23 (lgB i x0))
    (held arg14 (k0_pay6 x1)) (held arg15 (k0_pay7 x2)) (held arg16 (k0_pay8 x3)) (arg17.view.writes (Elt F) e17 p.2) (k0_pay19 x8) (Scf.trips k0_t2_loop.lb k0_t2_loop.ub k0_t2_loop.st)) h1).trans (h2 (oF i x0 x1 x2 x3 (sF1 i x0 x2 x3 x7) 128 (by decide)) (oF i x0 x1 x2 x3 (k0_pay12 x7) 0 (by decide)))
  refine congrArg (fun o => k0_pay5 o x4) ?_
  refine (congrArg₂ (fun (p q : FVec F S128x128 .f32 × List (View.Piece (Elt F) S256x128 .f32)) => arg17.view.read (Elt F) (arg17.view.writes (Elt F) e17 (p.2 ++ q.2))) e2 h1).trans ?_
  exact read_both _ _ _ inb1 inb0 _

end Cert.KernelIdeal.Ret

end
-- ==== Proof.RetFrame.lean ====
/-
  The retention call as a whole: the proof data of its launch, the body at every grid point, and the run of the program
  to its end with every array named.
-/
module

public import proofs.«01_k».proof.Proof.RetRead
public import Idealize.ShloMosaic.Lib.Claim
public import Idealize.ShloMosaic.Lib.Quiescent

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev st0 (t : Fin cfg0.N) : Memref sig .tc .smem S2x8 .f32 := win0_0.stage (cfg0.slots t 0)
/-- It is a whole buffer. -/
abbrev wst0 (t : Fin cfg0.N) : (st0 t).IsWhole := hstage0_0 ((cfg0.slots t 0).cast nbuf0_0)
/-- Window 1's staging buffer at point `t`. -/
abbrev st1 (t : Fin cfg0.N) : Memref sig .tc .vmem S256x128 .bf16 := win0_1.stage (cfg0.slots t 1)
/-- It is a whole buffer. -/
abbrev wst1 (t : Fin cfg0.N) : (st1 t).IsWhole := hstage0_1 ((cfg0.slots t 1).cast nbuf0_1)
/-- Window 2's staging buffer at point `t`. -/
abbrev st2 (t : Fin cfg0.N) : Memref sig .tc .vmem S256x128 .bf16 := win0_2.stage (cfg0.slots t 2)
/-- It is a whole buffer. -/
abbrev wst2 (t : Fin cfg0.N) : (st2 t).IsWhole := hstage0_2 ((cfg0.slots t 2).cast nbuf0_2)
/-- Window 3's staging buffer at point `t`. -/
abbrev st3 (t : Fin cfg0.N) : Memref sig .tc .vmem S256x128 .bf16 := win0_3.stage (cfg0.slots t 3)
/-- It is a whole buffer. -/
abbrev wst3 (t : Fin cfg0.N) : (st3 t).IsWhole := hstage0_3 ((cfg0.slots t 3).cast nbuf0_3)
/-- Window 4's staging buffer at point `t`. -/
abbrev st4 (t : Fin cfg0.N) : Memref sig .tc .vmem S256x128 .bf16 := win0_4.stage (cfg0.slots t 4)
/-- It is a whole buffer. -/
abbrev wst4 (t : Fin cfg0.N) : (st4 t).IsWhole := hstage0_4 ((cfg0.slots t 4).cast nbuf0_4)
/-- Window 5's staging buffer at point `t`. -/
abbrev st5 (t : Fin cfg0.N) : Memref sig .tc .vmem S8x128 .f32 := win0_5.stage (cfg0.slots t 5)
/-- It is a whole buffer. -/
abbrev wst5 (t : Fin cfg0.N) : (st5 t).IsWhole := hstage0_5 ((cfg0.slots t 5).cast nbuf0_5)
/-- Window 6's staging buffer at point `t`. -/
abbrev st6 (t : Fin cfg0.N) : Memref sig .tc .vmem S8x128 .f32 := win0_6.stage (cfg0.slots t 6)
/-- It is a whole buffer. -/
abbrev wst6 (t : Fin cfg0.N) : (st6 t).IsWhole := hstage0_6 ((cfg0.slots t 6).cast nbuf0_6)
/-- Window 7's staging buffer at point `t`. -/
abbrev st7 (t : Fin cfg0.N) : Memref sig .tc .vmem S1x1x128x128 .f32 := win0_7.stage (cfg0.slots t 7)
/-- It is a whole buffer. -/
abbrev wst7 (t : Fin cfg0.N) : (st7 t).IsWhole := hstage0_7 ((cfg0.slots t 7).cast nbuf0_7)
/-- Window 8's staging buffer at point `t`. -/
abbrev st8 (t : Fin cfg0.N) : Memref sig .tc .vmem S1x1x128x128 .f32 := win0_8.stage (cfg0.slots t 8)
/-- It is a whole buffer. -/
abbrev wst8 (t : Fin cfg0.N) : (st8 t).IsWhole := hstage0_8 ((cfg0.slots t 8).cast nbuf0_8)
/-- Window 9's staging buffer at point `t`. -/
abbrev st9 (t : Fin cfg0.N) : Memref sig .tc .vmem S256x128 .bf16 := win0_9.stage (cfg0.slots t 9)
/-- It is a whole buffer. -/
abbrev wst9 (t : Fin cfg0.N) : (st9 t).IsWhole := hstage0_9 ((cfg0.slots t 9).cast nbuf0_9)
/-- Window 10's staging buffer at point `t`. -/
abbrev st10 (t : Fin cfg0.N) : Memref sig .tc .vmem S1x1x128x128 .f32 := win0_10.stage (cfg0.slots t 10)
/-- It is a whole buffer. -/
abbrev wst10 (t : Fin cfg0.N) : (st10 t).IsWhole := hstage0_10 ((cfg0.slots t 10).cast nbuf0_10)
/-- Window 11's staging buffer at point `t`. -/
abbrev st11 (t : Fin cfg0.N) : Memref sig .tc .vmem S1x1x128x128 .f32 := win0_11.stage (cfg0.slots t 11)
/-- It is a whole buffer. -/
abbrev wst11 (t : Fin cfg0.N) : (st11 t).IsWhole := hstage0_11 ((cfg0.slots t 11).cast nbuf0_11)
/-- Scratch buffer 0. -/
abbrev sc0 : Memref sig .tc .vmem S256x128 .f32 := Memref.whole cc0_scratch0
/-- Scratch buffer 1. -/
abbrev sc1 : Memref sig .tc .vmem S256x128 .f32 := Memref.whole cc0_scratch1
/-- Scratch buffer 2. -/
abbrev sc2 : Memref sig .tc .vmem S256x128 .bf16 := Memref.whole cc0_scratch2
/-- Scratch buffer 3. -/
abbrev sc3 : Memref sig .tc .vmem S256x128 .f32 := Memref.whole cc0_scratch3

/-- What the region starts from, besides its windows: the four scratch buffers at any contents, and the generator register. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The same with the scratch buffers' contents opened. -/
theorem rest_open (c : Dev nD) :
    (Pipeline.ΦA spec0 c : sProp 𝕄)
      = iprop(iprop((∃ d, ∃ f, ⌜sc0.view.read (Elt F) f = d⌝ ∗ (sc0.view.loc (c : Thread nD τ) ↦[sc0.view.set]{fullShare} f)) ∗ (∃ d, ∃ f, ⌜sc1.view.read (Elt F) f = d⌝ ∗ (sc1.view.loc (c : Thread nD τ) ↦[sc1.view.set]{fullShare} f)) ∗ (∃ d, ∃ f, ⌜sc2.view.read (Elt F) f = d⌝ ∗ (sc2.view.loc (c : Thread nD τ) ↦[sc2.view.set]{fullShare} f)) ∗ (∃ d, ∃ f, ⌜sc3.view.read (Elt F) f = d⌝ ∗ (sc3.view.loc (c : Thread nD τ) ↦[sc3.view.set]{fullShare} f))) ∗ (∃ r, prngReg c r)) := by
  rw [rest_eq]; rfl

/-- The blocks as the body finds them, under their shapes. -/
abbrev X0 (c : Dev nD) (t : Fin cfg0.N) : Vec F S2x8 .f32 := iblk m c 0 t
/-- Block 1. -/
abbrev X1 (c : Dev nD) (t : Fin cfg0.N) : Vec F S256x128 .bf16 := iblk m c 1 t
/-- Block 2. -/
abbrev X2 (c : Dev nD) (t : Fin cfg0.N) : Vec F S256x128 .bf16 := iblk m c 2 t
/-- Block 3. -/
abbrev X3 (c : Dev nD) (t : Fin cfg0.N) : Vec F S256x128 .bf16 := iblk m c 3 t
/-- Block 4. -/
abbrev X4 (c : Dev nD) (t : Fin cfg0.N) : Vec F S256x128 .bf16 := iblk m c 4 t
/-- Block 5. -/
abbrev X5 (c : Dev nD) (t : Fin cfg0.N) : Vec F S8x128 .f32 := iblk m c 5 t
/-- Block 6. -/
abbrev X6 (c : Dev nD) (t : Fin cfg0.N) : Vec F S8x128 .f32 := iblk m c 6 t
/-- Block 7. -/
abbrev X7 (c : Dev nD) (t : Fin cfg0.N) : Vec F S1x1x128x128 .f32 := iblk m c 7 t
/-- Block 8. -/
abbrev X8 (c : Dev nD) (t : Fin cfg0.N) : Vec F S1x1x128x128 .f32 := iblk m c 8 t

/-- The output rows at point `t`. -/
def yAt (c : Dev nD) (t : Fin cfg0.N) : Vec F S256x128 .bf16 :=
  outY (grid0.coords t) (X0 m c t) (X1 m c t) (X2 m c t) (X3 m c t) (X4 m c t) (X7 m c t) (X8 m c t)
/-- The forward state at point `t`. -/
def fAt (c : Dev nD) (t : Fin cfg0.N) : Vec F S1x1x128x128 .f32 :=
  outF (grid0.coords t) (X0 m c t) (X2 m c t) (X3 m c t) (X7 m c t)
/-- The backward state at point `t`. -/
def bAt (c : Dev nD) (t : Fin cfg0.N) : Vec F S1x1x128x128 .f32 :=
  outB (grid0.coords t) (X0 m c t) (X2 m c t) (X3 m c t) (X8 m c t)

/-- The launch's proof data: the arrays as the region finds them, the inputs' buffers left as staged, the three outputs'
    buffers at the values of the point, nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yAt m c t
    | ⟨10, _⟩ => fAt m c t
    | ⟨11, _⟩ => bAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = yAt m c t := by dsimp only [dats]
theorem after_10 (c : Dev nD) (t : Fin cfg0.N) : (dats m 0 c).after 10 t = fAt m c t := by dsimp only [dats]
theorem after_11 (c : Dev nD) (t : Fin cfg0.N) : (dats m 0 c).after 11 t = bAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9, after_10, after_11]
  rw [show (dats m 0 c).Φ t.succ = Pipeline.ΦA spec0 c from rfl, show (dats m 0 c).Φ t.castSucc = Pipeline.ΦA spec0 c from rfl]
  conv => lhs; rw [rest_open]
  rw [rest_eq]
  iintro ⟨⟨⟨⟨%p0, %e0, -, S0⟩, ⟨%p1, %e1, -, S1⟩, ⟨%p2, %e2, -, S2⟩, ⟨%p3, %e3, -, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((pointRun c (grid0.coords t) _ _ _ _ _ _ _ _ _ _ _ _ _ _ _ _ _ _ _ _ _ _ _ _ _ _ _ _ _ _ _ _  (X0 m c t) (X1 m c t) (X2 m c t) (X3 m c t) (X4 m c t) (X5 m c t) (X6 m c t) (X7 m c t) (X8 m c t)).2.2.2 Set.univ _ e0 e1 e2 e3)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  iintro ⟨H0, H1, H2, H3, H4, H5, H6, H7, H8, ⟨%f9, H9⟩, ⟨%f10, H10⟩, ⟨%f11, H11⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact (read_L11 _ _ _ _ _ _ _ _ _ _ c _ _ _ _ _ _ _ _ _ _ _ _ _ _ _ _ _ _ _ _ _ _ _ _ _ _ _ _ _ _ _ _ _ _ _ _ _)
  isplitl [H10]
  · unfold owns; iexists _; isplitr
    swap; · iexact H10
    ipureintro; exact (read_L12 _ _ _ _ _ _ _ _ _ _ c _ _ _ _ _ _ _ _ _ _ _ _ _ _ _ _ _ _ _ _ _ _ _ _ _ _ _ _ _ _ _ _ _ _ _ _ _)
  unfold owns; iexists _; isplitr
  swap; · iexact H11
  ipureintro; exact (read_L13 _ _ _ _ _ _ _ _ _ _ c _ _ _ _ _ _ _ _ _ _ _ _ _ _ _ _ _ _ _ _ _ _ _ _ _ _ _ _ _ _ _ _ _ _ _ _ _)

/-- The body table's row at point `t`'s slots is the body with its buffers named. -/
theorem defs₀_row (t : Fin cfg0.N) :
    defs₀ (F := F) .tc cfg0.body (cfg0.bodyArgs t (cfg0.slots t)) = bodyAt0 t := by
  unfold defs₀; rw [Defs.onTc_tc]

/-- The launch's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

set_option backward.isDefEq.respectTransparency.types false in
/-- The program runs to its end with every array named by the proof data, and every semaphore counter is zero there. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The program runs to its end, leaves its arguments as they were and every semaphore counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  θ_run_and (frame_of m ρ (dats m) (A_eq m) (run_main m ρ)) ((θ_run defs _ _).mono (fun _ h => h.2) (run_main_quiescent m ρ))

end Cert.KernelIdeal.Ret

end
-- ==== Proof.RetSpec.lean ====
/-
  THE CHUNKED RETENTION AS MATHEMATICS: one head of one sequence of 256 rows, taken in two chunks of 128, in both
  directions, and the group norm and gate that follow. Everything is over the extended reals; nothing here mentions a
  program.
-/
module

public import Idealize.ShloMosaic.PureOps.Ideal
public import Mathlib.Algebra.BigOperators.Fin

@[expose] public section

noncomputable section

namespace Cert.Retention

open Idealize.ShloMosaic

/-- A natural number as an extended real. -/
def num (n : ℕ) : EReal := ((n : ℝ) : EReal)

/-- The constants 127, 128 and the norm's epsilon, as the programs spell them. -/
abbrev c127 : EReal := Ideal.ofBits FTy.f32 0x42FE0000#32
abbrev c128 : EReal := Ideal.ofBits FTy.f32 0x43000000#32
abbrev ceps : EReal := Ideal.ofBits FTy.f32 0x358637BD#32

theorem c127_eq : c127 = ((127 : ℝ) : EReal) := by
  simp [c127, Ideal.ofBits, Ideal.ieee]; rw [← EReal.coe_mul]; norm_num
theorem c128_eq : c128 = ((128 : ℝ) : EReal) := by
  simp [c128, Ideal.ofBits, Ideal.ieee]; rw [← EReal.coe_mul]; norm_num

/-- A small word read as a signed integer is the number it was made of. -/
theorem num_word (n : ℕ) (h : n < 256) : (((BitVec.ofNat 32 n).toInt : ℝ) : EReal) = num n := by
  unfold num
  have e : (BitVec.ofNat 32 n).toInt = (n : ℤ) := by
    rw [BitVec.toInt_eq_toNat_of_lt] <;> simp only [BitVec.toNat_ofNat] <;> omega
  rw [e]; simp

/-- The matrix types of one chunk and of one sequence. -/
abbrev Chunk := Fin 128 → Fin 128 → EReal
abbrev Rows := Fin 256 → Fin 128 → EReal

/-- The decay between the rows `n` and `m` of a chunk, zero where `m` comes after `n`. -/
def intra (lg : EReal) (n m : Fin 128) : EReal :=
  if 0 ≤ num n.val - num m.val then Ideal.exp (lg * max (num n.val - num m.val) 0) else 0
/-- The decay from the chunk's start to row `n`. -/
def qdec (lg : EReal) (n : Fin 128) : EReal := Ideal.exp (lg * (num n.val + 1))
/-- The decay from row `n` to the chunk's end. -/
def kdec (lg : EReal) (n : Fin 128) : EReal := Ideal.exp (lg * (c127 - num n.val))
/-- The decay over a whole chunk. -/
def cdec (lg : EReal) : EReal := Ideal.exp (lg * c128)

/-- A chunk's outputs, from its queries, keys and values and the state before it. -/
def chunkO (lg : EReal) (Q K V S : Chunk) : Chunk := fun n e =>
  (∑ m : Fin 128, (∑ d : Fin 128, Q n d * K m d) * intra lg n m * V m e) + ∑ d : Fin 128, Q n d * qdec lg n * S d e
/-- The state after a chunk. -/
def chunkS (lg : EReal) (K V S : Chunk) : Chunk := fun d e =>
  cdec lg * S d e + ∑ m : Fin 128, K m d * kdec lg m * V m e

/-- The two chunks of a sequence. -/
def lo (q : Rows) : Chunk := fun n => q ⟨n.val, by omega⟩
def hi (q : Rows) : Chunk := fun n => q ⟨128 + n.val, by omega⟩
/-- A sequence, and a chunk, read backwards. -/
def back (q : Rows) : Rows := fun r => q r.rev
def flip (q : Chunk) : Chunk := fun n => q n.rev

/-- The state after the first chunk and after both. -/
def state1 (lg : EReal) (k v : Rows) (S : Chunk) : Chunk := chunkS lg (lo k) (lo v) S
def state2 (lg : EReal) (k v : Rows) (S : Chunk) : Chunk := chunkS lg (hi k) (hi v) (state1 lg k v S)

/-- The outputs of a sequence. -/
def out (lg : EReal) (q k v : Rows) (S : Chunk) : Rows := fun r e =>
  if h : r.val < 128 then chunkO lg (lo q) (lo k) (lo v) S ⟨r.val, h⟩ e
  else chunkO lg (hi q) (hi k) (hi v) (state1 lg k v S) ⟨r.val - 128, by omega⟩ e

/-- The outputs of both directions, added. -/
def both (lf lb : EReal) (q k v : Rows) (Sf Sb : Chunk) : Rows := fun r e =>
  out lf q k v Sf r e + out lb (back q) (back k) (back v) Sb r.rev e

/-- The mean and the variance of a row. -/
def mean (o : Rows) (r : Fin 256) : EReal := Ideal.div (∑ k : Fin 128, o r k) c128
def var (o : Rows) (r : Fin 256) : EReal := Ideal.div (∑ k : Fin 128, (o r k - mean o r) * (o r k - mean o r)) c128
/-- The rows normed and gated. -/
def gated (o g : Rows) : Rows := fun r e =>
  (o r e - mean o r) * Ideal.rsqrt (var o r + ceps) * (g r e * Ideal.logistic (g r e))

theorem lo_back (q : Rows) : lo (back q) = flip (hi q) := by
  funext n e
  show q _ e = q _ e
  congr 1
  apply Fin.ext
  simp only [Fin.val_rev]
  omega

theorem hi_back (q : Rows) : hi (back q) = flip (lo q) := by
  funext n e
  show q _ e = q _ e
  congr 1
  apply Fin.ext
  simp only [Fin.val_rev]
  omega

/-- Differences of small numbers are those of the reals. -/
theorem num_sub (a b : ℕ) : num a - num b = (((a : ℝ) - (b : ℝ) : ℝ) : EReal) := by
  unfold num; norm_cast

theorem rev_cast (n : Fin 128) : ((n.rev.val : ℕ) : ℝ) = 127 - (n.val : ℝ) := by
  have h : n.rev.val + n.val = 127 := by simp only [Fin.val_rev]; omega
  have : ((n.rev.val : ℕ) : ℝ) + (n.val : ℝ) = 127 := by exact_mod_cast h
  linarith

/-- The decay between two rows, counted backwards. -/
theorem intra_rev (lg : EReal) (n m : Fin 128) :
    intra lg n.rev m.rev = if 0 ≤ num m.val - num n.val then Ideal.exp (lg * max (num m.val - num n.val) 0) else 0 := by
  unfold intra
  have e : num n.rev.val - num m.rev.val = num m.val - num n.val := by
    rw [num_sub, num_sub, rev_cast, rev_cast]; congr 1; ring
  rw [e]

theorem qdec_rev (lg : EReal) (n : Fin 128) : qdec lg n.rev = Ideal.exp (lg * (c128 - num n.val)) := by
  unfold qdec
  have e : num n.rev.val + 1 = c128 - num n.val := by
    rw [c128_eq]; unfold num; rw [rev_cast, ← EReal.coe_one, ← EReal.coe_add, ← EReal.coe_sub]; congr 1; ring
  rw [e]

theorem kdec_rev (lg : EReal) (n : Fin 128) : kdec lg n.rev = Ideal.exp (lg * num n.val) := by
  unfold kdec
  have e : c127 - num n.rev.val = num n.val := by
    rw [c127_eq]; unfold num; rw [rev_cast, ← EReal.coe_sub]; congr 1; ring
  rw [e]

/-- A sum over the rows of a chunk may be taken backwards. -/
theorem sum_rev (f : Fin 128 → EReal) : ∑ m : Fin 128, f m.rev = ∑ m : Fin 128, f m :=
  Equiv.sum_comp Fin.revPerm f

/-- A chunk's outputs read backwards: the same sums over its rows in order, the decays counted from the other end. -/
theorem chunkO_flip (lg : EReal) (Q K V S : Chunk) (n e : Fin 128) :
    chunkO lg (flip Q) (flip K) (flip V) S n.rev e
      = (∑ m : Fin 128, (∑ d : Fin 128, Q n d * K m d) * intra lg n.rev m.rev * V m e) + ∑ d : Fin 128, Q n d * qdec lg n.rev * S d e := by
  unfold chunkO flip
  rw [← sum_rev (fun m => (∑ d : Fin 128, Q n d * K m d) * intra lg n.rev m.rev * V m e)]
  simp only [Fin.rev_rev]

/-- The state after a chunk read backwards. -/
theorem chunkS_flip (lg : EReal) (K V S : Chunk) (d e : Fin 128) :
    chunkS lg (flip K) (flip V) S d e = cdec lg * S d e + ∑ m : Fin 128, K m d * kdec lg m.rev * V m e := by
  unfold chunkS flip
  rw [← sum_rev (fun m => K m d * kdec lg m.rev * V m e)]
  simp only [Fin.rev_rev]

end Cert.Retention

end
-- ==== Proof.RetPoint.lean ====
/-
  One grid point of the retention kernel over the extended reals: what it leaves in its three outputs is the retention
  of its head and sequence.
-/
module

public import proofs.«01_k».proof.Proof.RetRead
public import proofs.«01_k».proof.Proof.RetSpec
public import Idealize.ShloMosaic.Lib.Pointwise
public import Idealize.ShloMosaic.Lib.IdealHost

@[expose] public section

set_option maxRecDepth 16384

noncomputable section

namespace Cert.KernelIdeal.Ret

open Cert.KernelIdeal Cert.KernelIdeal.Gen Idealize.ShloMosaic Idealize.ShloMosaic.TcCoe Idealize.SL.Sem
open Cert.Retention (num num_word c127 c128 ceps Chunk Rows intra qdec kdec cdec chunkO chunkS lo hi back state1 state2 out mean var gated)

/-- A block of 256 rows, a square of 128 and a state's block, by their entries. -/
def mat (x : S256x128.Idx → EReal) : Rows := fun r e => x (ix2 r e)
def sq (x : S128x128.Idx → EReal) : Chunk := fun n e => x (ix2 n e)
def st (x : S1x1x128x128.Idx → EReal) : Chunk := fun d e => x (ix4 0 0 d e)

/-- The differences of positions, and the positions, the program makes. -/
theorem pay9_apply (n m : Fin 128) : k0_pay9 (F := Ideal) (ix2 n m) = num n.val := by
  unfold k0_pay9
  simp only [pointwise]
  show (((BitVec.ofNat 32 (0 * 128 + n.val)).toInt : ℝ) : EReal) = _
  rw [num_word _ (by omega)]; congr 1; omega
theorem pay10_apply (n m : Fin 128) : k0_pay10 (F := Ideal) (ix2 n m) = num m.val := by
  unfold k0_pay10
  simp only [pointwise]
  show (((BitVec.ofNat 32 (0 * 128 + m.val)).toInt : ℝ) : EReal) = _
  rw [num_word _ (by omega)]; congr 1; omega
theorem pay11_apply (n : Fin 128) (z : Fin 1) : k0_pay11 (F := Ideal) (ix2 n z) = num n.val := by
  unfold k0_pay11
  simp only [pointwise]
  show (((BitVec.ofNat 32 (0 * 128 + n.val)).toInt : ℝ) : EReal) = _
  rw [num_word _ (by omega)]; congr 1; omega
theorem pay13_apply (n m : Fin 128) : k0_pay13 (F := Ideal) (ix2 n m) = num n.val - num m.val := by
  unfold k0_pay13
  simp only [pointwise, pay9_apply, pay10_apply]
theorem pay14_apply (lg : EReal) (n : Fin 128) (z : Fin 1) : k0_pay14 (F := Ideal) lg (ix2 n z) = qdec lg n := by
  unfold k0_pay14 qdec
  simp only [pointwise, pay11_apply]
theorem pay15_apply (n : Fin 128) (z : Fin 1) : k0_pay15 (F := Ideal) (ix2 n z) = c127 - num n.val := by
  unfold k0_pay15
  simp only [pointwise, pay11_apply]
theorem pay16_apply (lg : EReal) (n : Fin 128) (z : Fin 1) : k0_pay16 (F := Ideal) lg (ix2 n z) = lg := by
  unfold k0_pay16
  simp only [pointwise]
theorem pay20_apply (lg : EReal) (n : Fin 128) (z : Fin 1) : k0_pay20 (F := Ideal) k0_pay11 lg (ix2 n z) = qdec lg n.rev := by
  rw [Cert.Retention.qdec_rev]
  unfold k0_pay20
  simp only [pointwise, pay11_apply]
theorem pay21_apply (lg : EReal) (n : Fin 128) (z : Fin 1) : k0_pay21 (F := Ideal) k0_pay11 lg (ix2 n z) = kdec lg n.rev := by
  rw [Cert.Retention.kdec_rev]
  unfold k0_pay21
  simp only [pointwise, pay11_apply]
theorem pay22_apply (lg : EReal) (n m : Fin 128) : k0_pay22 (F := Ideal) k0_pay9 k0_pay10 lg (ix2 n m) = intra lg n.rev m.rev := by
  rw [Cert.Retention.intra_rev]
  unfold k0_pay22
  simp only [pointwise, pay9_apply, pay10_apply]
theorem pay23_eq (lg : EReal) : k0_pay23 (F := Ideal) lg = cdec lg := rfl

/-- A chunk's forward outputs. -/
theorem pay17_apply (lg : EReal) (s : FVec Ideal S128x128 .f32) (Q K : Vec Ideal S128x128 .f32) (V : Vec Ideal S128x128 .bf16) (n e : Fin 128) :
    k0_pay17 (F := Ideal) lg k0_pay13 (k0_pay14 lg) s Q K V (ix2 n e) = chunkO lg (sq Q) (sq K) (sq V) (sq s) n e := by
  unfold k0_pay17 chunkO sq intra
  simp only [pointwise, pay13_apply, pay14_apply]
  simp only [zero_add, dite_eq_ite]
  simp [pay14_apply]

/-- The forward state after a chunk. -/
theorem pay18_apply (lg : EReal) (s : FVec Ideal S128x128 .f32) (K : Vec Ideal S128x128 .f32) (V : Vec Ideal S128x128 .bf16) (n e : Fin 128) :
    k0_pay18 (F := Ideal) lg k0_pay15 (k0_pay16 lg) s K V (ix2 n e) = chunkS lg (sq K) (sq V) (sq s) n e := by
  unfold k0_pay18 chunkS sq kdec cdec
  simp only [pointwise, pay15_apply, pay16_apply]
  simp only [zero_add]
  simp [pay15_apply, pay16_apply]
  rfl

/-- A chunk's reversed outputs, added to what is there. -/
theorem pay1_apply (lg : EReal) (s : FVec Ideal S128x128 .f32) (Q K : Vec Ideal S128x128 .f32) (V : Vec Ideal S128x128 .bf16) (p : Vec Ideal S128x128 .f32) (n e : Fin 128) :
    k0_pay1 (F := Ideal) (k0_pay20 k0_pay11 lg) (k0_pay22 k0_pay9 k0_pay10 lg) s Q K V p (ix2 n e)
      = p (ix2 n e) + chunkO lg (Cert.Retention.flip (sq Q)) (Cert.Retention.flip (sq K)) (Cert.Retention.flip (sq V)) (sq s) n.rev e := by
  rw [Cert.Retention.chunkO_flip]
  unfold k0_pay1 sq
  simp only [pointwise, pay22_apply]
  simp only [zero_add]
  simp [pay20_apply]

/-- The reversed state after a chunk. -/
theorem pay2_apply (lg : EReal) (s : FVec Ideal S128x128 .f32) (K : Vec Ideal S128x128 .f32) (V : Vec Ideal S128x128 .bf16) (n e : Fin 128) :
    k0_pay2 (F := Ideal) (k0_pay21 k0_pay11 lg) (k0_pay23 lg) s K V (ix2 n e) = chunkS lg (Cert.Retention.flip (sq K)) (Cert.Retention.flip (sq V)) (sq s) n e := by
  rw [Cert.Retention.chunkS_flip, pay23_eq]
  unfold k0_pay2 sq
  simp only [pointwise]
  simp only [zero_add]
  simp [pay21_apply]

/-- The rows normed and gated. -/
theorem pay5_apply (o : FVec Ideal S256x128 .f32) (g : Vec Ideal S256x128 .bf16) (r : Fin 256) (e : Fin 128) :
    k0_pay5 (F := Ideal) o g (ix2 r e) = gated (mat o) (mat g) r e := by
  unfold k0_pay5 gated var mean mat
  simp only [pointwise]
  simp

theorem sq_pay12 (x : Vec Ideal S1x1x128x128 .f32) : sq (k0_pay12 (F := Ideal) x) = st x := by
  funext n e; unfold sq st k0_pay12; simp only [pointwise]
theorem sq_pay19 (x : Vec Ideal S1x1x128x128 .f32) : sq (k0_pay19 (F := Ideal) x) = st x := by
  funext n e; unfold sq st k0_pay19; simp only [pointwise]
theorem st_pay3 (x : FVec Ideal S128x128 .f32) : st (k0_pay3 (F := Ideal) x) = sq x := by
  funext n e; unfold sq st k0_pay3; simp only [pointwise]
theorem st_pay4 (x : FVec Ideal S128x128 .f32) : st (k0_pay4 (F := Ideal) x) = sq x := by
  funext n e; unfold sq st k0_pay4; simp only [pointwise]

/-- The keys are scaled. -/
def scaled (k : Rows) : Rows := fun r e => k r e * Ideal.ofBits FTy.f32 0x3DB504F3#32

theorem mat_pay6 (x : Vec Ideal S256x128 .bf16) : mat (k0_pay6 (F := Ideal) x) = mat x := by
  funext r e; unfold mat k0_pay6; simp only [pointwise]
theorem mat_pay7 (x : Vec Ideal S256x128 .bf16) : mat (k0_pay7 (F := Ideal) x) = scaled (mat x) := by
  funext r e; unfold scaled mat k0_pay7; simp only [pointwise]
theorem mat_pay8 (x : Vec Ideal S256x128 .bf16) : mat (k0_pay8 (F := Ideal) x) = mat x := by
  funext r e; unfold mat k0_pay8; simp only [pointwise]

/-- The two chunks of a block. -/
theorem sq_rows_lo (x : Vec Ideal S256x128 .f32) : sq (rows x 0 (by decide)) = lo (mat x) := by
  funext n e; show x _ = x _; congr 1; funext a
  match a with
  | ⟨0, _⟩ => exact Fin.ext (Nat.zero_add _)
  | ⟨1, _⟩ => rfl
theorem sq_rows_hi (x : Vec Ideal S256x128 .f32) : sq (rows x 128 (by decide)) = hi (mat x) := rfl
theorem sq_rows_lo' (x : Vec Ideal S256x128 .bf16) : sq (rows x 0 (by decide)) = lo (mat x) := by
  funext n e; show x _ = x _; congr 1; funext a
  match a with
  | ⟨0, _⟩ => exact Fin.ext (Nat.zero_add _)
  | ⟨1, _⟩ => rfl
theorem sq_rows_hi' (x : Vec Ideal S256x128 .bf16) : sq (rows x 128 (by decide)) = hi (mat x) := rfl

variable (i : grid0.Coords) (x0 : Vec Ideal S2x8 .f32) (x1 x2 x3 x4 : Vec Ideal S256x128 .bf16) (x7 x8 : Vec Ideal S1x1x128x128 .f32)

theorem sF1_eq : sq (sF1 i x0 x2 x3 x7) = state1 (x0 (ix2 0 (i 1))) (scaled (mat x2)) (mat x3) (st x7) := by
  funext n e
  unfold sF1 fwd1 state1
  show k0_pay18 _ _ _ _ _ _ (ix2 n e) = _
  rw [pay18_apply, sq_rows_lo, sq_rows_lo', mat_pay7, mat_pay8, sq_pay12, lgF_eq]

theorem sF2_eq : sq (sF2 i x0 x2 x3 x7) = state2 (x0 (ix2 0 (i 1))) (scaled (mat x2)) (mat x3) (st x7) := by
  funext n e
  have h1 := sF1_eq i x0 x2 x3 x7
  unfold sF1 at h1
  unfold sF2 fwd2 state2
  show k0_pay18 _ _ _ _ _ _ (ix2 n e) = _
  rw [pay18_apply, sq_rows_hi, sq_rows_hi', mat_pay7, mat_pay8, h1, lgF_eq]

theorem sB1_eq : sq (sB1 i x0 x2 x3 x8) = state1 (x0 (ix2 1 (i 1))) (back (scaled (mat x2))) (back (mat x3)) (st x8) := by
  funext n e
  unfold sB1 bwd1 state1
  show k0_pay2 _ _ _ _ _ (ix2 n e) = _
  rw [pay2_apply, sq_rows_hi, sq_rows_hi', mat_pay7, mat_pay8, sq_pay19, lgB_eq, Cert.Retention.lo_back, Cert.Retention.lo_back]

theorem sB2_eq : sq (sB2 i x0 x2 x3 x8) = state2 (x0 (ix2 1 (i 1))) (back (scaled (mat x2))) (back (mat x3)) (st x8) := by
  funext n e
  have h1 := sB1_eq i x0 x2 x3 x8
  unfold sB1 at h1
  unfold sB2 bwd2 state2
  show k0_pay2 _ _ _ _ _ (ix2 n e) = _
  rw [pay2_apply, sq_rows_lo, sq_rows_lo', mat_pay7, mat_pay8, h1, lgB_eq, Cert.Retention.hi_back, Cert.Retention.hi_back]

/-- The final states the point leaves. -/
theorem outF_eq : st (outF i x0 x2 x3 x7) = state2 (x0 (ix2 0 (i 1))) (scaled (mat x2)) (mat x3) (st x7) := by
  unfold outF; rw [st_pay3, sF2_eq]
theorem outB_eq : st (outB i x0 x2 x3 x8) = state2 (x0 (ix2 1 (i 1))) (back (scaled (mat x2))) (back (mat x3)) (st x8) := by
  unfold outB; rw [st_pay4, sB2_eq]

theorem both_lt (a b : FVec Ideal S128x128 .f32) (r : Fin 256) (e : Fin 128) (h : r.val < 128) :
    both (F := Ideal) a b (ix2 r e) = a (ix2 ⟨r.val, h⟩ e) := by unfold both; exact dif_pos h
theorem both_ge (a b : FVec Ideal S128x128 .f32) (r : Fin 256) (e : Fin 128) (h : ¬ r.val < 128) :
    both (F := Ideal) a b (ix2 r e) = b (ix2 ⟨r.val - 128, by omega⟩ e) := by unfold both; exact dif_neg h

/-- Both directions' outputs. -/
theorem oAll_eq : mat (oAll i x0 x1 x2 x3 x7 x8)
      = Cert.Retention.both (x0 (ix2 0 (i 1))) (x0 (ix2 1 (i 1))) (mat x1) (scaled (mat x2)) (mat x3) (st x7) (st x8) := by
  funext r e
  show oAll i x0 x1 x2 x3 x7 x8 (ix2 r e) = _
  unfold oAll Cert.Retention.both out
  by_cases h : r.val < 128
  · have h' : ¬ r.rev.val < 128 := by simp only [Fin.val_rev]; omega
    rw [dif_pos h, dif_neg h']
    rw [both_lt _ _ r e h]
    unfold oB oF
    rw [pay1_apply, pay17_apply, sq_rows_lo, sq_rows_lo, sq_rows_lo', mat_pay6, mat_pay7, mat_pay8, sq_pay12, sB1_eq, lgF_eq, lgB_eq,
      Cert.Retention.hi_back, Cert.Retention.hi_back, Cert.Retention.hi_back]
    have er : (⟨r.rev.val - 128, by have := r.rev.isLt; omega⟩ : Fin 128) = (⟨r.val, h⟩ : Fin 128).rev := by
      apply Fin.ext; simp only [Fin.val_rev]; omega
    rw [er]
  · have h' : r.rev.val < 128 := by simp only [Fin.val_rev]; omega
    rw [dif_neg h, dif_pos h']
    rw [both_ge _ _ r e h]
    unfold oB oF
    rw [pay1_apply, pay17_apply, sq_rows_hi, sq_rows_hi, sq_rows_hi', mat_pay6, mat_pay7, mat_pay8, sq_pay19, sF1_eq, lgF_eq, lgB_eq,
      Cert.Retention.lo_back, Cert.Retention.lo_back, Cert.Retention.lo_back]
    have er : (⟨r.rev.val, h'⟩ : Fin 128) = (⟨r.val - 128, by omega⟩ : Fin 128).rev := by
      apply Fin.ext; simp only [Fin.val_rev]; omega
    rw [er]

/-- The rows the point leaves. -/
theorem outY_eq : mat (outY i x0 x1 x2 x3 x4 x7 x8)
      = gated (Cert.Retention.both (x0 (ix2 0 (i 1))) (x0 (ix2 1 (i 1))) (mat x1) (scaled (mat x2)) (mat x3) (st x7) (st x8)) (mat x4) := by
  funext r e
  unfold outY
  show k0_pay5 _ _ (ix2 r e) = _
  rw [pay5_apply, oAll_eq]

end Cert.KernelIdeal.Ret

end
-- ==== Proof.RetBlocks.lean ====
/-
  The retention kernel over the extended reals, from its arguments: the blocks a grid point reads, and the three result
  arrays after the run.
-/
module

public import proofs.«01_k».proof.Proof.RetFrame
public import proofs.«01_k».proof.Proof.RetPoint

@[expose] public section

set_option maxRecDepth 16384

noncomputable section

namespace Cert.KernelIdeal.Ret

open Cert.KernelIdeal Cert.KernelIdeal.Gen Idealize.ShloMosaic Idealize.ShloMosaic.TcCoe Idealize.SL.Sem
open Cert.Retention (Chunk Rows state2 gated back)

variable (m : (ℓ : Loc nD τ sig) → Buf (Elt Ideal) ℓ) (ρ : Dev nD → PrngReg)

/-- The block of every window at each grid point: sequence `t / 8`, head `t % 8`. -/
theorem maps : ∀ t : Fin cfg0.N, (win0_0.index t = ![0, 0] ∧ (win0_1.index t = ![t.val / 8, 24 + t.val % 8] ∧ win0_2.index t = ![t.val / 8, 32 + t.val % 8])
    ∧ (win0_3.index t = ![t.val / 8, 40 + t.val % 8] ∧ win0_4.index t = ![t.val / 8, 48 + t.val % 8]))
    ∧ (win0_7.index t = ![t.val / 8, t.val % 8, 0, 0] ∧ win0_8.index t = ![t.val / 8, t.val % 8, 0, 0])
    ∧ (win0_9.index t = ![t.val / 8, t.val % 8] ∧ win0_10.index t = ![t.val / 8, t.val % 8, 0, 0] ∧ win0_11.index t = ![t.val / 8, t.val % 8, 0, 0]) :=
  (by decide +kernel : ∀ t : Fin grid0.N, _)

/-- The head of a point is its second coordinate. -/
theorem head_eq : ∀ t : Fin cfg0.N, (grid0.coords t 1).val = t.val % 8 :=
  (by decide +kernel : ∀ t : Fin grid0.N, (grid0.coords t 1).val = t.val % 8)

/-- Sequence `b` and head `h` of one of the four parts (queries, keys, values, gates) of the projected rows. -/
def part (P : Vec Ideal S40960x7168 .bf16) (p : Fin 4) (b : Fin 32) (h : Fin 8) : Rows := fun r d =>
  P (ix2 ⟨b.val * 256 + r.val, by omega⟩ ⟨3072 + p.val * 1024 + h.val * 128 + d.val, by omega⟩)

/-- The zero state. -/
def zst : Chunk := fun _ _ => Ideal.ofBits FTy.f32 0x00000000#32

/-- The final states of the two directions, and the outputs, of sequence `b` and head `h`. -/
def retF (L : Fin 8 → EReal) (P : Vec Ideal S40960x7168 .bf16) (b : Fin 32) (h : Fin 8) : Chunk :=
  state2 (L h) (scaled (part P 1 b h)) (part P 2 b h) zst
def retB (L : Fin 8 → EReal) (P : Vec Ideal S40960x7168 .bf16) (b : Fin 32) (h : Fin 8) : Chunk :=
  state2 (L h) (back (scaled (part P 1 b h))) (back (part P 2 b h)) zst
def retY (Lf Lb : Fin 8 → EReal) (P : Vec Ideal S40960x7168 .bf16) (b : Fin 32) (h : Fin 8) : Rows :=
  gated (Cert.Retention.both (Lf h) (Lb h) (part P 0 b h) (scaled (part P 1 b h)) (part P 2 b h) zst zst) (part P 3 b h)

/-- The three results as arrays. -/
def arrF (L : Fin 8 → EReal) (P : Vec Ideal S40960x7168 .bf16) (i : S32x8x128x128.Idx) : EReal := retF L P (i 0) (i 1) (i 2) (i 3)
def arrB (L : Fin 8 → EReal) (P : Vec Ideal S40960x7168 .bf16) (i : S32x8x128x128.Idx) : EReal := retB L P (i 0) (i 1) (i 2) (i 3)
def seqOf (r : Fin 8192) : Fin 32 := ⟨r.val / 256, by omega⟩
def headOf (r : Fin 1024) : Fin 8 := ⟨r.val / 128, by omega⟩
def posOf (r : Fin 8192) : Fin 256 := ⟨r.val % 256, by omega⟩
def colOf (r : Fin 1024) : Fin 128 := ⟨r.val % 128, by omega⟩
def arrY (Lf Lb : Fin 8 → EReal) (P : Vec Ideal S40960x7168 .bf16) (i : S8192x1024.Idx) : EReal :=
  retY Lf Lb P (seqOf (i 0)) (headOf (i 1)) (posOf (i 0)) (colOf (i 1))

/-- The arrays as the region finds them: the projected rows, the logarithms of the decays, the states before. -/
abbrev Pv (c : Dev nD) : Vec Ideal S40960x7168 .bf16 := V m c main_arg0
abbrev Gv (c : Dev nD) : Vec Ideal S2x8 .f32 := V m c main_v4
abbrev Zv (c : Dev nD) : Vec Ideal S32x8x128x128 .f32 := V m c main_v5
def Lf (c : Dev nD) : Fin 8 → EReal := fun h => Gv m c (ix2 0 h)
def Lb (c : Dev nD) : Fin 8 → EReal := fun h => Gv m c (ix2 1 h)

/-- Sequence and head of a point. -/
def bOf (t : Fin cfg0.N) : Fin 32 := ⟨t.val / 8, by have : t.val < 256 := lt_of_lt_of_eq t.isLt N_0; omega⟩
def hOf (t : Fin cfg0.N) : Fin 8 := ⟨t.val % 8, by omega⟩

theorem x0_eq (c : Dev nD) (t : Fin cfg0.N) : X0 m c t = Gv m c := by
  have e := (maps t).1.1
  funext y
  show V m c main_v4 (((cfg0.win 0).blk t).view.emb y) = _
  congr 1
  funext x
  apply Fin.ext
  match x with
  | ⟨0, _⟩ => show win0_0.index t 0 * 2 + 1 * (y 0).val = (y 0).val; rw [congrFun e 0]; show 0 * 2 + 1 * (y 0).val = _; omega
  | ⟨1, _⟩ => show win0_0.index t 1 * 8 + 1 * (y 1).val = (y 1).val; rw [congrFun e 1]; show 0 * 8 + 1 * (y 1).val = _; omega

theorem x1_eq (c : Dev nD) (t : Fin cfg0.N) : mat (X1 m c t) = part (Pv m c) 0 (bOf t) (hOf t) := by
  have e := (maps t).1.2.1.1
  funext r d
  show V m c main_arg0 (((cfg0.win 1).blk t).view.emb (ix2 r d)) = V m c main_arg0 _
  congr 1
  funext x
  apply Fin.ext
  match x with
  | ⟨0, _⟩ => show win0_1.index t 0 * 256 + 1 * r.val = t.val / 8 * 256 + r.val; rw [congrFun e 0]; show t.val / 8 * 256 + 1 * r.val = _; omega
  | ⟨1, _⟩ => show win0_1.index t 1 * 128 + 1 * d.val = 3072 + 0 * 1024 + t.val % 8 * 128 + d.val; rw [congrFun e 1]; show (24 + t.val % 8) * 128 + 1 * d.val = _; omega

theorem x2_eq (c : Dev nD) (t : Fin cfg0.N) : mat (X2 m c t) = part (Pv m c) 1 (bOf t) (hOf t) := by
  have e := (maps t).1.2.1.2
  funext r d
  show V m c main_arg0 (((cfg0.win 2).blk t).view.emb (ix2 r d)) = V m c main_arg0 _
  congr 1
  funext x
  apply Fin.ext
  match x with
  | ⟨0, _⟩ => show win0_2.index t 0 * 256 + 1 * r.val = t.val / 8 * 256 + r.val; rw [congrFun e 0]; show t.val / 8 * 256 + 1 * r.val = _; omega
  | ⟨1, _⟩ => show win0_2.index t 1 * 128 + 1 * d.val = 3072 + 1 * 1024 + t.val % 8 * 128 + d.val; rw [congrFun e 1]; show (32 + t.val % 8) * 128 + 1 * d.val = _; omega

theorem x3_eq (c : Dev nD) (t : Fin cfg0.N) : mat (X3 m c t) = part (Pv m c) 2 (bOf t) (hOf t) := by
  have e := (maps t).1.2.2.1
  funext r d
  show V m c main_arg0 (((cfg0.win 3).blk t).view.emb (ix2 r d)) = V m c main_arg0 _
  congr 1
  funext x
  apply Fin.ext
  match x with
  | ⟨0, _⟩ => show win0_3.index t 0 * 256 + 1 * r.val = t.val / 8 * 256 + r.val; rw [congrFun e 0]; show t.val / 8 * 256 + 1 * r.val = _; omega
  | ⟨1, _⟩ => show win0_3.index t 1 * 128 + 1 * d.val = 3072 + 2 * 1024 + t.val % 8 * 128 + d.val; rw [congrFun e 1]; show (40 + t.val % 8) * 128 + 1 * d.val = _; omega

theorem x4_eq (c : Dev nD) (t : Fin cfg0.N) : mat (X4 m c t) = part (Pv m c) 3 (bOf t) (hOf t) := by
  have e := (maps t).1.2.2.2
  funext r d
  show V m c main_arg0 (((cfg0.win 4).blk t).view.emb (ix2 r d)) = V m c main_arg0 _
  congr 1
  funext x
  apply Fin.ext
  match x with
  | ⟨0, _⟩ => show win0_4.index t 0 * 256 + 1 * r.val = t.val / 8 * 256 + r.val; rw [congrFun e 0]; show t.val / 8 * 256 + 1 * r.val = _; omega
  | ⟨1, _⟩ => show win0_4.index t 1 * 128 + 1 * d.val = 3072 + 3 * 1024 + t.val % 8 * 128 + d.val; rw [congrFun e 1]; show (48 + t.val % 8) * 128 + 1 * d.val = _; omega

/-- The states before are zero. -/
theorem Zv_eq (c : Dev nD) : Zv m c = fun _ => Ideal.ofBits FTy.f32 0x00000000#32 := by
  have e : Zv m c = broadcastInDim S32x8x128x128 ![] bcast_S_S32x8x128x128 (constant (F := Ideal) S_ .f32 0x00000000#32) := by
    show StableHlo.after _ _ _ = _
    after_results
    rfl
  rw [e]
  rfl

theorem x7_eq (c : Dev nD) (t : Fin cfg0.N) : st (X7 m c t) = zst := by
  funext d e
  show Zv m c (((cfg0.win 7).blk t).view.emb (ix4 0 0 d e)) = _
  rw [Zv_eq]; rfl
theorem x8_eq (c : Dev nD) (t : Fin cfg0.N) : st (X8 m c t) = zst := by
  funext d e
  show Zv m c (((cfg0.win 8).blk t).view.emb (ix4 0 0 d e)) = _
  rw [Zv_eq]; rfl

theorem coord_eq (t : Fin cfg0.N) : (grid0.coords t 1 : Fin 8) = hOf t := Fin.ext (head_eq t)

/-- A point's three results are those of its sequence and head. -/
theorem fAt_eq (c : Dev nD) (t : Fin cfg0.N) : st (fAt m c t) = retF (Lf m c) (Pv m c) (bOf t) (hOf t) := by
  unfold fAt
  rw [outF_eq, x0_eq, x2_eq, x3_eq, x7_eq]
  unfold retF Lf
  exact congrArg (fun h => state2 (Gv m c (ix2 0 h)) _ _ _) (coord_eq t)
theorem bAt_eq (c : Dev nD) (t : Fin cfg0.N) : st (bAt m c t) = retB (Lb m c) (Pv m c) (bOf t) (hOf t) := by
  unfold bAt
  rw [outB_eq, x0_eq, x2_eq, x3_eq, x8_eq]
  unfold retB Lb
  exact congrArg (fun h => state2 (Gv m c (ix2 1 h)) _ _ _) (coord_eq t)
theorem yAt_eq (c : Dev nD) (t : Fin cfg0.N) : mat (yAt m c t) = retY (Lf m c) (Lb m c) (Pv m c) (bOf t) (hOf t) := by
  unfold yAt
  rw [outY_eq, x0_eq, x1_eq, x2_eq, x3_eq, x4_eq, x7_eq, x8_eq]
  unfold retY Lf Lb
  exact congrArg (fun h => gated (Cert.Retention.both (Gv m c (ix2 0 h)) (Gv m c (ix2 1 h)) _ _ _ _ _) _) (coord_eq t)

/-! The result arrays. -/

theorem mem9 (t : Fin cfg0.N) (i : S8192x1024.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v8_0).slice (win0_9.rect t)).set ↔ _
  rw [View.set_slice_whole, Rect.mem_set_unit]
  exact Iff.rfl
theorem mem10 (t : Fin cfg0.N) (i : S32x8x128x128.Idx) :
    i ∈ ((cfg0.win 10).blk t).view.set ↔ ∀ a : Fin 4, win0_10.index t a * S1x1x128x128.size a ≤ (i a).val ∧ (i a).val < win0_10.index t a * S1x1x128x128.size a + S1x1x128x128.size a := by
  show i ∈ ((View.whole main_v8_1).slice (win0_10.rect t)).set ↔ _
  rw [View.set_slice_whole, Rect.mem_set_unit]
  exact Iff.rfl
theorem mem11 (t : Fin cfg0.N) (i : S32x8x128x128.Idx) :
    i ∈ ((cfg0.win 11).blk t).view.set ↔ ∀ a : Fin 4, win0_11.index t a * S1x1x128x128.size a ≤ (i a).val ∧ (i a).val < win0_11.index t a * S1x1x128x128.size a + S1x1x128x128.size a := by
  show i ∈ ((View.whole main_v8_2).slice (win0_11.rect t)).set ↔ _
  rw [View.set_slice_whole, Rect.mem_set_unit]
  exact Iff.rfl

theorem cover9 (i : S8192x1024.Idx) : ∃ t : Fin cfg0.N, (cfg0.win 9).flush t = true ∧ i ∈ ((cfg0.win 9).blk t).view.set := by
  have h0 : (i 0).val < 8192 := (i 0).isLt
  have h1 : (i 1).val < 1024 := (i 1).isLt
  have ht : 8 * ((i 0).val / 256) + (i 1).val / 128 < cfg0.N := by show _ < grid0.N; rw [N_0]; omega
  refine ⟨⟨_, ht⟩, flush0_9 _, ?_⟩
  rw [mem9]
  have e := (maps ⟨_, ht⟩).2.2.1
  have e0 : win0_9.index ⟨_, ht⟩ 0 = (i 0).val / 256 := (congrFun e 0).trans (by show (8 * ((i 0).val / 256) + (i 1).val / 128) / 8 = _; omega)
  have e1 : win0_9.index ⟨_, ht⟩ 1 = (i 1).val / 128 := (congrFun e 1).trans (by show (8 * ((i 0).val / 256) + (i 1).val / 128) % 8 = _; omega)
  intro a
  match a with
  | ⟨0, _⟩ => show win0_9.index ⟨_, ht⟩ 0 * 256 ≤ (i 0).val ∧ (i 0).val < win0_9.index ⟨_, ht⟩ 0 * 256 + 256; rw [e0]; omega
  | ⟨1, _⟩ => show win0_9.index ⟨_, ht⟩ 1 * 128 ≤ (i 1).val ∧ (i 1).val < win0_9.index ⟨_, ht⟩ 1 * 128 + 128; rw [e1]; omega

theorem cover10 (i : S32x8x128x128.Idx) : ∃ t : Fin cfg0.N, (cfg0.win 10).flush t = true ∧ i ∈ ((cfg0.win 10).blk t).view.set := by
  have h0 : (i 0).val < 32 := (i 0).isLt
  have h1 : (i 1).val < 8 := (i 1).isLt
  have h2 : (i 2).val < 128 := (i 2).isLt
  have h3 : (i 3).val < 128 := (i 3).isLt
  have ht : 8 * (i 0).val + (i 1).val < cfg0.N := by show _ < grid0.N; rw [N_0]; omega
  refine ⟨⟨_, ht⟩, flush0_10 _, ?_⟩
  rw [mem10]
  have e := (maps ⟨_, ht⟩).2.2.2.1
  have e0 : win0_10.index ⟨_, ht⟩ 0 = (i 0).val := (congrFun e 0).trans (by show (8 * (i 0).val + (i 1).val) / 8 = _; omega)
  have e1 : win0_10.index ⟨_, ht⟩ 1 = (i 1).val := (congrFun e 1).trans (by show (8 * (i 0).val + (i 1).val) % 8 = _; omega)
  have e2 : win0_10.index ⟨_, ht⟩ 2 = 0 := congrFun e 2
  have e3 : win0_10.index ⟨_, ht⟩ 3 = 0 := congrFun e 3
  intro a
  match a with
  | ⟨0, _⟩ => show win0_10.index ⟨_, ht⟩ 0 * 1 ≤ (i 0).val ∧ (i 0).val < win0_10.index ⟨_, ht⟩ 0 * 1 + 1; rw [e0]; omega
  | ⟨1, _⟩ => show win0_10.index ⟨_, ht⟩ 1 * 1 ≤ (i 1).val ∧ (i 1).val < win0_10.index ⟨_, ht⟩ 1 * 1 + 1; rw [e1]; omega
  | ⟨2, _⟩ => show win0_10.index ⟨_, ht⟩ 2 * 128 ≤ (i 2).val ∧ (i 2).val < win0_10.index ⟨_, ht⟩ 2 * 128 + 128; rw [e2]; omega
  | ⟨3, _⟩ => show win0_10.index ⟨_, ht⟩ 3 * 128 ≤ (i 3).val ∧ (i 3).val < win0_10.index ⟨_, ht⟩ 3 * 128 + 128; rw [e3]; omega

theorem cover11 (i : S32x8x128x128.Idx) : ∃ t : Fin cfg0.N, (cfg0.win 11).flush t = true ∧ i ∈ ((cfg0.win 11).blk t).view.set := by
  have h0 : (i 0).val < 32 := (i 0).isLt
  have h1 : (i 1).val < 8 := (i 1).isLt
  have h2 : (i 2).val < 128 := (i 2).isLt
  have h3 : (i 3).val < 128 := (i 3).isLt
  have ht : 8 * (i 0).val + (i 1).val < cfg0.N := by show _ < grid0.N; rw [N_0]; omega
  refine ⟨⟨_, ht⟩, flush0_11 _, ?_⟩
  rw [mem11]
  have e := (maps ⟨_, ht⟩).2.2.2.2
  have e0 : win0_11.index ⟨_, ht⟩ 0 = (i 0).val := (congrFun e 0).trans (by show (8 * (i 0).val + (i 1).val) / 8 = _; omega)
  have e1 : win0_11.index ⟨_, ht⟩ 1 = (i 1).val := (congrFun e 1).trans (by show (8 * (i 0).val + (i 1).val) % 8 = _; omega)
  have e2 : win0_11.index ⟨_, ht⟩ 2 = 0 := congrFun e 2
  have e3 : win0_11.index ⟨_, ht⟩ 3 = 0 := congrFun e 3
  intro a
  match a with
  | ⟨0, _⟩ => show win0_11.index ⟨_, ht⟩ 0 * 1 ≤ (i 0).val ∧ (i 0).val < win0_11.index ⟨_, ht⟩ 0 * 1 + 1; rw [e0]; omega
  | ⟨1, _⟩ => show win0_11.index ⟨_, ht⟩ 1 * 1 ≤ (i 1).val ∧ (i 1).val < win0_11.index ⟨_, ht⟩ 1 * 1 + 1; rw [e1]; omega
  | ⟨2, _⟩ => show win0_11.index ⟨_, ht⟩ 2 * 128 ≤ (i 2).val ∧ (i 2).val < win0_11.index ⟨_, ht⟩ 2 * 128 + 128; rw [e2]; omega
  | ⟨3, _⟩ => show win0_11.index ⟨_, ht⟩ 3 * 128 ≤ (i 3).val ∧ (i 3).val < win0_11.index ⟨_, ht⟩ 3 * 128 + 128; rw [e3]; omega

/-- Equal coordinates give equal entries. -/
theorem rows_congr {f : Fin 32 → Fin 8 → Rows} {b b' h h' r r' d d'} (hb : b = b') (hh : h = h') (hr : r = r') (hd : d = d') :
    f b h r d = f b' h' r' d' := by subst hb hh hr hd; rfl
theorem chunk_congr {f : Fin 32 → Fin 8 → Chunk} {b b' h h' r r' d d'} (hb : b = b') (hh : h = h') (hr : r = r') (hd : d = d') :
    f b h r d = f b' h' r' d' := by subst hb hh hr hd; rfl

theorem flushed9 (c : Dev nD) (t : Fin cfg0.N) :
    (dats m 0 c).flushed 9 t = ((cfg0.win 9).blk t).view.read (Elt Ideal) (arrY (Lf m c) (Lb m c) (Pv m c)) := by
  show (cfg0.win 9).cut (grid0.coords t) ((dats m 0 c).after 9 t) = _
  rw [after_9]
  funext y
  obtain ⟨a, b, rfl⟩ : ∃ (a : Fin 256) (b : Fin 128), y = ix2 a b := ⟨y 0, y 1, by idx_vars y⟩
  have e := (maps t).2.2.1
  show mat (yAt m c t) a b = arrY (Lf m c) (Lb m c) (Pv m c) (((cfg0.win 9).blk t).view.emb (ix2 a b))
  have e0 : ((((cfg0.win 9).blk t).view.emb (ix2 a b)) 0).val = t.val / 8 * 256 + a.val := by
    show win0_9.index t 0 * 256 + 1 * a.val = _
    rw [congrFun e 0]; show t.val / 8 * 256 + 1 * a.val = _; omega
  have e1 : ((((cfg0.win 9).blk t).view.emb (ix2 a b)) 1).val = t.val % 8 * 128 + b.val := by
    show win0_9.index t 1 * 128 + 1 * b.val = _
    rw [congrFun e 1]; show t.val % 8 * 128 + 1 * b.val = _; omega
  rw [yAt_eq]
  unfold arrY
  refine rows_congr (f := retY (Lf m c) (Lb m c) (Pv m c)) (Fin.ext ?_) (Fin.ext ?_) (Fin.ext ?_) (Fin.ext ?_)
  · show t.val / 8 = _ / 256; rw [e0]; omega
  · show t.val % 8 = _ / 128; rw [e1]; omega
  · show a.val = _ % 256; rw [e0]; omega
  · show b.val = _ % 128; rw [e1]; omega

theorem flushed10 (c : Dev nD) (t : Fin cfg0.N) :
    (dats m 0 c).flushed 10 t = ((cfg0.win 10).blk t).view.read (Elt Ideal) (arrF (Lf m c) (Pv m c)) := by
  show (cfg0.win 10).cut (grid0.coords t) ((dats m 0 c).after 10 t) = _
  rw [after_10]
  funext y
  obtain ⟨p, q, a, b, rfl⟩ : ∃ (p q : Fin 1) (a : Fin 128) (b : Fin 128), y = ix4 p q a b := ⟨y 0, y 1, y 2, y 3, by idx_vars y⟩
  obtain rfl : p = 0 := Subsingleton.elim _ _
  obtain rfl : q = 0 := Subsingleton.elim _ _
  have e := (maps t).2.2.2.1
  show st (fAt m c t) a b = arrF (Lf m c) (Pv m c) (((cfg0.win 10).blk t).view.emb (ix4 0 0 a b))
  rw [fAt_eq]
  unfold arrF
  refine chunk_congr (f := retF (Lf m c) (Pv m c)) (Fin.ext ?_) (Fin.ext ?_) (Fin.ext ?_) (Fin.ext ?_)
  · show t.val / 8 = win0_10.index t 0 * 1 + 1 * 0; rw [congrFun e 0]; show t.val / 8 = t.val / 8 * 1 + 1 * 0; omega
  · show t.val % 8 = win0_10.index t 1 * 1 + 1 * 0; rw [congrFun e 1]; show t.val % 8 = t.val % 8 * 1 + 1 * 0; omega
  · show a.val = win0_10.index t 2 * 128 + 1 * a.val; rw [congrFun e 2]; show a.val = 0 * 128 + 1 * a.val; omega
  · show b.val = win0_10.index t 3 * 128 + 1 * b.val; rw [congrFun e 3]; show b.val = 0 * 128 + 1 * b.val; omega

theorem flushed11 (c : Dev nD) (t : Fin cfg0.N) :
    (dats m 0 c).flushed 11 t = ((cfg0.win 11).blk t).view.read (Elt Ideal) (arrB (Lb m c) (Pv m c)) := by
  show (cfg0.win 11).cut (grid0.coords t) ((dats m 0 c).after 11 t) = _
  rw [after_11]
  funext y
  obtain ⟨p, q, a, b, rfl⟩ : ∃ (p q : Fin 1) (a : Fin 128) (b : Fin 128), y = ix4 p q a b := ⟨y 0, y 1, y 2, y 3, by idx_vars y⟩
  obtain rfl : p = 0 := Subsingleton.elim _ _
  obtain rfl : q = 0 := Subsingleton.elim _ _
  have e := (maps t).2.2.2.2
  show st (bAt m c t) a b = arrB (Lb m c) (Pv m c) (((cfg0.win 11).blk t).view.emb (ix4 0 0 a b))
  rw [bAt_eq]
  unfold arrB
  refine chunk_congr (f := retB (Lb m c) (Pv m c)) (Fin.ext ?_) (Fin.ext ?_) (Fin.ext ?_) (Fin.ext ?_)
  · show t.val / 8 = win0_11.index t 0 * 1 + 1 * 0; rw [congrFun e 0]; show t.val / 8 = t.val / 8 * 1 + 1 * 0; omega
  · show t.val % 8 = win0_11.index t 1 * 1 + 1 * 0; rw [congrFun e 1]; show t.val % 8 = t.val % 8 * 1 + 1 * 0; omega
  · show a.val = win0_11.index t 2 * 128 + 1 * a.val; rw [congrFun e 2]; show a.val = 0 * 128 + 1 * a.val; omega
  · show b.val = win0_11.index t 3 * 128 + 1 * b.val; rw [congrFun e 3]; show b.val = 0 * 128 + 1 * b.val; omega

/-- The three result arrays after the run. -/
theorem final9 (c : Dev nD) : (dats m 0 c).arrAt 9 cfg0.N = arrY (Lf m c) (Lb m c) (Pv m c) :=
  (dats m 0 c).arrAt_eq_of_cover 9 _ (fun t _ => flushed9 m c t) cover9
theorem final10 (c : Dev nD) : (dats m 0 c).arrAt 10 cfg0.N = arrF (Lf m c) (Pv m c) :=
  (dats m 0 c).arrAt_eq_of_cover 10 _ (fun t _ => flushed10 m c t) cover10
theorem final11 (c : Dev nD) : (dats m 0 c).arrAt 11 cfg0.N = arrB (Lb m c) (Pv m c) :=
  (dats m 0 c).arrAt_eq_of_cover 11 _ (fun t _ => flushed11 m c t) cover11

/-- The logarithms of the decays, from the gates' biases: the logarithm of the logistic function. -/
def logsig (x : FVec Ideal S8 .f32) : FVec Ideal S8 .f32 :=
  Host.negf (select (cmpf .une (subf (Host.negf x) (broadcastInDim S8 ![] bcast_S_S8 (constant S_ .f32 0x00000000#32))) (subf (Host.negf x) (broadcastInDim S8 ![] bcast_S_S8 (constant S_ .f32 0x00000000#32))))
    (addf (Host.negf x) (broadcastInDim S8 ![] bcast_S_S8 (constant S_ .f32 0x00000000#32)))
    (addf (maximumf (Host.negf x) (broadcastInDim S8 ![] bcast_S_S8 (constant S_ .f32 0x00000000#32)))
      (Host.log1p (Host.exp (Host.negf (Host.absf (subf (Host.negf x) (broadcastInDim S8 ![] bcast_S_S8 (constant S_ .f32 0x00000000#32)))))))))
def logs (x : FVec Ideal S8 .f32) : Fin 8 → EReal := fun h => logsig x (ix1 h)

theorem Gv_eq (c : Dev nD) : Gv m c = concatenate S2x8 0 [⟨S1x8, broadcastInDim S1x8 ![1] bcast_S8_S1x8_1 (logsig (m ((c : Thread nD τ).loc main_arg1)))⟩,
      ⟨S1x8, broadcastInDim S1x8 ![1] bcast_S8_S1x8_1 (logsig (m ((c : Thread nD τ).loc main_arg2)))⟩] concatenates_S1x8_S1x8_S2x8_d0 := by
  show StableHlo.after _ _ _ = _
  after_results
  rfl

theorem stack0 (a b : FVec Ideal S8 .f32) (h : Fin 8) :
    concatenate S2x8 0 [⟨S1x8, broadcastInDim S1x8 ![1] bcast_S8_S1x8_1 a⟩, ⟨S1x8, broadcastInDim S1x8 ![1] bcast_S8_S1x8_1 b⟩] concatenates_S1x8_S1x8_S2x8_d0 (ix2 0 h)
      = a (ix1 h) := by
  refine (concatenate_pair_apply_left (t := S2x8) 0 _ _ concatenates_S1x8_S1x8_S2x8_d0 (ix2 0 h) rfl (ix2 (0 : Fin 1) h) ?_).trans ?_
  · intro b; match b with
    | ⟨0, _⟩ => rfl
    | ⟨1, _⟩ => rfl
  · simp only [pointwise]; rfl
theorem stack1 (a b : FVec Ideal S8 .f32) (h : Fin 8) :
    concatenate S2x8 0 [⟨S1x8, broadcastInDim S1x8 ![1] bcast_S8_S1x8_1 a⟩, ⟨S1x8, broadcastInDim S1x8 ![1] bcast_S8_S1x8_1 b⟩] concatenates_S1x8_S1x8_S2x8_d0 (ix2 1 h)
      = b (ix1 h) := by
  refine (concatenate_pair_apply_right (t := S2x8) 0 _ _ concatenates_S1x8_S1x8_S2x8_d0 (ix2 1 h) rfl rfl (ix2 (0 : Fin 1) h) ?_ rfl).trans ?_
  · intro b hb; match b, hb with
    | ⟨0, _⟩, hb => exact absurd rfl hb
    | ⟨1, _⟩, _ => rfl
  · simp only [pointwise]; rfl

theorem Lf_eq (c : Dev nD) : Lf m c = logs (m ((c : Thread nD τ).loc main_arg1)) := by
  funext h
  unfold Lf logs
  rw [Gv_eq, stack0]
theorem Lb_eq (c : Dev nD) : Lb m c = logs (m ((c : Thread nD τ).loc main_arg2)) := by
  funext h
  unfold Lb logs
  rw [Gv_eq, stack1]

/-- The kernel's run: its three results are the retention of the projected rows, its arguments are unchanged. -/
theorem run_args : θ_run defs (onTc (τ := τ) (main (F := Ideal))) ⟨m, fun _ => 0, ρ⟩ fun r => ∀ c : Dev nD,
      r.2.mem ((c : Thread nD τ).loc main_v8_0) = arrY (logs (m ((c : Thread nD τ).loc main_arg1))) (logs (m ((c : Thread nD τ).loc main_arg2))) (m ((c : Thread nD τ).loc main_arg0))
      ∧ r.2.mem ((c : Thread nD τ).loc main_v8_1) = arrF (logs (m ((c : Thread nD τ).loc main_arg1))) (m ((c : Thread nD τ).loc main_arg0))
      ∧ r.2.mem ((c : Thread nD τ).loc main_v8_2) = arrB (logs (m ((c : Thread nD τ).loc main_arg2))) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 9).trans ((final9 m c).trans (by rw [Lf_eq, Lb_eq, Pv, V_main_arg0])),
      ((h c).1 10).trans ((final10 m c).trans (by rw [Lf_eq, Pv, V_main_arg0])),
      ((h c).1 11).trans ((final11 m c).trans (by rw [Lb_eq, Pv, V_main_arg0])),
      ((h c).1 4).trans (((dats m 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Ret

end
-- ==== Proof.RetHost.lean ====
/-
  The reference's host operations for the retention, over the extended reals and read at an index: the reshapes and
  transposes that cut the rows into heads and chunks, the products of one chunk, and the decays.
-/
module

public import proofs.«01_k».proof.Proof.RetSpec
public import proofs.«01_k».proof.Proof.Gen.ReferenceIdeal.Run
public import Idealize.ShloMosaic.Lib.Pointwise
public import Idealize.ShloMosaic.Lib.IdealHost
public import Idealize.ShloMosaic.Lib.Pipeline.Value

@[expose] public section

set_option maxRecDepth 16384

noncomputable section

namespace Cert.ReferenceIdeal.Ret

open Cert.ReferenceIdeal Cert.ReferenceIdeal.Gen Idealize.ShloMosaic Idealize.ShloMosaic.TcCoe Idealize.SL.Sem
open Cert.Retention (num num_word c127 c128 ceps Chunk Rows intra qdec kdec cdec chunkO chunkS lo hi back state1 state2 out mean var gated)

/-- The heads of the columns. -/
theorem split_apply (x : FVec Ideal S32x256x1024 .f32) (b : Fin 32) (r : Fin 256) (h : Fin 8) (d : Fin 128) :
    shapeCast S32x256x8x128 x shapeCasts_S32x256x1024_S32x256x8x128 (ix4 b r h d) = x (ix3 b r ⟨h.val * 128 + d.val, by omega⟩) := by
  refine shapeCast_apply x _ _ _ ?_
  rw [Shape.rowMajor_val_three, Shape.rowMajor_val_four]
  show (b.val * 256 + r.val) * 1024 + (h.val * 128 + d.val) = ((b.val * 256 + r.val) * 8 + h.val) * 128 + d.val
  omega

/-- Chunk `z` of the rows, by head. -/
theorem chunks_apply (x : FVec Ideal S32x256x8x128 .f32) (z : Fin 2) (b : Fin 32) (h : Fin 8) (n d : Fin 128) :
    transpose S2x32x8x128x128 [1, 0, 3, 2, 4] (shapeCast S32x2x128x8x128 x shapeCasts_S32x256x8x128_S32x2x128x8x128) transposes_S32x2x128x8x128_S2x32x8x128x128_1_0_3_2_4 (ix5 z b h n d)
      = x (ix4 b ⟨z.val * 128 + n.val, by omega⟩ h d) := by
  have e : transpose S2x32x8x128x128 [1, 0, 3, 2, 4] (shapeCast S32x2x128x8x128 x shapeCasts_S32x256x8x128_S32x2x128x8x128) transposes_S32x2x128x8x128_S2x32x8x128x128_1_0_3_2_4 (ix5 z b h n d)
      = shapeCast S32x2x128x8x128 x shapeCasts_S32x256x8x128_S32x2x128x8x128 (ix5 b z n h d) := by
    generalize shapeCast S32x2x128x8x128 x shapeCasts_S32x256x8x128_S32x2x128x8x128 = y
    simp only [pointwise]
  rw [e]
  refine shapeCast_apply x _ _ _ ?_
  rw [Shape.rowMajor_val_five, Shape.rowMajor_val_four]
  show ((b.val * 256 + (z.val * 128 + n.val)) * 8 + h.val) * 128 + d.val = (((b.val * 2 + z.val) * 128 + n.val) * 8 + h.val) * 128 + d.val
  omega

theorem pick0_apply (y : FVec Ideal S2x32x8x128x128 .f32) (b : Fin 32) (h : Fin 8) (n d : Fin 128) :
    shapeCast S32x8x128x128 (extractStridedSlice S1x32x8x128x128 ![0, 0, 0, 0, 0] y slices_S2x32x8x128x128_S1x32x8x128x128_0_0_0_0_0) shapeCasts_S1x32x8x128x128_S32x8x128x128 (ix4 b h n d)
      = y (ix5 0 b h n d) := by
  refine (shapeCast_apply _ _ _ (ix5 (0 : Fin 1) b h n d) ?_).trans ?_
  · rw [Shape.rowMajor_val_five, Shape.rowMajor_val_four]
    show (((0 * 32 + b.val) * 8 + h.val) * 128 + n.val) * 128 + d.val = ((b.val * 8 + h.val) * 128 + n.val) * 128 + d.val
    omega
  · simp only [pointwise]
    simp
theorem pick1_apply (y : FVec Ideal S2x32x8x128x128 .f32) (b : Fin 32) (h : Fin 8) (n d : Fin 128) :
    shapeCast S32x8x128x128 (extractStridedSlice S1x32x8x128x128 ![1, 0, 0, 0, 0] y slices_S2x32x8x128x128_S1x32x8x128x128_1_0_0_0_0) shapeCasts_S1x32x8x128x128_S32x8x128x128 (ix4 b h n d)
      = y (ix5 1 b h n d) := by
  refine (shapeCast_apply _ _ _ (ix5 (0 : Fin 1) b h n d) ?_).trans ?_
  · rw [Shape.rowMajor_val_five, Shape.rowMajor_val_four]
    show (((0 * 32 + b.val) * 8 + h.val) * 128 + n.val) * 128 + d.val = ((b.val * 8 + h.val) * 128 + n.val) * 128 + d.val
    omega
  · simp only [pointwise]
    simp

/-- Two chunks' outputs put back in the rows' order. -/
def unchunk (a b : FVec Ideal S32x8x128x128 .f32) : FVec Ideal S32x256x8x128 .f32 :=
  shapeCast S32x256x8x128 (transpose S32x2x128x8x128 [1, 0, 3, 2, 4] (concatenate S2x32x8x128x128 0
    [⟨S1x32x8x128x128, broadcastInDim S1x32x8x128x128 ![1, 2, 3, 4] bcast_S32x8x128x128_S1x32x8x128x128_1_2_3_4 a⟩,
      ⟨S1x32x8x128x128, broadcastInDim S1x32x8x128x128 ![1, 2, 3, 4] bcast_S32x8x128x128_S1x32x8x128x128_1_2_3_4 b⟩]
    concatenates_S1x32x8x128x128_S1x32x8x128x128_S2x32x8x128x128_d0) transposes_S2x32x8x128x128_S32x2x128x8x128_1_0_3_2_4) shapeCasts_S32x2x128x8x128_S32x256x8x128

theorem transposed_apply (y : FVec Ideal S2x32x8x128x128 .f32) (z : Fin 2) (b : Fin 32) (h : Fin 8) (n d : Fin 128) :
    transpose S32x2x128x8x128 [1, 0, 3, 2, 4] y transposes_S2x32x8x128x128_S32x2x128x8x128_1_0_3_2_4 (ix5 b z n h d) = y (ix5 z b h n d) := by
  simp only [pointwise]

theorem unit_apply (a : FVec Ideal S32x8x128x128 .f32) (z : Fin 1) (b : Fin 32) (h : Fin 8) (n d : Fin 128) :
    broadcastInDim S1x32x8x128x128 ![1, 2, 3, 4] bcast_S32x8x128x128_S1x32x8x128x128_1_2_3_4 a (ix5 z b h n d) = a (ix4 b h n d) := by
  simp only [pointwise]
  rfl

theorem unchunk_lt (x y : FVec Ideal S32x8x128x128 .f32) (b : Fin 32) (r : Fin 256) (h : Fin 8) (d : Fin 128) (hr : r.val < 128) :
    unchunk x y (ix4 b r h d) = x (ix4 b h ⟨r.val, hr⟩ d) := by
  unfold unchunk
  refine (shapeCast_apply _ _ _ (ix5 b (0 : Fin 2) (⟨r.val, hr⟩ : Fin 128) h d) ?_).trans ?_
  · rw [Shape.rowMajor_val_five, Shape.rowMajor_val_four]
    show (((b.val * 2 + 0) * 128 + r.val) * 8 + h.val) * 128 + d.val = ((b.val * 256 + r.val) * 8 + h.val) * 128 + d.val
    omega
  · rw [transposed_apply]
    refine (concatenate_pair_apply_left (t := S2x32x8x128x128) 0 _ _ concatenates_S1x32x8x128x128_S1x32x8x128x128_S2x32x8x128x128_d0 _ rfl (ix5 (0 : Fin 1) b h ⟨r.val, hr⟩ d) ?_).trans ?_
    · intro a; match a with
      | ⟨0, _⟩ => rfl
      | ⟨1, _⟩ => rfl
      | ⟨2, _⟩ => rfl
      | ⟨3, _⟩ => rfl
      | ⟨4, _⟩ => rfl
    · exact unit_apply _ _ _ _ _ _
theorem unchunk_ge (x y : FVec Ideal S32x8x128x128 .f32) (b : Fin 32) (r : Fin 256) (h : Fin 8) (d : Fin 128) (hr : ¬ r.val < 128) :
    unchunk x y (ix4 b r h d) = y (ix4 b h ⟨r.val - 128, by omega⟩ d) := by
  unfold unchunk
  refine (shapeCast_apply _ _ _ (ix5 b (1 : Fin 2) (⟨r.val - 128, by omega⟩ : Fin 128) h d) ?_).trans ?_
  · rw [Shape.rowMajor_val_five, Shape.rowMajor_val_four]
    show (((b.val * 2 + 1) * 128 + (r.val - 128)) * 8 + h.val) * 128 + d.val = ((b.val * 256 + r.val) * 8 + h.val) * 128 + d.val
    omega
  · rw [transposed_apply]
    refine (concatenate_pair_apply_right (t := S2x32x8x128x128) 0 _ _ concatenates_S1x32x8x128x128_S1x32x8x128x128_S2x32x8x128x128_d0 _ rfl rfl (ix5 (0 : Fin 1) b h ⟨r.val - 128, by omega⟩ d) ?_ rfl).trans ?_
    · intro a ha; match a, ha with
      | ⟨0, _⟩, ha => exact absurd rfl ha
      | ⟨1, _⟩, _ => rfl
      | ⟨2, _⟩, _ => rfl
      | ⟨3, _⟩, _ => rfl
      | ⟨4, _⟩, _ => rfl
    · exact unit_apply _ _ _ _ _ _

/-- The rows in reverse order. -/
theorem rev_apply (x : FVec Ideal S32x256x8x128 .f32) (b : Fin 32) (r : Fin 256) (h : Fin 8) (d : Fin 128) :
    Host.reverse [1] x (ix4 b r h d) = x (ix4 b r.rev h d) := by
  rw [Host.reverse_apply]
  congr 1
  funext a
  match a with
  | ⟨0, _⟩ => rfl
  | ⟨1, _⟩ => rfl
  | ⟨2, _⟩ => rfl
  | ⟨3, _⟩ => rfl

/-! The products of one chunk. -/
theorem qk_apply (x y : FVec Ideal S32x8x128x128 .f32) (b : Fin 32) (h : Fin 8) (n k : Fin 128) :
    Host.dotGeneral dot_S32x8x128x128_S32x8x128x128_S32x8x128x128_3_3_2_2_01_01 none x y (ix4 b h n k) = ∑ d : Fin 128, x (ix4 b h n d) * y (ix4 b h k d) := by
  simp only [pointwise]
  simp
theorem ov_apply (x y : FVec Ideal S32x8x128x128 .f32) (b : Fin 32) (h : Fin 8) (n e : Fin 128) :
    Host.dotGeneral dot_S32x8x128x128_S32x8x128x128_S32x8x128x128_3_2_2_3_01_01 none x y (ix4 b h n e) = ∑ k : Fin 128, x (ix4 b h n k) * y (ix4 b h k e) := by
  simp only [pointwise]
  simp
theorem kv_apply (x y : FVec Ideal S32x8x128x128 .f32) (b : Fin 32) (h : Fin 8) (d e : Fin 128) :
    Host.dotGeneral dot_S32x8x128x128_S32x8x128x128_S32x8x128x128_2_2_3_3_01_01 none x y (ix4 b h d e) = ∑ k : Fin 128, x (ix4 b h k d) * y (ix4 b h k e) := by
  simp only [pointwise]
  simp

/-- One head of a chunk. -/
def hd (x : FVec Ideal S32x8x128x128 .f32) (b : Fin 32) (h : Fin 8) : Chunk := fun n d => x (ix4 b h n d)

/-- The decays of the heads, the same for every sequence. -/
def bI (I : FVec Ideal S8x128x128 .f32) : FVec Ideal S32x8x128x128 .f32 :=
  broadcastInDim S32x8x128x128 ![0, 1, 2, 3] bcast_S1x8x128x128_S32x8x128x128_0_1_2_3 (broadcastInDim S1x8x128x128 ![1, 2, 3] bcast_S8x128x128_S1x8x128x128_1_2_3 I)
def bD (D : FVec Ideal S8x128x1 .f32) : FVec Ideal S32x8x128x128 .f32 :=
  broadcastInDim S32x8x128x128 ![0, 1, 2, 3] bcast_S1x8x128x1_S32x8x128x128_0_1_2_3 (broadcastInDim S1x8x128x1 ![1, 2, 3] bcast_S8x128x1_S1x8x128x1_1_2_3 D)
def bC (C : FVec Ideal S8x1x1 .f32) : FVec Ideal S32x8x128x128 .f32 :=
  broadcastInDim S32x8x128x128 ![0, 1, 2, 3] bcast_S1x8x1x1_S32x8x128x128_0_1_2_3 (broadcastInDim S1x8x1x1 ![1, 2, 3] bcast_S8x1x1_S1x8x1x1_1_2_3 C)

/-- A chunk's outputs as the reference forms them. -/
def oTerm (I : FVec Ideal S8x128x128 .f32) (D : FVec Ideal S8x128x1 .f32) (q k v s : FVec Ideal S32x8x128x128 .f32) : FVec Ideal S32x8x128x128 .f32 :=
  addf (Host.dotGeneral dot_S32x8x128x128_S32x8x128x128_S32x8x128x128_3_2_2_3_01_01 none (mulf (Host.dotGeneral dot_S32x8x128x128_S32x8x128x128_S32x8x128x128_3_3_2_2_01_01 none q k) (bI I)) v)
    (Host.dotGeneral dot_S32x8x128x128_S32x8x128x128_S32x8x128x128_3_2_2_3_01_01 none (mulf q (bD D)) s)
/-- The state after a chunk as the reference forms it. -/
def sTerm (C : FVec Ideal S8x1x1 .f32) (K : FVec Ideal S8x128x1 .f32) (k v s : FVec Ideal S32x8x128x128 .f32) : FVec Ideal S32x8x128x128 .f32 :=
  addf (mulf (bC C) s) (Host.dotGeneral dot_S32x8x128x128_S32x8x128x128_S32x8x128x128_2_2_3_3_01_01 none (mulf k (bD K)) v)

theorem bI_apply (I : FVec Ideal S8x128x128 .f32) (b : Fin 32) (h : Fin 8) (n k : Fin 128) : bI I (ix4 b h n k) = I (ix3 h n k) := by
  unfold bI
  simp only [pointwise]
  simp
theorem bD_apply (D : FVec Ideal S8x128x1 .f32) (b : Fin 32) (h : Fin 8) (n k : Fin 128) : bD D (ix4 b h n k) = D (ix3 h n 0) := by
  unfold bD
  simp only [pointwise]
  simp
theorem bC_apply (C : FVec Ideal S8x1x1 .f32) (b : Fin 32) (h : Fin 8) (n k : Fin 128) : bC C (ix4 b h n k) = C (ix3 h 0 0) := by
  unfold bC
  simp only [pointwise]
  simp

/-- The reference's chunk outputs and states are the retention's. -/
theorem oTerm_eq (lg : EReal) (I : FVec Ideal S8x128x128 .f32) (D : FVec Ideal S8x128x1 .f32) (q k v s : FVec Ideal S32x8x128x128 .f32) (b : Fin 32) (h : Fin 8)
    (hI : ∀ n k, I (ix3 h n k) = intra lg n k) (hD : ∀ n, D (ix3 h n 0) = qdec lg n) :
    hd (oTerm I D q k v s) b h = chunkO lg (hd q b h) (hd k b h) (hd v b h) (hd s b h) := by
  funext n e
  unfold hd oTerm chunkO
  rw [addf_apply, ov_apply, ov_apply]
  simp only [mulf_apply, qk_apply, bI_apply, bD_apply, hI, hD]
  rfl
theorem sTerm_eq (lg : EReal) (C : FVec Ideal S8x1x1 .f32) (K : FVec Ideal S8x128x1 .f32) (k v s : FVec Ideal S32x8x128x128 .f32) (b : Fin 32) (h : Fin 8)
    (hC : C (ix3 h 0 0) = cdec lg) (hK : ∀ n, K (ix3 h n 0) = kdec lg n) :
    hd (sTerm C K k v s) b h = chunkS lg (hd k b h) (hd v b h) (hd s b h) := by
  funext n e
  unfold hd sTerm chunkS
  rw [addf_apply, kv_apply]
  simp only [mulf_apply, bC_apply, bD_apply, hC, hK]
  rfl

/-! The decays, from the logarithms. -/
def pos : FVec Ideal S128 .f32 := sitofp .f32 (iotaInDim S128 32 0)
theorem pos_apply (n : Fin 128) : pos (ix1 n) = num n.val := by
  unfold pos
  simp only [pointwise]
  exact num_word _ (by omega)
def diff : FVec Ideal S128x128 .f32 :=
  subf (broadcastInDim S128x128 ![0, 1] bcast_S128x1_S128x128_0_1 (broadcastInDim S128x1 ![0] bcast_S128_S128x1_0 pos)) (broadcastInDim S128x128 ![0, 1] bcast_S1x128_S128x128_0_1 (broadcastInDim S1x128 ![1] bcast_S128_S1x128_1 pos))
theorem diff_apply (n k : Fin 128) : diff (ix2 n k) = num n.val - num k.val := by
  rw [← pos_apply, ← pos_apply]
  unfold diff
  generalize pos = p
  simp only [pointwise]
  simp
def intraTerm (L : FVec Ideal S8 .f32) : FVec Ideal S8x128x128 .f32 :=
  select (broadcastInDim S8x128x128 ![1, 2] bcast_S128x128_S8x128x128_1_2 (cmpf .oge diff (broadcastInDim S128x128 ![] bcast_S_S128x128 (constant S_ .f32 0x00000000#32)))) (Host.exp (mulf (broadcastInDim S8x128x128 ![0, 1, 2] bcast_S8x1x1_S8x128x128_0_1_2 (broadcastInDim S8x1x1 ![0] bcast_S8_S8x1x1_0 L)) (broadcastInDim S8x128x128 ![0, 1, 2] bcast_S1x128x128_S8x128x128_0_1_2 (broadcastInDim S1x128x128 ![1, 2] bcast_S128x128_S1x128x128_1_2 (maximumf diff (broadcastInDim S128x128 ![] bcast_S_S128x128 (constant S_ .f32 0x00000000#32))))))) (broadcastInDim S8x128x128 ![] bcast_S_S8x128x128 (id (constant S_ .f32 0x00000000#32)))
theorem intraTerm_apply (L : FVec Ideal S8 .f32) (h : Fin 8) (n k : Fin 128) : intraTerm L (ix3 h n k) = intra (L (ix1 h)) n k := by
  unfold intra
  rw [← diff_apply]
  unfold intraTerm
  generalize diff = p
  simp only [id_eq]
  simp only [pointwise]
  simp
def qTerm (L : FVec Ideal S8 .f32) : FVec Ideal S8x128x1 .f32 :=
  broadcastInDim S8x128x1 ![0, 1] bcast_S8x128_S8x128x1_0_1 (Host.exp (mulf (broadcastInDim S8x128 ![0, 1] bcast_S8x1_S8x128_0_1 (broadcastInDim S8x1 ![0] bcast_S8_S8x1_0 L)) (broadcastInDim S8x128 ![0, 1] bcast_S1x128_S8x128_0_1 (broadcastInDim S1x128 ![1] bcast_S128_S1x128_1 (addf pos (broadcastInDim S128 ![] bcast_S_S128 (constant S_ .f32 0x3F800000#32)))))))
theorem qTerm_apply (L : FVec Ideal S8 .f32) (h : Fin 8) (n : Fin 128) : qTerm L (ix3 h n 0) = qdec (L (ix1 h)) n := by
  unfold qdec
  rw [← pos_apply]
  unfold qTerm
  generalize pos = p
  simp only [pointwise]
  simp
def kTerm (L : FVec Ideal S8 .f32) : FVec Ideal S8x128x1 .f32 :=
  broadcastInDim S8x128x1 ![0, 1] bcast_S8x128_S8x128x1_0_1 (Host.exp (mulf (broadcastInDim S8x128 ![0, 1] bcast_S8x1_S8x128_0_1 (broadcastInDim S8x1 ![0] bcast_S8_S8x1_0 L)) (broadcastInDim S8x128 ![0, 1] bcast_S1x128_S8x128_0_1 (broadcastInDim S1x128 ![1] bcast_S128_S1x128_1 (subf (broadcastInDim S128 ![] bcast_S_S128 (constant S_ .f32 0x42FE0000#32)) pos)))))
theorem kTerm_apply (L : FVec Ideal S8 .f32) (h : Fin 8) (n : Fin 128) : kTerm L (ix3 h n 0) = kdec (L (ix1 h)) n := by
  unfold kdec
  rw [← pos_apply]
  unfold kTerm
  generalize pos = p
  simp only [pointwise]
  simp
def cTerm (L : FVec Ideal S8 .f32) : FVec Ideal S8x1x1 .f32 :=
  broadcastInDim S8x1x1 ![0] bcast_S8_S8x1x1_0 (Host.exp (mulf L (broadcastInDim S8 ![] bcast_S_S8 (constant S_ .f32 0x43000000#32))))
theorem cTerm_apply (L : FVec Ideal S8 .f32) (h : Fin 8) : cTerm L (ix3 h 0 0) = cdec (L (ix1 h)) := by
  unfold cTerm cdec
  simp only [pointwise]
  simp

/-! The norm over a head's columns, and the gate. -/
def meanTerm (o : FVec Ideal S32x256x8x128 .f32) : FVec Ideal S32x256x8x1 .f32 :=
  Host.divf (broadcastInDim S32x256x8x1 ![0, 1, 2] bcast_S32x256x8_S32x256x8x1_0_1_2 (Host.reduceAdd o (constant S_ .f32 0x00000000#32) reducesTo_S32x256x8x128_S32x256x8_d3 h_S_)) (broadcastInDim S32x256x8x1 ![] bcast_S_S32x256x8x1 (constant S_ .f32 0x43000000#32))
theorem meanTerm_apply (o : FVec Ideal S32x256x8x128 .f32) (b : Fin 32) (r : Fin 256) (h : Fin 8) :
    meanTerm o (ix4 b r h 0) = Ideal.div (∑ k : Fin 128, o (ix4 b r h k)) c128 := by
  unfold meanTerm
  simp only [pointwise]
  simp
def centTerm (o : FVec Ideal S32x256x8x128 .f32) : FVec Ideal S32x256x8x128 .f32 :=
  subf o (broadcastInDim S32x256x8x128 ![0, 1, 2, 3] bcast_S32x256x8x1_S32x256x8x128_0_1_2_3 (meanTerm o))
theorem centTerm_apply (o : FVec Ideal S32x256x8x128 .f32) (b : Fin 32) (r : Fin 256) (h : Fin 8) (d : Fin 128) :
    centTerm o (ix4 b r h d) = o (ix4 b r h d) - meanTerm o (ix4 b r h 0) := by
  unfold centTerm
  generalize meanTerm o = p
  simp only [pointwise]
  simp

def rstdTerm (c : FVec Ideal S32x256x8x128 .f32) : FVec Ideal S32x256x8x1 .f32 :=
  Host.rsqrt (addf (meanTerm (mulf c c)) (broadcastInDim S32x256x8x1 ![] bcast_S_S32x256x8x1 (constant S_ .f32 0x358637BD#32)))
theorem rstdTerm_apply (c : FVec Ideal S32x256x8x128 .f32) (b : Fin 32) (r : Fin 256) (h : Fin 8) :
    rstdTerm c (ix4 b r h 0) = Ideal.rsqrt (meanTerm (mulf c c) (ix4 b r h 0) + ceps) := by
  unfold rstdTerm
  generalize meanTerm (mulf c c) = p
  simp only [pointwise]
def normTerm (o : FVec Ideal S32x256x8x128 .f32) : FVec Ideal S32x256x8x128 .f32 :=
  mulf (centTerm o) (broadcastInDim S32x256x8x128 ![0, 1, 2, 3] bcast_S32x256x8x1_S32x256x8x128_0_1_2_3 (rstdTerm (centTerm o)))
theorem normTerm_apply (o : FVec Ideal S32x256x8x128 .f32) (b : Fin 32) (r : Fin 256) (h : Fin 8) (d : Fin 128) :
    normTerm o (ix4 b r h d) = centTerm o (ix4 b r h d) * rstdTerm (centTerm o) (ix4 b r h 0) := by
  unfold normTerm
  generalize rstdTerm (centTerm o) = p
  generalize centTerm o = q
  simp only [pointwise]
  simp
def gateTerm (g : FVec Ideal S32x256x1024 .f32) : FVec Ideal S32x256x1024 .f32 :=
  mulf g (Host.divf (broadcastInDim S32x256x1024 ![] bcast_S_S32x256x1024 (constant S_ .f32 0x3F800000#32)) (addf (broadcastInDim S32x256x1024 ![] bcast_S_S32x256x1024 (constant S_ .f32 0x3F800000#32)) (Host.exp (Host.negf g))))
theorem gateTerm_apply (g : FVec Ideal S32x256x1024 .f32) (i : S32x256x1024.Idx) : gateTerm g i = g i * Ideal.logistic (g i) := by
  unfold gateTerm Ideal.logistic
  simp only [pointwise]
def yTerm (o : FVec Ideal S32x256x8x128 .f32) (g : FVec Ideal S32x256x1024 .f32) : FVec Ideal S8192x1024 .bf16 :=
  truncf .bf16 (shapeCast S8192x1024 (mulf (shapeCast S32x256x1024 (normTerm o) shapeCasts_S32x256x8x128_S32x256x1024) (gateTerm g)) shapeCasts_S32x256x1024_S8192x1024) bitsLt_bf16_f32

/-- The normed and gated rows, of rows `o` by head and gates `g`. -/
theorem yTerm_apply (o : FVec Ideal S32x256x8x128 .f32) (g : FVec Ideal S32x256x1024 .f32) (i : Fin 8192) (j : Fin 1024)
    (b : Fin 32) (r : Fin 256) (h : Fin 8) (e : Fin 128) (hi : i.val = b.val * 256 + r.val) (hj : j.val = h.val * 128 + e.val) :
    yTerm o g (ix2 i j) = gated (fun r e => o (ix4 b r h e)) (fun r e => g (ix3 b r ⟨h.val * 128 + e.val, by omega⟩)) r e := by
  show shapeCast S8192x1024 (mulf (shapeCast S32x256x1024 (normTerm o) shapeCasts_S32x256x8x128_S32x256x1024) (gateTerm g)) shapeCasts_S32x256x1024_S8192x1024 (ix2 i j) = _
  refine (shapeCast_apply _ _ _ (ix3 b r (⟨h.val * 128 + e.val, by omega⟩ : Fin 1024)) ?_).trans ?_
  · rw [Shape.rowMajor_val_three, Shape.rowMajor_val_two]
    show (b.val * 256 + r.val) * 1024 + (h.val * 128 + e.val) = i.val * 1024 + j.val
    omega
  · have e1 : shapeCast S32x256x1024 (normTerm o) shapeCasts_S32x256x8x128_S32x256x1024 (ix3 b r (⟨h.val * 128 + e.val, by omega⟩ : Fin 1024)) = normTerm o (ix4 b r h e) := by
      refine shapeCast_apply _ _ _ _ ?_
      rw [Shape.rowMajor_val_three, Shape.rowMajor_val_four]
      show ((b.val * 256 + r.val) * 8 + h.val) * 128 + e.val = (b.val * 256 + r.val) * 1024 + (h.val * 128 + e.val)
      omega
    show shapeCast S32x256x1024 (normTerm o) shapeCasts_S32x256x8x128_S32x256x1024 _ * gateTerm g _ = _
    rw [e1, gateTerm_apply, normTerm_apply, rstdTerm_apply, meanTerm_apply, centTerm_apply, meanTerm_apply]
    unfold gated var mean
    refine congrArg (fun z => _ * Ideal.rsqrt (Ideal.div z c128 + ceps) * _) (Finset.sum_congr rfl fun k _ => ?_)
    show centTerm o _ * centTerm o _ = _
    rw [centTerm_apply, meanTerm_apply]

end Cert.ReferenceIdeal.Ret

end
-- ==== Proof.RetRef.lean ====
/-
  The retention's reference over the extended reals computes the same three arrays as the kernel.
-/
module

public import proofs.«01_k».proof.Proof.RetBlocks
public import proofs.«01_k».proof.Proof.RetHost

@[expose] public section

set_option maxRecDepth 16384

noncomputable section

namespace Cert.ReferenceIdeal.Ret

open Cert.ReferenceIdeal Cert.ReferenceIdeal.Gen Cert.ReferenceIdeal.Value Idealize.ShloMosaic Idealize.ShloMosaic.TcCoe Idealize.ShloMosaic.StableHlo Idealize.SL.Sem
open Cert.Retention (Chunk Rows intra qdec kdec cdec chunkO chunkS lo hi back state1 state2 gated)
open Cert.KernelIdeal.Ret (part scaled zst retF retB retY arrF arrB arrY seqOf headOf posOf colOf logs)

variable (W : Valuation τ sig (Elt Ideal))

/-- The projected rows and the two gates' biases. -/
abbrev P : FVec Ideal S40960x7168 .bf16 := W (Proc.devRef .tc main_arg0)
abbrev A : FVec Ideal S8 .f32 := W (Proc.devRef .tc main_arg1)
abbrev B : FVec Ideal S8 .f32 := W (Proc.devRef .tc main_arg2)

/-- The columns of the four parts of the first 8192 rows, by sequence. -/
theorem v4_apply (b : Fin 32) (r : Fin 256) (j : Fin 4096) :
    res_main_v4 W (ix3 b r j) = P W (ix2 ⟨b.val * 256 + r.val, by omega⟩ ⟨3072 + j.val, by omega⟩) := by
  have e1 (x : FVec Ideal S32x256x7168 .f32) : extractStridedSlice S32x256x4096 ![0, 0, 3072] x slices_S32x256x7168_S32x256x4096_0_0_3072 (ix3 b r j) = x (ix3 b r ⟨3072 + j.val, by omega⟩) := by
    simp only [pointwise]
    simp
  have e2 (x : FVec Ideal S8192x7168 .f32) (k : Fin 7168) : shapeCast S32x256x7168 x shapeCasts_S8192x7168_S32x256x7168 (ix3 b r k) = x (ix2 ⟨b.val * 256 + r.val, by omega⟩ k) := by
    refine shapeCast_apply x _ _ _ ?_
    rw [Shape.rowMajor_val_three, Shape.rowMajor_val_two]
    rfl
  have e3 (x : FVec Ideal S40960x7168 .bf16) (i : Fin 8192) (k : Fin 7168) : extractStridedSlice S8192x7168 ![0, 0] x slices_S40960x7168_S8192x7168_0_0 (ix2 i k) = x (ix2 ⟨i.val, by omega⟩ k) := by
    simp only [pointwise]
    simp
  unfold res_main_v4
  rw [e1]
  refine (e2 _ _).trans ?_
  exact e3 _ _ _

theorem v9_apply (b : Fin 32) (r : Fin 256) (h : Fin 8) (d : Fin 128) : res_main_v9 W (ix4 b r h d) = part (P W) 0 b h r d := by
  have e1 (x : FVec Ideal S32x256x4096 .f32) (j : Fin 1024) : extractStridedSlice S32x256x1024 ![0, 0, 0] x slices_S32x256x4096_S32x256x1024_0_0_0 (ix3 b r j) = x (ix3 b r ⟨j.val, by omega⟩) := by
    simp only [pointwise]
    simp
  unfold res_main_v9
  refine (split_apply _ _ _ _ _).trans ?_
  rw [e1, v4_apply]
  show P W _ = P W _
  congr 2
  apply Fin.ext
  show 3072 + (h.val * 128 + d.val) = 3072 + 0 * 1024 + h.val * 128 + d.val
  omega
theorem v12_apply (b : Fin 32) (r : Fin 256) (h : Fin 8) (d : Fin 128) : res_main_v12 W (ix4 b r h d) = scaled (part (P W) 1 b h) r d := by
  have e1 (x : FVec Ideal S32x256x4096 .f32) (j : Fin 1024) : extractStridedSlice S32x256x1024 ![0, 0, 1024] x slices_S32x256x4096_S32x256x1024_0_0_1024 (ix3 b r j) = x (ix3 b r ⟨1024 + j.val, by omega⟩) := by
    simp only [pointwise]
    simp
  have e2 (x : FVec Ideal S32x256x8x128 .f32) : mulf x (broadcastInDim S32x256x8x128 ![] bcast_S_S32x256x8x128 (constant S_ .f32 0x3DB504F3#32)) (ix4 b r h d) = x (ix4 b r h d) * Ideal.ofBits FTy.f32 0x3DB504F3#32 := rfl
  unfold res_main_v12
  rw [e2]
  refine congrArg (· * _) ?_
  refine (split_apply _ _ _ _ _).trans ?_
  rw [e1, v4_apply]
  show P W _ = P W _
  congr 2
  apply Fin.ext
  show 3072 + (1024 + (h.val * 128 + d.val)) = 3072 + 1 * 1024 + h.val * 128 + d.val
  omega
theorem v13_apply (b : Fin 32) (r : Fin 256) (h : Fin 8) (d : Fin 128) : res_main_v13 W (ix4 b r h d) = part (P W) 2 b h r d := by
  have e1 (x : FVec Ideal S32x256x4096 .f32) (j : Fin 1024) : extractStridedSlice S32x256x1024 ![0, 0, 2048] x slices_S32x256x4096_S32x256x1024_0_0_2048 (ix3 b r j) = x (ix3 b r ⟨2048 + j.val, by omega⟩) := by
    simp only [pointwise]
    simp
  unfold res_main_v13
  refine (split_apply _ _ _ _ _).trans ?_
  rw [e1, v4_apply]
  show P W _ = P W _
  congr 2
  apply Fin.ext
  show 3072 + (2048 + (h.val * 128 + d.val)) = 3072 + 2 * 1024 + h.val * 128 + d.val
  omega
theorem v8_apply (b : Fin 32) (r : Fin 256) (h : Fin 8) (d : Fin 128) : res_main_v8 W (ix3 b r ⟨h.val * 128 + d.val, by omega⟩) = part (P W) 3 b h r d := by
  have e1 (x : FVec Ideal S32x256x4096 .f32) (j : Fin 1024) : extractStridedSlice S32x256x1024 ![0, 0, 3072] x slices_S32x256x4096_S32x256x1024_0_0_3072 (ix3 b r j) = x (ix3 b r ⟨3072 + j.val, by omega⟩) := by
    simp only [pointwise]
    simp
  unfold res_main_v8
  rw [e1, v4_apply]
  show P W _ = P W _
  congr 2
  apply Fin.ext
  show 3072 + (3072 + (h.val * 128 + d.val)) = 3072 + 3 * 1024 + h.val * 128 + d.val
  omega

/-! The chunks by head. -/
section
variable {x : FVec Ideal S32x256x8x128 .f32} {f : Fin 32 → Fin 8 → Rows} (hx : ∀ b r h d, x (ix4 b r h d) = f b h r d) (b : Fin 32) (h : Fin 8)
include hx

/-- The first and the second chunk, of the rows and of the rows reversed. -/
theorem chunk0 : hd (shapeCast S32x8x128x128 (extractStridedSlice S1x32x8x128x128 ![0, 0, 0, 0, 0] (transpose S2x32x8x128x128 [1, 0, 3, 2, 4] (shapeCast S32x2x128x8x128 x shapeCasts_S32x256x8x128_S32x2x128x8x128) transposes_S32x2x128x8x128_S2x32x8x128x128_1_0_3_2_4) slices_S2x32x8x128x128_S1x32x8x128x128_0_0_0_0_0) shapeCasts_S1x32x8x128x128_S32x8x128x128) b h = lo (f b h) := by
  funext n d
  unfold hd lo
  rw [pick0_apply, chunks_apply, hx]
  congr 1
  apply Fin.ext
  show 0 * 128 + n.val = n.val
  omega
theorem chunk1 : hd (shapeCast S32x8x128x128 (extractStridedSlice S1x32x8x128x128 ![1, 0, 0, 0, 0] (transpose S2x32x8x128x128 [1, 0, 3, 2, 4] (shapeCast S32x2x128x8x128 x shapeCasts_S32x256x8x128_S32x2x128x8x128) transposes_S32x2x128x8x128_S2x32x8x128x128_1_0_3_2_4) slices_S2x32x8x128x128_S1x32x8x128x128_1_0_0_0_0) shapeCasts_S1x32x8x128x128_S32x8x128x128) b h = hi (f b h) := by
  funext n d
  unfold hd hi
  rw [pick1_apply, chunks_apply, hx]
  congr 1
theorem rev_rows (b : Fin 32) (r : Fin 256) (h : Fin 8) (d : Fin 128) : Host.reverse [1] x (ix4 b r h d) = (fun b h => back (f b h)) b h r d := by
  rw [rev_apply, hx]
  rfl
end

theorem v62_hd (b : Fin 32) (h : Fin 8) : hd (res_main_v62 W) b h = lo (part (P W) 0 b h) := chunk0 (f := fun b h => part (P W) 0 b h) (v9_apply W) b h
theorem v64_hd (b : Fin 32) (h : Fin 8) : hd (res_main_v64 W) b h = lo (scaled (part (P W) 1 b h)) := chunk0 (f := fun b h => scaled (part (P W) 1 b h)) (v12_apply W) b h
theorem v66_hd (b : Fin 32) (h : Fin 8) : hd (res_main_v66 W) b h = lo (part (P W) 2 b h) := chunk0 (f := fun b h => part (P W) 2 b h) (v13_apply W) b h
theorem v86_hd (b : Fin 32) (h : Fin 8) : hd (res_main_v86 W) b h = hi (part (P W) 0 b h) := chunk1 (f := fun b h => part (P W) 0 b h) (v9_apply W) b h
theorem v88_hd (b : Fin 32) (h : Fin 8) : hd (res_main_v88 W) b h = hi (scaled (part (P W) 1 b h)) := chunk1 (f := fun b h => scaled (part (P W) 1 b h)) (v12_apply W) b h
theorem v90_hd (b : Fin 32) (h : Fin 8) : hd (res_main_v90 W) b h = hi (part (P W) 2 b h) := chunk1 (f := fun b h => part (P W) 2 b h) (v13_apply W) b h
theorem v163_hd (b : Fin 32) (h : Fin 8) : hd (res_main_v163 W) b h = lo (back (part (P W) 0 b h)) := chunk0 (rev_rows (f := fun b h => part (P W) 0 b h) (v9_apply W)) b h
theorem v165_hd (b : Fin 32) (h : Fin 8) : hd (res_main_v165 W) b h = lo (back (scaled (part (P W) 1 b h))) := chunk0 (rev_rows (f := fun b h => scaled (part (P W) 1 b h)) (v12_apply W)) b h
theorem v167_hd (b : Fin 32) (h : Fin 8) : hd (res_main_v167 W) b h = lo (back (part (P W) 2 b h)) := chunk0 (rev_rows (f := fun b h => part (P W) 2 b h) (v13_apply W)) b h
theorem v187_hd (b : Fin 32) (h : Fin 8) : hd (res_main_v187 W) b h = hi (back (part (P W) 0 b h)) := chunk1 (rev_rows (f := fun b h => part (P W) 0 b h) (v9_apply W)) b h
theorem v189_hd (b : Fin 32) (h : Fin 8) : hd (res_main_v189 W) b h = hi (back (scaled (part (P W) 1 b h))) := chunk1 (rev_rows (f := fun b h => scaled (part (P W) 1 b h)) (v12_apply W)) b h
theorem v191_hd (b : Fin 32) (h : Fin 8) : hd (res_main_v191 W) b h = hi (back (part (P W) 2 b h)) := chunk1 (rev_rows (f := fun b h => part (P W) 2 b h) (v13_apply W)) b h
theorem v3_hd (b : Fin 32) (h : Fin 8) : hd (res_main_v3 W) b h = zst := rfl

/-! The decays. -/
theorem v14_eq (h : Fin 8) : res_main_v14 W (ix1 h) = logs (A W) h := rfl
theorem v15_eq (h : Fin 8) : res_main_v15 W (ix1 h) = logs (B W) h := rfl
theorem v32_apply (h : Fin 8) (n k : Fin 128) : res_main_v32 W (ix3 h n k) = intra (logs (A W) h) n k := (intraTerm_apply _ _ _ _).trans (by rw [v14_eq])
theorem v133_apply (h : Fin 8) (n k : Fin 128) : res_main_v133 W (ix3 h n k) = intra (logs (B W) h) n k := (intraTerm_apply _ _ _ _).trans (by rw [v15_eq])
theorem v41_apply (h : Fin 8) (n : Fin 128) : res_main_v41 W (ix3 h n 0) = qdec (logs (A W) h) n := (qTerm_apply _ _ _).trans (by rw [v14_eq])
theorem v142_apply (h : Fin 8) (n : Fin 128) : res_main_v142 W (ix3 h n 0) = qdec (logs (B W) h) n := (qTerm_apply _ _ _).trans (by rw [v15_eq])
theorem v50_apply (h : Fin 8) (n : Fin 128) : res_main_v50 W (ix3 h n 0) = kdec (logs (A W) h) n := (kTerm_apply _ _ _).trans (by rw [v14_eq])
theorem v151_apply (h : Fin 8) (n : Fin 128) : res_main_v151 W (ix3 h n 0) = kdec (logs (B W) h) n := (kTerm_apply _ _ _).trans (by rw [v15_eq])
theorem v54_apply (h : Fin 8) : res_main_v54 W (ix3 h 0 0) = cdec (logs (A W) h) := (cTerm_apply _ _).trans (by rw [v14_eq])
theorem v155_apply (h : Fin 8) : res_main_v155 W (ix3 h 0 0) = cdec (logs (B W) h) := (cTerm_apply _ _).trans (by rw [v15_eq])

/-! The states. -/
theorem v84_hd (b : Fin 32) (h : Fin 8) : hd (res_main_v84 W) b h = state1 (logs (A W) h) (scaled (part (P W) 1 b h)) (part (P W) 2 b h) zst :=
  (sTerm_eq _ (res_main_v54 W) (res_main_v50 W) (res_main_v64 W) (res_main_v66 W) (res_main_v3 W) b h (v54_apply W h) (v50_apply W h)).trans (by rw [v64_hd, v66_hd, v3_hd]; rfl)
theorem v185_hd (b : Fin 32) (h : Fin 8) : hd (res_main_v185 W) b h = state1 (logs (B W) h) (back (scaled (part (P W) 1 b h))) (back (part (P W) 2 b h)) zst :=
  (sTerm_eq _ (res_main_v155 W) (res_main_v151 W) (res_main_v165 W) (res_main_v167 W) (res_main_v3 W) b h (v155_apply W h) (v151_apply W h)).trans (by rw [v165_hd, v167_hd, v3_hd]; rfl)

theorem stF_eq : sTerm (res_main_v54 W) (res_main_v50 W) (res_main_v88 W) (res_main_v90 W) (res_main_v84 W) = arrF (logs (A W)) (P W) := by
  funext i
  obtain ⟨b, h, d, e, rfl⟩ : ∃ (b : Fin 32) (h : Fin 8) (d e : Fin 128), i = ix4 b h d e := ⟨i 0, i 1, i 2, i 3, by idx_vars i⟩
  show hd (sTerm (res_main_v54 W) (res_main_v50 W) (res_main_v88 W) (res_main_v90 W) (res_main_v84 W)) b h d e = retF (logs (A W)) (P W) b h d e
  rw [sTerm_eq _ _ _ _ _ _ b h (v54_apply W h) (v50_apply W h), v88_hd, v90_hd, v84_hd]
  rfl
theorem stB_eq : sTerm (res_main_v155 W) (res_main_v151 W) (res_main_v189 W) (res_main_v191 W) (res_main_v185 W) = arrB (logs (B W)) (P W) := by
  funext i
  obtain ⟨b, h, d, e, rfl⟩ : ∃ (b : Fin 32) (h : Fin 8) (d e : Fin 128), i = ix4 b h d e := ⟨i 0, i 1, i 2, i 3, by idx_vars i⟩
  show hd (sTerm (res_main_v155 W) (res_main_v151 W) (res_main_v189 W) (res_main_v191 W) (res_main_v185 W)) b h d e = retB (logs (B W)) (P W) b h d e
  rw [sTerm_eq _ _ _ _ _ _ b h (v155_apply W h) (v151_apply W h), v189_hd, v191_hd, v185_hd]
  rfl

/-! The outputs. -/
theorem v216_eq : res_main_v216 W = addf (unchunk (oTerm (res_main_v32 W) (res_main_v41 W) (res_main_v62 W) (res_main_v64 W) (res_main_v66 W) (res_main_v3 W))
      (oTerm (res_main_v32 W) (res_main_v41 W) (res_main_v86 W) (res_main_v88 W) (res_main_v90 W) (res_main_v84 W)))
    (Host.reverse [1] (unchunk (oTerm (res_main_v133 W) (res_main_v142 W) (res_main_v163 W) (res_main_v165 W) (res_main_v167 W) (res_main_v3 W))
      (oTerm (res_main_v133 W) (res_main_v142 W) (res_main_v187 W) (res_main_v189 W) (res_main_v191 W) (res_main_v185 W)))) := rfl

/-- Two chunks' outputs in the rows' order are the outputs of the sequence. -/
theorem unchunk_out (lg : EReal) (q k v : Rows) (S : Chunk) (x y : FVec Ideal S32x8x128x128 .f32) (b : Fin 32) (h : Fin 8)
    (hx : hd x b h = chunkO lg (lo q) (lo k) (lo v) S) (hy : hd y b h = chunkO lg (hi q) (hi k) (hi v) (state1 lg k v S)) (r : Fin 256) (d : Fin 128) :
    unchunk x y (ix4 b r h d) = Cert.Retention.out lg q k v S r d := by
  unfold Cert.Retention.out
  by_cases hr : r.val < 128
  · rw [unchunk_lt _ _ _ _ _ _ hr, dif_pos hr, ← hx]; rfl
  · rw [unchunk_ge _ _ _ _ _ _ hr, dif_neg hr, ← hy]; rfl

theorem v216_apply (b : Fin 32) (r : Fin 256) (h : Fin 8) (d : Fin 128) : res_main_v216 W (ix4 b r h d)
      = Cert.Retention.both (logs (A W) h) (logs (B W) h) (part (P W) 0 b h) (scaled (part (P W) 1 b h)) (part (P W) 2 b h) zst zst r d := by
  rw [v216_eq, addf_apply, rev_apply]
  rw [unchunk_out (logs (A W) h) (part (P W) 0 b h) (scaled (part (P W) 1 b h)) (part (P W) 2 b h) zst _ _ b h
      (by rw [oTerm_eq _ _ _ _ _ _ _ b h (v32_apply W h) (v41_apply W h), v62_hd, v64_hd, v66_hd, v3_hd])
      (by rw [oTerm_eq _ _ _ _ _ _ _ b h (v32_apply W h) (v41_apply W h), v86_hd, v88_hd, v90_hd, v84_hd]),
    unchunk_out (logs (B W) h) (back (part (P W) 0 b h)) (back (scaled (part (P W) 1 b h))) (back (part (P W) 2 b h)) zst _ _ b h
      (by rw [oTerm_eq _ _ _ _ _ _ _ b h (v133_apply W h) (v142_apply W h), v163_hd, v165_hd, v167_hd, v3_hd])
      (by rw [oTerm_eq _ _ _ _ _ _ _ b h (v133_apply W h) (v142_apply W h), v187_hd, v189_hd, v191_hd, v185_hd])]
  rfl

theorem y_eq : yTerm (res_main_v216 W) (res_main_v8 W) = arrY (logs (A W)) (logs (B W)) (P W) := by
  funext i
  obtain ⟨R, C, rfl⟩ : ∃ (R : Fin 8192) (C : Fin 1024), i = ix2 R C := ⟨i 0, i 1, by idx_vars i⟩
  show _ = retY (logs (A W)) (logs (B W)) (P W) (seqOf R) (headOf C) (posOf R) (colOf C)
  rw [yTerm_apply _ _ R C (seqOf R) (posOf R) (headOf C) (colOf C) (by show R.val = R.val / 256 * 256 + R.val % 256; omega) (by show C.val = C.val / 128 * 128 + C.val % 128; omega)]
  unfold retY
  refine congrArg₂ (fun o g => gated o g _ _) (funext fun r => funext fun e => ?_) (funext fun r => funext fun e => ?_)
  · exact v216_apply W _ _ _ _
  · exact v8_apply W _ _ _ _

variable (m : (ℓ : Loc nD τ sig) → Buf (Elt Ideal) ℓ) (ρ : Dev nD → PrngReg)

/-- The reference's run: the same three arrays, the arguments unchanged. -/
theorem run : θ_run defs (onTc (τ := τ) (main (F := Ideal))) ⟨m, fun _ => 0, ρ⟩ fun r => ∀ c : Dev nD,
      r.2.mem ((c : Thread nD τ).loc main_v239) = arrY (logs (m ((c : Thread nD τ).loc main_arg1))) (logs (m ((c : Thread nD τ).loc main_arg2))) (m ((c : Thread nD τ).loc main_arg0))
      ∧ r.2.mem ((c : Thread nD τ).loc main_v108) = arrF (logs (m ((c : Thread nD τ).loc main_arg1))) (m ((c : Thread nD τ).loc main_arg0))
      ∧ r.2.mem ((c : Thread nD τ).loc main_v209) = arrB (logs (m ((c : Thread nD τ).loc main_arg2))) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (y_eq (launchContents m c)), (h c).2.1.trans (stF_eq (launchContents m c)), (h c).2.2.1.trans (stB_eq (launchContents m c)), (h c).2.2.2⟩)
    (Cert.ReferenceIdeal.Value.run (F := Ideal) m ρ)

end Cert.ReferenceIdeal.Ret

end
-- ==== Proof.GmmRange.lean ====
/-
  The precondition of the grouped products' call, read: every block's expert is one of the sixty-four, and the
  number of blocks in use is between one and the number of blocks.
-/
module

public import proofs.«01_k».proof.Pre_in_range
public import Idealize.ShloMosaic.Lib.Pointwise

@[expose] public section

set_option maxRecDepth 16384

noncomputable section

namespace Cert.GmmRange

open Idealize.ShloMosaic
open Cert.Pre_in_range

/-- A one-bit conjunction is one exactly where both are. -/
theorem and_one (x y : BitVec 1) : IntOp.andi x y = 1#1 ↔ x = 1#1 ∧ y = 1#1 := by
  revert x y; decide

/-- A comparison's bit is one exactly where the comparison holds. -/
theorem ofBool_one (b : Bool) : BitVec.ofBool b = 1#1 ↔ b = true := by cases b <;> decide

/-- A word at least zero and below sixty-four, as a number. -/
theorem word_lt (v : BitVec 32) (h0 : (0#32).sle v = true) (h1 : v.slt 64#32 = true) : v.toNat < 64 := by
  rw [BitVec.sle_iff_toInt_le] at h0; rw [BitVec.slt_iff_toInt_lt] at h1
  have e0 : (0#32).toInt = 0 := by decide
  have e1 : (64#32).toInt = 64 := by decide
  rw [e0] at h0; rw [e1] at h1
  rw [BitVec.toInt_eq_toNat_cond] at h0 h1
  split at h0 <;> omega

/-- A word from one to `704`, as a number. -/
theorem word_mid (v : BitVec 32) (h0 : (1#32).sle v = true) (h1 : v.sle 704#32 = true) : 1 ≤ v.toNat ∧ v.toNat ≤ 704 := by
  rw [BitVec.sle_iff_toInt_le] at h0 h1
  have e0 : (1#32).toInt = 1 := by decide
  have e1 : (704#32).toInt = 704 := by decide
  rw [e0] at h0; rw [e1] at h1
  rw [BitVec.toInt_eq_toNat_cond] at h0 h1
  split at h0 <;> omega

/-- Where the precondition is all ones, the experts' words are below sixty-four and the count is between one and `704`. -/
theorem range_of [Facts] {F : FTy → Type} [FloatOps F] (a0 : FVec F S5775360x128 .f32) (a1 : IVec S704 32) (a2 : IVec S1 32)
    (a3 : FVec F S64x2048x512 .bf16) (a4 : FVec F S64x2048x512 .bf16) (a5 : FVec F S64x512x2048 .bf16)
    (h : ∀ i, fn a0 a1 a2 a3 a4 a5 i = 1#1) :
    (∀ b : Fin 704, (a1 (ix1 b)).toNat < 64) ∧ 1 ≤ (a2 (ix1 0)).toNat ∧ (a2 (ix1 0)).toNat ≤ 704 := by
  have key : ∀ b : Fin 704, (0#32).sle (a1 (ix1 b)) = true ∧ (a1 (ix1 b)).slt 64#32 = true ∧ (1#32).sle (a2 (ix1 0)) = true ∧ (a2 (ix1 0)).sle 704#32 = true := by
    intro b
    have e := h (ix1 b)
    have r : ∀ j, shapeCast S_ a2 Facts.shapeCasts_S1_S_ j = a2 (ix1 0) := by
      intro j
      refine congrArg a2 (funext fun a => ?_)
      match a with
      | ⟨0, _⟩ => exact Subsingleton.elim (α := Fin 1) _ _
    have e' : IntOp.andi (IntOp.andi (IntOp.andi (IntOp.cmpi .sge (a1 (ix1 b)) 0#32) (IntOp.cmpi .slt (a1 (ix1 b)) 64#32)) (IntOp.cmpi .sge (shapeCast S_ a2 Facts.shapeCasts_S1_S_ _) 1#32)) (IntOp.cmpi .sle (shapeCast S_ a2 Facts.shapeCasts_S1_S_ _) 704#32) = 1#1 := e
    rw [r] at e'
    simp only [and_one, IntOp.cmpi, ofBool_one] at e'
    exact ⟨e'.1.1.1, e'.1.1.2, e'.1.2, e'.2⟩
  exact ⟨fun b => word_lt _ (key b).1 (key b).2.1, word_mid _ (key 0).2.2.1 (key 0).2.2.2⟩

end Cert.GmmRange

end
-- ==== Proof.GmmSetup.lean ====
/-
  The grouped products' call: its tables, its blocks, and the staging buffers the body is called with.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Quiescent
public import Idealize.ShloMosaic.Lib.Claim

@[expose] public section

set_option maxRecDepth 16384

noncomputable section

namespace Cert.Kernel2Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: nothing runs before it. -/
abbrev V (c : Dev nD) (b : Ref sig .tc) : Buf (Elt F) ((c : Thread nD τ).loc b) := m ((c : Thread nD τ).loc b)

/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Argument 0 as the region finds it. -/
theorem V_main_arg0 (c : Dev nD) : V m c main_arg0 = m ((c : Thread nD τ).loc main_arg0) := rfl
/-- Argument 1 as the region finds it. -/
theorem V_main_arg1 (c : Dev nD) : V m c main_arg1 = m ((c : Thread nD τ).loc main_arg1) := rfl
/-- Argument 2 as the region finds it. -/
theorem V_main_arg2 (c : Dev nD) : V m c main_arg2 = m ((c : Thread nD τ).loc main_arg2) := rfl
/-- Argument 3 as the region finds it. -/
theorem V_main_arg3 (c : Dev nD) : V m c main_arg3 = m ((c : Thread nD τ).loc main_arg3) := rfl
/-- Argument 4 as the region finds it. -/
theorem V_main_arg4 (c : Dev nD) : V m c main_arg4 = m ((c : Thread nD τ).loc main_arg4) := rfl
/-- Argument 5 as the region finds it. -/
theorem V_main_arg5 (c : Dev nD) : V m c main_arg5 = m ((c : Thread nD τ).loc main_arg5) := rfl

/-- The two tables, the experts of the blocks and the number of blocks in use, as launched. -/
def tbl : pre0.Contents (Elt F) := fun j => V m (0 : Dev nD) (pre0.ref j)
/-- The one device's tables are these. -/
theorem V_pre (c : Dev nD) (j : Fin 2) : V m c (pre0.ref j) = tbl m j := by
  obtain rfl : c = 0 := Subsingleton.elim _ _; rfl
/-- Every block the tables name lies inside its array. -/
abbrev Ok : Prop := ok0 (F := F) (tbl m)
/-- The tables with that fact, -/
abbrev adm (hO : Ok m) : (pcfg0 (F := F)).Adm := ⟨tbl m, hO⟩
/-- and the pipeline at them. -/
abbrev cfgM (hO : Ok m) : Pipeline.Cfg sig Λ₀ := cfg0 (adm m hO)

/-- The experts' table as the body is handed it. -/
abbrev tbM0_0 : Memref sig .tc .smem S704 .i32 := Memref.whole main_arg1
/-- It is a whole buffer. -/
abbrev htbM0_0 : tbM0_0.IsWhole := Memref.isWhole_whole _
/-- The table of the number of blocks in use. -/
abbrev tbM0_1 : Memref sig .tc .smem S1 .i32 := Memref.whole main_arg2
/-- It is a whole buffer. -/
abbrev htbM0_1 : tbM0_1.IsWhole := Memref.isWhole_whole _

/-- A table's contents on core `c`, -/
abbrev TbBuf0 (c : Dev nD) {S : Shape} {e : EltTy} (M : Memref sig .tc .smem S e) : Type := Buf (Elt F) (M.view.loc (c : Thread nD τ))
/-- and half of it held at them. -/
abbrev tbPt0 (c : Dev nD) {S : Shape} {e : EltTy} (M : Memref sig .tc .smem S e) (f : TbBuf0 (F := F) c M) : sProp 𝕄 :=
  M.view.loc (c : Thread nD τ) ↦{fullShare.right} f

/-- What the body is handed of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's buffer holds its block whenever the body runs. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's buffer holds its block whenever the body runs. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's buffer holds its block whenever the body runs. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's buffer holds its block whenever the body runs. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run that leaves the arrays at the proof data's leaves the six arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-- One staging buffer of the output, through which its contents are read. -/
abbrev VO0_4 : View sig .tc .vmem S8192x128 .f32 := (Memref.whole cc0_stg4_0 : Memref sig .tc .vmem S8192x128 .f32).view
/-- Window 0's staging buffer at point `t`. -/
abbrev ms0_0 (hO : Ok m) (t : Fin (cfgM m hO).N) : Memref sig .tc .vmem S8192x128 .f32 := spec0_0.stage ((cfgM m hO).slots t 0)
/-- It is a whole buffer. -/
abbrev hs0_0 (hO : Ok m) (t : Fin (cfgM m hO).N) : (ms0_0 m hO t).IsWhole := hstage0_0 (((cfgM m hO).slots t 0).cast nbuf0_0)
/-- Window 1's staging buffer at point `t`. -/
abbrev ms0_1 (hO : Ok m) (t : Fin (cfgM m hO).N) : Memref sig .tc .vmem S1x2048x512 .bf16 := spec0_1.stage ((cfgM m hO).slots t 1)
/-- It is a whole buffer. -/
abbrev hs0_1 (hO : Ok m) (t : Fin (cfgM m hO).N) : (ms0_1 m hO t).IsWhole := hstage0_1 (((cfgM m hO).slots t 1).cast nbuf0_1)
/-- Window 2's staging buffer at point `t`. -/
abbrev ms0_2 (hO : Ok m) (t : Fin (cfgM m hO).N) : Memref sig .tc .vmem S1x2048x512 .bf16 := spec0_2.stage ((cfgM m hO).slots t 2)
/-- It is a whole buffer. -/
abbrev hs0_2 (hO : Ok m) (t : Fin (cfgM m hO).N) : (ms0_2 m hO t).IsWhole := hstage0_2 (((cfgM m hO).slots t 2).cast nbuf0_2)
/-- Window 3's staging buffer at point `t`. -/
abbrev ms0_3 (hO : Ok m) (t : Fin (cfgM m hO).N) : Memref sig .tc .vmem S1x512x2048 .bf16 := spec0_3.stage ((cfgM m hO).slots t 3)
/-- It is a whole buffer. -/
abbrev hs0_3 (hO : Ok m) (t : Fin (cfgM m hO).N) : (ms0_3 m hO t).IsWhole := hstage0_3 (((cfgM m hO).slots t 3).cast nbuf0_3)
/-- Window 4's staging buffer at point `t`. -/
abbrev ms0_4 (hO : Ok m) (t : Fin (cfgM m hO).N) : Memref sig .tc .vmem S8192x128 .f32 := spec0_4.stage ((cfgM m hO).slots t 4)
/-- It is a whole buffer. -/
abbrev hs0_4 (hO : Ok m) (t : Fin (cfgM m hO).N) : (ms0_4 m hO t).IsWhole := hstage0_4 (((cfgM m hO).slots t 4).cast nbuf0_4)

/-- The body as the pipeline calls it at point `t`. -/
abbrev bodyAt0 (a : (pcfg0 (F := F)).Adm) (t : Fin (cfg0 a).N) : Prog (TpuEff nD τ sig (Elt F) Λ₀ .tc) PUnit :=
  cc0__gmm_kernel (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.Kernel2Ideal.Gmm

end
-- ==== Proof.GmmRun.lean ====
/-
  The body of the grouped products' call, run: on a block in use, and on a block past those.
-/
module

public import proofs.«01_k».proof.Proof.GmmSetup

@[expose] public section

set_option maxRecDepth 16384

noncomputable section

namespace Cert.Kernel2Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on a block in use: the sixteen strided pieces it leaves in the output's buffer, with its run. -/
def usedRun (c : Dev nD) (i : grid0.Coords) (arg3 : Memref sig .tc .vmem S8192x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S8192x128 .f32) (harg7 : arg7.IsWhole)
    (x0 : Vec F S8192x128 .f32) (x1 : Vec F S1x2048x512 .bf16) (x2 : Vec F S1x2048x512 .bf16) (x3 : Vec F S1x512x2048 .bf16) (xt0 : TbBuf0 (F := F) c tbM0_0) (xt1 : TbBuf0 (F := F) c tbM0_1)
    (h1 : k0_cond1 i (View.readAt (Elt F) (tbM0_1).view (Rect.unit (s := S1) ![0] S1.size inb_S1_S1_0).toLoadRect xt1 (Shape.Idx.first (numel1_S1.symm ▸ Nat.one_pos))) = 1#1) (h2 : ¬ (k0_cond2 i (View.readAt (Elt F) (tbM0_1).view (Rect.unit (s := S1) ![0] S1.size inb_S1_S1_0).toLoadRect xt1 (Shape.Idx.first (numel1_S1.symm ▸ Nat.one_pos))) = 1#1)) :
    { L4 : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0__gmm_kernel i tbM0_0 htbM0_0 tbM0_1 htbM0_1 arg3 harg3 arg4 harg4 arg5 harg5 arg6 harg6 arg7 harg7) K } := by
  refine ⟨?_, fun E K => ?run⟩
  case run =>
    simp only [cc0__gmm_kernel_eq_skeleton]; unfold cc0__gmm_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | (guard_target = k0_cond1 _ _ = _; exact h1) | (guard_target = ¬ (k0_cond2 _ _ = _); exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 4000000 in
/-- The body on a block past those in use: the one piece it leaves in the output's buffer, with its run. -/
def zeroRun (c : Dev nD) (i : grid0.Coords) (arg3 : Memref sig .tc .vmem S8192x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S8192x128 .f32) (harg7 : arg7.IsWhole)
    (x0 : Vec F S8192x128 .f32) (x1 : Vec F S1x2048x512 .bf16) (x2 : Vec F S1x2048x512 .bf16) (x3 : Vec F S1x512x2048 .bf16) (xt0 : TbBuf0 (F := F) c tbM0_0) (xt1 : TbBuf0 (F := F) c tbM0_1)
    (h1 : ¬ (k0_cond1 i (View.readAt (Elt F) (tbM0_1).view (Rect.unit (s := S1) ![0] S1.size inb_S1_S1_0).toLoadRect xt1 (Shape.Idx.first (numel1_S1.symm ▸ Nat.one_pos))) = 1#1)) (h2 : k0_cond2 i (View.readAt (Elt F) (tbM0_1).view (Rect.unit (s := S1) ![0] S1.size inb_S1_S1_0).toLoadRect xt1 (Shape.Idx.first (numel1_S1.symm ▸ Nat.one_pos))) = 1#1) :
    { L4 : List (View.Piece (Elt F) S8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0__gmm_kernel i tbM0_0 htbM0_0 tbM0_1 htbM0_1 arg3 harg3 arg4 harg4 arg5 harg5 arg6 harg6 arg7 harg7) K } := by
  refine ⟨?_, fun E K => ?run⟩
  case run =>
    simp only [cc0__gmm_kernel_eq_skeleton]; unfold cc0__gmm_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | (guard_target = ¬ (k0_cond1 _ _ = _); exact h1) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel2Ideal.Gmm

end
-- ==== Proof.GmmRead.lean ====
/-
  What the body's run leaves in the output's buffer, as a function of the blocks alone: sixteen strided pieces of one product, or zeros.
-/
module

public import proofs.«01_k».proof.Proof.GmmRun
public import Idealize.ShloMosaic.Lib.Pointwise

@[expose] public section

set_option maxRecDepth 16384

noncomputable section

namespace Cert.Kernel2Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every sixteenth row of a block of `8192` short rows, from row `s` on: lane group `s` of the `512` long rows. -/
def lane (s : Fin 16) (x : Vec F S8192x128 .f32) : Vec F S512x128 .f32 :=
  fun y => x (ix2 ⟨16 * (y 0).val + s.val, by have h : (y 0).val < 512 := (y 0).isLt; omega⟩ (y 1))

/-- A load of every sixteenth row from `s` on reads lane group `s`. -/
theorem readAt_lane (s : Fin 16) (arg3 : Memref sig .tc .vmem S8192x128 .f32) (harg3 : arg3.IsWhole) (x0 : Vec F S8192x128 .f32)
    (inb : ∀ a, S512x128.size a = 0 ∨ (![s.val, 0] : Fin 2 → Nat) a + (![16, 1] : Fin 2 → Nat) a * (S512x128.size a - 1) < S8192x128.size a) :
    View.readAt (Elt F) arg3.view (⟨![s.val, 0], S512x128.size, ![16, 1], inb⟩ : LoadRect S8192x128) (harg3.unread x0) = lane s x0 := by
  funext y
  show arg3.view.read (Elt F) (harg3.unread x0) _ = _
  rw [harg3.read_unread]
  show x0 _ = x0 _
  congr 1; funext a; apply Fin.ext
  match a with
  | ⟨0, _⟩ => show s.val + 16 * (y 0).val = 16 * (y 0).val + s.val; omega
  | ⟨1, _⟩ => show 0 + 1 * (y 1).val = (y 1).val; omega

/-- A load of a whole weight block reads it. -/
theorem ld_up (x : Vec F S1x2048x512 .bf16) : View.ld x (Rect.unit (s := S1x2048x512) ![0, 0, 0] ![1, 2048, 512] inb_S1x2048x512_S1x2048x512_0_0_0) = x := View.ld_unit_zero (S := S1x2048x512) (funext fun a => by fin_cases a <;> rfl) _ x

/-- A load of a whole second-product weight block reads it. -/
theorem ld_down (x : Vec F S1x512x2048 .bf16) : View.ld x (Rect.unit (s := S1x512x2048) ![0, 0, 0] ![1, 512, 2048] inb_S1x512x2048_S1x512x2048_0_0_0) = x := View.ld_unit_zero (S := S1x512x2048) (funext fun a => by fin_cases a <;> rfl) _ x

/-- The `512` long rows a block holds, its sixteen lane groups put side by side and rounded. -/
def xrows (x0 : Vec F S8192x128 .f32) : FVec F S512x2048 .bf16 := k0_pay9 (lane 0 x0) (lane 1 x0) (lane 2 x0) (lane 3 x0) (lane 4 x0) (lane 5 x0) (lane 6 x0) (lane 7 x0) (lane 8 x0) (lane 9 x0) (lane 10 x0) (lane 11 x0) (lane 12 x0) (lane 13 x0) (lane 14 x0) (lane 15 x0)

/-- The expert's output on the block's `512` long rows. -/
def yrows (x0 : Vec F S8192x128 .f32) (x1 : Vec F S1x2048x512 .bf16) (x2 : Vec F S1x2048x512 .bf16) (x3 : Vec F S1x512x2048 .bf16) : FVec F S512x2048 .f32 :=
  k0_pay11 (xrows x0) (k0_pay10 (xrows x0) x1) x2 x3

/-- Lane group `s` of `512` long rows. -/
def cut (s : Fin 16) (y : FVec F S512x2048 .f32) : FVec F S512x128 .f32 :=
  fun j => y (ix2 (j 0) ⟨128 * s.val + (j 1).val, by have h : (j 1).val < 128 := (j 1).isLt; omega⟩)

/-- The slice of the columns from `128 s` on is lane group `s`. -/
theorem slice_cut (s : Fin 16) (o : Nat) (ho : o = 128 * s.val) (y : FVec F S512x2048 .f32) (h : S512x2048.Slices ![0, o] S512x128) :
    extractStridedSlice S512x128 ![0, o] y h = cut s y := by
  subst ho
  funext j; show y _ = y _; congr 1; funext a; apply Fin.ext
  match a with
  | ⟨0, _⟩ => show 0 + (j 0).val = (j 0).val; omega
  | ⟨1, _⟩ => rfl

/-- Every sixteenth row from `s` on, as a rectangle of the output's block. -/
def rows16 (s : Fin 16) : Rect S8192x128 :=
  { off := ![s.val, 0], size := S512x128.size, stride := ![16, 1], stride_pos := spos_16_1
    inb := fun a => match a with
      | ⟨0, _⟩ => .inr (by show s.val + 16 * (512 - 1) < 8192; omega)
      | ⟨1, _⟩ => .inr (by show 0 + 1 * (128 - 1) < 128; omega) }

/-- The strided pieces written for the lane groups of a list, each holding its lane group of `y`. -/
def pieces (y : FVec F S512x2048 .f32) (l : List (Fin 16)) : List (View.Piece (Elt F) S8192x128 .f32) :=
  l.map fun s => ⟨rows16 s, cut s y⟩

/-- `512` long rows of `2048` stored as `8192` short rows of `128`: short row `16 a + s` is lane group `s` of long row `a`. -/
def spread (y : FVec F S512x2048 .f32) : Vec F S8192x128 .f32 :=
  fun j => y (ix2 ⟨(j 0).val / 16, by have h : (j 0).val < 8192 := (j 0).isLt; omega⟩
    ⟨128 * ((j 0).val % 16) + (j 1).val, by have h : (j 1).val < 128 := (j 1).isLt; omega⟩)

/-- Row `16 a + s` of the block, as row `a` of the strided rectangle `s`. -/
theorem rows16_emb (s : Fin 16) (j : S8192x128.Idx) (h : (j 0).val % 16 = s.val) :
    j = (rows16 s).emb (ix2 (⟨(j 0).val / 16, by have h : (j 0).val < 8192 := (j 0).isLt; omega⟩ : Fin 512) (j 1 : Fin 128)) := by
  funext a; apply Fin.ext
  match a with
  | ⟨0, _⟩ => show (j 0).val = s.val + 16 * ((j 0).val / 16); omega
  | ⟨1, _⟩ => show (j 1).val = 0 + 1 * (j 1).val; omega

/-- A row of the strided rectangle `s` is `s` above a multiple of sixteen. -/
theorem rows16_mem (s : Fin 16) (j : S8192x128.Idx) (h : j ∈ (rows16 s).set) : (j 0).val % 16 = s.val := by
  obtain ⟨x, rfl⟩ : ∃ x, (rows16 s).emb x = j := (rows16 s).exists_idx_of_mem h
  show (s.val + 16 * (x 0).val) % 16 = s.val
  omega

/-- What the strided rectangle `s` embeds is in it. -/
theorem rows16_mem_of (s : Fin 16) (j : S8192x128.Idx) (x : (rows16 s).shape.Idx) (h : (rows16 s).emb x = j) : j ∈ (rows16 s).set := by
  subst h; exact (rows16 s).toLoadRect.idx_mem x

/-- Where the list has the row's lane group, the pieces leave the spread rows. -/
theorem canon_pieces (y : FVec F S512x2048 .f32) (j : S8192x128.Idx) :
    ∀ l : List (Fin 16), (⟨(j 0).val % 16, Nat.mod_lt _ (by decide)⟩ : Fin 16) ∈ l → View.canon (pieces y l) j = spread y j
  | [], h => absurd h List.not_mem_nil
  | s :: l, h => by
    show View.canon ((⟨rows16 s, cut s y⟩ : View.Piece (Elt F) S8192x128 .f32) :: pieces y l) j = _
    by_cases hs : (j 0).val % 16 = s.val
    · have e := rows16_emb s j hs
      have k : ∀ x : (rows16 s).shape.Idx, (rows16 s).emb x = j → View.canon ((⟨rows16 s, cut s y⟩ : View.Piece (Elt F) S8192x128 .f32) :: pieces y l) j = cut s y x := by
        rintro x rfl; exact View.canon_cons_emb (rows16 s) (cut s y) (pieces y l) x
      refine (k _ e.symm).trans ?_
      show y _ = y _
      congr 1; funext a; apply Fin.ext
      match a with
      | ⟨0, _⟩ => rfl
      | ⟨1, _⟩ => show 128 * s.val + (j 1).val = 128 * ((j 0).val % 16) + (j 1).val; rw [hs]
    · have hn : j ∉ (rows16 s).set := fun hm => hs (rows16_mem s j hm)
      refine (View.canon_cons_of_not_mem (⟨rows16 s, cut s y⟩ : View.Piece (Elt F) S8192x128 .f32) (pieces y l) hn).trans ?_
      refine canon_pieces y j l ((List.mem_cons.mp h).resolve_left fun e => hs ?_)
      exact congrArg Fin.val e

/-- A row whose lane group is in the list is in one of the pieces. -/
theorem cover_pieces (y : FVec F S512x2048 .f32) (j : S8192x128.Idx) (l : List (Fin 16))
    (h : (⟨(j 0).val % 16, Nat.mod_lt _ (by decide)⟩ : Fin 16) ∈ l) : ∃ p ∈ pieces y l, j ∈ p.1.set := by
  have e := rows16_emb ⟨(j 0).val % 16, Nat.mod_lt _ (by decide)⟩ j rfl
  exact ⟨_, List.mem_map.mpr ⟨_, h, rfl⟩, rows16_mem_of _ j _ e.symm⟩

/-- The lane groups in the order in which the pieces are listed, last written first. -/
def order : List (Fin 16) := [15, 14, 13, 12, 11, 10, 9, 8, 7, 6, 5, 4, 3, 2, 1, 0]

/-- Every lane group is written. -/
theorem mem_order (s : Fin 16) : s ∈ order := by revert s; decide

/-- The slice stored for lane group 9. -/
theorem pay1_cut (v : FVec F S512x2048 .f32) : k0_pay1 v = cut 9 v := slice_cut 9 1152 rfl v slices_S512x2048_o0_1152_S512x128

/-- The slice stored for lane group 10. -/
theorem pay2_cut (v : FVec F S512x2048 .f32) : k0_pay2 v = cut 10 v := slice_cut 10 1280 rfl v slices_S512x2048_o0_1280_S512x128

/-- The slice stored for lane group 11. -/
theorem pay3_cut (v : FVec F S512x2048 .f32) : k0_pay3 v = cut 11 v := slice_cut 11 1408 rfl v slices_S512x2048_o0_1408_S512x128

/-- The slice stored for lane group 12. -/
theorem pay4_cut (v : FVec F S512x2048 .f32) : k0_pay4 v = cut 12 v := slice_cut 12 1536 rfl v slices_S512x2048_o0_1536_S512x128

/-- The slice stored for lane group 13. -/
theorem pay5_cut (v : FVec F S512x2048 .f32) : k0_pay5 v = cut 13 v := slice_cut 13 1664 rfl v slices_S512x2048_o0_1664_S512x128

/-- The slice stored for lane group 14. -/
theorem pay6_cut (v : FVec F S512x2048 .f32) : k0_pay6 v = cut 14 v := slice_cut 14 1792 rfl v slices_S512x2048_o0_1792_S512x128

/-- The slice stored for lane group 15. -/
theorem pay7_cut (v : FVec F S512x2048 .f32) : k0_pay7 v = cut 15 v := slice_cut 15 1920 rfl v slices_S512x2048_o0_1920_S512x128

section Stored

variable (v25 : FVec F S512x2048 .bf16) (v30 : FVec F S512x512 .f32) (v31 : Vec F S1x2048x512 .bf16) (v36 : Vec F S1x512x2048 .bf16)

/-- The slice stored for lane group 0. -/
theorem pay12_cut : k0_pay12 v25 v30 v31 v36 = cut 0 (k0_pay11 v25 v30 v31 v36) := slice_cut 0 0 rfl _ slices_S512x2048_o0_0_S512x128

/-- The slice stored for lane group 1. -/
theorem pay13_cut : k0_pay13 v25 v30 v31 v36 = cut 1 (k0_pay11 v25 v30 v31 v36) := slice_cut 1 128 rfl _ slices_S512x2048_o0_128_S512x128

/-- The slice stored for lane group 2. -/
theorem pay14_cut : k0_pay14 v25 v30 v31 v36 = cut 2 (k0_pay11 v25 v30 v31 v36) := slice_cut 2 256 rfl _ slices_S512x2048_o0_256_S512x128

/-- The slice stored for lane group 3. -/
theorem pay15_cut : k0_pay15 v25 v30 v31 v36 = cut 3 (k0_pay11 v25 v30 v31 v36) := slice_cut 3 384 rfl _ slices_S512x2048_o0_384_S512x128

/-- The slice stored for lane group 4. -/
theorem pay16_cut : k0_pay16 v25 v30 v31 v36 = cut 4 (k0_pay11 v25 v30 v31 v36) := slice_cut 4 512 rfl _ slices_S512x2048_o0_512_S512x128

/-- The slice stored for lane group 5. -/
theorem pay17_cut : k0_pay17 v25 v30 v31 v36 = cut 5 (k0_pay11 v25 v30 v31 v36) := slice_cut 5 640 rfl _ slices_S512x2048_o0_640_S512x128

/-- The slice stored for lane group 6. -/
theorem pay18_cut : k0_pay18 v25 v30 v31 v36 = cut 6 (k0_pay11 v25 v30 v31 v36) := slice_cut 6 768 rfl _ slices_S512x2048_o0_768_S512x128

/-- The slice stored for lane group 7. -/
theorem pay19_cut : k0_pay19 v25 v30 v31 v36 = cut 7 (k0_pay11 v25 v30 v31 v36) := slice_cut 7 896 rfl _ slices_S512x2048_o0_896_S512x128

/-- The slice stored for lane group 8. -/
theorem pay20_cut : k0_pay20 v25 v30 v31 v36 = cut 8 (k0_pay11 v25 v30 v31 v36) := slice_cut 8 1024 rfl _ slices_S512x2048_o0_1024_S512x128

end Stored

set_option maxHeartbeats 4000000 in
/-- The run on a block in use leaves the sixteen pieces of the expert's output. -/
theorem usedRun_pieces (c : Dev nD) (i : grid0.Coords) (arg3 : Memref sig .tc .vmem S8192x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S8192x128 .f32) (harg7 : arg7.IsWhole)
    (x0 : Vec F S8192x128 .f32) (x1 : Vec F S1x2048x512 .bf16) (x2 : Vec F S1x2048x512 .bf16) (x3 : Vec F S1x512x2048 .bf16) (xt0 : TbBuf0 (F := F) c tbM0_0) (xt1 : TbBuf0 (F := F) c tbM0_1)
    (h1 : k0_cond1 i (View.readAt (Elt F) (tbM0_1).view (Rect.unit (s := S1) ![0] S1.size inb_S1_S1_0).toLoadRect xt1 (Shape.Idx.first (numel1_S1.symm ▸ Nat.one_pos))) = 1#1) (h2 : ¬ (k0_cond2 i (View.readAt (Elt F) (tbM0_1).view (Rect.unit (s := S1) ![0] S1.size inb_S1_S1_0).toLoadRect xt1 (Shape.Idx.first (numel1_S1.symm ▸ Nat.one_pos))) = 1#1)) :
    (usedRun c i arg3 harg3 arg4 harg4 arg5 harg5 arg6 harg6 arg7 harg7 x0 x1 x2 x3 xt0 xt1 h1 h2).1 = pieces (yrows x0 x1 x2 x3) order := by
  unfold usedRun; dsimp only; sl_unfold_words
  simp only [View.readAt_eq_ld, Memref.IsWhole.read_unread, ld_up, ld_down]
  have e0 : View.readAt (Elt F) arg3.view (⟨![0, 0], ![512, 128], ![16, 1], inb_S8192x128_S512x128_0_0_s_16_1⟩ : LoadRect S8192x128) (harg3.unread x0) = lane 0 x0 := readAt_lane 0 arg3 harg3 x0 _
  have e1 : View.readAt (Elt F) arg3.view (⟨![1, 0], ![512, 128], ![16, 1], inb_S8192x128_S512x128_1_0_s_16_1⟩ : LoadRect S8192x128) (harg3.unread x0) = lane 1 x0 := readAt_lane 1 arg3 harg3 x0 _
  have e2 : View.readAt (Elt F) arg3.view (⟨![2, 0], ![512, 128], ![16, 1], inb_S8192x128_S512x128_2_0_s_16_1⟩ : LoadRect S8192x128) (harg3.unread x0) = lane 2 x0 := readAt_lane 2 arg3 harg3 x0 _
  have e3 : View.readAt (Elt F) arg3.view (⟨![3, 0], ![512, 128], ![16, 1], inb_S8192x128_S512x128_3_0_s_16_1⟩ : LoadRect S8192x128) (harg3.unread x0) = lane 3 x0 := readAt_lane 3 arg3 harg3 x0 _
  have e4 : View.readAt (Elt F) arg3.view (⟨![4, 0], ![512, 128], ![16, 1], inb_S8192x128_S512x128_4_0_s_16_1⟩ : LoadRect S8192x128) (harg3.unread x0) = lane 4 x0 := readAt_lane 4 arg3 harg3 x0 _
  have e5 : View.readAt (Elt F) arg3.view (⟨![5, 0], ![512, 128], ![16, 1], inb_S8192x128_S512x128_5_0_s_16_1⟩ : LoadRect S8192x128) (harg3.unread x0) = lane 5 x0 := readAt_lane 5 arg3 harg3 x0 _
  have e6 : View.readAt (Elt F) arg3.view (⟨![6, 0], ![512, 128], ![16, 1], inb_S8192x128_S512x128_6_0_s_16_1⟩ : LoadRect S8192x128) (harg3.unread x0) = lane 6 x0 := readAt_lane 6 arg3 harg3 x0 _
  have e7 : View.readAt (Elt F) arg3.view (⟨![7, 0], ![512, 128], ![16, 1], inb_S8192x128_S512x128_7_0_s_16_1⟩ : LoadRect S8192x128) (harg3.unread x0) = lane 7 x0 := readAt_lane 7 arg3 harg3 x0 _
  have e8 : View.readAt (Elt F) arg3.view (⟨![8, 0], ![512, 128], ![16, 1], inb_S8192x128_S512x128_8_0_s_16_1⟩ : LoadRect S8192x128) (harg3.unread x0) = lane 8 x0 := readAt_lane 8 arg3 harg3 x0 _
  have e9 : View.readAt (Elt F) arg3.view (⟨![9, 0], ![512, 128], ![16, 1], inb_S8192x128_S512x128_9_0_s_16_1⟩ : LoadRect S8192x128) (harg3.unread x0) = lane 9 x0 := readAt_lane 9 arg3 harg3 x0 _
  have e10 : View.readAt (Elt F) arg3.view (⟨![10, 0], ![512, 128], ![16, 1], inb_S8192x128_S512x128_10_0_s_16_1⟩ : LoadRect S8192x128) (harg3.unread x0) = lane 10 x0 := readAt_lane 10 arg3 harg3 x0 _
  have e11 : View.readAt (Elt F) arg3.view (⟨![11, 0], ![512, 128], ![16, 1], inb_S8192x128_S512x128_11_0_s_16_1⟩ : LoadRect S8192x128) (harg3.unread x0) = lane 11 x0 := readAt_lane 11 arg3 harg3 x0 _
  have e12 : View.readAt (Elt F) arg3.view (⟨![12, 0], ![512, 128], ![16, 1], inb_S8192x128_S512x128_12_0_s_16_1⟩ : LoadRect S8192x128) (harg3.unread x0) = lane 12 x0 := readAt_lane 12 arg3 harg3 x0 _
  have e13 : View.readAt (Elt F) arg3.view (⟨![13, 0], ![512, 128], ![16, 1], inb_S8192x128_S512x128_13_0_s_16_1⟩ : LoadRect S8192x128) (harg3.unread x0) = lane 13 x0 := readAt_lane 13 arg3 harg3 x0 _
  have e14 : View.readAt (Elt F) arg3.view (⟨![14, 0], ![512, 128], ![16, 1], inb_S8192x128_S512x128_14_0_s_16_1⟩ : LoadRect S8192x128) (harg3.unread x0) = lane 14 x0 := readAt_lane 14 arg3 harg3 x0 _
  have e15 : View.readAt (Elt F) arg3.view (⟨![15, 0], ![512, 128], ![16, 1], inb_S8192x128_S512x128_15_0_s_16_1⟩ : LoadRect S8192x128) (harg3.unread x0) = lane 15 x0 := readAt_lane 15 arg3 harg3 x0 _
  simp only [pay1_cut, pay2_cut, pay3_cut, pay4_cut, pay5_cut, pay6_cut, pay7_cut, pay12_cut, pay13_cut, pay14_cut, pay15_cut, pay16_cut, pay17_cut, pay18_cut, pay19_cut, pay20_cut, e0, e1, e2, e3, e4, e5, e6, e7, e8, e9, e10, e11, e12, e13, e14, e15]
  rfl

/-- A block in use ends at the expert's output, spread over the short rows. -/
theorem usedRun_read (c : Dev nD) (i : grid0.Coords) (arg3 : Memref sig .tc .vmem S8192x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S8192x128 .f32) (harg7 : arg7.IsWhole)
    (x0 : Vec F S8192x128 .f32) (x1 : Vec F S1x2048x512 .bf16) (x2 : Vec F S1x2048x512 .bf16) (x3 : Vec F S1x512x2048 .bf16) (xt0 : TbBuf0 (F := F) c tbM0_0) (xt1 : TbBuf0 (F := F) c tbM0_1)
    (h1 : k0_cond1 i (View.readAt (Elt F) (tbM0_1).view (Rect.unit (s := S1) ![0] S1.size inb_S1_S1_0).toLoadRect xt1 (Shape.Idx.first (numel1_S1.symm ▸ Nat.one_pos))) = 1#1) (h2 : ¬ (k0_cond2 i (View.readAt (Elt F) (tbM0_1).view (Rect.unit (s := S1) ![0] S1.size inb_S1_S1_0).toLoadRect xt1 (Shape.Idx.first (numel1_S1.symm ▸ Nat.one_pos))) = 1#1)) (f : arg7.view.ty.Contents (Elt F)) :
    arg7.view.read (Elt F) (arg7.view.writes (Elt F) f (usedRun c i arg3 harg3 arg4 harg4 arg5 harg5 arg6 harg6 arg7 harg7 x0 x1 x2 x3 xt0 xt1 h1 h2).1) = spread (yrows x0 x1 x2 x3) := by
  rw [usedRun_pieces]
  rw [View.read_writes_eq_canon _ _ _ fun j => cover_pieces _ j order (mem_order _)]
  exact funext fun j => canon_pieces _ j order (mem_order _)

/-- A block past those in use ends at zero. -/
theorem zeroRun_read (c : Dev nD) (i : grid0.Coords) (arg3 : Memref sig .tc .vmem S8192x128 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S8192x128 .f32) (harg7 : arg7.IsWhole)
    (x0 : Vec F S8192x128 .f32) (x1 : Vec F S1x2048x512 .bf16) (x2 : Vec F S1x2048x512 .bf16) (x3 : Vec F S1x512x2048 .bf16) (xt0 : TbBuf0 (F := F) c tbM0_0) (xt1 : TbBuf0 (F := F) c tbM0_1)
    (h1 : ¬ (k0_cond1 i (View.readAt (Elt F) (tbM0_1).view (Rect.unit (s := S1) ![0] S1.size inb_S1_S1_0).toLoadRect xt1 (Shape.Idx.first (numel1_S1.symm ▸ Nat.one_pos))) = 1#1)) (h2 : k0_cond2 i (View.readAt (Elt F) (tbM0_1).view (Rect.unit (s := S1) ![0] S1.size inb_S1_S1_0).toLoadRect xt1 (Shape.Idx.first (numel1_S1.symm ▸ Nat.one_pos))) = 1#1) (f : arg7.view.ty.Contents (Elt F)) :
    arg7.view.read (Elt F) (arg7.view.writes (Elt F) f (zeroRun c i arg3 harg3 arg4 harg4 arg5 harg5 arg6 harg6 arg7 harg7 x0 x1 x2 x3 xt0 xt1 h1 h2).1) = k0_pay8 := by
  have e : (zeroRun c i arg3 harg3 arg4 harg4 arg5 harg5 arg6 harg6 arg7 harg7 x0 x1 x2 x3 xt0 xt1 h1 h2).1 = [(⟨Rect.unit (s := S8192x128) ![0, 0] S8192x128.size inb_S8192x128_S8192x128_0_0, k0_pay8⟩ : View.Piece (Elt F) S8192x128 .f32)] := by
    unfold zeroRun; dsimp only
  rw [e]
  have hj : ∀ j : S8192x128.Idx, j = (Rect.unit (s := S8192x128) ![0, 0] S8192x128.size inb_S8192x128_S8192x128_0_0).emb j := fun j => by
    funext a; apply Fin.ext
    match a with
    | ⟨0, _⟩ => show (j 0).val = 0 + 1 * (j 0).val; omega
    | ⟨1, _⟩ => show (j 1).val = 0 + 1 * (j 1).val; omega
  funext j
  rw [View.read_writes_apply_eq_canon _ _ _ _ ⟨_, List.mem_singleton.mpr rfl, by
    have : (Rect.unit (s := S8192x128) ![0, 0] S8192x128.size inb_S8192x128_S8192x128_0_0).emb j ∈ (Rect.unit (s := S8192x128) ![0, 0] S8192x128.size inb_S8192x128_S8192x128_0_0).set := (Rect.unit (s := S8192x128) ![0, 0] S8192x128.size inb_S8192x128_S8192x128_0_0).toLoadRect.idx_mem j
    rw [← hj j] at this; exact this⟩]
  conv_lhs => rw [hj j]
  exact View.canon_cons_emb _ _ _ _

end Cert.Kernel2Ideal.Gmm

end
-- ==== Proof.GmmSpec.lean ====
/-
  The grouped products as sums on the extended reals: every long row is sent through the expert of its block.
-/
module

public import Idealize.ShloMosaic.Lib.Pointwise

@[expose] public section

set_option maxRecDepth 16384

noncomputable section

namespace Cert.Gmm

open Idealize.ShloMosaic

/-- A long row through an expert's first matrix, at hidden column `h`. -/
def gate (x : Fin 2048 → EReal) (W : (⟨3, ![64, 2048, 512]⟩ : Shape).Idx → EReal) (e : Fin 64) (h : Fin 512) : EReal :=
  ∑ k : Fin 2048, x k * W (ix3 e k h)

/-- The hidden row: the first product times its logistic, times the second product. -/
def hid (x : Fin 2048 → EReal) (W₁ W₂ : (⟨3, ![64, 2048, 512]⟩ : Shape).Idx → EReal) (e : Fin 64) (h : Fin 512) : EReal :=
  gate x W₁ e h * Ideal.logistic (gate x W₁ e h) * gate x W₂ e h

/-- The expert's output row, at column `q`. -/
def ffn (x : Fin 2048 → EReal) (W₁ W₂ : (⟨3, ![64, 2048, 512]⟩ : Shape).Idx → EReal) (W₃ : (⟨3, ![64, 512, 2048]⟩ : Shape).Idx → EReal)
    (e : Fin 64) (q : Fin 2048) : EReal :=
  ∑ h : Fin 512, hid x W₁ W₂ e h * W₃ (ix3 e h q)

/-- Long row `p` of the short rows `X`: sixteen short rows end to end. -/
def long (X : (⟨2, ![5775360, 128]⟩ : Shape).Idx → EReal) (p : Fin 360448) (k : Fin 2048) : EReal :=
  X (ix2 ⟨16 * p.val + k.val / 128, by omega⟩ ⟨k.val % 128, by omega⟩)

/-- The expert of block `b`, from the table's word. -/
def expertOf (T : (⟨1, ![704]⟩ : Shape).Idx → BitVec 32) (b : Fin 704) : Fin 64 := ⟨(T (ix1 b)).toNat % 64, by omega⟩

/-- The result at long row `p` and column `q`: the output of the expert of the row's block, zero past the blocks in use. -/
def outRow (X : (⟨2, ![5775360, 128]⟩ : Shape).Idx → EReal) (T : (⟨1, ![704]⟩ : Shape).Idx → BitVec 32) (N : (⟨1, ![1]⟩ : Shape).Idx → BitVec 32)
    (W₁ W₂ : (⟨3, ![64, 2048, 512]⟩ : Shape).Idx → EReal) (W₃ : (⟨3, ![64, 512, 2048]⟩ : Shape).Idx → EReal) (p : Fin 360448) (q : Fin 2048) : EReal :=
  if p.val / 512 < (N (ix1 0)).toNat then ffn (long X p) W₁ W₂ W₃ (expertOf T ⟨p.val / 512, by omega⟩) q else 0

/-- The long row a short row is part of. -/
def longOf (r : Fin 5767168) : Fin 360448 := ⟨r.val / 16, by omega⟩

/-- The column of the long row that column `l` of short row `r` is. -/
def colOf (r : Fin 5767168) (l : Fin 128) : Fin 2048 := ⟨128 * (r.val % 16) + l.val, by omega⟩

/-- The result as short rows. -/
def out (X : (⟨2, ![5775360, 128]⟩ : Shape).Idx → EReal) (T : (⟨1, ![704]⟩ : Shape).Idx → BitVec 32) (N : (⟨1, ![1]⟩ : Shape).Idx → BitVec 32)
    (W₁ W₂ : (⟨3, ![64, 2048, 512]⟩ : Shape).Idx → EReal) (W₃ : (⟨3, ![64, 512, 2048]⟩ : Shape).Idx → EReal)
    (i : (⟨2, ![5767168, 128]⟩ : Shape).Idx) : EReal :=
  outRow X T N W₁ W₂ W₃ (longOf (i 0)) (colOf (i 0) (i 1))

end Cert.Gmm

end
-- ==== Proof.GmmPoint.lean ====
/-
  The expert's output on one block, as sums on the extended reals.
-/
module

public import proofs.«01_k».proof.Proof.GmmRead
public import proofs.«01_k».proof.Proof.GmmSpec
public import Idealize.ShloMosaic.Lib.Pipeline.Value

@[expose] public section

set_option maxRecDepth 16384

noncomputable section

namespace Cert.Kernel2Ideal.Gmm

open Idealize.ShloMosaic Idealize.ShloMosaic.TcCoe
open Cert.Kernel2Ideal.Gen

/-- The long rows of a block, read: long row `a`, column `k` is column `k % 128` of short row `16 a + k / 128`. -/
theorem xrows_apply (x0 : Vec Ideal S8192x128 .f32) (a : Fin 512) (k : Fin 2048) :
    xrows x0 (ix2 a k) = x0 (ix2 ⟨16 * a.val + k.val / 128, by omega⟩ ⟨k.val % 128, by omega⟩) := by
  show concatenate S512x2048 1 (List.ofFn fun n : Fin 16 => (⟨S512x128, lane n x0⟩ : (s : Shape) × (s.Idx → EReal))) concatenates_S512x128_S512x128_S512x128_S512x128_S512x128_S512x128_S512x128_S512x128_S512x128_S512x128_S512x128_S512x128_S512x128_S512x128_S512x128_S512x128_S512x2048_d1 (ix2 a k) = _
  have e := concatenate_ofFn_apply (t := S512x2048) (s₁ := S512x128) 1 (fun n : Fin 16 => lane n x0) concatenates_S512x128_S512x128_S512x128_S512x128_S512x128_S512x128_S512x128_S512x128_S512x128_S512x128_S512x128_S512x128_S512x128_S512x128_S512x128_S512x128_S512x2048_d1 rfl 128 rfl (ix2 a k) ⟨k.val / 128, by omega⟩ rfl
    (ix2 a ⟨k.val % 128, by omega⟩) rfl (fun b hb => by
      match b with
      | ⟨0, _⟩ => rfl
      | ⟨1, _⟩ => exact absurd rfl hb)
  exact e

/-- The first two products' weights, without their leading axis of one. -/
theorem up_cast (x : Vec Ideal S1x2048x512 .bf16) (k : Fin 2048) (h : Fin 512) :
    shapeCast S2048x512 x shapeCasts_S1x2048x512_S2048x512 (ix2 k h) = x (ix3 0 k h) :=
  shapeCast_apply x _ (ix2 k h) (ix3 0 k h) (by rw [Shape.rowMajor_val_three, Shape.rowMajor_val_two]; show (0 * 2048 + k.val) * 512 + h.val = k.val * 512 + h.val; omega)

/-- The last product's weights, without their leading axis of one. -/
theorem down_cast (x : Vec Ideal S1x512x2048 .bf16) (h : Fin 512) (q : Fin 2048) :
    shapeCast S512x2048 x shapeCasts_S1x512x2048_S512x2048 (ix2 h q) = x (ix3 0 h q) :=
  shapeCast_apply x _ (ix2 h q) (ix3 0 h q) (by rw [Shape.rowMajor_val_three, Shape.rowMajor_val_two]; show (0 * 512 + h.val) * 2048 + q.val = h.val * 2048 + q.val; omega)

/-- The first product on a block's rows. -/
def dotUp (x : FVec Ideal S512x2048 .bf16) (w : Vec Ideal S1x2048x512 .bf16) : FVec Ideal S512x512 .f32 :=
  matmul dot_S512x2048_S2048x512_S512x512_1_0_0_1_n_n none x (shapeCast S2048x512 w shapeCasts_S1x2048x512_S2048x512 : FVec Ideal S2048x512 .bf16) (constant S512x512 .f32 0x00000000#32)

/-- It is a sum over the row. -/
theorem dotUp_apply (x : FVec Ideal S512x2048 .bf16) (w : Vec Ideal S1x2048x512 .bf16) (a : Fin 512) (h : Fin 512) :
    dotUp x w (ix2 a h) = ∑ k : Fin 2048, x (ix2 a k) * w (ix3 0 k h) := by
  have e : ∀ v : FVec Ideal S2048x512 .bf16, matmul dot_S512x2048_S2048x512_S512x512_1_0_0_1_n_n none x v (constant S512x512 .f32 0x00000000#32) (ix2 a h) = ∑ k : Fin 2048, x (ix2 a k) * v (ix2 k h) := by
    intro v; simp only [pointwise]; simp
  unfold dotUp
  rw [e]
  exact Finset.sum_congr rfl fun k _ => by rw [up_cast]

/-- The last product on a block's hidden rows. -/
def dotDown (x : FVec Ideal S512x512 .bf16) (w : Vec Ideal S1x512x2048 .bf16) : FVec Ideal S512x2048 .f32 :=
  matmul dot_S512x512_S512x2048_S512x2048_1_0_0_1_n_n none x (shapeCast S512x2048 w shapeCasts_S1x512x2048_S512x2048 : FVec Ideal S512x2048 .bf16) (constant S512x2048 .f32 0x00000000#32)

/-- It is a sum over the hidden row. -/
theorem dotDown_apply (x : FVec Ideal S512x512 .bf16) (w : Vec Ideal S1x512x2048 .bf16) (a : Fin 512) (q : Fin 2048) :
    dotDown x w (ix2 a q) = ∑ h : Fin 512, x (ix2 a h) * w (ix3 0 h q) := by
  have e : ∀ v : FVec Ideal S512x2048 .bf16, matmul dot_S512x512_S512x2048_S512x2048_1_0_0_1_n_n none x v (constant S512x2048 .f32 0x00000000#32) (ix2 a q) = ∑ h : Fin 512, x (ix2 a h) * v (ix2 h q) := by
    intro v; simp only [pointwise]; simp
  unfold dotDown
  rw [e]
  exact Finset.sum_congr rfl fun h _ => by rw [down_cast]

/-- The hidden rows of a block. -/
def hrows (x : FVec Ideal S512x2048 .bf16) (w₁ w₂ : Vec Ideal S1x2048x512 .bf16) : FVec Ideal S512x512 .bf16 :=
  truncf .bf16 (mulf (mulf (dotUp x w₁) (logistic (dotUp x w₁))) (dotUp x w₂)) bitsLt_bf16_f32

/-- The hidden rows at an index. -/
theorem hrows_apply (x : FVec Ideal S512x2048 .bf16) (w₁ w₂ : Vec Ideal S1x2048x512 .bf16) (a h : Fin 512) :
    hrows x w₁ w₂ (ix2 a h) = dotUp x w₁ (ix2 a h) * Ideal.logistic (dotUp x w₁ (ix2 a h)) * dotUp x w₂ (ix2 a h) := rfl

/-- The expert's output on a block is the three products composed. -/
theorem yrows_eq (x0 : Vec Ideal S8192x128 .f32) (x1 x2 : Vec Ideal S1x2048x512 .bf16) (x3 : Vec Ideal S1x512x2048 .bf16) :
    yrows x0 x1 x2 x3 = dotDown (hrows (xrows x0) x1 x2) x3 := rfl

/-- The expert's output on a block, where its rows, its expert's weights and the arrays they come from agree. -/
theorem yrows_apply (x0 : Vec Ideal S8192x128 .f32) (x1 x2 : Vec Ideal S1x2048x512 .bf16) (x3 : Vec Ideal S1x512x2048 .bf16)
    (W₁ W₂ : (⟨3, ![64, 2048, 512]⟩ : Shape).Idx → EReal) (W₃ : (⟨3, ![64, 512, 2048]⟩ : Shape).Idx → EReal) (e : Fin 64)
    (a : Fin 512) (q : Fin 2048) (x : Fin 2048 → EReal) (hx : ∀ k, xrows x0 (ix2 a k) = x k)
    (h₁ : ∀ k h, x1 (ix3 0 k h) = W₁ (ix3 e k h)) (h₂ : ∀ k h, x2 (ix3 0 k h) = W₂ (ix3 e k h)) (h₃ : ∀ h q, x3 (ix3 0 h q) = W₃ (ix3 e h q)) :
    yrows x0 x1 x2 x3 (ix2 a q) = Cert.Gmm.ffn x W₁ W₂ W₃ e q := by
  have d : ∀ (w : Vec Ideal S1x2048x512 .bf16) (W : (⟨3, ![64, 2048, 512]⟩ : Shape).Idx → EReal) (hw : ∀ k h, w (ix3 0 k h) = W (ix3 e k h)) (h : Fin 512),
      dotUp (xrows x0) w (ix2 a h) = Cert.Gmm.gate x W e h := fun w W hw h => by
    rw [dotUp_apply]; unfold Cert.Gmm.gate
    exact Finset.sum_congr rfl fun k _ => by rw [hx, hw]
  rw [yrows_eq, dotDown_apply]
  unfold Cert.Gmm.ffn Cert.Gmm.hid
  exact Finset.sum_congr rfl fun h _ => by rw [hrows_apply, d x1 W₁ h₁, d x2 W₂ h₂, h₃]

/-- The zeros a block past those in use is filled with. -/
theorem zero_apply (j : S8192x128.Idx) : (k0_pay8 (F := Ideal)) j = 0 := by
  show Ideal.ofBits FTy.f32 0x00000000#32 = 0
  simp

end Cert.Kernel2Ideal.Gmm

end
-- ==== Proof.GmmFrame.lean ====
/-
  The grouped products' call, run: its frame, and what its buffers hold point by point.
-/
module

public import proofs.«01_k».proof.Proof.GmmRead
public import Idealize.ShloMosaic.Lib.Claim

@[expose] public section

set_option maxRecDepth 16384

noncomputable section

namespace Cert.Kernel2Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of blocks in use, as the body reads it. -/
def word : BitVec 32 := View.readAt (Elt F) (tbM0_1).view (Rect.unit (s := S1) ![0] S1.size inb_S1_S1_0).toLoadRect (tbl m 1) (Shape.Idx.first (numel1_S1.symm ▸ Nat.one_pos))

/-- Of the body's two conditions exactly one holds. -/
theorem cond2_iff (i : grid0.Coords) (v : BitVec 32) : k0_cond2 i v = 1#1 ↔ ¬ (k0_cond1 i v = 1#1) := by
  unfold k0_cond1 k0_cond2
  simp only [Scalar.cmpi, Scalar.extui, IntOp.cmpi, BitVec.sle_eq_not_slt]
  cases (BitVec.ofNat 32 (i 0).val).slt v <;> decide

/-- No window is left alone at any point. -/
theorem idle_false (hO : Ok m) (w : Fin (cfgM m hO).W) (i : (cfgM m hO).grid.Coords) : (cfgM m hO).idle w i = false := by
  show idle0 (tbl m) w i = false
  match w with
  | 0 => rfl
  | 1 => rfl
  | 2 => rfl
  | 3 => rfl
  | 4 =>
    show (!(k0_cond1 i ((tbl m).atD 1 ![0]) == 1#1) && !(k0_cond2 i ((tbl m).atD 1 ![0]) == 1#1)) = false
    generalize (tbl m).atD 1 ![0] = v
    by_cases h : k0_cond1 i v = 1#1
    · simp [h]
    · simp [(cond2_iff i v).mpr h]

/-- What the output's buffer holds after the body at point `t`: the expert's output on a block in use, zeros past those. -/
def outsAt0 (hO : Ok m) (c : Dev nD) (t : Fin (cfgM m hO).N) : Vec F S8192x128 .f32 :=
  if k0_cond1 (grid0.coords t) (word m) = 1#1 then spread (yrows (iblk m hO c 0 t) (iblk m hO c 1 t) (iblk m hO c 2 t) (iblk m hO c 3 t)) else k0_pay8

/-! ## The pipeline's proof data -/

/-- The pipeline's proof data on core `c`: the arrays as the region finds them, after a point each input's buffer at its block and the output's at `outsAt0`, the tables held throughout. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data starts from the arrays as the region finds them. -/
theorem A_eq (hO : Ok m) (c : Dev nD) (w : Fin (cfgM m hO).W) : (dats m hO 0 c).A w = V m c (Pipeline.arrRef spec0 w) := by
  dsimp only [dats]

/-- What window 0's buffer holds after a point. -/
theorem after0_0 (hO : Ok m) (c : Dev nD) (t : Fin (cfgM m hO).N) : (dats m hO 0 c).after 0 t = iblk m hO c 0 t := by dsimp only [dats]; try rfl
/-- What window 1's buffer holds after a point. -/
theorem after0_1 (hO : Ok m) (c : Dev nD) (t : Fin (cfgM m hO).N) : (dats m hO 0 c).after 1 t = iblk m hO c 1 t := by dsimp only [dats]; try rfl
/-- What window 2's buffer holds after a point. -/
theorem after0_2 (hO : Ok m) (c : Dev nD) (t : Fin (cfgM m hO).N) : (dats m hO 0 c).after 2 t = iblk m hO c 2 t := by dsimp only [dats]; try rfl
/-- What window 3's buffer holds after a point. -/
theorem after0_3 (hO : Ok m) (c : Dev nD) (t : Fin (cfgM m hO).N) : (dats m hO 0 c).after 3 t = iblk m hO c 3 t := by dsimp only [dats]; try rfl
/-- What window 4's buffer holds after a point. -/
theorem after0_4 (hO : Ok m) (c : Dev nD) (t : Fin (cfgM m hO).N) : (dats m hO 0 c).after 4 t = (outsAt0 m hO c t) := by dsimp only [dats]; try rfl

/-- What window 0's buffer holds before a point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- What window 1's buffer holds before a point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- What window 2's buffer holds before a point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- What window 3's buffer holds before a point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t`, window by window. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What it returns, window by window. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  by_cases h : k0_cond1 (grid0.coords t) (word m) = 1#1
  · have h2 : ¬ (k0_cond2 (grid0.coords t) (word m) = 1#1) := fun h' => (cond2_iff _ _).mp h' h
    rw [if_pos h]
    iintro ⟨⟨HΦ, ⟨HT0, HT1⟩⟩, Ho, ⟨%d0, H0⟩, ⟨%d1, H1⟩, ⟨%d2, H2⟩, ⟨%d3, H3⟩, ⟨%d4, H4⟩⟩
    iapply ((usedRun c (grid0.coords t) _ _ _ _ _ _ _ _ _ _ (iblk m hO c 0 t) (iblk m hO c 1 t) (iblk m hO c 2 t) (iblk m hO c 3 t) (tbl m 0) (tbl m 1) h h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact usedRun_read c _ _ _ _ _ _ _ _ _ _ _ _ _ _ _ _ _ h h2 _
  · have h2 : k0_cond2 (grid0.coords t) (word m) = 1#1 := (cond2_iff _ _).mpr h
    rw [if_neg h]
    iintro ⟨⟨HΦ, ⟨HT0, HT1⟩⟩, Ho, ⟨%d0, H0⟩, ⟨%d1, H1⟩, ⟨%d2, H2⟩, ⟨%d3, H3⟩, ⟨%d4, H4⟩⟩
    iapply ((zeroRun c (grid0.coords t) _ _ _ _ _ _ _ _ _ _ (iblk m hO c 0 t) (iblk m hO c 1 t) (iblk m hO c 2 t) (iblk m hO c 3 t) (tbl m 0) (tbl m 1) h h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact zeroRun_read c _ _ _ _ _ _ _ _ _ _ _ _ _ _ _ _ _ h h2 _

/-- The table of bodies has this body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body keeps the pipeline's promise at every point; no point leaves the output's buffer alone. -/
theorem body_obligation (hO : Ok m) (c : Dev nD) : BodyObligation (dats (F := F) m hO 0 c) (defs₀ (F := F)) Variants.none () Set.univ := fun t => by
  have e : (cfgM m hO).idle = fun _ _ => false := funext fun w => funext fun i => idle_false m hO w i
  rw [bigSep_W0, bigSep_W0, defs₀_row m hO]
  exact triple_restated (sound_body m hO c t) rfl .rfl fun _ => by
    unfold bodyPost
    rw [e]

/-! ## The run and the frame -/

set_option backward.isDefEq.respectTransparency.types false in
/-- The whole run: the arrays end at what the proof data computes, every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The whole run, without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- From any memory whose tables name blocks inside the arrays, the call ends with its arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel2Ideal.Gmm

end
-- ==== Proof.GmmPre.lean ====
/-
  The grouped products' tables: what the index maps read of them, and that within the precondition every block lies in its array.
-/
module

public import proofs.«01_k».proof.Proof.GmmFrame
public import proofs.«01_k».proof.Proof.GmmRange
public import proofs.«01_k».proof.Defs

@[expose] public section

set_option maxRecDepth 16384

noncomputable section

namespace Cert.Kernel2Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The expert of block `b` in the tables. -/
def expert (pf : pre0.Contents (Elt F)) (b : Fin 704) : BitVec 32 := pf 0 (ix1 b)

/-- The number of blocks in use in the tables. -/
def count (pf : pre0.Contents (Elt F)) : BitVec 32 := pf 1 (ix1 (0 : Fin 1))

/-- The expert of the block at a point, as the index maps read it. -/
theorem at_expert (pf : pre0.Contents (Elt F)) (i : grid0.Coords) :
    pf.at 0 (Rect.unit (s := S704) ![(Scalar.indexCast (BitVec.ofNat 32 (i 0).val) : BitVec 32).toNat] S1.size (k0_off1_inb i)) numel1_S1 = expert pf (i 0) := by
  show pf 0 _ = pf 0 _
  congr 1; funext a; apply Fin.ext
  match a with
  | ⟨0, _⟩ =>
    have h : (i 0).val < 704 := (i 0).isLt
    have e : (Scalar.indexCast (BitVec.ofNat 32 (i 0).val) : BitVec 32).toNat = (i 0).val := by
      show (BitVec.ofNat 32 (i 0).val).toNat = _
      rw [BitVec.toNat_ofNat]; omega
    show (Scalar.indexCast (BitVec.ofNat 32 (i 0).val) : BitVec 32).toNat + 1 * 0 = (i 0).val
    omega

/-- The number of blocks in use, as the index maps read it. -/
theorem at_count (pf : pre0.Contents (Elt F)) : pf.at 1 (Rect.unit (s := S1) ![0] S1.size inb_S1_S1_0) numel1_S1 = count pf := by
  show pf 1 _ = pf 1 _
  congr 1; funext a
  match a with
  | ⟨0, _⟩ => exact Subsingleton.elim (α := Fin 1) _ _

/-- Window 1 takes its point's expert. -/
theorem map1 (pf : pre0.Contents (Elt F)) (i : grid0.Coords) : cc0_transform_1 k0_off1_inb numel1_S1 pf i = ![(expert pf (i 0)).toNat, 0, 0] := by
  rw [show expert pf (i 0) = _ from (at_expert pf i).symm]; rfl

/-- Window 2 takes its point's expert. -/
theorem map2 (pf : pre0.Contents (Elt F)) (i : grid0.Coords) : cc0_transform_2 k0_off1_inb numel1_S1 pf i = ![(expert pf (i 0)).toNat, 0, 0] := by
  rw [show expert pf (i 0) = _ from (at_expert pf i).symm]; rfl

/-- Window 3 takes its point's expert. -/
theorem map3 (pf : pre0.Contents (Elt F)) (i : grid0.Coords) : cc0_transform_3 k0_off1_inb numel1_S1 pf i = ![(expert pf (i 0)).toNat, 0, 0] := by
  rw [show expert pf (i 0) = _ from (at_expert pf i).symm]; rfl

/-- The smaller of a point and one less than the count, as a number. -/
theorem min_word (b : Nat) (hb : b < 704) (v : BitVec 32) (h0 : 1 ≤ v.toNat) (h1 : v.toNat ≤ 704) :
    (Scalar.minsi (BitVec.ofNat 32 b) (Scalar.subi v 1#32)).toNat = min b (v.toNat - 1) := by
  have eb : (BitVec.ofNat 32 b).toNat = b := by rw [BitVec.toNat_ofNat]; omega
  have es : (v - 1#32).toNat = v.toNat - 1 := by
    rw [BitVec.toNat_sub]; have : (1#32).toNat = 1 := rfl
    rw [this]; omega
  have hb' : (BitVec.ofNat 32 b).toInt = b := by rw [BitVec.toInt_eq_toNat_cond, eb]; split <;> omega
  have hs' : (v - 1#32).toInt = ((v.toNat - 1 : Nat) : Int) := by rw [BitVec.toInt_eq_toNat_cond, es]; split <;> omega
  show (IntOp.minsi (BitVec.ofNat 32 b) (v - 1#32)).toNat = _
  unfold IntOp.minsi
  by_cases h : (BitVec.ofNat 32 b).slt (v - 1#32) = true
  · have h' := BitVec.slt_iff_toInt_lt.mp h
    rw [hb', hs'] at h'
    simp only [h, if_true, cond_true]; rw [eb]; omega
  · have h' : ¬ _ := fun q => h (BitVec.slt_iff_toInt_lt.mpr q)
    rw [hb', hs'] at h'
    simp only [h]; simp only [Bool.false_eq_true, if_false, cond_false]; rw [es]; omega

/-- Window 0 takes its point's block, or the last one in use. -/
theorem map0 (pf : pre0.Contents (Elt F)) (i : grid0.Coords) (h0 : 1 ≤ (count pf).toNat) (h1 : (count pf).toNat ≤ 704) :
    cc0_transform_0 inb_S1_S1_0 numel1_S1 pf i = ![min (i 0).val ((count pf).toNat - 1), 0] := by
  rw [← min_word (i 0).val (i 0).isLt _ h0 h1, show count pf = _ from (at_count pf).symm]; rfl

/-- Within the ranges every block lies inside its array. -/
theorem ok_of (h0 : ∀ b : Fin 704, (expert (tbl m) b).toNat < 64) (h1 : 1 ≤ (count (tbl m)).toNat)
    (h2 : (count (tbl m)).toNat ≤ 704) : Ok m := by
  refine ⟨fun i => ?_, fun i => ?_, fun i => ?_, fun i => ?_⟩
  · refine ⟨fun a => ?_, .inl rfl⟩
    rw [map0 _ _ h1 h2]
    match a with
    | ⟨0, _⟩ => show (min (i 0).val _ + 1) * 8192 ≤ 5775360; have : (i 0).val < 704 := (i 0).isLt; omega
    | ⟨1, _⟩ => show (0 + 1) * 128 ≤ 128; decide
  · refine ⟨fun a => ?_, .inr (.inr ⟨by decide, rfl, ?_, rfl⟩)⟩
    · rw [map1]
      match a with
      | ⟨0, _⟩ => show ((expert (tbl m) (i 0)).toNat + 1) * 1 ≤ 64; have := h0 (i 0); omega
      | ⟨1, _⟩ => show (0 + 1) * 2048 ≤ 2048; omega
      | ⟨2, _⟩ => show (0 + 1) * 512 ≤ 512; omega
    · show cc0_transform_1 k0_off1_inb numel1_S1 (tbl m) i 1 * _ = 0
      rw [map1]; exact Nat.zero_mul _
  · refine ⟨fun a => ?_, .inr (.inr ⟨by decide, rfl, ?_, rfl⟩)⟩
    · rw [map2]
      match a with
      | ⟨0, _⟩ => show ((expert (tbl m) (i 0)).toNat + 1) * 1 ≤ 64; have := h0 (i 0); omega
      | ⟨1, _⟩ => show (0 + 1) * 2048 ≤ 2048; omega
      | ⟨2, _⟩ => show (0 + 1) * 512 ≤ 512; omega
    · show cc0_transform_2 k0_off1_inb numel1_S1 (tbl m) i 1 * _ = 0
      rw [map2]; exact Nat.zero_mul _
  · refine ⟨fun a => ?_, .inr (.inr ⟨by decide, rfl, ?_, rfl⟩)⟩
    · rw [map3]
      match a with
      | ⟨0, _⟩ => show ((expert (tbl m) (i 0)).toNat + 1) * 1 ≤ 64; have := h0 (i 0); omega
      | ⟨1, _⟩ => show (0 + 1) * 512 ≤ 512; omega
      | ⟨2, _⟩ => show (0 + 1) * 2048 ≤ 2048; omega
    · show cc0_transform_3 k0_off1_inb numel1_S1 (tbl m) i 1 * _ = 0
      rw [map3]; exact Nat.zero_mul _

/-- The precondition gives the ranges, -/
theorem ranges (m : (ℓ : Loc nD τ sig) → Buf (Elt Ideal) ℓ) [Cert.Pre_in_range.Facts] (h : Cert.Pre_Kernel2Ideal m) :
    (∀ b : Fin 704, (expert (tbl m) b).toNat < 64) ∧ 1 ≤ (count (tbl m)).toNat ∧ (count (tbl m)).toNat ≤ 704 :=
  GmmRange.range_of _ _ _ _ _ _ fun i => congrFun (h 0) i

/-- and so that every block lies inside its array. -/
theorem ok_of_pre (m : (ℓ : Loc nD τ sig) → Buf (Elt Ideal) ℓ) [Cert.Pre_in_range.Facts] (h : Cert.Pre_Kernel2Ideal m) : Ok m :=
  ok_of m (ranges m h).1 (ranges m h).2.1 (ranges m h).2.2

end Cert.Kernel2Ideal.Gmm

end
-- ==== Proof.GmmBlocks.lean ====
/-
  The grouped products' result array: every block read and written where the tables say.
-/
module

public import proofs.«01_k».proof.Proof.GmmPoint
public import proofs.«01_k».proof.Proof.GmmPre

@[expose] public section

set_option maxRecDepth 16384

noncomputable section

namespace Cert.Kernel2Ideal.Gmm

open Idealize.ShloMosaic Idealize.ShloMosaic.TcCoe
open Idealize.SL.Sem
open Idealize.ShloMosaic.Pipeline (Dat Cfg Window)
open Cert.Kernel2Ideal.Gen

variable (m : (ℓ : Loc nD τ sig) → Buf (Elt Ideal) ℓ) (ρ : Dev nD → PrngReg)

/-- The one coordinate of a point is its number. -/
theorem coord (t : Fin grid0.N) : (grid0.coords t 0).val = t.val := by
  rw [Pipeline.Grid.coords_val t 0 (S := 1) (B := 704) rfl rfl]
  have : t.val < 704 := lt_of_lt_of_eq t.isLt N_0
  omega

/-- The count as the body reads it is the count as the index maps read it. -/
theorem word_eq : word m = count (tbl m) := by
  show tbl m 1 _ = tbl m 1 _
  congr 1; funext a
  match a with
  | ⟨0, _⟩ => exact Subsingleton.elim (α := Fin 1) _ _

/-- The body's condition: the point's block is in use. -/
theorem cond1_iff (i : grid0.Coords) (v : BitVec 32) (h : v.toNat ≤ 704) : k0_cond1 i v = 1#1 ↔ (i 0).val < v.toNat := by
  have hi : (i 0).val < 704 := (i 0).isLt
  have eb : (BitVec.ofNat 32 (i 0).val).toInt = (i 0).val := by
    rw [BitVec.toInt_eq_toNat_cond, BitVec.toNat_ofNat]; omega
  have ev : v.toInt = v.toNat := by rw [BitVec.toInt_eq_toNat_cond]; omega
  have e : (BitVec.ofNat 32 (i 0).val).slt v = true ↔ (i 0).val < v.toNat := by
    rw [BitVec.slt_iff_toInt_lt, eb, ev]; omega
  rw [← e]
  unfold k0_cond1
  simp only [Scalar.cmpi, Scalar.extui, IntOp.cmpi]
  cases (BitVec.ofNat 32 (i 0).val).slt v <;> decide

/-- Which block window 0 is on at a point. -/
def at0 (hO : Ok m) (t : Fin (cfgM m hO).N) : Fin 2 → ℕ := ((cfgM m hO).win 0).index t
/-- Which block window 1 is on at a point. -/
def at1 (hO : Ok m) (t : Fin (cfgM m hO).N) : Fin 3 → ℕ := ((cfgM m hO).win 1).index t
/-- Which block window 2 is on at a point. -/
def at2 (hO : Ok m) (t : Fin (cfgM m hO).N) : Fin 3 → ℕ := ((cfgM m hO).win 2).index t
/-- Which block window 3 is on at a point. -/
def at3 (hO : Ok m) (t : Fin (cfgM m hO).N) : Fin 3 → ℕ := ((cfgM m hO).win 3).index t
/-- Which block window 4 is on at a point. -/
def at4 (hO : Ok m) (t : Fin (cfgM m hO).N) : Fin 2 → ℕ := ((cfgM m hO).win 4).index t

/-- Window 0's block of a point in use: the point's own. -/
theorem index0 (hO : Ok m) (h1 : 1 ≤ (count (tbl m)).toNat) (h2 : (count (tbl m)).toNat ≤ 704) (t : Fin (cfgM m hO).N)
    (hu : t.val < (count (tbl m)).toNat) : at0 m hO t = ![t.val, 0] := by
  have e := map0 (tbl m) (grid0.coords t) h1 h2
  rw [coord t, Nat.min_eq_left (by omega)] at e
  exact e

/-- The point's coordinate, as the block number it is. -/
theorem coord_fin (t : Fin grid0.N) (ht : t.val < 704) : (grid0.coords t 0 : Fin 704) = ⟨t.val, ht⟩ := Fin.ext (coord t)

theorem index1 (hO : Ok m) (t : Fin (cfgM m hO).N) (ht : t.val < 704) : at1 m hO t = ![(expert (tbl m) ⟨t.val, ht⟩).toNat, 0, 0] := by
  exact (map1 (tbl m) (grid0.coords t)).trans (congrArg (fun b : Fin 704 => ![(expert (tbl m) b).toNat, 0, 0]) (coord_fin t ht))

theorem index2 (hO : Ok m) (t : Fin (cfgM m hO).N) (ht : t.val < 704) : at2 m hO t = ![(expert (tbl m) ⟨t.val, ht⟩).toNat, 0, 0] := by
  exact (map2 (tbl m) (grid0.coords t)).trans (congrArg (fun b : Fin 704 => ![(expert (tbl m) b).toNat, 0, 0]) (coord_fin t ht))

theorem index3 (hO : Ok m) (t : Fin (cfgM m hO).N) (ht : t.val < 704) : at3 m hO t = ![(expert (tbl m) ⟨t.val, ht⟩).toNat, 0, 0] := by
  exact (map3 (tbl m) (grid0.coords t)).trans (congrArg (fun b : Fin 704 => ![(expert (tbl m) b).toNat, 0, 0]) (coord_fin t ht))

/-- The result's block is the point's own. -/
theorem index4 (hO : Ok m) (t : Fin (cfgM m hO).N) : at4 m hO t = ![t.val, 0] := by
  have e : cc0_transform_4 (grid0.coords t) = ![t.val, 0] := by
    show ![(BitVec.ofNat 32 (grid0.coords t 0).val).toNat, 0] = _
    rw [coord t, BitVec.toNat_ofNat]
    have : t.val < 704 := lt_of_lt_of_eq t.isLt N_0
    rw [Nat.mod_eq_of_lt (by omega)]
  exact e

/-- A used point's short rows. -/
theorem iblk0_apply (hO : Ok m) (h1 : 1 ≤ (count (tbl m)).toNat) (h2 : (count (tbl m)).toNat ≤ 704) (c : Dev nD) (t : Fin (cfgM m hO).N)
    (hu : t.val < (count (tbl m)).toNat) (a : Fin 8192) (k : Fin 128) (r : Fin 5775360) (hr : r.val = t.val * 8192 + a.val) :
    iblk m hO c 0 t (ix2 a k) = V m c main_arg0 (ix2 r k) := by
  have e := index0 m hO h1 h2 t hu
  show V m c main_arg0 ((((cfgM m hO).win 0).blk t).view.emb (ix2 a k)) = _
  congr 1
  funext x
  apply Fin.ext
  match x with
  | ⟨0, _⟩ => show at0 m hO t 0 * 8192 + 1 * a.val = r.val; rw [congrFun e 0, hr]; show t.val * 8192 + 1 * a.val = _; omega
  | ⟨1, _⟩ => show at0 m hO t 1 * 128 + 1 * k.val = k.val; rw [congrFun e 1]; show 0 * 128 + 1 * k.val = _; omega

/-- A point's first weights. -/
theorem iblk1_apply (hO : Ok m) (c : Dev nD) (t : Fin (cfgM m hO).N) (ht : t.val < 704) (e : Fin 64) (he : e.val = (expert (tbl m) ⟨t.val, ht⟩).toNat)
    (k : Fin 2048) (h : Fin 512) : iblk m hO c 1 t (ix3 0 k h) = V m c main_arg3 (ix3 e k h) := by
  have q := index1 m hO t ht
  show V m c main_arg3 ((((cfgM m hO).win 1).blk t).view.emb (ix3 0 k h)) = _
  congr 1
  funext x
  apply Fin.ext
  match x with
  | ⟨0, _⟩ => show at1 m hO t 0 * 1 + 1 * 0 = e.val; rw [congrFun q 0, he]; exact Nat.mul_one _
  | ⟨1, _⟩ => show at1 m hO t 1 * 2048 + 1 * k.val = k.val; rw [congrFun q 1]; show 0 * 2048 + 1 * k.val = _; omega
  | ⟨2, _⟩ => show at1 m hO t 2 * 512 + 1 * h.val = h.val; rw [congrFun q 2]; show 0 * 512 + 1 * h.val = _; omega

/-- A point's second weights. -/
theorem iblk2_apply (hO : Ok m) (c : Dev nD) (t : Fin (cfgM m hO).N) (ht : t.val < 704) (e : Fin 64) (he : e.val = (expert (tbl m) ⟨t.val, ht⟩).toNat)
    (k : Fin 2048) (h : Fin 512) : iblk m hO c 2 t (ix3 0 k h) = V m c main_arg4 (ix3 e k h) := by
  have q := index2 m hO t ht
  show V m c main_arg4 ((((cfgM m hO).win 2).blk t).view.emb (ix3 0 k h)) = _
  congr 1
  funext x
  apply Fin.ext
  match x with
  | ⟨0, _⟩ => show at2 m hO t 0 * 1 + 1 * 0 = e.val; rw [congrFun q 0, he]; exact Nat.mul_one _
  | ⟨1, _⟩ => show at2 m hO t 1 * 2048 + 1 * k.val = k.val; rw [congrFun q 1]; show 0 * 2048 + 1 * k.val = _; omega
  | ⟨2, _⟩ => show at2 m hO t 2 * 512 + 1 * h.val = h.val; rw [congrFun q 2]; show 0 * 512 + 1 * h.val = _; omega

/-- A point's last weights. -/
theorem iblk3_apply (hO : Ok m) (c : Dev nD) (t : Fin (cfgM m hO).N) (ht : t.val < 704) (e : Fin 64) (he : e.val = (expert (tbl m) ⟨t.val, ht⟩).toNat)
    (h : Fin 512) (k : Fin 2048) : iblk m hO c 3 t (ix3 0 h k) = V m c main_arg5 (ix3 e h k) := by
  have q := index3 m hO t ht
  show V m c main_arg5 ((((cfgM m hO).win 3).blk t).view.emb (ix3 0 h k)) = _
  congr 1
  funext x
  apply Fin.ext
  match x with
  | ⟨0, _⟩ => show at3 m hO t 0 * 1 + 1 * 0 = e.val; rw [congrFun q 0, he]; exact Nat.mul_one _
  | ⟨1, _⟩ => show at3 m hO t 1 * 512 + 1 * h.val = h.val; rw [congrFun q 1]; show 0 * 512 + 1 * h.val = _; omega
  | ⟨2, _⟩ => show at3 m hO t 2 * 2048 + 1 * k.val = k.val; rw [congrFun q 2]; show 0 * 2048 + 1 * k.val = _; omega

/-- The mathematics at this memory's arguments. -/
abbrev result (c : Dev nD) : (⟨2, ![5767168, 128]⟩ : Shape).Idx → EReal :=
  Cert.Gmm.out (V m c main_arg0) (V m c main_arg1) (V m c main_arg2) (V m c main_arg3) (V m c main_arg4) (V m c main_arg5)

/-- The short rows of a point's block, -/
def rows0 (hO : Ok m) (c : Dev nD) (t : Fin (cfgM m hO).N) : Vec Ideal S8192x128 .f32 := iblk m hO c 0 t
/-- its first weights, -/
def up1 (hO : Ok m) (c : Dev nD) (t : Fin (cfgM m hO).N) : Vec Ideal S1x2048x512 .bf16 := iblk m hO c 1 t
/-- its second weights, -/
def up2 (hO : Ok m) (c : Dev nD) (t : Fin (cfgM m hO).N) : Vec Ideal S1x2048x512 .bf16 := iblk m hO c 2 t
/-- and its last weights. -/
def down3 (hO : Ok m) (c : Dev nD) (t : Fin (cfgM m hO).N) : Vec Ideal S1x512x2048 .bf16 := iblk m hO c 3 t

/-- What a point leaves, by those. -/
theorem outs_eq (hO : Ok m) (c : Dev nD) (t : Fin (cfgM m hO).N) : outsAt0 m hO c t
    = if k0_cond1 (grid0.coords t) (word m) = 1#1 then spread (yrows (rows0 m hO c t) (up1 m hO c t) (up2 m hO c t) (down3 m hO c t)) else (k0_pay8 (F := Ideal)) := rfl

/-- The spread rows at an index. -/
theorem spread_apply (y : FVec Ideal S512x2048 .f32) (a : Fin 8192) (b : Fin 128) :
    spread y (ix2 a b) = y (ix2 (⟨a.val / 16, by omega⟩ : Fin 512) (⟨128 * (a.val % 16) + b.val, by omega⟩ : Fin 2048)) := rfl

/-- What a point leaves, at short row `a` and column `b` of its block. -/
theorem outs_apply (hO : Ok m) (h0 : ∀ b : Fin 704, (expert (tbl m) b).toNat < 64) (h1 : 1 ≤ (count (tbl m)).toNat) (h2 : (count (tbl m)).toNat ≤ 704)
    (c : Dev nD) (t : Fin (cfgM m hO).N) (a : Fin 8192) (b : Fin 128) (r : Fin 5767168) (hr : r.val = t.val * 8192 + a.val) :
    outsAt0 m hO c t (ix2 a b) = result m c (ix2 r b) := by
  have ht : t.val < 704 := lt_of_lt_of_eq t.isLt N_0
  obtain rfl : c = 0 := Subsingleton.elim _ _
  have hblk : (Cert.Gmm.longOf r).val / 512 = t.val := by show r.val / 16 / 512 = _; omega
  show outsAt0 m hO 0 t (ix2 a b) = Cert.Gmm.outRow (V m 0 main_arg0) (V m 0 main_arg1) (V m 0 main_arg2) (V m 0 main_arg3) (V m 0 main_arg4) (V m 0 main_arg5) (Cert.Gmm.longOf r) (Cert.Gmm.colOf r b)
  unfold Cert.Gmm.outRow
  rw [outs_eq, word_eq]
  have hc : (k0_cond1 (grid0.coords t) (count (tbl m)) = 1#1) ↔ (Cert.Gmm.longOf r).val / 512 < (V m 0 main_arg2 (ix1 (0 : Fin 1))).toNat := by
    rw [cond1_iff _ _ h2, coord t, hblk]; exact Iff.rfl
  by_cases hu : k0_cond1 (grid0.coords t) (count (tbl m)) = 1#1
  · rw [if_pos hu, if_pos (hc.mp hu)]
    have hu' : t.val < (count (tbl m)).toNat := by
      have := (cond1_iff _ _ h2).mp hu
      rwa [coord t] at this
    have ee : (Cert.Gmm.expertOf (V m 0 main_arg1) ⟨(Cert.Gmm.longOf r).val / 512, by omega⟩).val = (expert (tbl m) ⟨t.val, ht⟩).toNat := by
      have e1 : (⟨(Cert.Gmm.longOf r).val / 512, by omega⟩ : Fin 704) = ⟨t.val, ht⟩ := Fin.ext hblk
      rw [e1]
      exact Nat.mod_eq_of_lt (h0 ⟨t.val, ht⟩)
    have ec : (⟨128 * (a.val % 16) + b.val, by omega⟩ : Fin 2048) = Cert.Gmm.colOf r b :=
      Fin.ext (by show 128 * (a.val % 16) + b.val = 128 * (r.val % 16) + b.val; omega)
    rw [spread_apply, ec]
    refine yrows_apply _ _ _ _ _ _ _ _ _ _ _ (fun k => ?_) (fun k h => iblk1_apply m hO 0 t ht _ ee k h) (fun k h => iblk2_apply m hO 0 t ht _ ee k h)
      (fun h k => iblk3_apply m hO 0 t ht _ ee h k)
    rw [xrows_apply]
    exact iblk0_apply m hO h1 h2 0 t hu' _ _ _ (by show 16 * (r.val / 16) + k.val / 128 = t.val * 8192 + (16 * (a.val / 16) + k.val / 128); omega)
  · rw [if_neg hu, if_neg (fun h => hu (hc.mpr h))]
    exact zero_apply _

/-- Every point writes its block back. -/
theorem flush (hO : Ok m) : ∀ t : Fin (cfgM m hO).N, ((cfgM m hO).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- Where a point's block lies in the result. -/
def place (hO : Ok m) (t : Fin (cfgM m hO).N) (y : S8192x128.Idx) : S5767168x128.Idx := (((cfgM m hO).win 4).blk t).view.emb y

/-- It lies at the point's short rows. -/
theorem place_apply (hO : Ok m) (t : Fin (cfgM m hO).N) (a : Fin 8192) (b : Fin 128) (r : Fin 5767168) (hr : r.val = t.val * 8192 + a.val) :
    place m hO t (ix2 a b) = ix2 r b := by
  have e := index4 m hO t
  funext x
  apply Fin.ext
  match x with
  | ⟨0, _⟩ => show at4 m hO t 0 * 8192 + 1 * a.val = r.val; rw [congrFun e 0, hr]; show t.val * 8192 + 1 * a.val = _; omega
  | ⟨1, _⟩ => show at4 m hO t 1 * 128 + 1 * b.val = b.val; rw [congrFun e 1]; show 0 * 128 + 1 * b.val = _; omega

/-- What a point leaves is its block of the result. -/
theorem outs_place (hO : Ok m) (h0 : ∀ b : Fin 704, (expert (tbl m) b).toNat < 64) (h1 : 1 ≤ (count (tbl m)).toNat) (h2 : (count (tbl m)).toNat ≤ 704)
    (c : Dev nD) (t : Fin (cfgM m hO).N) (y : S8192x128.Idx) : outsAt0 m hO c t y = result m c (place m hO t y) := by
  obtain ⟨a, b, rfl⟩ : ∃ (a : Fin 8192) (b : Fin 128), y = ix2 a b := ⟨y 0, y 1, by idx_vars y⟩
  have ht : t.val < 704 := lt_of_lt_of_eq t.isLt N_0
  rw [outs_apply m hO h0 h1 h2 c t a b ⟨t.val * 8192 + a.val, by omega⟩ rfl, place_apply m hO t a b ⟨t.val * 8192 + a.val, by omega⟩ rfl]

/-- What a point writes back is its block of the result. -/
theorem flushed_eq (hO : Ok m) (h0 : ∀ b : Fin 704, (expert (tbl m) b).toNat < 64) (h1 : 1 ≤ (count (tbl m)).toNat) (h2 : (count (tbl m)).toNat ≤ 704)
    (c : Dev nD) (t : Fin (cfgM m hO).N) :
    (dats m hO 0 c).flushed 4 t = (((cfgM m hO).win 4).blk t).view.read (Elt Ideal) (result m c) := by
  show ((cfgM m hO).win 4).cut (grid0.coords t) ((dats m hO 0 c).after 4 t) = _
  rw [after0_4]
  exact funext fun y => outs_place m hO h0 h1 h2 c t y

/-- Every index of the result lies in some point's block. -/
theorem cover (hO : Ok m) (i : S5767168x128.Idx) : ∃ t : Fin (cfgM m hO).N, ((cfgM m hO).win 4).flush t = true ∧ i ∈ (((cfgM m hO).win 4).blk t).view.set := by
  obtain ⟨r, b, rfl⟩ : ∃ (r : Fin 5767168) (b : Fin 128), i = ix2 r b := ⟨i 0, i 1, by idx_vars i⟩
  have ht : r.val / 8192 < (cfgM m hO).N := lt_of_lt_of_eq (by omega : _ < 704) N_0.symm
  refine ⟨⟨_, ht⟩, flush m hO _, ?_⟩
  have e := place_apply m hO ⟨_, ht⟩ ⟨r.val % 8192, by omega⟩ b r (by show r.val = r.val / 8192 * 8192 + r.val % 8192; omega)
  rw [← e]
  exact Finset.mem_map_of_mem _ (Finset.mem_univ _)

/-- The result array after the run. -/
theorem final (hO : Ok m) (h0 : ∀ b : Fin 704, (expert (tbl m) b).toNat < 64) (h1 : 1 ≤ (count (tbl m)).toNat) (h2 : (count (tbl m)).toNat ≤ 704)
    (c : Dev nD) : (dats m hO 0 c).arrAt 4 (cfgM m hO).N = result m c :=
  (dats m hO 0 c).arrAt_eq_of_cover 4 _ (fun t _ => flushed_eq m hO h0 h1 h2 c t) (cover m hO)

/-- The call's run: the result holds the grouped products of its arguments, and the arguments are unchanged. -/
theorem run (hO : Ok m) (h0 : ∀ b : Fin 704, (expert (tbl m) b).toNat < 64) (h1 : 1 ≤ (count (tbl m)).toNat) (h2 : (count (tbl m)).toNat ≤ 704) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(((h.1 c).1 4).trans (final m hO h0 h1 h2 c)), h.2 c⟩)
    (θ_run_and (run_main m ρ hO) (unchanged m ρ hO))

end Cert.Kernel2Ideal.Gmm

end
-- ==== Proof.GmmGather.lean ====
/-
  A gather of whole matrices of a rank-3 array by one index per result row, read at an index.
-/
module

public import Idealize.ShloMosaic.Lib.Pointwise

@[expose] public section

set_option maxRecDepth 16384

noncomputable section

namespace Cert.Gmm

open Idealize.ShloMosaic

/-- The dimension numbers of taking, for each of `n` rows, one of `N` matrices of `A` by `B`. -/
def pickDims (N A B n : ℕ) (wf : GatherDims.WF (⟨3, ![N, A, B]⟩ : Shape) (⟨2, ![n, 1]⟩ : Shape) (⟨3, ![n, A, B]⟩ : Shape) [1, 2] [0] [] [0] [] 1 ![1, A, B]) :
    GatherDims (⟨3, ![N, A, B]⟩ : Shape) (⟨2, ![n, 1]⟩ : Shape) (⟨3, ![n, A, B]⟩ : Shape) where
  offsetDims := [1, 2]
  collapsedSliceDims := [0]
  operandBatchingDims := []
  startIndicesBatchingDims := []
  startIndexMap := [0]
  indexVectorDim := 1
  sliceSizes := ![1, A, B]
  wf := wf

/-- Where row `r`'s index is the word of `e`, the row is given matrix `e`. -/
theorem pick_apply {α : Type} (N A B n : ℕ) (wf : GatherDims.WF (⟨3, ![N, A, B]⟩ : Shape) (⟨2, ![n, 1]⟩ : Shape) (⟨3, ![n, A, B]⟩ : Shape) [1, 2] [0] [] [0] [] 1 ![1, A, B])
    (x : (⟨3, ![N, A, B]⟩ : Shape).Idx → α) (idx : IVec (⟨2, ![n, 1]⟩ : Shape) 32) (r : Fin n) (a : Fin A) (b : Fin B) (e : Fin N)
    (he : (idx (ix2 r (0 : Fin 1))).toInt = e.val) :
    Host.gather (pickDims N A B n wf) x idx (ix3 r a b) = x (ix3 e a b) := by
  unfold Host.gather
  congr 1
  funext c
  apply Fin.ext
  show (pickDims N A B n wf).start (ix3 r a b) idx c + (pickDims N A B n wf).batchCoord (ix3 r a b) c + (pickDims N A B n wf).offCoord (ix3 r a b) c = _
  rw [GatherDims.batchCoord_eq_zero _ _ _ List.not_mem_nil, Nat.add_zero]
  have s0 : (pickDims N A B n wf).start (ix3 r a b) idx (0 : Fin 3) = e.val := by
    unfold GatherDims.start
    rw [dif_pos (show (0 : Fin 3) ∈ (pickDims N A B n wf).startIndexMap from List.mem_singleton.mpr rfl)]
    have hsi : (pickDims N A B n wf).siIdx (ix3 r a b) ⟨List.idxOf (0 : Fin 3) (pickDims N A B n wf).startIndexMap,
        List.idxOf_lt_length_iff.2 (List.mem_singleton.mpr rfl)⟩ = ix2 r (0 : Fin 1) := by
      funext q; refine Fin.ext ?_
      match q with
      | ⟨0, _⟩ => rfl
      | ⟨1, _⟩ => rfl
    have hl := e.isLt
    rw [hsi, he]
    show min ((e.val : Int)).toNat (N - 1) = e.val
    omega
  have s1 : (pickDims N A B n wf).start (ix3 r a b) idx (1 : Fin 3) = 0 := by
    unfold GatherDims.start
    rw [dif_neg (show ¬ (1 : Fin 3) ∈ (pickDims N A B n wf).startIndexMap from by show ¬ (1 : Fin 3) ∈ [(0 : Fin 3)]; decide)]
  have s2 : (pickDims N A B n wf).start (ix3 r a b) idx (2 : Fin 3) = 0 := by
    unfold GatherDims.start
    rw [dif_neg (show ¬ (2 : Fin 3) ∈ (pickDims N A B n wf).startIndexMap from by show ¬ (2 : Fin 3) ∈ [(0 : Fin 3)]; decide)]
  match c with
  | ⟨0, _⟩ =>
    rw [GatherDims.offCoord_eq_zero _ _ _ (fun h => ((GatherDims.mem_sKept _ _).mp h).1 (List.mem_singleton.mpr rfl)), Nat.add_zero]
    exact s0
  | ⟨1, _⟩ => exact (congrArg (· + (pickDims N A B n wf).offCoord (ix3 r a b) (1 : Fin 3)) s1).trans (Nat.zero_add _)
  | ⟨2, _⟩ => exact (congrArg (· + (pickDims N A B n wf).offCoord (ix3 r a b) (2 : Fin 3)) s2).trans (Nat.zero_add _)

end Cert.Gmm

end
-- ==== Proof.GmmRef.lean ====
/-
  The grouped products' reference, read: its result is the same sums on the extended reals.
-/
module

public import proofs.«01_k».proof.Proof.GmmSpec
public import proofs.«01_k».proof.Proof.GmmGather
public import proofs.«01_k».proof.Proof.Gen.Reference2Ideal.Run
public import Idealize.ShloMosaic.Lib.Pipeline.Value

@[expose] public section

set_option maxRecDepth 16384

noncomputable section

namespace Cert.Reference2Ideal.Gmm

open Idealize.ShloMosaic Idealize.ShloMosaic.TcCoe
open Cert.Reference2Ideal Cert.Reference2Ideal.Gen Cert.Reference2Ideal.Value

/-- The long rows: the first `360448` of the short rows laid end to end. -/
def xs (X : FVec Ideal S5775360x128 .f32) : FVec Ideal S360448x2048 .f32 :=
  extractStridedSlice S360448x2048 ![0, 0] (shapeCast S360960x2048 X shapeCasts_S5775360x128_S360960x2048) slices_S360960x2048_S360448x2048_0_0

/-- A long row at a column. -/
theorem xs_apply (X : FVec Ideal S5775360x128 .f32) (p : Fin 360448) (k : Fin 2048) : xs X (ix2 p k) = Cert.Gmm.long X p k := by
  have e : xs X (ix2 p k) = shapeCast S360960x2048 X shapeCasts_S5775360x128_S360960x2048 (ix2 (⟨p.val, by omega⟩ : Fin 360960) k) := by
    unfold xs
    show shapeCast S360960x2048 X shapeCasts_S5775360x128_S360960x2048 _ = shapeCast S360960x2048 X shapeCasts_S5775360x128_S360960x2048 _
    congr 1
    funext a
    apply Fin.ext
    match a with
    | ⟨0, _⟩ => show 0 + p.val = p.val; omega
    | ⟨1, _⟩ => show 0 + k.val = k.val; omega
  rw [e]
  exact shapeCast_apply X _ _ (ix2 ⟨16 * p.val + k.val / 128, by omega⟩ ⟨k.val % 128, by omega⟩) (by
    rw [Shape.rowMajor_val_two, Shape.rowMajor_val_two]
    show (16 * p.val + k.val / 128) * 128 + k.val % 128 = p.val * 2048 + k.val
    omega)

/-- Each long row's expert: its block's word. -/
def ew (T : IVec S704 32) : IVec S360448 32 :=
  shapeCast S360448 (broadcastInDim S704x512 ![0, 1] bcast_S704x1_S704x512_0_1 (broadcastInDim S704x1 ![0] bcast_S704_S704x1_0 T)) shapeCasts_S704x512_S360448

/-- The table's word along a block's rows. -/
theorem spread_word (T : IVec S704 32) (b : Fin 704) (q : Fin 512) :
    broadcastInDim S704x512 ![0, 1] bcast_S704x1_S704x512_0_1 (broadcastInDim S704x1 ![0] bcast_S704_S704x1_0 T) (ix2 b q) = T (ix1 b) := by
  show T _ = T _
  congr 1
  funext a
  match a with
  | ⟨0, _⟩ => rfl

/-- It is read at the row's block. -/
theorem ew_apply (T : IVec S704 32) (p : Fin 360448) : ew T (ix1 p) = T (ix1 ⟨p.val / 512, by omega⟩) := by
  unfold ew
  rw [shapeCast_apply _ shapeCasts_S704x512_S360448 (ix1 p) (ix2 (⟨p.val / 512, by omega⟩ : Fin 704) (⟨p.val % 512, by omega⟩ : Fin 512)) (by
    rw [Shape.rowMajor_val_two, Shape.rowMajor_val_one]
    show p.val / 512 * 512 + p.val % 512 = p.val
    omega)]
  exact spread_word T _ _

/-- The indices of the gathers: the expert's word, counted from the end where negative. -/
def idx (T : IVec S704 32) : IVec S360448x1 32 :=
  broadcastInDim S360448x1 ![0] bcast_S360448_S360448x1_0 (select (cmpi .slt (ew T) (broadcastInDim S360448 ![] bcast_S_S360448 (constantI S_ 32 0#32)))
    (addi (ew T) (broadcastInDim S360448 ![] bcast_S_S360448 (constantI S_ 32 64#32))) (ew T))

/-- In the range the index is the expert. -/
theorem idx_apply (T : IVec S704 32) (h : ∀ b : Fin 704, (T (ix1 b)).toNat < 64) (p : Fin 360448) :
    (idx T (ix2 p (0 : Fin 1))).toInt = (Cert.Gmm.expertOf T ⟨p.val / 512, by omega⟩).val := by
  have e : idx T (ix2 p (0 : Fin 1)) = Scalar.select (IntOp.cmpi .slt (ew T (ix1 p)) 0#32) (ew T (ix1 p) + 64#32) (ew T (ix1 p)) := by
    unfold idx; simp only [pointwise]; rfl
  have hb := h ⟨p.val / 512, by omega⟩
  have hi : (T (ix1 ⟨p.val / 512, by omega⟩)).toInt = (T (ix1 ⟨p.val / 512, by omega⟩)).toNat := by rw [BitVec.toInt_eq_toNat_cond]; omega
  have hs : (T (ix1 ⟨p.val / 512, by omega⟩)).slt 0#32 = false := by
    rw [Bool.eq_false_iff]; intro q
    have q' := BitVec.slt_iff_toInt_lt.mp q
    rw [hi] at q'
    have : (0#32).toInt = 0 := by decide
    omega
  rw [e, ew_apply]
  simp only [IntOp.cmpi, hs]
  show (T (ix1 ⟨p.val / 512, by omega⟩)).toInt = _
  rw [hi]
  show _ = (((T (ix1 ⟨p.val / 512, by omega⟩)).toNat % 64 : ℕ) : Int)
  rw [Nat.mod_eq_of_lt hb]

/-- Each long row's matrix of a first weight array. -/
def up (W : FVec Ideal S64x2048x512 .bf16) (T : IVec S704 32) : FVec Ideal S360448x2048x512 .f32 :=
  Host.gather gather_S64x2048x512_S360448x1_S360448x2048x512_12_0_n_n_0_1_12048512 (extf .f32 W bitsLt_bf16_f32) (idx T)

/-- It is the row's expert's. -/
theorem up_apply (W : FVec Ideal S64x2048x512 .bf16) (T : IVec S704 32) (h : ∀ b : Fin 704, (T (ix1 b)).toNat < 64) (p : Fin 360448) (k : Fin 2048) (q : Fin 512) :
    up W T (ix3 p k q) = W (ix3 (Cert.Gmm.expertOf T ⟨p.val / 512, by omega⟩) k q) :=
  Cert.Gmm.pick_apply 64 2048 512 360448 gather_S64x2048x512_S360448x1_S360448x2048x512_12_0_n_n_0_1_12048512_wf (extf .f32 W bitsLt_bf16_f32) (idx T) p k q _ (idx_apply T h p)

/-- Each long row's matrix of the last weight array. -/
def down (W : FVec Ideal S64x512x2048 .bf16) (T : IVec S704 32) : FVec Ideal S360448x512x2048 .f32 :=
  Host.gather gather_S64x512x2048_S360448x1_S360448x512x2048_12_0_n_n_0_1_15122048 (extf .f32 W bitsLt_bf16_f32) (idx T)

/-- It is the row's expert's. -/
theorem down_apply (W : FVec Ideal S64x512x2048 .bf16) (T : IVec S704 32) (h : ∀ b : Fin 704, (T (ix1 b)).toNat < 64) (p : Fin 360448) (q : Fin 512) (k : Fin 2048) :
    down W T (ix3 p q k) = W (ix3 (Cert.Gmm.expertOf T ⟨p.val / 512, by omega⟩) q k) :=
  Cert.Gmm.pick_apply 64 512 2048 360448 gather_S64x512x2048_S360448x1_S360448x512x2048_12_0_n_n_0_1_15122048_wf (extf .f32 W bitsLt_bf16_f32) (idx T) p q k _ (idx_apply T h p)

/-- The first product, every row by its own matrix. -/
def dotUp (x : FVec Ideal S360448x2048 .f32) (w : FVec Ideal S360448x2048x512 .f32) : FVec Ideal S360448x512 .f32 :=
  Host.dotGeneral dot_S360448x2048_S360448x2048x512_S360448x512_1_1_n_2_0_0 none x w

theorem dotUp_apply (x : FVec Ideal S360448x2048 .f32) (w : FVec Ideal S360448x2048x512 .f32) (p : Fin 360448) (q : Fin 512) :
    dotUp x w (ix2 p q) = ∑ k : Fin 2048, x (ix2 p k) * w (ix3 p k q) := by
  unfold dotUp
  simp only [pointwise]
  simp

/-- The last product, every row by its own matrix. -/
def dotDown (x : FVec Ideal S360448x512 .f32) (w : FVec Ideal S360448x512x2048 .f32) : FVec Ideal S360448x2048 .f32 :=
  Host.dotGeneral dot_S360448x512_S360448x512x2048_S360448x2048_1_1_n_2_0_0 none x w

theorem dotDown_apply (x : FVec Ideal S360448x512 .f32) (w : FVec Ideal S360448x512x2048 .f32) (p : Fin 360448) (q : Fin 2048) :
    dotDown x w (ix2 p q) = ∑ k : Fin 512, x (ix2 p k) * w (ix3 p k q) := by
  unfold dotDown
  simp only [pointwise]
  simp

/-- A row times its logistic. -/
def silu (g : FVec Ideal S360448x512 .f32) : FVec Ideal S360448x512 .f32 :=
  mulf g (Host.divf (broadcastInDim S360448x512 ![] bcast_S_S360448x512 (constant S_ .f32 0x3F800000#32))
    (addf (broadcastInDim S360448x512 ![] bcast_S_S360448x512 (constant S_ .f32 0x3F800000#32)) (Host.exp (Host.negf g))))

theorem silu_apply (g : FVec Ideal S360448x512 .f32) (j : S360448x512.Idx) : silu g j = g j * Ideal.logistic (g j) := by
  show g j * Ideal.div (Ideal.ofBits FTy.f32 0x3F800000#32) (Ideal.ofBits FTy.f32 0x3F800000#32 + Ideal.exp (-(g j))) = _
  have e : Ideal.ofBits FTy.f32 0x3F800000#32 = 1 := by simp
  rw [e]; rfl

/-- Which long rows lie in a block in use. -/
def used (N : IVec S1 32) : IVec S360448 1 :=
  cmpi .slt (iotaInDim S360448 32 0) (broadcastInDim S360448 ![] bcast_S_S360448 (muli (shapeCast S_ N shapeCasts_S1_S_) (constantI S_ 32 512#32)))

theorem used_apply (N : IVec S1 32) (h : (N (ix1 0)).toNat ≤ 704) (p : Fin 360448) :
    used N (ix1 p) = 1#1 ↔ p.val / 512 < (N (ix1 0)).toNat := by
  have r : ∀ j, shapeCast S_ N shapeCasts_S1_S_ j = N (ix1 0) := by
    intro j
    refine congrArg N (funext fun a => ?_)
    match a with
    | ⟨0, _⟩ => exact Subsingleton.elim (α := Fin 1) _ _
  have e : used N (ix1 p) = IntOp.cmpi .slt (BitVec.ofNat 32 p.val) (IntOp.muli (shapeCast S_ N shapeCasts_S1_S_ (fun a => a.elim0)) 512#32) := by
    unfold used; simp only [pointwise]; try rfl
  rw [e, r]
  have en : (N (ix1 0) * 512#32).toNat = (N (ix1 0)).toNat * 512 := by
    rw [BitVec.toNat_mul]
    have : (512#32).toNat = 512 := rfl
    rw [this]; omega
  have ei : (N (ix1 0) * 512#32).toInt = ((N (ix1 0)).toNat * 512 : ℕ) := by rw [BitVec.toInt_eq_toNat_cond, en]; omega
  have ep : (BitVec.ofNat 32 p.val).toInt = p.val := by rw [BitVec.toInt_eq_toNat_cond, BitVec.toNat_ofNat]; omega
  have q : (BitVec.ofNat 32 p.val).slt (N (ix1 0) * 512#32) = true ↔ p.val / 512 < (N (ix1 0)).toNat := by
    rw [BitVec.slt_iff_toInt_lt, ei, ep]; omega
  rw [← q]
  show BitVec.ofBool ((BitVec.ofNat 32 p.val).slt (N (ix1 0) * 512#32)) = 1#1 ↔ _
  cases (BitVec.ofNat 32 p.val).slt (N (ix1 0) * 512#32) <;> decide

/-- The result's long rows. -/
def ys (X : FVec Ideal S5775360x128 .f32) (T : IVec S704 32) (N : IVec S1 32) (W₁ W₂ : FVec Ideal S64x2048x512 .bf16) (W₃ : FVec Ideal S64x512x2048 .bf16) :
    FVec Ideal S360448x2048 .f32 :=
  select (broadcastInDim S360448x2048 ![0, 1] bcast_S360448x1_S360448x2048_0_1 (broadcastInDim S360448x1 ![0] bcast_S360448_S360448x1_0 (used N)))
    (dotDown (mulf (silu (dotUp (xs X) (up W₁ T))) (dotUp (xs X) (up W₂ T))) (down W₃ T))
    (broadcastInDim S360448x2048 ![] bcast_S_S360448x2048 (id (constant S_ .f32 0x00000000#32)))

/-- A long row's first product is its expert's. -/
theorem gate_eq (X : FVec Ideal S5775360x128 .f32) (T : IVec S704 32) (W : FVec Ideal S64x2048x512 .bf16) (h : ∀ b : Fin 704, (T (ix1 b)).toNat < 64)
    (p : Fin 360448) (q : Fin 512) : dotUp (xs X) (up W T) (ix2 p q) = Cert.Gmm.gate (Cert.Gmm.long X p) W (Cert.Gmm.expertOf T ⟨p.val / 512, by omega⟩) q := by
  rw [dotUp_apply]
  unfold Cert.Gmm.gate
  exact Finset.sum_congr rfl fun k _ => by rw [xs_apply, up_apply W T h]

theorem ys_apply (X : FVec Ideal S5775360x128 .f32) (T : IVec S704 32) (N : IVec S1 32) (W₁ W₂ : FVec Ideal S64x2048x512 .bf16) (W₃ : FVec Ideal S64x512x2048 .bf16)
    (h : ∀ b : Fin 704, (T (ix1 b)).toNat < 64) (hN : (N (ix1 0)).toNat ≤ 704) (p : Fin 360448) (q : Fin 2048) :
    ys X T N W₁ W₂ W₃ (ix2 p q) = Cert.Gmm.outRow X T N W₁ W₂ W₃ p q := by
  have e : ys X T N W₁ W₂ W₃ (ix2 p q) = Scalar.select (used N (ix1 p)) (dotDown (mulf (silu (dotUp (xs X) (up W₁ T))) (dotUp (xs X) (up W₂ T))) (down W₃ T) (ix2 p q))
      (Ideal.ofBits FTy.f32 0x00000000#32) := by
    unfold ys; rfl
  rw [e]
  unfold Cert.Gmm.outRow
  by_cases hu : used N (ix1 p) = 1#1
  · rw [if_pos ((used_apply N hN p).mp hu), hu]
    show dotDown _ _ (ix2 p q) = _
    rw [dotDown_apply]
    unfold Cert.Gmm.ffn Cert.Gmm.hid
    refine Finset.sum_congr rfl fun k _ => ?_
    rw [down_apply W₃ T h]
    show silu _ (ix2 p k) * dotUp _ _ (ix2 p k) * _ = _
    rw [silu_apply, gate_eq X T W₁ h, gate_eq X T W₂ h]
  · rw [if_neg (fun q => hu ((used_apply N hN p).mpr q))]
    have e0 : used N (ix1 p) = 0#1 := by
      revert hu; generalize used N (ix1 p) = v; revert v; decide
    rw [e0]
    show Ideal.ofBits FTy.f32 0x00000000#32 = 0
    simp

variable (m : (ℓ : Loc nD τ sig) → Buf (Elt Ideal) ℓ)

/-- The reference's result, by its parts. -/
theorem res_eq (c : Dev nD) : res_main_v41 m c = shapeCast S5767168x128 (ys (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))) shapeCasts_S360448x2048_S5767168x128 := rfl

/-- The reference's result is the grouped products of its arguments. -/
theorem res_out (c : Dev nD) (h : ∀ b : Fin 704, ((m ((c.tc : Thread nD τ).loc main_arg1) : IVec S704 32) (ix1 b)).toNat < 64)
    (hN : ((m ((c.tc : Thread nD τ).loc main_arg2) : IVec S1 32) (ix1 0)).toNat ≤ 704) :
    res_main_v41 m c = Cert.Gmm.out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [res_eq]
  refine funext fun (i : S5767168x128.Idx) => ?_
  obtain ⟨r, l, rfl⟩ : ∃ (r : Fin 5767168) (l : Fin 128), i = ix2 r l := ⟨i 0, i 1, by idx_vars i⟩
  rw [shapeCast_apply _ shapeCasts_S360448x2048_S5767168x128 (ix2 r l) (ix2 (Cert.Gmm.longOf r) (Cert.Gmm.colOf r l)) (by
    rw [Shape.rowMajor_val_two, Shape.rowMajor_val_two]
    show r.val / 16 * 2048 + (128 * (r.val % 16) + l.val) = r.val * 128 + l.val
    omega)]
  exact ys_apply _ _ _ _ _ _ h hN _ _

end Cert.Reference2Ideal.Gmm

end
-- ==== Proof.OutTiles.lean ====
/-
  Rows of 2048 numbers stored in pieces of 128, as sixteen strided stores: what the sixteen pieces leave in the buffer.
-/
module

public import Idealize.ShloMosaic.Lib.Pipeline.FrameBody
public import Idealize.ShloMosaic.Lib.Pointwise
public import Idealize.ShloMosaic.Lib.Tactic

@[expose] public section

noncomputable section

namespace Cert.Tiles

open Idealize.ShloMosaic Idealize.ShloMosaic.TcCoe

variable {F : FTy → Type} [FloatOps F]

/-- The long rows of one block, -/
abbrev Long : Shape := ⟨2, ![256, 2048]⟩
/-- the same block in short rows, -/
abbrev Short : Shape := ⟨2, ![4096, 128]⟩
/-- and one lane group of the long rows. -/
abbrev Group : Shape := ⟨2, ![256, 128]⟩

/-- Lane group `s` of the long rows. -/
def cut (s : Fin 16) (y : FVec F Long .f32) : FVec F Group .f32 :=
  fun j => y (ix2 (j 0) ⟨128 * s.val + (j 1).val, by have h : (j 1).val < 128 := (j 1).isLt; omega⟩)

/-- The slice of the columns from `o = 128 s` on is lane group `s`. -/
theorem slice_cut (s : Fin 16) (o : Nat) (ho : o = 128 * s.val) (y : FVec F Long .f32) (h : Long.Slices ![0, o] Group) :
    extractStridedSlice Group ![0, o] y h = cut s y := by
  subst ho
  funext j; show y _ = y _; congr 1; funext a; apply Fin.ext
  match a with
  | ⟨0, _⟩ => show 0 + (j 0).val = (j 0).val; omega
  | ⟨1, _⟩ => rfl

/-- The slices that are stored lie inside the long rows. -/
theorem slices (s : Fin 16) : Long.Slices ![0, 128 * s.val] Group := by
  revert s; decide

/-- Every sixteenth short row from `s` on. -/
def strided (s : Fin 16) : Rect Short :=
  { off := ![s.val, 0], size := Group.size, stride := ![16, 1], stride_pos := by decide
    inb := fun a => match a with
      | ⟨0, _⟩ => .inr (by show s.val + 16 * (256 - 1) < 4096; omega)
      | ⟨1, _⟩ => .inr (by show 0 + 1 * (128 - 1) < 128; omega) }

/-- The strided pieces of the lane groups in a list. -/
def pieces (y : FVec F Long .f32) (l : List (Fin 16)) : List (View.Piece (Elt F) Short .f32) :=
  l.map fun s => ⟨strided s, cut s y⟩

/-- The long rows in short rows: short row `16 a + s` is lane group `s` of long row `a`. -/
def spread (y : FVec F Long .f32) : FVec F Short .f32 :=
  fun j => y (ix2 ⟨(j 0).val / 16, by have h : (j 0).val < 4096 := (j 0).isLt; omega⟩
    ⟨128 * ((j 0).val % 16) + (j 1).val, by have h : (j 1).val < 128 := (j 1).isLt; omega⟩)

/-- Short row `16 a + s` is row `a` of the strided piece `s`. -/
theorem strided_emb (s : Fin 16) (j : Short.Idx) (h : (j 0).val % 16 = s.val) :
    j = (strided s).emb (ix2 (⟨(j 0).val / 16, by have h : (j 0).val < 4096 := (j 0).isLt; omega⟩ : Fin 256) (j 1 : Fin 128)) := by
  funext a; apply Fin.ext
  match a with
  | ⟨0, _⟩ => show (j 0).val = s.val + 16 * ((j 0).val / 16); omega
  | ⟨1, _⟩ => show (j 1).val = 0 + 1 * (j 1).val; omega

/-- A short row of the strided piece `s` is `s` above a multiple of sixteen. -/
theorem strided_mem (s : Fin 16) (j : Short.Idx) (h : j ∈ (strided s).set) : (j 0).val % 16 = s.val := by
  obtain ⟨x, rfl⟩ : ∃ x, (strided s).emb x = j := (strided s).exists_idx_of_mem h
  show (s.val + 16 * (x 0).val) % 16 = s.val
  omega

/-- What the strided piece `s` embeds is in it. -/
theorem strided_mem_of (s : Fin 16) (j : Short.Idx) (x : (strided s).shape.Idx) (h : (strided s).emb x = j) : j ∈ (strided s).set := by
  subst h; exact (strided s).toLoadRect.idx_mem x

/-- Where the list has the row's lane group, the pieces leave the spread rows. -/
theorem canon_pieces (y : FVec F Long .f32) (j : Short.Idx) :
    ∀ l : List (Fin 16), (⟨(j 0).val % 16, Nat.mod_lt _ (by decide)⟩ : Fin 16) ∈ l → View.canon (pieces y l) j = spread y j
  | [], h => absurd h List.not_mem_nil
  | s :: l, h => by
    show View.canon ((⟨strided s, cut s y⟩ : View.Piece (Elt F) Short .f32) :: pieces y l) j = _
    by_cases hs : (j 0).val % 16 = s.val
    · have e := strided_emb s j hs
      have k : ∀ x : (strided s).shape.Idx, (strided s).emb x = j → View.canon ((⟨strided s, cut s y⟩ : View.Piece (Elt F) Short .f32) :: pieces y l) j = cut s y x := by
        rintro x rfl; exact View.canon_cons_emb (strided s) (cut s y) (pieces y l) x
      refine (k _ e.symm).trans ?_
      show y _ = y _
      congr 1; funext a; apply Fin.ext
      match a with
      | ⟨0, _⟩ => rfl
      | ⟨1, _⟩ => show 128 * s.val + (j 1).val = 128 * ((j 0).val % 16) + (j 1).val; rw [hs]
    · have hn : j ∉ (strided s).set := fun hm => hs (strided_mem s j hm)
      refine (View.canon_cons_of_not_mem (⟨strided s, cut s y⟩ : View.Piece (Elt F) Short .f32) (pieces y l) hn).trans ?_
      refine canon_pieces y j l ((List.mem_cons.mp h).resolve_left fun e => hs ?_)
      exact congrArg Fin.val e

/-- A short row whose lane group is in the list is in one of the pieces. -/
theorem cover_pieces (y : FVec F Long .f32) (j : Short.Idx) (l : List (Fin 16))
    (h : (⟨(j 0).val % 16, Nat.mod_lt _ (by decide)⟩ : Fin 16) ∈ l) : ∃ p ∈ pieces y l, j ∈ p.1.set := by
  have e := strided_emb ⟨(j 0).val % 16, Nat.mod_lt _ (by decide)⟩ j rfl
  exact ⟨_, List.mem_map.mpr ⟨_, h, rfl⟩, strided_mem_of _ j _ e.symm⟩

/-- The lane groups in the order in which the pieces are listed, last written first. -/
def order : List (Fin 16) := [15, 14, 13, 12, 11, 10, 9, 8, 7, 6, 5, 4, 3, 2, 1, 0]

/-- Every lane group is written. -/
theorem mem_order (s : Fin 16) : s ∈ order := by revert s; decide

/-- The sixteen pieces as the body stores them, last written first. -/
def stored (y : FVec F Long .f32) : List (View.Piece (Elt F) Short .f32) :=
  [⟨strided 15, extractStridedSlice Group ![0, 1920] y (slices 15)⟩,
    ⟨strided 14, extractStridedSlice Group ![0, 1792] y (slices 14)⟩,
    ⟨strided 13, extractStridedSlice Group ![0, 1664] y (slices 13)⟩,
    ⟨strided 12, extractStridedSlice Group ![0, 1536] y (slices 12)⟩,
    ⟨strided 11, extractStridedSlice Group ![0, 1408] y (slices 11)⟩,
    ⟨strided 10, extractStridedSlice Group ![0, 1280] y (slices 10)⟩,
    ⟨strided 9, extractStridedSlice Group ![0, 1152] y (slices 9)⟩,
    ⟨strided 8, extractStridedSlice Group ![0, 1024] y (slices 8)⟩,
    ⟨strided 7, extractStridedSlice Group ![0, 896] y (slices 7)⟩,
    ⟨strided 6, extractStridedSlice Group ![0, 768] y (slices 6)⟩,
    ⟨strided 5, extractStridedSlice Group ![0, 640] y (slices 5)⟩,
    ⟨strided 4, extractStridedSlice Group ![0, 512] y (slices 4)⟩,
    ⟨strided 3, extractStridedSlice Group ![0, 384] y (slices 3)⟩,
    ⟨strided 2, extractStridedSlice Group ![0, 256] y (slices 2)⟩,
    ⟨strided 1, extractStridedSlice Group ![0, 128] y (slices 1)⟩,
    ⟨strided 0, extractStridedSlice Group ![0, 0] y (slices 0)⟩]

/-- They are the lane groups' pieces. -/
theorem stored_eq (y : FVec F Long .f32) : stored y = pieces y order := by
  show stored y = [⟨strided 15, cut 15 y⟩, ⟨strided 14, cut 14 y⟩, ⟨strided 13, cut 13 y⟩, ⟨strided 12, cut 12 y⟩, ⟨strided 11, cut 11 y⟩, ⟨strided 10, cut 10 y⟩, ⟨strided 9, cut 9 y⟩, ⟨strided 8, cut 8 y⟩, ⟨strided 7, cut 7 y⟩, ⟨strided 6, cut 6 y⟩, ⟨strided 5, cut 5 y⟩, ⟨strided 4, cut 4 y⟩, ⟨strided 3, cut 3 y⟩, ⟨strided 2, cut 2 y⟩, ⟨strided 1, cut 1 y⟩, ⟨strided 0, cut 0 y⟩]
  unfold stored
  rw [slice_cut 15 1920 rfl y (slices 15), slice_cut 14 1792 rfl y (slices 14), slice_cut 13 1664 rfl y (slices 13), slice_cut 12 1536 rfl y (slices 12), slice_cut 11 1408 rfl y (slices 11), slice_cut 10 1280 rfl y (slices 10), slice_cut 9 1152 rfl y (slices 9), slice_cut 8 1024 rfl y (slices 8), slice_cut 7 896 rfl y (slices 7), slice_cut 6 768 rfl y (slices 6), slice_cut 5 640 rfl y (slices 5), slice_cut 4 512 rfl y (slices 4), slice_cut 3 384 rfl y (slices 3), slice_cut 2 256 rfl y (slices 2), slice_cut 1 128 rfl y (slices 1), slice_cut 0 0 rfl y (slices 0)]

/-- Together the sixteen pieces cover the buffer, -/
theorem cover (y : FVec F Long .f32) (j : Short.Idx) : ∃ p ∈ stored y, j ∈ p.1.set := by
  rw [stored_eq]; exact cover_pieces y j order (mem_order _)

/-- and leave the spread rows in it. -/
theorem canon_stored (y : FVec F Long .f32) : View.canon (stored y) = spread y := by
  rw [stored_eq]; exact funext fun j => canon_pieces y j order (mem_order _)

end Cert.Tiles

end
-- ==== Proof.OutFrame.lean ====
/-
  The output stage's call, run: its blocks, what its body leaves in each buffer, its frame.
-/
module

public import proofs.«01_k».proof.Proof.Gen.Kernel4Ideal.Launch
public import proofs.«01_k».proof.Proof.Gen.Kernel4Ideal.Skeleton
public import proofs.«01_k».proof.Proof.OutTiles
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The buffers as the call finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument is as the program was given it: the host operations write only the buffers after the twelve arguments. -/
theorem V_kept (c : Dev nD) (b : Ref sig .tc) (h : b.idx.val < 12) : V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => absurd h (by rw [e]; decide))
theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)
theorem V_main_arg10 (c : Dev nD) : V m c main_arg10 = m ((c : Thread nD τ).loc main_arg10) := V_kept m c _ (by decide)
theorem V_main_arg11 (c : Dev nD) : V m c main_arg11 = m ((c : Thread nD τ).loc main_arg11) := V_kept m c _ (by decide)

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 1080000 in
/-! ## The body's accesses -/

abbrev r0_0 : Rect S256x1024 := Rect.unit (s := S256x1024) ![0, 0] S256x1024.size inb_S256x1024_S256x1024_0_0
abbrev r0_1 : Rect S2048x2048 := Rect.unit (s := S2048x2048) ![0, 0] S1024x2048.size inb_S2048x2048_S1024x2048_0_0
abbrev r0_2 : Rect S2048x2048 := Rect.unit (s := S2048x2048) ![1024, 0] S1024x2048.size inb_S2048x2048_S1024x2048_1024_0
abbrev r0_3 : Rect S256x2048 := Rect.unit (s := S256x2048) ![0, 0] S256x2048.size inb_S256x2048_S256x2048_0_0
abbrev r0_4 : Rect S1x1x2048 := Rect.unit (s := S1x1x2048) ![0, 0, 0] S1x1x2048.size inb_S1x1x2048_S1x1x2048_0_0_0
abbrev r0_5 : Rect S1x2048 := Rect.unit (s := S1x2048) ![0, 0] S1x2048.size inb_S1x2048_S1x2048_0_0
abbrev r0_22 : Rect S2048x128 := Rect.unit (s := S2048x128) ![0, 0] S2048x128.size inb_S2048x128_S2048x128_0_0
abbrev r0_23 : Rect S256x128 := Rect.unit (s := S256x128) ![0, 0] S256x128.size inb_S256x128_S256x128_0_0
abbrev r0_24 : Rect S2048x512 := Rect.unit (s := S2048x512) ![0, 0] S2048x512.size inb_S2048x512_S2048x512_0_0
abbrev r0_25 : Rect S512x2048 := Rect.unit (s := S512x2048) ![0, 0] S512x2048.size inb_S512x2048_S512x2048_0_0

/-! ## What the body leaves in each output window's buffer -/

section Left

variable (x0 x1 : Vec F S256x1024 .bf16) (x2 : Vec F S256x2048 .f32) (x3 x4 x5 x6 : Vec F S1x1x2048 .f32) (x7 x8 : Vec F S1x2048 .f32) (x9 : Vec F S2048x2048 .bf16) (x10 x11 : Vec F S2048x512 .bf16) (x12 : Vec F S512x2048 .bf16) (x13 x14 : Vec F S2048x128 .bf16)

/-- The normalised rows of a block, -/
def hidden : FVec F S256x2048 .f32 :=
  k0_pay9 (k0_pay4 (View.ld x7 r0_5)) (k0_pay5 (View.ld x8 r0_5)) (k0_pay7 (View.ld x0 r0_0) (View.ld x9 r0_1) (View.ld x1 r0_0) (View.ld x9 r0_2) (View.ld x2 r0_3) (View.ld x3 r0_4)) (k0_pay8 (View.ld x0 r0_0) (View.ld x9 r0_1) (View.ld x1 r0_0) (View.ld x9 r0_2) (View.ld x2 r0_3) (View.ld x3 r0_4))
/-- and the rows after the second modulation. -/
def modded : FVec F S256x2048 .f32 :=
  k0_pay10 (k0_pay4 (View.ld x7 r0_5)) (k0_pay5 (View.ld x8 r0_5)) (k0_pay7 (View.ld x0 r0_0) (View.ld x9 r0_1) (View.ld x1 r0_0) (View.ld x9 r0_2) (View.ld x2 r0_3) (View.ld x3 r0_4)) (k0_pay8 (View.ld x0 r0_0) (View.ld x9 r0_1) (View.ld x1 r0_0) (View.ld x9 r0_2) (View.ld x2 r0_3) (View.ld x3 r0_4)) (View.ld x4 r0_4) (View.ld x5 r0_4)

/-- The first output's buffer after the body: one store of the whole block. -/
def out0_15 : Vec F S256x2048 .f32 :=
  View.canon [⟨r0_3, k0_pay2 (hidden x0 x1 x2 x3 x7 x8 x9) (k0_pay27 (modded x0 x1 x2 x3 x4 x5 x7 x8 x9)) (View.ld x10 r0_24) (View.ld x11 r0_24) (View.ld x6 r0_4) (View.ld x12 r0_25)⟩]
/-- The store covers the block. -/
theorem cover0_15 (p0 : Vec F S256x2048 .f32) (y : S256x2048.Idx) :
    ∃ pc ∈ ([⟨r0_3, p0⟩] : List (View.Piece (Elt F) S256x2048 .f32)), y ∈ pc.1.set :=
  View.cover_of_tiled [⟨r0_3, p0⟩] S256x2048.size (by rfl) y

/-- The second output's buffer after the body: the modulated rows in short rows. -/
def out0_16 : Vec F S4096x128 .f32 :=
  Cert.Tiles.spread (modded x0 x1 x2 x3 x4 x5 x7 x8 x9)

/-- The third output's buffer after the body: one store of the whole block. -/
def out0_17 : Vec F S256x128 .f32 :=
  View.canon [⟨r0_23, k0_pay1 (k0_pay27 (modded x0 x1 x2 x3 x4 x5 x7 x8 x9)) (k0_pay28 (modded x0 x1 x2 x3 x4 x5 x7 x8 x9)) (k0_pay29 (modded x0 x1 x2 x3 x4 x5 x7 x8 x9) (View.ld x13 r0_22)) (View.ld x14 r0_22) (View.ld x13 r0_22)⟩]
/-- The store covers the block. -/
theorem cover0_17 (p0 : Vec F S256x128 .f32) (y : S256x128.Idx) :
    ∃ pc ∈ ([⟨r0_23, p0⟩] : List (View.Piece (Elt F) S256x128 .f32)), y ∈ pc.1.set :=
  View.cover_of_tiled [⟨r0_23, p0⟩] S256x128.size (by rfl) y

end Left

/-! ## The body's triple -/

set_option maxHeartbeats 1000000 in
/-- The body, run on whole buffers: the inputs stay, the outputs end as stated above. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S2048x2048 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S512x2048 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S256x2048 .f32) (harg16 : arg16.IsWhole) (arg17 : Memref sig .tc .vmem S4096x128 .f32) (harg17 : arg17.IsWhole) (arg18 : Memref sig .tc .vmem S256x128 .f32) (harg18 : arg18.IsWhole)
    (x0 : Vec F S256x1024 .bf16) (x1 : Vec F S256x1024 .bf16) (x2 : Vec F S256x2048 .f32) (x3 : Vec F S1x1x2048 .f32) (x4 : Vec F S1x1x2048 .f32) (x5 : Vec F S1x1x2048 .f32) (x6 : Vec F S1x1x2048 .f32) (x7 : Vec F S1x2048 .f32) (x8 : Vec F S1x2048 .f32) (x9 : Vec F S2048x2048 .bf16) (x10 : Vec F S2048x512 .bf16) (x11 : Vec F S2048x512 .bf16) (x12 : Vec F S512x2048 .bf16) (x13 : Vec F S2048x128 .bf16) (x14 : Vec F S2048x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12) ∗ owns (c : Thread nD τ) arg17 fullShare (out0_16 x0 x1 x2 x3 x4 x5 x7 x8 x9) ∗ owns (c : Thread nD τ) arg18 fullShare (out0_17 x0 x1 x2 x3 x4 x5 x7 x8 x9 x13 x14)) -∗ K ⟨⟩))
      ⊢ wp frame (wpE (defs₀ (F := F)) Variants.none c none) E (cc0__out_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__out_kernel_eq_skeleton]; unfold cc0__out_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    exact (View.read_writes_eq_canon _ _ _ (Cert.Tiles.cover (modded (arg1.view.read (Elt F) f0) (arg2.view.read (Elt F) f1) (arg3.view.read (Elt F) f2) (arg4.view.read (Elt F) f3) (arg5.view.read (Elt F) f4) (arg6.view.read (Elt F) f5) (arg8.view.read (Elt F) f7) (arg9.view.read (Elt F) f8) (arg10.view.read (Elt F) f9)))).trans (Cert.Tiles.canon_stored (modded (arg1.view.read (Elt F) f0) (arg2.view.read (Elt F) f1) (arg3.view.read (Elt F) f2) (arg4.view.read (Elt F) f3) (arg5.view.read (Elt F) f4) (arg6.view.read (Elt F) f5) (arg8.view.read (Elt F) f7) (arg9.view.read (Elt F) f8) (arg10.view.read (Elt F) f9)))
  iexists _; isplitr
  swap; · iexact H17
  ipureintro
  refine (View.read_writes_eq_canon _ _ _ (cover0_17 _)).trans ?_
  rfl

/-! ## The pipeline's proof data -/

/-- The proof data: the arrays as the call finds them; after a point the inputs at their blocks, the outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 7 t) (iblk m c 8 t) (iblk m c 9 t)
    | ⟨17, _⟩ => out0_17 (iblk m c 0 t) (iblk m c 1 t) (iblk m c 2 t) (iblk m c 3 t) (iblk m c 4 t) (iblk m c 5 t) (iblk m c 7 t) (iblk m c 8 t) (iblk m c 9 t) (iblk m c 13 t) (iblk m c 14 t)
    | ⟨_ + 18, h⟩ => absurd h (Nat.not_lt.2 (Nat.le_add_left _ _))
  Φ _ := Pipeline.ΦA spec0 c
  q w := Pipeline.shareOf spec0 w
  owed _ := 0

/-- The proof data starts from the arrays as the call finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 7 t) (iblk m c 8 t) (iblk m c 9 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 7 t) (iblk m c 8 t) (iblk m c 9 t) (iblk m c 13 t) (iblk m c 14 t) := by dsimp only [dats]

/-- The block of a window at a point. -/
theorem blockOf_eq (c : Dev nD) (w : Fin cfg0.W) (t : Fin cfg0.N) : (dats m 0 c).blockOf w t = iblk m c w t := by
  unfold Dat.blockOf iblk; rw [A_eq]

/-! A window only read holds its block whenever the body runs. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0, blockOf_eq]) t d).trans (blockOf_eq m c 0 t)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1, blockOf_eq]) t d).trans (blockOf_eq m c 1 t)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2, blockOf_eq]) t d).trans (blockOf_eq m c 2 t)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3, blockOf_eq]) t d).trans (blockOf_eq m c 3 t)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4, blockOf_eq]) t d).trans (blockOf_eq m c 4 t)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5, blockOf_eq]) t d).trans (blockOf_eq m c 5 t)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6, blockOf_eq]) t d).trans (blockOf_eq m c 6 t)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7, blockOf_eq]) t d).trans (blockOf_eq m c 7 t)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8, blockOf_eq]) t d).trans (blockOf_eq m c 8 t)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9, blockOf_eq]) t d).trans (blockOf_eq m c 9 t)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10, blockOf_eq]) t d).trans (blockOf_eq m c 10 t)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11, blockOf_eq]) t d).trans (blockOf_eq m c 11 t)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12, blockOf_eq]) t d).trans (blockOf_eq m c 12 t)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13, blockOf_eq]) t d).trans (blockOf_eq m c 13 t)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14, blockOf_eq]) t d).trans (blockOf_eq m c 14 t)

/-! ## The buffers the body is called with at a point -/

/-- Window `w`'s buffer at point `t`. -/
abbrev st0 (w : Fin cfg0.W) (t : Fin cfg0.N) := (cfg0.win w).stage (cfg0.slots t w)
/-- The body as it is called at point `t`. -/
abbrev bodyAt0 (t : Fin cfg0.N) : Prog (TpuEff nD τ sig (Elt F) Λ₀ .tc) PUnit :=
  cc0__out_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17))

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0 0 t) fullShare ((dats m 0 c).before 0 t d))
    ∗ (∃ d, owns (c : Thread nD τ) (st0 1 t) fullShare ((dats m 0 c).before 1 t d))
    ∗ (∃ d, owns (c : Thread nD τ) (st0 2 t) fullShare ((dats m 0 c).before 2 t d))
    ∗ (∃ d, owns (c : Thread nD τ) (st0 3 t) fullShare ((dats m 0 c).before 3 t d))
    ∗ (∃ d, owns (c : Thread nD τ) (st0 4 t) fullShare ((dats m 0 c).before 4 t d))
    ∗ (∃ d, owns (c : Thread nD τ) (st0 5 t) fullShare ((dats m 0 c).before 5 t d))
    ∗ (∃ d, owns (c : Thread nD τ) (st0 6 t) fullShare ((dats m 0 c).before 6 t d))
    ∗ (∃ d, owns (c : Thread nD τ) (st0 7 t) fullShare ((dats m 0 c).before 7 t d))
    ∗ (∃ d, owns (c : Thread nD τ) (st0 8 t) fullShare ((dats m 0 c).before 8 t d))
    ∗ (∃ d, owns (c : Thread nD τ) (st0 9 t) fullShare ((dats m 0 c).before 9 t d))
    ∗ (∃ d, owns (c : Thread nD τ) (st0 10 t) fullShare ((dats m 0 c).before 10 t d))
    ∗ (∃ d, owns (c : Thread nD τ) (st0 11 t) fullShare ((dats m 0 c).before 11 t d))
    ∗ (∃ d, owns (c : Thread nD τ) (st0 12 t) fullShare ((dats m 0 c).before 12 t d))
    ∗ (∃ d, owns (c : Thread nD τ) (st0 13 t) fullShare ((dats m 0 c).before 13 t d))
    ∗ (∃ d, owns (c : Thread nD τ) (st0 14 t) fullShare ((dats m 0 c).before 14 t d))
    ∗ (∃ d, owns (c : Thread nD τ) (st0 15 t) fullShare ((dats m 0 c).before 15 t d))
    ∗ (∃ d, owns (c : Thread nD τ) (st0 16 t) fullShare ((dats m 0 c).before 16 t d))
    ∗ (∃ d, owns (c : Thread nD τ) (st0 17 t) fullShare ((dats m 0 c).before 17 t d)))

/-- What it returns, window by window. -/
def bodyPost (c : Dev nD) (t : Fin cfg0.N) : sProp 𝕄 :=
  iprop((dats m 0 c).Φ t.succ ∗ (dats m 0 c).owesAt () t.succ
    ∗ owns (c : Thread nD τ) (st0 0 t) fullShare ((dats m 0 c).after 0 t)
    ∗ owns (c : Thread nD τ) (st0 1 t) fullShare ((dats m 0 c).after 1 t)
    ∗ owns (c : Thread nD τ) (st0 2 t) fullShare ((dats m 0 c).after 2 t)
    ∗ owns (c : Thread nD τ) (st0 3 t) fullShare ((dats m 0 c).after 3 t)
    ∗ owns (c : Thread nD τ) (st0 4 t) fullShare ((dats m 0 c).after 4 t)
    ∗ owns (c : Thread nD τ) (st0 5 t) fullShare ((dats m 0 c).after 5 t)
    ∗ owns (c : Thread nD τ) (st0 6 t) fullShare ((dats m 0 c).after 6 t)
    ∗ owns (c : Thread nD τ) (st0 7 t) fullShare ((dats m 0 c).after 7 t)
    ∗ owns (c : Thread nD τ) (st0 8 t) fullShare ((dats m 0 c).after 8 t)
    ∗ owns (c : Thread nD τ) (st0 9 t) fullShare ((dats m 0 c).after 9 t)
    ∗ owns (c : Thread nD τ) (st0 10 t) fullShare ((dats m 0 c).after 10 t)
    ∗ owns (c : Thread nD τ) (st0 11 t) fullShare ((dats m 0 c).after 11 t)
    ∗ owns (c : Thread nD τ) (st0 12 t) fullShare ((dats m 0 c).after 12 t)
    ∗ owns (c : Thread nD τ) (st0 13 t) fullShare ((dats m 0 c).after 13 t)
    ∗ owns (c : Thread nD τ) (st0 14 t) fullShare ((dats m 0 c).after 14 t)
    ∗ owns (c : Thread nD τ) (st0 15 t) fullShare ((dats m 0 c).after 15 t)
    ∗ owns (c : Thread nD τ) (st0 16 t) fullShare ((dats m 0 c).after 16 t)
    ∗ owns (c : Thread nD τ) (st0 17 t) fullShare ((dats m 0 c).after 17 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body keeps its promise at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole run: the arrays end at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- From any memory the call ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_main_quiescent m ρ)

end Cert.Kernel4Ideal.Out

end
-- ==== Proof.OutSpec.lean ====
/-
  The output stage, row by row: the formulas of one token's row. The mixers' row times the output matrix is added to the scaled
  input row; the layer norm, the modulation, the router's logits and the shared expert follow. A row is a function of its column.
-/
module

public import Idealize.ShloMosaic.PureOps.Ideal
public import Idealize.ShloMosaic.Lib.Pointwise

@[expose] public section

set_option maxRecDepth 16384

noncomputable section

namespace Cert.OutStage

open Idealize.ShloMosaic

/-- The residual's factor, the row's length and the norm's epsilon, as the programs spell them. -/
abbrev calpha : EReal := Ideal.ofBits FTy.f32 0x3F9837F0#32
abbrev clen : EReal := Ideal.ofBits FTy.f32 0x45000000#32
abbrev ceps : EReal := Ideal.ofBits FTy.f32 0x3727C5AC#32

/-- A row of 2048 columns. -/
abbrev Row := Fin 2048 → EReal

/-- The mixers' row times the output matrix: the first half of the matrix's rows meets the convolution's row, the second half the retention's. -/
def mix (yh yr : Fin 1024 → EReal) (wo : Fin 2048 → Row) (j : Fin 2048) : EReal :=
  (∑ k : Fin 1024, yh k * wo ⟨k.val, by omega⟩ j) + ∑ k : Fin 1024, yr k * wo ⟨1024 + k.val, by omega⟩ j

/-- The row before the norm. -/
def pre (x g1 m : Row) (j : Fin 2048) : EReal := calpha * x j + g1 j * m j

/-- A row's mean. -/
def mean (v : Row) : EReal := Ideal.div (∑ k, v k) clen

/-- A row's mean square distance from its mean. -/
def var (v : Row) : EReal := Ideal.div (∑ k, (v k - mean v) * (v k - mean v)) clen

/-- The layer norm. -/
def norm (v g b : Row) (j : Fin 2048) : EReal := (v j - mean v) * Ideal.rsqrt (var v + ceps) * g j + b j

/-- The modulated row. -/
def modRow (h sc sh : Row) (j : Fin 2048) : EReal := h j * (1 + sc j) + sh j

/-- A row times a matrix. -/
def times {n d : Nat} (v : Fin n → EReal) (W : Fin n → Fin d → EReal) (j : Fin d) : EReal := ∑ k, v k * W k j

/-- The shared expert's hidden row. -/
def sharedHid (m : Row) (wg wu : Fin 2048 → Fin 512 → EReal) (f : Fin 512) : EReal :=
  times m wg f * Ideal.logistic (times m wg f) * times m wu f

/-- The stage's base row: the scaled normed row and the shared expert's output times its gate. -/
def base (h m g2 : Row) (wg wu : Fin 2048 → Fin 512 → EReal) (wd : Fin 512 → Row) (j : Fin 2048) : EReal :=
  calpha * h j + g2 j * times (sharedHid m wg wu) wd j

/-- The kernel's logits: the row and the router's weights in a high and a low part each, without the product of the two low parts. -/
def splitLogit {d : Nat} (m : Row) (rh rl : Fin 2048 → Fin d → EReal) (e : Fin d) : EReal :=
  (times m rh e + times m rl e) + times (fun k => m k - m k) rh e

/-- What the stage computes from: the mixers' rows, the input rows, the modulations, the output matrix, the norm's scale and shift, and the shared expert. -/
structure Args where
  yh : Fin 40960 → Fin 1024 → EReal
  yr : Fin 40960 → Fin 1024 → EReal
  x : Fin 40960 → Row
  md : Fin 16 → Fin 12288 → EReal
  wo : Fin 2048 → Row
  g : Row
  b : Row
  wg : Fin 2048 → Fin 512 → EReal
  wu : Fin 2048 → Fin 512 → EReal
  wd : Fin 512 → Row

/-- The row of the modulations that token row `r` takes: the first 8192 rows share row 0, each later run of 4096 rows has one of its own. -/
def seqOf (r : Fin 40960) : Fin 16 := ⟨if r.val < 8192 then 0 else 1 + (r.val - 8192) / 4096, by split <;> omega⟩

namespace Args

variable (A : Args)

/-- One of the six modulations of row `r`. -/
def part (r : Fin 40960) (c : Fin 6) : Row := fun k => A.md (seqOf r) ⟨2048 * c.val + k.val, by omega⟩

/-- Row `r` after the norm. -/
def hid (r : Fin 40960) : Row := norm (pre (A.x r) (A.part r 2) (mix (A.yh r) (A.yr r) A.wo)) A.g A.b

/-- Row `r` after the second modulation. -/
def mod (r : Fin 40960) : Row := modRow (A.hid r) (A.part r 4) (A.part r 3)

/-- Row `r` of the base. -/
def baseRow (r : Fin 40960) : Row := base (A.hid r) (A.mod r) (A.part r 5) A.wg A.wu A.wd

/-- The second result: sixteen short rows for each row. -/
def short (i : (⟨2, ![655360, 128]⟩ : Shape).Idx) : EReal :=
  A.mod ⟨(i 0).val / 16, by have h : (i 0).val < 655360 := (i 0).isLt; omega⟩ ⟨128 * ((i 0).val % 16) + (i 1).val, by have h : (i 1).val < 128 := (i 1).isLt; omega⟩

/-- The first result. -/
def baseArr (i : (⟨2, ![40960, 2048]⟩ : Shape).Idx) : EReal := A.baseRow (i 0) (i 1)

/-- The third result as the kernel makes it, from the router's two parts. -/
def splitArr (rh rl : Fin 2048 → Fin 128 → EReal) (i : (⟨2, ![40960, 128]⟩ : Shape).Idx) : EReal := splitLogit (A.mod (i 0)) rh rl (i 1)

/-- The third result: the router's logits, from the router's matrix. -/
def logitArr (rw : Fin 2048 → Fin 128 → EReal) (i : (⟨2, ![40960, 128]⟩ : Shape).Idx) : EReal := times (A.mod (i 0)) rw (i 1)

end Args

/-- The rows of both batches, one array: the first batch's 32 sequences of 256, then the second's 8 of 4096. -/
def bothRows (x : (⟨3, ![32, 256, 2048]⟩ : Shape).Idx → EReal) (y : (⟨3, ![8, 4096, 2048]⟩ : Shape).Idx → EReal) (r : Fin 40960) : Row := fun k =>
  if h : r.val < 8192 then x (ix3 ⟨r.val / 256, by omega⟩ ⟨r.val % 256, by omega⟩ k)
  else y (ix3 ⟨(r.val - 8192) / 4096, by omega⟩ ⟨(r.val - 8192) % 4096, by omega⟩ k)

/-- The stage's data, from the programs' arguments. -/
def Args.of (a0 a1 : (⟨2, ![40960, 1024]⟩ : Shape).Idx → EReal) (a2 : (⟨3, ![32, 256, 2048]⟩ : Shape).Idx → EReal) (a3 : (⟨3, ![8, 4096, 2048]⟩ : Shape).Idx → EReal)
    (a4 : (⟨2, ![16, 12288]⟩ : Shape).Idx → EReal) (a5 : (⟨2, ![2048, 2048]⟩ : Shape).Idx → EReal) (a6 a7 : (⟨1, ![2048]⟩ : Shape).Idx → EReal)
    (a9 a10 : (⟨2, ![2048, 512]⟩ : Shape).Idx → EReal) (a11 : (⟨2, ![512, 2048]⟩ : Shape).Idx → EReal) : Args where
  yh := fun r k => a0 (ix2 r k)
  yr := fun r k => a1 (ix2 r k)
  x := bothRows a2 a3
  md := fun s k => a4 (ix2 s k)
  wo := fun k j => a5 (ix2 k j)
  g := fun j => a6 (ix1 j)
  b := fun j => a7 (ix1 j)
  wg := fun k f => a9 (ix2 k f)
  wu := fun k f => a10 (ix2 k f)
  wd := fun f j => a11 (ix2 f j)

/-- The router's matrix in 128 columns: its own 64, then zeros. -/
def padded (w : (⟨2, ![2048, 64]⟩ : Shape).Idx → EReal) (k : Fin 2048) (e : Fin 128) : EReal := if h : e.val < 64 then w (ix2 k ⟨e.val, h⟩) else 0

end Cert.OutStage

end
-- ==== Proof.OutPoint.lean ====
/-
  The output stage's arithmetic on one block of 256 rows, at a row and a column, in the formulas of one row.
-/
module

public import proofs.«01_k».proof.Proof.Gen.Kernel4Ideal.Skeleton
public import proofs.«01_k».proof.Proof.OutSpec
public import Idealize.ShloMosaic.Lib.Pipeline.Value
public import Idealize.ShloMosaic.Lib.Pointwise

@[expose] public section

set_option maxRecDepth 16384

noncomputable section

namespace Cert.Kernel4Ideal.Out

open Cert.Kernel4Ideal Cert.Kernel4Ideal.Gen Idealize.ShloMosaic Idealize.ShloMosaic.TcCoe Idealize.SL.Sem
open Idealize.ShloMosaic.Pipeline (Dat)
open Cert.OutStage

/-- Row `a` of a block. -/
abbrev rowOf {n d : Nat} (x : (⟨2, ![n, d]⟩ : Shape).Idx → EReal) (a : Fin n) : Fin d → EReal := fun k => x (ix2 a k)
/-- A matrix as a function of its row and column. -/
abbrev mat {n d : Nat} (x : (⟨2, ![n, d]⟩ : Shape).Idx → EReal) : Fin n → Fin d → EReal := fun k j => x (ix2 k j)
/-- The row of a block of one row. -/
abbrev only {d : Nat} (x : (⟨3, ![1, 1, d]⟩ : Shape).Idx → EReal) : Fin d → EReal := fun k => x (ix3 0 0 k)

theorem dot_half (x : S256x1024.Idx → EReal) (w : S1024x2048.Idx → EReal) (a : Fin 256) (j : Fin 2048) :
    matmul (F := Ideal) (φ₁ := .bf16) (φ₂ := .bf16) dot_S256x1024_S1024x2048_S256x2048_1_0_0_1_n_n none x w (constant S256x2048 .f32 0x00000000#32) (ix2 a j)
      = ∑ k : Fin 1024, x (ix2 a k) * w (ix2 k j) := by
  simp only [pointwise]; exact zero_add _

theorem dot_router (x : S256x2048.Idx → EReal) (w : S2048x128.Idx → EReal) (a : Fin 256) (j : Fin 128) :
    matmul (F := Ideal) (φ₁ := .bf16) (φ₂ := .bf16) dot_S256x2048_S2048x128_S256x128_1_0_0_1_n_n none x w (constant S256x128 .f32 0x00000000#32) (ix2 a j)
      = ∑ k : Fin 2048, x (ix2 a k) * w (ix2 k j) := by
  simp only [pointwise]; exact zero_add _

theorem dot_up (x : S256x2048.Idx → EReal) (w : S2048x512.Idx → EReal) (a : Fin 256) (j : Fin 512) :
    matmul (F := Ideal) (φ₁ := .bf16) (φ₂ := .bf16) dot_S256x2048_S2048x512_S256x512_1_0_0_1_n_n none x w (constant S256x512 .f32 0x00000000#32) (ix2 a j)
      = ∑ k : Fin 2048, x (ix2 a k) * w (ix2 k j) := by
  simp only [pointwise]; exact zero_add _

theorem dot_down (x : S256x512.Idx → EReal) (w : S512x2048.Idx → EReal) (a : Fin 256) (j : Fin 2048) :
    matmul (F := Ideal) (φ₁ := .bf16) (φ₂ := .bf16) dot_S256x512_S512x2048_S256x2048_1_0_0_1_n_n none x w (constant S256x2048 .f32 0x00000000#32) (ix2 a j)
      = ∑ k : Fin 512, x (ix2 a k) * w (ix2 k j) := by
  simp only [pointwise]; exact zero_add _

theorem sum_row (x : S256x2048.Idx → EReal) (a : Fin 256) :
    shapeCast S256x1 (multiReduction (F := Ideal) (φ := .f32) .add [1] S256 x 0x00000000#32 reduces_S256x2048_S256 (.inl rfl) rfl : FVec Ideal S256 .f32) shapeCasts_S256_S256x1 (ix2 a 0)
      = ∑ k : Fin 2048, x (ix2 a k) := by
  rw [shapeCast_apply _ _ (ix2 a 0) (ix1 a) (by rw [Shape.rowMajor_val_two, Shape.rowMajor_val_one]; show a.val = a.val * 1 + 0; omega)]
  refine (Ideal.multiReduction_add_single (φ := .f32) (s := S256x2048) (t := S256) (a := 1) x _ reduces_S256x2048_S256 _ _ (ix1 a)).trans ?_
  refine Finset.sum_congr rfl fun k _ => ?_
  congr 1; funext z; match z with | ⟨0, _⟩ => rfl | ⟨1, _⟩ => rfl

/-- The row before the norm. -/
theorem pre_apply (y0 y1 : S256x1024.Idx → EReal) (w0 w1 : S1024x2048.Idx → EReal) (x : S256x2048.Idx → EReal) (g : S1x1x2048.Idx → EReal)
    (wo : Fin 2048 → Row) (h0 : ∀ (k : Fin 1024) j, w0 (ix2 k j) = wo ⟨k.val, by omega⟩ j) (h1 : ∀ (k : Fin 1024) j, w1 (ix2 k j) = wo ⟨1024 + k.val, by omega⟩ j)
    (a : Fin 256) (j : Fin 2048) :
    k0_pay3 (F := Ideal) y0 w0 y1 w1 x g (ix2 a j) = pre (rowOf x a) (only g) (mix (rowOf y0 a) (rowOf y1 a) wo) j := by
  unfold k0_pay3
  simp only [shapeCast_self]
  have e0 := dot_half y0 w0 a j
  have e1 := dot_half y1 w1 a j
  simp only [h0] at e0
  simp only [h1] at e1
  refine congrArg₂ (· + ·) rfl (congrArg₂ (· * ·) ?_ (congrArg₂ (· + ·) e0 e1))
  simp only [pointwise]
  rfl

/-- A row's mean. -/
theorem mean_apply (y0 y1 : S256x1024.Idx → EReal) (w0 w1 : S1024x2048.Idx → EReal) (x : S256x2048.Idx → EReal) (g : S1x1x2048.Idx → EReal) (a : Fin 256) :
    k0_pay6 (F := Ideal) y0 w0 y1 w1 x g (ix2 a 0) = mean (rowOf (k0_pay3 (F := Ideal) y0 w0 y1 w1 x g) a) :=
  congrArg (fun s => Ideal.div s clen) (sum_row _ a)

/-- The distance from the mean. -/
theorem centred_apply (y0 y1 : S256x1024.Idx → EReal) (w0 w1 : S1024x2048.Idx → EReal) (x : S256x2048.Idx → EReal) (g : S1x1x2048.Idx → EReal) (a : Fin 256)
    (j : Fin 2048) :
    k0_pay8 (F := Ideal) y0 w0 y1 w1 x g (ix2 a j)
      = rowOf (k0_pay3 (F := Ideal) y0 w0 y1 w1 x g) a j - mean (rowOf (k0_pay3 (F := Ideal) y0 w0 y1 w1 x g) a) := by
  rw [← mean_apply]
  unfold k0_pay8
  generalize k0_pay6 (F := Ideal) y0 w0 y1 w1 x g = M
  generalize k0_pay3 (F := Ideal) y0 w0 y1 w1 x g = P
  simp only [pointwise]
  rfl

/-- The mean square distance from the mean. -/
theorem var_apply (y0 y1 : S256x1024.Idx → EReal) (w0 w1 : S1024x2048.Idx → EReal) (x : S256x2048.Idx → EReal) (g : S1x1x2048.Idx → EReal) (a : Fin 256) :
    k0_pay7 (F := Ideal) y0 w0 y1 w1 x g (ix2 a 0) = var (rowOf (k0_pay3 (F := Ideal) y0 w0 y1 w1 x g) a) := by
  refine (congrArg (fun s => Ideal.div s clen) (sum_row _ a)).trans ?_
  refine congrArg (fun s => Ideal.div s clen) (Finset.sum_congr rfl fun k _ => ?_)
  exact congrArg (fun d : EReal => d * d) (centred_apply y0 y1 w0 w1 x g a k)

/-- The layer norm's row, from its mean square distance and its distances. -/
theorem hidden_apply (g b : S1x2048.Idx → EReal) (v : S256x1.Idx → EReal) (d : S256x2048.Idx → EReal) (a : Fin 256) (j : Fin 2048) :
    k0_pay9 (F := Ideal) g b v d (ix2 a j) = d (ix2 a j) * Ideal.rsqrt (v (ix2 a 0) + ceps) * g (ix2 0 j) + b (ix2 0 j) := by
  unfold k0_pay9
  simp only [pointwise]
  rfl

/-- The modulated row. -/
theorem modded_apply (g b : S1x2048.Idx → EReal) (v : S256x1.Idx → EReal) (d : S256x2048.Idx → EReal) (sc sh : S1x1x2048.Idx → EReal) (a : Fin 256)
    (j : Fin 2048) :
    k0_pay10 (F := Ideal) g b v d sc sh (ix2 a j) = modRow (rowOf (k0_pay9 (F := Ideal) g b v d) a) (only sc) (only sh) j := by
  unfold k0_pay10
  generalize k0_pay9 (F := Ideal) g b v d = H
  simp only [pointwise]
  rfl

/-- The logits. -/
theorem logits_apply (M : S256x2048.Idx → EReal) (rh rl : S2048x128.Idx → EReal) (a : Fin 256) (e : Fin 128) :
    k0_pay1 (F := Ideal) (k0_pay27 (F := Ideal) M) (k0_pay28 (F := Ideal) M) (k0_pay29 (F := Ideal) M rh) rl rh (ix2 a e)
      = splitLogit (rowOf M a) (mat rh) (mat rl) e := by
  unfold k0_pay1 k0_pay29
  simp only [shapeCast_self]
  refine congrArg₂ (· + ·) (congrArg₂ (· + ·) ?_ ?_) ?_
  · exact dot_router M rh a e
  · exact dot_router M rl a e
  · exact dot_router (fun i => M i - M i) rh a e

/-- The base row. -/
theorem base_apply (H M : S256x2048.Idx → EReal) (wg wu : S2048x512.Idx → EReal) (g2 : S1x1x2048.Idx → EReal) (wd : S512x2048.Idx → EReal) (a : Fin 256)
    (j : Fin 2048) :
    k0_pay2 (F := Ideal) H (k0_pay27 (F := Ideal) M) wg wu g2 wd (ix2 a j) = base (rowOf H a) (rowOf M a) (only g2) (mat wg) (mat wu) (mat wd) j := by
  unfold k0_pay2
  simp only [shapeCast_self]
  refine congrArg₂ (· + ·) rfl (congrArg₂ (· * ·) ?_ ?_)
  · simp only [pointwise]
    rfl
  · refine (dot_down _ wd a j).trans (Finset.sum_congr rfl fun f _ => congrArg (· * wd (ix2 f j)) ?_)
    have eg := dot_up M wg a f
    have eu := dot_up M wu a f
    exact congrArg₂ (· * ·) (congrArg (fun s => s * Ideal.logistic s) eg) eu

end Cert.Kernel4Ideal.Out

end
-- ==== Proof.OutBody.lean ====
/-
  The output stage's kernel: what its three result arrays hold after the run.

  The grid is 160 tiles of 256 rows. At each the body adds the product of the mixers' rows and the output matrix to the input rows, normalises, modulates,
  and writes its rows of the three results: the base, the modulated rows cut in pieces of 128 columns, and the router's logits.
-/
module

public import proofs.«01_k».proof.Proof.OutFrame
public import proofs.«01_k».proof.Proof.OutPoint
public import Idealize.ShloMosaic.Lib.Pipeline.ValueKit.Tiles

@[expose] public section

set_option maxRecDepth 16384

noncomputable section

namespace Cert.Kernel4Ideal.Out

open Cert.Kernel4Ideal Cert.Kernel4Ideal.Gen Idealize.ShloMosaic Idealize.ShloMosaic.TcCoe Idealize.SL.Sem
open Idealize.ShloMosaic.Pipeline (Dat)
open Cert.OutStage

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The upper half of the output matrix, as the body loads it. -/
theorem ld_top (x : Vec Ideal S2048x2048 .bf16) (k : Fin 1024) (j : Fin 2048) :
    View.ld x r0_1 (ix2 k j) = mat x ⟨k.val, by omega⟩ j :=
  congrArg x (funext fun z => Fin.ext (match z with
    | ⟨0, _⟩ => by show 0 + 1 * k.val = k.val; omega
    | ⟨1, _⟩ => by show 0 + 1 * j.val = j.val; omega))

/-- The lower half. -/
theorem ld_bottom (x : Vec Ideal S2048x2048 .bf16) (k : Fin 1024) (j : Fin 2048) :
    View.ld x r0_2 (ix2 k j) = mat x ⟨1024 + k.val, by omega⟩ j :=
  congrArg x (funext fun z => Fin.ext (match z with
    | ⟨0, _⟩ => by show 1024 + 1 * k.val = 1024 + k.val; omega
    | ⟨1, _⟩ => by show 0 + 1 * j.val = j.val; omega))

/-- A block's row after the norm. -/
theorem hidden_row (x0 : S256x1024.Idx → EReal) (x1 : S256x1024.Idx → EReal) (x2 : S256x2048.Idx → EReal) (x3 : S1x1x2048.Idx → EReal) (x7 : S1x2048.Idx → EReal) (x8 : S1x2048.Idx → EReal) (x9 : S2048x2048.Idx → EReal) (a : Fin 256) :
    rowOf (hidden (F := Ideal) x0 x1 x2 x3 x7 x8 x9) a = norm (pre (rowOf x2 a) (only x3) (mix (rowOf x0 a) (rowOf x1 a) (mat x9))) (fun j => x7 (ix2 0 j)) (fun j => x8 (ix2 0 j)) := by
  funext j
  show hidden (F := Ideal) x0 x1 x2 x3 x7 x8 x9 (ix2 a j) = _
  unfold hidden k0_pay4 k0_pay5
  rw [hidden_apply, centred_apply, var_apply]
  have e : rowOf (k0_pay3 (F := Ideal) (View.ld x0 r0_0) (View.ld x9 r0_1) (View.ld x1 r0_0) (View.ld x9 r0_2) (View.ld x2 r0_3) (View.ld x3 r0_4)) a
      = pre (rowOf x2 a) (only x3) (mix (rowOf x0 a) (rowOf x1 a) (mat x9)) := by
    funext k
    refine (pre_apply _ _ _ _ _ _ (mat x9) (ld_top x9) (ld_bottom x9) a k).trans ?_
    simp only [View.ld_unit_zero (S := S256x1024) hz2, View.ld_unit_zero (S := S256x2048) hz2, View.ld_unit_zero (S := S1x1x2048) hz3]
  rw [e]
  simp only [shapeCast_self, View.ld_unit_zero (S := S1x2048) hz2]
  rfl

/-- A block's row after the modulation. -/
theorem modded_row (x0 : S256x1024.Idx → EReal) (x1 : S256x1024.Idx → EReal) (x2 : S256x2048.Idx → EReal) (x3 : S1x1x2048.Idx → EReal) (x4 : S1x1x2048.Idx → EReal) (x5 : S1x1x2048.Idx → EReal) (x7 : S1x2048.Idx → EReal) (x8 : S1x2048.Idx → EReal) (x9 : S2048x2048.Idx → EReal) (a : Fin 256) :
    rowOf (modded (F := Ideal) x0 x1 x2 x3 x4 x5 x7 x8 x9) a = modRow (rowOf (hidden (F := Ideal) x0 x1 x2 x3 x7 x8 x9) a) (only x4) (only x5) := by
  funext j
  show modded (F := Ideal) x0 x1 x2 x3 x4 x5 x7 x8 x9 (ix2 a j) = _
  unfold modded hidden
  rw [modded_apply]
  simp only [View.ld_unit_zero (S := S1x1x2048) hz3]

/-- A block of the base at an index. -/
theorem out15_apply (x0 : S256x1024.Idx → EReal) (x1 : S256x1024.Idx → EReal) (x2 : S256x2048.Idx → EReal) (x3 : S1x1x2048.Idx → EReal) (x4 : S1x1x2048.Idx → EReal) (x5 : S1x1x2048.Idx → EReal) (x6 : S1x1x2048.Idx → EReal) (x7 : S1x2048.Idx → EReal) (x8 : S1x2048.Idx → EReal) (x9 : S2048x2048.Idx → EReal) (x10 : S2048x512.Idx → EReal) (x11 : S2048x512.Idx → EReal) (x12 : S512x2048.Idx → EReal) (a : Fin 256) (j : Fin 2048) :
    out0_15 (F := Ideal) x0 x1 x2 x3 x4 x5 x6 x7 x8 x9 x10 x11 x12 (ix2 a j)
      = base (rowOf (hidden (F := Ideal) x0 x1 x2 x3 x7 x8 x9) a) (rowOf (modded (F := Ideal) x0 x1 x2 x3 x4 x5 x7 x8 x9) a) (only x6) (mat x10) (mat x11) (mat x12) j := by
  unfold out0_15
  rw [View.canon_unit_zero (S := S256x2048) hz2]
  refine (base_apply _ _ _ _ _ _ a j).trans ?_
  simp only [View.ld_unit_zero (S := S1x1x2048) hz3, View.ld_unit_zero (S := S2048x512) hz2, View.ld_unit_zero (S := S512x2048) hz2]

/-- A block of the logits at an index. -/
theorem out17_apply (x0 : S256x1024.Idx → EReal) (x1 : S256x1024.Idx → EReal) (x2 : S256x2048.Idx → EReal) (x3 : S1x1x2048.Idx → EReal) (x4 : S1x1x2048.Idx → EReal) (x5 : S1x1x2048.Idx → EReal) (x7 : S1x2048.Idx → EReal) (x8 : S1x2048.Idx → EReal) (x9 : S2048x2048.Idx → EReal) (x13 : S2048x128.Idx → EReal) (x14 : S2048x128.Idx → EReal) (a : Fin 256) (e : Fin 128) :
    out0_17 (F := Ideal) x0 x1 x2 x3 x4 x5 x7 x8 x9 x13 x14 (ix2 a e) = splitLogit (rowOf (modded (F := Ideal) x0 x1 x2 x3 x4 x5 x7 x8 x9) a) (mat x13) (mat x14) e := by
  unfold out0_17
  rw [View.canon_unit_zero (S := S256x128) hz2]
  refine (logits_apply _ _ _ a e).trans ?_
  simp only [View.ld_unit_zero (S := S2048x128) hz2]

end Cert.Kernel4Ideal.Out

end
-- ==== Proof.OutBlocks.lean ====
/-
  The output stage's kernel: what its three result arrays hold after the run, from the arrays the call finds.
-/
module

public import proofs.«01_k».proof.Proof.OutBody

@[expose] public section

set_option maxRecDepth 16384

noncomputable section

namespace Cert.Kernel4Ideal.Out

open Cert.Kernel4Ideal Cert.Kernel4Ideal.Gen Idealize.ShloMosaic Idealize.ShloMosaic.TcCoe Idealize.SL.Sem
open Idealize.ShloMosaic.Pipeline (Dat)
open Cert.OutStage

variable (m : (ℓ : Loc nD τ sig) → Buf (Elt Ideal) ℓ) (ρ : Dev nD → PrngReg)

/-- The windows of rows move down one block a point. -/
theorem maps_rows : ∀ t : Fin cfg0.N, win0_0.index t = ![t.val, 0] ∧ win0_1.index t = ![t.val, 0] ∧ win0_2.index t = ![t.val, 0] ∧ win0_15.index t = ![t.val, 0] ∧ win0_16.index t = ![t.val, 0] ∧ win0_17.index t = ![t.val, 0] :=
  (by decide +kernel : ∀ t : Fin grid0.N, _)

/-- The modulations' windows: the sequence of the point's rows, and one of the six parts. -/
theorem maps_mods : ∀ t : Fin cfg0.N, win0_3.index t = ![if t.val < 32 then 0 else 1 + (t.val - 32) / 16, 0, 2] ∧ win0_4.index t = ![if t.val < 32 then 0 else 1 + (t.val - 32) / 16, 0, 4] ∧ win0_5.index t = ![if t.val < 32 then 0 else 1 + (t.val - 32) / 16, 0, 3] ∧ win0_6.index t = ![if t.val < 32 then 0 else 1 + (t.val - 32) / 16, 0, 5] :=
  (by decide +kernel : ∀ t : Fin grid0.N, _)

/-- The other windows hold a whole array. -/
theorem maps_whole : ∀ t : Fin cfg0.N, win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem iblk0_apply (c : Dev nD) (t : Fin cfg0.N) (a : Fin 256) (k : Fin 1024) (r : Fin 40960) (hr : r.val = t.val * 256 + a.val) :
    iblk m c 0 t (ix2 a k) = V m c main_arg0 (ix2 r k) := by
  have e := (maps_rows t).1
  show V m c main_arg0 (((cfg0.win 0).blk t).view.emb (ix2 a k)) = _
  congr 1
  funext x
  apply Fin.ext
  match x with
  | ⟨0, _⟩ => show win0_0.index t 0 * 256 + 1 * a.val = r.val; rw [congrFun e 0, hr]; show t.val * 256 + 1 * a.val = _; omega
  | ⟨1, _⟩ => show win0_0.index t 1 * 1024 + 1 * k.val = k.val; rw [congrFun e 1]; show 0 * 1024 + 1 * k.val = _; omega

theorem iblk1_apply (c : Dev nD) (t : Fin cfg0.N) (a : Fin 256) (k : Fin 1024) (r : Fin 40960) (hr : r.val = t.val * 256 + a.val) :
    iblk m c 1 t (ix2 a k) = V m c main_arg1 (ix2 r k) := by
  have e := (maps_rows t).2.1
  show V m c main_arg1 (((cfg0.win 1).blk t).view.emb (ix2 a k)) = _
  congr 1
  funext x
  apply Fin.ext
  match x with
  | ⟨0, _⟩ => show win0_1.index t 0 * 256 + 1 * a.val = r.val; rw [congrFun e 0, hr]; show t.val * 256 + 1 * a.val = _; omega
  | ⟨1, _⟩ => show win0_1.index t 1 * 1024 + 1 * k.val = k.val; rw [congrFun e 1]; show 0 * 1024 + 1 * k.val = _; omega

theorem iblk2_apply (c : Dev nD) (t : Fin cfg0.N) (a : Fin 256) (k : Fin 2048) (r : Fin 40960) (hr : r.val = t.val * 256 + a.val) :
    iblk m c 2 t (ix2 a k) = V m c main_v2 (ix2 r k) := by
  have e := (maps_rows t).2.2.1
  show V m c main_v2 (((cfg0.win 2).blk t).view.emb (ix2 a k)) = _
  congr 1
  funext x
  apply Fin.ext
  match x with
  | ⟨0, _⟩ => show win0_2.index t 0 * 256 + 1 * a.val = r.val; rw [congrFun e 0, hr]; show t.val * 256 + 1 * a.val = _; omega
  | ⟨1, _⟩ => show win0_2.index t 1 * 2048 + 1 * k.val = k.val; rw [congrFun e 1]; show 0 * 2048 + 1 * k.val = _; omega

theorem seq_eq (q : ℕ) (r : Fin 40960) (h : r.val / 256 = q) : (if q < 32 then 0 else 1 + (q - 32) / 16) = (seqOf r).val := by
  show _ = if r.val < 8192 then 0 else 1 + (r.val - 8192) / 4096
  by_cases h' : q < 32
  · rw [if_pos h', if_pos (by omega)]
  · rw [if_neg h', if_neg (by omega)]; omega

theorem iblk3_apply (c : Dev nD) (t : Fin cfg0.N) (k : Fin 2048) (r : Fin 40960) (hr : r.val / 256 = t.val) :
    iblk m c 3 t (ix3 0 0 k) = V m c main_v3 (ix3 (seqOf r) 0 ⟨2048 * 2 + k.val, by omega⟩) := by
  have e := (maps_mods t).1
  show V m c main_v3 (((cfg0.win 3).blk t).view.emb (ix3 0 0 k)) = _
  congr 1
  funext x
  apply Fin.ext
  match x with
  | ⟨0, _⟩ => show win0_3.index t 0 * 1 + 1 * 0 = (seqOf r).val; rw [congrFun e 0, ← seq_eq _ _ hr]; exact Nat.mul_one _
  | ⟨1, _⟩ => show win0_3.index t 1 * 1 + 1 * 0 = 0; rw [congrFun e 1]; rfl
  | ⟨2, _⟩ => show win0_3.index t 2 * 2048 + 1 * k.val = 2048 * 2 + k.val; rw [congrFun e 2]; show 2 * 2048 + 1 * k.val = _; omega

theorem iblk4_apply (c : Dev nD) (t : Fin cfg0.N) (k : Fin 2048) (r : Fin 40960) (hr : r.val / 256 = t.val) :
    iblk m c 4 t (ix3 0 0 k) = V m c main_v3 (ix3 (seqOf r) 0 ⟨2048 * 4 + k.val, by omega⟩) := by
  have e := (maps_mods t).2.1
  show V m c main_v3 (((cfg0.win 4).blk t).view.emb (ix3 0 0 k)) = _
  congr 1
  funext x
  apply Fin.ext
  match x with
  | ⟨0, _⟩ => show win0_4.index t 0 * 1 + 1 * 0 = (seqOf r).val; rw [congrFun e 0, ← seq_eq _ _ hr]; exact Nat.mul_one _
  | ⟨1, _⟩ => show win0_4.index t 1 * 1 + 1 * 0 = 0; rw [congrFun e 1]; rfl
  | ⟨2, _⟩ => show win0_4.index t 2 * 2048 + 1 * k.val = 2048 * 4 + k.val; rw [congrFun e 2]; show 4 * 2048 + 1 * k.val = _; omega

theorem iblk5_apply (c : Dev nD) (t : Fin cfg0.N) (k : Fin 2048) (r : Fin 40960) (hr : r.val / 256 = t.val) :
    iblk m c 5 t (ix3 0 0 k) = V m c main_v3 (ix3 (seqOf r) 0 ⟨2048 * 3 + k.val, by omega⟩) := by
  have e := (maps_mods t).2.2.1
  show V m c main_v3 (((cfg0.win 5).blk t).view.emb (ix3 0 0 k)) = _
  congr 1
  funext x
  apply Fin.ext
  match x with
  | ⟨0, _⟩ => show win0_5.index t 0 * 1 + 1 * 0 = (seqOf r).val; rw [congrFun e 0, ← seq_eq _ _ hr]; exact Nat.mul_one _
  | ⟨1, _⟩ => show win0_5.index t 1 * 1 + 1 * 0 = 0; rw [congrFun e 1]; rfl
  | ⟨2, _⟩ => show win0_5.index t 2 * 2048 + 1 * k.val = 2048 * 3 + k.val; rw [congrFun e 2]; show 3 * 2048 + 1 * k.val = _; omega

theorem iblk6_apply (c : Dev nD) (t : Fin cfg0.N) (k : Fin 2048) (r : Fin 40960) (hr : r.val / 256 = t.val) :
    iblk m c 6 t (ix3 0 0 k) = V m c main_v3 (ix3 (seqOf r) 0 ⟨2048 * 5 + k.val, by omega⟩) := by
  have e := (maps_mods t).2.2.2
  show V m c main_v3 (((cfg0.win 6).blk t).view.emb (ix3 0 0 k)) = _
  congr 1
  funext x
  apply Fin.ext
  match x with
  | ⟨0, _⟩ => show win0_6.index t 0 * 1 + 1 * 0 = (seqOf r).val; rw [congrFun e 0, ← seq_eq _ _ hr]; exact Nat.mul_one _
  | ⟨1, _⟩ => show win0_6.index t 1 * 1 + 1 * 0 = 0; rw [congrFun e 1]; rfl
  | ⟨2, _⟩ => show win0_6.index t 2 * 2048 + 1 * k.val = 2048 * 5 + k.val; rw [congrFun e 2]; show 5 * 2048 + 1 * k.val = _; omega

theorem iblk7_apply (c : Dev nD) (t : Fin cfg0.N) (a : Fin 1) (k : Fin 2048) : iblk m c 7 t (ix2 a k) = V m c main_v11 (ix2 a k) := by
  have e := (maps_whole t).1
  show V m c main_v11 (((cfg0.win 7).blk t).view.emb (ix2 a k)) = _
  congr 1
  funext x
  apply Fin.ext
  match x with
  | ⟨0, _⟩ => show win0_7.index t 0 * 1 + 1 * a.val = a.val; rw [congrFun e 0]; show 0 * 1 + 1 * a.val = _; omega
  | ⟨1, _⟩ => show win0_7.index t 1 * 2048 + 1 * k.val = k.val; rw [congrFun e 1]; show 0 * 2048 + 1 * k.val = _; omega

theorem iblk8_apply (c : Dev nD) (t : Fin cfg0.N) (a : Fin 1) (k : Fin 2048) : iblk m c 8 t (ix2 a k) = V m c main_v12 (ix2 a k) := by
  have e := (maps_whole t).2.1
  show V m c main_v12 (((cfg0.win 8).blk t).view.emb (ix2 a k)) = _
  congr 1
  funext x
  apply Fin.ext
  match x with
  | ⟨0, _⟩ => show win0_8.index t 0 * 1 + 1 * a.val = a.val; rw [congrFun e 0]; show 0 * 1 + 1 * a.val = _; omega
  | ⟨1, _⟩ => show win0_8.index t 1 * 2048 + 1 * k.val = k.val; rw [congrFun e 1]; show 0 * 2048 + 1 * k.val = _; omega

theorem iblk9_apply (c : Dev nD) (t : Fin cfg0.N) (a : Fin 2048) (k : Fin 2048) : iblk m c 9 t (ix2 a k) = V m c main_v13 (ix2 a k) := by
  have e := (maps_whole t).2.2.1
  show V m c main_v13 (((cfg0.win 9).blk t).view.emb (ix2 a k)) = _
  congr 1
  funext x
  apply Fin.ext
  match x with
  | ⟨0, _⟩ => show win0_9.index t 0 * 2048 + 1 * a.val = a.val; rw [congrFun e 0]; show 0 * 2048 + 1 * a.val = _; omega
  | ⟨1, _⟩ => show win0_9.index t 1 * 2048 + 1 * k.val = k.val; rw [congrFun e 1]; show 0 * 2048 + 1 * k.val = _; omega

theorem iblk10_apply (c : Dev nD) (t : Fin cfg0.N) (a : Fin 2048) (k : Fin 512) : iblk m c 10 t (ix2 a k) = V m c main_v14 (ix2 a k) := by
  have e := (maps_whole t).2.2.2.1
  show V m c main_v14 (((cfg0.win 10).blk t).view.emb (ix2 a k)) = _
  congr 1
  funext x
  apply Fin.ext
  match x with
  | ⟨0, _⟩ => show win0_10.index t 0 * 2048 + 1 * a.val = a.val; rw [congrFun e 0]; show 0 * 2048 + 1 * a.val = _; omega
  | ⟨1, _⟩ => show win0_10.index t 1 * 512 + 1 * k.val = k.val; rw [congrFun e 1]; show 0 * 512 + 1 * k.val = _; omega

theorem iblk11_apply (c : Dev nD) (t : Fin cfg0.N) (a : Fin 2048) (k : Fin 512) : iblk m c 11 t (ix2 a k) = V m c main_v15 (ix2 a k) := by
  have e := (maps_whole t).2.2.2.2.1
  show V m c main_v15 (((cfg0.win 11).blk t).view.emb (ix2 a k)) = _
  congr 1
  funext x
  apply Fin.ext
  match x with
  | ⟨0, _⟩ => show win0_11.index t 0 * 2048 + 1 * a.val = a.val; rw [congrFun e 0]; show 0 * 2048 + 1 * a.val = _; omega
  | ⟨1, _⟩ => show win0_11.index t 1 * 512 + 1 * k.val = k.val; rw [congrFun e 1]; show 0 * 512 + 1 * k.val = _; omega

theorem iblk12_apply (c : Dev nD) (t : Fin cfg0.N) (a : Fin 512) (k : Fin 2048) : iblk m c 12 t (ix2 a k) = V m c main_v16 (ix2 a k) := by
  have e := (maps_whole t).2.2.2.2.2.1
  show V m c main_v16 (((cfg0.win 12).blk t).view.emb (ix2 a k)) = _
  congr 1
  funext x
  apply Fin.ext
  match x with
  | ⟨0, _⟩ => show win0_12.index t 0 * 512 + 1 * a.val = a.val; rw [congrFun e 0]; show 0 * 512 + 1 * a.val = _; omega
  | ⟨1, _⟩ => show win0_12.index t 1 * 2048 + 1 * k.val = k.val; rw [congrFun e 1]; show 0 * 2048 + 1 * k.val = _; omega

theorem iblk13_apply (c : Dev nD) (t : Fin cfg0.N) (a : Fin 2048) (k : Fin 128) : iblk m c 13 t (ix2 a k) = V m c main_v7 (ix2 a k) := by
  have e := (maps_whole t).2.2.2.2.2.2.1
  show V m c main_v7 (((cfg0.win 13).blk t).view.emb (ix2 a k)) = _
  congr 1
  funext x
  apply Fin.ext
  match x with
  | ⟨0, _⟩ => show win0_13.index t 0 * 2048 + 1 * a.val = a.val; rw [congrFun e 0]; show 0 * 2048 + 1 * a.val = _; omega
  | ⟨1, _⟩ => show win0_13.index t 1 * 128 + 1 * k.val = k.val; rw [congrFun e 1]; show 0 * 128 + 1 * k.val = _; omega

theorem iblk14_apply (c : Dev nD) (t : Fin cfg0.N) (a : Fin 2048) (k : Fin 128) : iblk m c 14 t (ix2 a k) = V m c main_v10 (ix2 a k) := by
  have e := (maps_whole t).2.2.2.2.2.2.2
  show V m c main_v10 (((cfg0.win 14).blk t).view.emb (ix2 a k)) = _
  congr 1
  funext x
  apply Fin.ext
  match x with
  | ⟨0, _⟩ => show win0_14.index t 0 * 2048 + 1 * a.val = a.val; rw [congrFun e 0]; show 0 * 2048 + 1 * a.val = _; omega
  | ⟨1, _⟩ => show win0_14.index t 1 * 128 + 1 * k.val = k.val; rw [congrFun e 1]; show 0 * 128 + 1 * k.val = _; omega

/-- What the stage computes from, as the call finds it. -/
def found (c : Dev nD) : Args where
  yh := mat (n := 40960) (V m c main_arg0)
  yr := mat (n := 40960) (V m c main_arg1)
  x := mat (n := 40960) (V m c main_v2)
  md := fun s k => (V m c main_v3 : Vec Ideal S16x1x12288 .f32) (ix3 s 0 k)
  wo := mat (n := 2048) (V m c main_v13)
  g := fun j => (V m c main_v11 : Vec Ideal S1x2048 .f32) (ix2 0 j)
  b := fun j => (V m c main_v12 : Vec Ideal S1x2048 .f32) (ix2 0 j)
  wg := mat (n := 2048) (V m c main_v14)
  wu := mat (n := 2048) (V m c main_v15)
  wd := mat (n := 512) (V m c main_v16)

theorem normed_congr {yh yh' yr yr' : Fin 1024 → EReal} {x x' g1 g1' g g' b b' : Row} {wo wo' : Fin 2048 → Row} (h0 : yh = yh') (h1 : yr = yr') (h2 : x = x')
    (h3 : g1 = g1') (h4 : wo = wo') (h5 : g = g') (h6 : b = b') :
    norm (pre x g1 (mix yh yr wo)) g b = norm (pre x' g1' (mix yh' yr' wo')) g' b' := by
  subst h0 h1 h2 h3 h4 h5 h6; rfl

theorem modRow_congr {h sc sc' sh sh' : Row} (h0 : sc = sc') (h1 : sh = sh') : modRow h sc sh = modRow h sc' sh' := by
  subst h0 h1; rfl

theorem base_congr {h m g2 g2' : Row} {wg wg' wu wu' : Fin 2048 → Fin 512 → EReal} {wd wd' : Fin 512 → Row} {j j' : Fin 2048} (h0 : g2 = g2') (h1 : wg = wg')
    (h2 : wu = wu') (h3 : wd = wd') (h4 : j = j') : base h m g2 wg wu wd j = base h m g2' wg' wu' wd' j' := by
  subst h0 h1 h2 h3 h4; rfl

theorem splitLogit_congr {m : Row} {rh rh' rl rl' : Fin 2048 → Fin 128 → EReal} {j j' : Fin 128} (h0 : rh = rh') (h1 : rl = rl') (h2 : j = j') :
    splitLogit m rh rl j = splitLogit m rh' rl' j' := by
  subst h0 h1 h2; rfl

/-- A point's rows after the norm. -/
theorem hidden_found (c : Dev nD) (t : Fin cfg0.N) (a : Fin 256) (r : Fin 40960) (hr : r.val = t.val * 256 + a.val) :
    rowOf (hidden (F := Ideal) (iblk m c 0 t) (iblk m c 1 t) (iblk m c 2 t) (iblk m c 3 t) (iblk m c 7 t) (iblk m c 8 t) (iblk m c 9 t)) a = (found m c).hid r := by
  have hq : r.val / 256 = t.val := by omega
  rw [hidden_row]
  exact normed_congr (funext fun k => iblk0_apply m c t a k r hr) (funext fun k => iblk1_apply m c t a k r hr) (funext fun k => iblk2_apply m c t a k r hr)
    (funext fun k => iblk3_apply m c t k r hq) (funext fun k => funext fun j => iblk9_apply m c t k j) (funext fun j => iblk7_apply m c t 0 j)
    (funext fun j => iblk8_apply m c t 0 j)

/-- A point's rows after the modulation. -/
theorem modded_found (c : Dev nD) (t : Fin cfg0.N) (a : Fin 256) (r : Fin 40960) (hr : r.val = t.val * 256 + a.val) :
    rowOf (modded (F := Ideal) (iblk m c 0 t) (iblk m c 1 t) (iblk m c 2 t) (iblk m c 3 t) (iblk m c 4 t) (iblk m c 5 t) (iblk m c 7 t) (iblk m c 8 t) (iblk m c 9 t)) a = (found m c).mod r := by
  have hq : r.val / 256 = t.val := by omega
  rw [modded_row, hidden_found m c t a r hr]
  exact modRow_congr (funext fun k => iblk4_apply m c t k r hq) (funext fun k => iblk5_apply m c t k r hq)

theorem mem_blk15 (t : Fin cfg0.N) (i : S40960x2048.Idx) :
    i ∈ ((cfg0.win 15).blk t).view.set ↔ ∀ a : Fin 2, win0_15.index t a * S256x2048.size a ≤ (i a).val ∧ (i a).val < win0_15.index t a * S256x2048.size a + S256x2048.size a := by
  show i ∈ ((View.whole main_v17_0).slice (win0_15.rect t)).set ↔ _
  rw [View.set_slice_whole, Rect.mem_set_unit]
  exact Iff.rfl

theorem flush0_15 : ∀ t : Fin cfg0.N, (cfg0.win 15).flush t = true :=
  (fun t => (Pipeline.Window.flush_reads win0_15 rfl 0 (by decide) (by decide) (Pipeline.Window.sep_of_coord cc0_transform_15 0 0 (fun _ => rfl) (by decide)) (P := 1) (m := 0) (by decide) rfl t).mpr (Nat.mod_one _) : ∀ t : Fin grid0.N, win0_15.flush t = true)

/-- The blocks of result 0 tile it. -/
theorem cover15 (i : S40960x2048.Idx) : ∃ t : Fin cfg0.N, (cfg0.win 15).flush t = true ∧ i ∈ ((cfg0.win 15).blk t).view.set := by
  have h0 : (i 0).val < 40960 := (i 0).isLt
  have h1 : (i 1).val < 2048 := (i 1).isLt
  have ht : (i 0).val / 256 < cfg0.N := by show _ < grid0.N; rw [N_0]; omega
  refine ⟨⟨_, ht⟩, flush0_15 _, ?_⟩
  rw [mem_blk15]
  have e := (maps_rows ⟨_, ht⟩).2.2.2.1
  have e0 : win0_15.index ⟨_, ht⟩ 0 = (i 0).val / 256 := congrFun e 0
  have e1 : win0_15.index ⟨_, ht⟩ 1 = 0 := congrFun e 1
  intro a
  match a with
  | ⟨0, _⟩ => show win0_15.index ⟨_, ht⟩ 0 * 256 ≤ (i 0).val ∧ (i 0).val < win0_15.index ⟨_, ht⟩ 0 * 256 + 256; rw [e0]; omega
  | ⟨1, _⟩ => show win0_15.index ⟨_, ht⟩ 1 * 2048 ≤ (i 1).val ∧ (i 1).val < win0_15.index ⟨_, ht⟩ 1 * 2048 + 2048; rw [e1]; omega

/-- What a point writes back to result 0. -/
theorem flushed15 (c : Dev nD) (t : Fin cfg0.N) :
    (dats m 0 c).flushed 15 t = ((cfg0.win 15).blk t).view.read (Elt Ideal) (found m c).baseArr := by
  show (cfg0.win 15).cut (grid0.coords t) ((dats m 0 c).after 15 t) = _
  rw [after0_15]
  funext y
  obtain ⟨a, j, rfl⟩ : ∃ (a : Fin 256) (j : Fin 2048), y = ix2 a j := ⟨y 0, y 1, by idx_vars y⟩
  have e := (maps_rows t).2.2.2.1
  have ht : t.val < 160 := lt_of_lt_of_eq t.isLt N_0
  have e0 : ((((cfg0.win 15).blk t).view.emb (ix2 a j)) 0).val = t.val * 256 + a.val := by
    show win0_15.index t 0 * 256 + 1 * a.val = _
    rw [congrFun e 0]; show t.val * 256 + 1 * a.val = _; omega
  have e1 : ((((cfg0.win 15).blk t).view.emb (ix2 a j)) 1).val = j.val := by
    show win0_15.index t 1 * 2048 + 1 * j.val = _
    rw [congrFun e 1]; show 0 * 2048 + 1 * j.val = _; omega
  have key : ∀ i : S40960x2048.Idx, (i 0).val = t.val * 256 + a.val → (i 1).val = j.val →
      out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 a j)
        = (found m c).baseArr i := by
    intro i e0 e1
    have hq : (i 0).val / 256 = t.val := by rw [e0]; omega
    refine (out15_apply _ _ _ _ _ _ _ _ _ _ _ _ _ a j).trans ?_
    rw [modded_found m c t a (i 0) e0, hidden_found m c t a (i 0) e0]
    exact base_congr (funext fun k => iblk6_apply m c t k (i 0) hq) (funext fun k => funext fun f => iblk10_apply m c t k f)
      (funext fun k => funext fun f => iblk11_apply m c t k f) (funext fun k => funext fun f => iblk12_apply m c t k f) (Fin.ext e1.symm)
  exact key _ e0 e1

/-- Result 0 after the run. -/
theorem final15 (c : Dev nD) : (dats m 0 c).arrAt 15 cfg0.N = (found m c).baseArr :=
  (dats m 0 c).arrAt_eq_of_cover 15 _ (fun t _ => flushed15 m c t) cover15

theorem mem_blk16 (t : Fin cfg0.N) (i : S655360x128.Idx) :
    i ∈ ((cfg0.win 16).blk t).view.set ↔ ∀ a : Fin 2, win0_16.index t a * S4096x128.size a ≤ (i a).val ∧ (i a).val < win0_16.index t a * S4096x128.size a + S4096x128.size a := by
  show i ∈ ((View.whole main_v17_1).slice (win0_16.rect t)).set ↔ _
  rw [View.set_slice_whole, Rect.mem_set_unit]
  exact Iff.rfl

theorem flush0_16 : ∀ t : Fin cfg0.N, (cfg0.win 16).flush t = true :=
  (fun t => (Pipeline.Window.flush_reads win0_16 rfl 0 (by decide) (by decide) (Pipeline.Window.sep_of_coord cc0_transform_16 0 0 (fun _ => rfl) (by decide)) (P := 1) (m := 0) (by decide) rfl t).mpr (Nat.mod_one _) : ∀ t : Fin grid0.N, win0_16.flush t = true)

/-- The blocks of result 1 tile it. -/
theorem cover16 (i : S655360x128.Idx) : ∃ t : Fin cfg0.N, (cfg0.win 16).flush t = true ∧ i ∈ ((cfg0.win 16).blk t).view.set := by
  have h0 : (i 0).val < 655360 := (i 0).isLt
  have h1 : (i 1).val < 128 := (i 1).isLt
  have ht : (i 0).val / 4096 < cfg0.N := by show _ < grid0.N; rw [N_0]; omega
  refine ⟨⟨_, ht⟩, flush0_16 _, ?_⟩
  rw [mem_blk16]
  have e := (maps_rows ⟨_, ht⟩).2.2.2.2.1
  have e0 : win0_16.index ⟨_, ht⟩ 0 = (i 0).val / 4096 := congrFun e 0
  have e1 : win0_16.index ⟨_, ht⟩ 1 = 0 := congrFun e 1
  intro a
  match a with
  | ⟨0, _⟩ => show win0_16.index ⟨_, ht⟩ 0 * 4096 ≤ (i 0).val ∧ (i 0).val < win0_16.index ⟨_, ht⟩ 0 * 4096 + 4096; rw [e0]; omega
  | ⟨1, _⟩ => show win0_16.index ⟨_, ht⟩ 1 * 128 ≤ (i 1).val ∧ (i 1).val < win0_16.index ⟨_, ht⟩ 1 * 128 + 128; rw [e1]; omega

/-- What a point writes back to result 1. -/
theorem flushed16 (c : Dev nD) (t : Fin cfg0.N) :
    (dats m 0 c).flushed 16 t = ((cfg0.win 16).blk t).view.read (Elt Ideal) (found m c).short := by
  show (cfg0.win 16).cut (grid0.coords t) ((dats m 0 c).after 16 t) = _
  rw [after0_16]
  funext y
  obtain ⟨a, j, rfl⟩ : ∃ (a : Fin 4096) (j : Fin 128), y = ix2 a j := ⟨y 0, y 1, by idx_vars y⟩
  have e := (maps_rows t).2.2.2.2.1
  have ht : t.val < 160 := lt_of_lt_of_eq t.isLt N_0
  have e0 : ((((cfg0.win 16).blk t).view.emb (ix2 a j)) 0).val = t.val * 4096 + a.val := by
    show win0_16.index t 0 * 4096 + 1 * a.val = _
    rw [congrFun e 0]; show t.val * 4096 + 1 * a.val = _; omega
  have e1 : ((((cfg0.win 16).blk t).view.emb (ix2 a j)) 1).val = j.val := by
    show win0_16.index t 1 * 128 + 1 * j.val = _
    rw [congrFun e 1]; show 0 * 128 + 1 * j.val = _; omega
  have hq : (⟨((((cfg0.win 16).blk t).view.emb (ix2 a j)) 0).val / 16, by have := ((((cfg0.win 16).blk t).view.emb (ix2 a j)) 0).isLt; have h : ((((cfg0.win 16).blk t).view.emb (ix2 a j)) 0).val < 655360 := this; omega⟩ : Fin 40960).val = t.val * 256 + a.val / 16 := by
    show ((((cfg0.win 16).blk t).view.emb (ix2 a j)) 0).val / 16 = _
    rw [e0]; omega
  show rowOf (modded (F := Ideal) (iblk m c 0 t) (iblk m c 1 t) (iblk m c 2 t) (iblk m c 3 t) (iblk m c 4 t) (iblk m c 5 t) (iblk m c 7 t) (iblk m c 8 t) (iblk m c 9 t)) ⟨a.val / 16, by omega⟩ ⟨128 * (a.val % 16) + j.val, by omega⟩ = _
  rw [modded_found m c t ⟨a.val / 16, by omega⟩ _ hq]
  unfold Args.short
  congr 1
  apply Fin.ext
  show 128 * (a.val % 16) + j.val = 128 * (((((cfg0.win 16).blk t).view.emb (ix2 a j)) 0).val % 16) + ((((cfg0.win 16).blk t).view.emb (ix2 a j)) 1).val
  rw [e0, e1]; omega

/-- Result 1 after the run. -/
theorem final16 (c : Dev nD) : (dats m 0 c).arrAt 16 cfg0.N = (found m c).short :=
  (dats m 0 c).arrAt_eq_of_cover 16 _ (fun t _ => flushed16 m c t) cover16

theorem mem_blk17 (t : Fin cfg0.N) (i : S40960x128.Idx) :
    i ∈ ((cfg0.win 17).blk t).view.set ↔ ∀ a : Fin 2, win0_17.index t a * S256x128.size a ≤ (i a).val ∧ (i a).val < win0_17.index t a * S256x128.size a + S256x128.size a := by
  show i ∈ ((View.whole main_v17_2).slice (win0_17.rect t)).set ↔ _
  rw [View.set_slice_whole, Rect.mem_set_unit]
  exact Iff.rfl

theorem flush0_17 : ∀ t : Fin cfg0.N, (cfg0.win 17).flush t = true :=
  (fun t => (Pipeline.Window.flush_reads win0_17 rfl 0 (by decide) (by decide) (Pipeline.Window.sep_of_coord cc0_transform_17 0 0 (fun _ => rfl) (by decide)) (P := 1) (m := 0) (by decide) rfl t).mpr (Nat.mod_one _) : ∀ t : Fin grid0.N, win0_17.flush t = true)

/-- The blocks of result 2 tile it. -/
theorem cover17 (i : S40960x128.Idx) : ∃ t : Fin cfg0.N, (cfg0.win 17).flush t = true ∧ i ∈ ((cfg0.win 17).blk t).view.set := by
  have h0 : (i 0).val < 40960 := (i 0).isLt
  have h1 : (i 1).val < 128 := (i 1).isLt
  have ht : (i 0).val / 256 < cfg0.N := by show _ < grid0.N; rw [N_0]; omega
  refine ⟨⟨_, ht⟩, flush0_17 _, ?_⟩
  rw [mem_blk17]
  have e := (maps_rows ⟨_, ht⟩).2.2.2.2.2
  have e0 : win0_17.index ⟨_, ht⟩ 0 = (i 0).val / 256 := congrFun e 0
  have e1 : win0_17.index ⟨_, ht⟩ 1 = 0 := congrFun e 1
  intro a
  match a with
  | ⟨0, _⟩ => show win0_17.index ⟨_, ht⟩ 0 * 256 ≤ (i 0).val ∧ (i 0).val < win0_17.index ⟨_, ht⟩ 0 * 256 + 256; rw [e0]; omega
  | ⟨1, _⟩ => show win0_17.index ⟨_, ht⟩ 1 * 128 ≤ (i 1).val ∧ (i 1).val < win0_17.index ⟨_, ht⟩ 1 * 128 + 128; rw [e1]; omega

/-- What a point writes back to result 2. -/
theorem flushed17 (c : Dev nD) (t : Fin cfg0.N) :
    (dats m 0 c).flushed 17 t = ((cfg0.win 17).blk t).view.read (Elt Ideal) ((found m c).splitArr (mat (n := 2048) (V m c main_v7)) (mat (n := 2048) (V m c main_v10))) := by
  show (cfg0.win 17).cut (grid0.coords t) ((dats m 0 c).after 17 t) = _
  rw [after0_17]
  funext y
  obtain ⟨a, j, rfl⟩ : ∃ (a : Fin 256) (j : Fin 128), y = ix2 a j := ⟨y 0, y 1, by idx_vars y⟩
  have e := (maps_rows t).2.2.2.2.2
  have ht : t.val < 160 := lt_of_lt_of_eq t.isLt N_0
  have e0 : ((((cfg0.win 17).blk t).view.emb (ix2 a j)) 0).val = t.val * 256 + a.val := by
    show win0_17.index t 0 * 256 + 1 * a.val = _
    rw [congrFun e 0]; show t.val * 256 + 1 * a.val = _; omega
  have e1 : ((((cfg0.win 17).blk t).view.emb (ix2 a j)) 1).val = j.val := by
    show win0_17.index t 1 * 128 + 1 * j.val = _
    rw [congrFun e 1]; show 0 * 128 + 1 * j.val = _; omega
  have key : ∀ i : S40960x128.Idx, (i 0).val = t.val * 256 + a.val → (i 1).val = j.val →
      out0_17 (F := Ideal) (iblk m c 0 t) (iblk m c 1 t) (iblk m c 2 t) (iblk m c 3 t) (iblk m c 4 t) (iblk m c 5 t) (iblk m c 7 t) (iblk m c 8 t) (iblk m c 9 t) (iblk m c 13 t) (iblk m c 14 t) (ix2 a j)
        = (found m c).splitArr (mat (n := 2048) (V m c main_v7)) (mat (n := 2048) (V m c main_v10)) i := by
    intro i e0 e1
    refine (out17_apply _ _ _ _ _ _ _ _ _ _ _ a j).trans ?_
    rw [modded_found m c t a (i 0) e0]
    exact splitLogit_congr (funext fun k => funext fun f => iblk13_apply m c t k f) (funext fun k => funext fun f => iblk14_apply m c t k f) (Fin.ext e1.symm)
  exact key _ e0 e1

/-- Result 2 after the run. -/
theorem final17 (c : Dev nD) : (dats m 0 c).arrAt 17 cfg0.N = ((found m c).splitArr (mat (n := 2048) (V m c main_v7)) (mat (n := 2048) (V m c main_v10))) :=
  (dats m 0 c).arrAt_eq_of_cover 17 _ (fun t _ => flushed17 m c t) cover17

/-- The kernel's run: the three results hold the stage of the arrays the call finds, the arguments are unchanged. -/
theorem run : θ_run defs (onTc (τ := τ) (main (F := Ideal))) ⟨m, fun _ => 0, ρ⟩ fun r => ∀ c : Dev nD,
      r.2.mem ((c : Thread nD τ).loc main_v17_0) = (found m c).baseArr
      ∧ r.2.mem ((c : Thread nD τ).loc main_v17_1) = (found m c).short
      ∧ r.2.mem ((c : Thread nD τ).loc main_v17_2) = (found m c).splitArr (mat (n := 2048) (V m c main_v7)) (mat (n := 2048) (V m c main_v10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 15).trans (final15 m c), ((h c).1 16).trans (final16 m c), ((h c).1 17).trans (final17 m c),
      ((h c).1 0).trans ((((dats m 0 c).arrAt_in 0 (by decide) cfg0.N).trans (A_eq m c 0)).trans (V_main_arg0 m c)),
      ((h c).1 1).trans ((((dats m 0 c).arrAt_in 1 (by decide) cfg0.N).trans (A_eq m c 1)).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.Kernel4Ideal.Out

end
-- ==== Proof.OutHost.lean ====
/-
  The output stage's kernel, from its arguments: the arrays the host operations make before the call.
-/
module

public import proofs.«01_k».proof.Proof.OutBlocks
public import Idealize.ShloMosaic.Lib.Routing.OpsSet
public import Idealize.ShloMosaic.Lib.StableHlo.Run

@[expose] public section

set_option maxRecDepth 16384

noncomputable section

namespace Cert.Kernel4Ideal.Out

open Cert.Kernel4Ideal Cert.Kernel4Ideal.Gen Idealize.ShloMosaic Idealize.ShloMosaic.TcCoe Idealize.SL.Sem Idealize.ShloMosaic.StableHlo
open Idealize.ShloMosaic.Pipeline (Dat)
open Cert.OutStage

variable (m : (ℓ : Loc nD τ sig) → Buf (Elt Ideal) ℓ) (ρ : Dev nD → PrngReg)

theorem v2_eq (c : Dev nD) (r : Fin 40960) : (fun k => (V m c main_v2 : Vec Ideal S40960x2048 .f32) (ix2 r k)) = bothRows (m ((c : Thread nD τ).loc main_arg2)) (m ((c : Thread nD τ).loc main_arg3)) r := by
  have e : (V m c main_v2 : Vec Ideal S40960x2048 .f32) = concatenate S40960x2048 0 [⟨S8192x2048, shapeCast S8192x2048 (m ((c : Thread nD τ).loc main_arg2) : Vec Ideal S32x256x2048 .f32) shapeCasts_S32x256x2048_S8192x2048⟩,
      ⟨S32768x2048, shapeCast S32768x2048 (m ((c : Thread nD τ).loc main_arg3) : Vec Ideal S8x4096x2048 .f32) shapeCasts_S8x4096x2048_S32768x2048⟩] concatenates_S8192x2048_S32768x2048_S40960x2048_d0 := by
    show StableHlo.after _ _ _ = _
    after_results
    rfl
  rw [e]
  funext k
  unfold bothRows
  simp only [pointwise]
  rfl

theorem v3_eq (c : Dev nD) (s : Fin 16) (k : Fin 12288) : (V m c main_v3 : Vec Ideal S16x1x12288 .f32) (ix3 s 0 k) = (m ((c : Thread nD τ).loc main_arg4) : Vec Ideal S16x12288 .f32) (ix2 s k) := by
  have e : (V m c main_v3 : Vec Ideal S16x1x12288 .f32) = shapeCast S16x1x12288 (m ((c : Thread nD τ).loc main_arg4) : Vec Ideal S16x12288 .f32) shapeCasts_S16x12288_S16x1x12288 := by
    show StableHlo.after _ _ _ = _
    after_results
    rfl
  rw [e]
  simp only [pointwise]

theorem v11_eq (c : Dev nD) (j : Fin 2048) : (V m c main_v11 : Vec Ideal S1x2048 .f32) (ix2 0 j) = (m ((c : Thread nD τ).loc main_arg6) : Vec Ideal S2048 .f32) (ix1 j) := by
  have e : (V m c main_v11 : Vec Ideal S1x2048 .f32) = shapeCast S1x2048 (m ((c : Thread nD τ).loc main_arg6) : Vec Ideal S2048 .f32) shapeCasts_S2048_S1x2048 := by
    show StableHlo.after _ _ _ = _
    after_results
    rfl
  rw [e]
  simp only [pointwise]

theorem v12_eq (c : Dev nD) (j : Fin 2048) : (V m c main_v12 : Vec Ideal S1x2048 .f32) (ix2 0 j) = (m ((c : Thread nD τ).loc main_arg7) : Vec Ideal S2048 .f32) (ix1 j) := by
  have e : (V m c main_v12 : Vec Ideal S1x2048 .f32) = shapeCast S1x2048 (m ((c : Thread nD τ).loc main_arg7) : Vec Ideal S2048 .f32) shapeCasts_S2048_S1x2048 := by
    show StableHlo.after _ _ _ = _
    after_results
    rfl
  rw [e]
  simp only [pointwise]

theorem v13_eq (c : Dev nD) : (V m c main_v13 : Vec Ideal S2048x2048 .bf16) = (m ((c : Thread nD τ).loc main_arg5) : Vec Ideal S2048x2048 .f32) := by
  show StableHlo.after _ _ _ = _
  after_results
  rfl

theorem v14_eq (c : Dev nD) : (V m c main_v14 : Vec Ideal S2048x512 .bf16) = (m ((c : Thread nD τ).loc main_arg9) : Vec Ideal S2048x512 .f32) := by
  show StableHlo.after _ _ _ = _
  after_results
  rfl

theorem v15_eq (c : Dev nD) : (V m c main_v15 : Vec Ideal S2048x512 .bf16) = (m ((c : Thread nD τ).loc main_arg10) : Vec Ideal S2048x512 .f32) := by
  show StableHlo.after _ _ _ = _
  after_results
  rfl

theorem v16_eq (c : Dev nD) : (V m c main_v16 : Vec Ideal S512x2048 .bf16) = (m ((c : Thread nD τ).loc main_arg11) : Vec Ideal S512x2048 .f32) := by
  show StableHlo.after _ _ _ = _
  after_results
  rfl

/-- The router's matrix as the host pads it. -/
def padArr (w : Vec Ideal S2048x64 .f32) : Vec Ideal S2048x128 .f32 :=
  Host.scatter scatter_S2048x128_S1_S2048x64_01_n_1_0 (fun _ b => b) (broadcastInDim S2048x128 ![] bcast_S_S2048x128 (constant (F := Ideal) S_ .f32 0x00000000#32))
    (broadcastInDim S1 ![] bcast_S_S1 (constantI S_ 32 0#32)) w

/-- An element of the router's matrix lands at its own row and column. -/
theorem lands (k : Fin 2048) (e : Fin 64) (r : Fin 2048) (j : Fin 128) :
    scatter_S2048x128_S1_S2048x64_01_n_1_0.resultIdx? (ix2 k e) (broadcastInDim S1 ![] bcast_S_S1 (constantI S_ 32 0#32)) = some (ix2 r j) ↔ k.val = r.val ∧ e.val = j.val := by
  have s0 : scatter_S2048x128_S1_S2048x64_01_n_1_0.start (ix2 k e) (broadcastInDim S1 ![] bcast_S_S1 (constantI S_ 32 0#32)) 0 = 0 := rfl
  have s1 : scatter_S2048x128_S1_S2048x64_01_n_1_0.start (ix2 k e) (broadcastInDim S1 ![] bcast_S_S1 (constantI S_ 32 0#32)) 1 = 0 := rfl
  have w0 : scatter_S2048x128_S1_S2048x64_01_n_1_0.window (ix2 k e) 0 = k.val := rfl
  have w1 : scatter_S2048x128_S1_S2048x64_01_n_1_0.window (ix2 k e) 1 = e.val := rfl
  refine (Idealize.ShloMosaic.Routing.resultIdx?_ix2 scatter_S2048x128_S1_S2048x64_01_n_1_0 (ix2 k e) _ r j).trans ?_
  rw [s0, s1, w0, w1]
  omega

theorem padArr_apply (w : Vec Ideal S2048x64 .f32) (k : Fin 2048) (e : Fin 128) : padArr w (ix2 k e) = padded w k e := by
  unfold padArr padded
  by_cases h : e.val < 64
  · rw [dif_pos h]
    refine Idealize.ShloMosaic.Routing.scatter_set_hit _ _ _ _ _ _ (fun q hq => ?_) (ix2 k ⟨e.val, h⟩) ((lands k ⟨e.val, h⟩ k e).2 ⟨rfl, rfl⟩)
    obtain ⟨a, b, rfl⟩ : ∃ (a : Fin 2048) (b : Fin 64), q = ix2 a b := ⟨q 0, q 1, by idx_vars q⟩
    have hh := (lands a b k e).1 hq
    rw [show a = k from Fin.ext hh.1, show b = ⟨e.val, h⟩ from Fin.ext hh.2]
  · rw [dif_neg h]
    refine (Idealize.ShloMosaic.Routing.scatter_set_miss _ _ _ _ _ (fun q hq => ?_)).trans ?_
    · obtain ⟨a, b, rfl⟩ : ∃ (a : Fin 2048) (b : Fin 64), q = ix2 a b := ⟨q 0, q 1, by idx_vars q⟩
      have hh := (lands a b k e).1 hq
      omega
    · simp only [pointwise]

theorem cast_apply (P : FVec Ideal S2048x128 .f32) (i : S2048x128.Idx) : (truncf .bf16 P bitsLt_bf16_f32 : FVec Ideal S2048x128 .bf16) i = P i := rfl

theorem low_apply (P : FVec Ideal S2048x128 .f32) (i : S2048x128.Idx) :
    (truncf .bf16 (subf P (extf .f32 (truncf .bf16 P bitsLt_bf16_f32) bitsLt_bf16_f32)) bitsLt_bf16_f32 : FVec Ideal S2048x128 .bf16) i = P i - P i := rfl

theorem v7_term (c : Dev nD) : (V m c main_v7 : Vec Ideal S2048x128 .bf16) = truncf .bf16 (Host.scatter scatter_S2048x128_S1_S2048x64_01_n_1_0 (fun _ b => b) (broadcastInDim S2048x128 ![] bcast_S_S2048x128 (constant (F := Ideal) S_ .f32 0x00000000#32))
    (broadcastInDim S1 ![] bcast_S_S1 (constantI S_ 32 0#32)) (m ((c : Thread nD τ).loc main_arg8) : Vec Ideal S2048x64 .f32)) bitsLt_bf16_f32 := by
  show StableHlo.after _ _ _ = _
  after_results

theorem v7_eq (c : Dev nD) (i : S2048x128.Idx) : (V m c main_v7 : Vec Ideal S2048x128 .bf16) i = padArr (m ((c : Thread nD τ).loc main_arg8)) i :=
  (congrFun (v7_term m c) i).trans (cast_apply (padArr (m ((c : Thread nD τ).loc main_arg8))) i)

theorem v10_term (c : Dev nD) : (V m c main_v10 : Vec Ideal S2048x128 .bf16) = truncf .bf16 (subf (Host.scatter scatter_S2048x128_S1_S2048x64_01_n_1_0 (fun _ b => b) (broadcastInDim S2048x128 ![] bcast_S_S2048x128 (constant (F := Ideal) S_ .f32 0x00000000#32))
    (broadcastInDim S1 ![] bcast_S_S1 (constantI S_ 32 0#32)) (m ((c : Thread nD τ).loc main_arg8) : Vec Ideal S2048x64 .f32)) (extf .f32 (truncf .bf16 (Host.scatter scatter_S2048x128_S1_S2048x64_01_n_1_0 (fun _ b => b) (broadcastInDim S2048x128 ![] bcast_S_S2048x128 (constant (F := Ideal) S_ .f32 0x00000000#32))
    (broadcastInDim S1 ![] bcast_S_S1 (constantI S_ 32 0#32)) (m ((c : Thread nD τ).loc main_arg8) : Vec Ideal S2048x64 .f32)) bitsLt_bf16_f32) bitsLt_bf16_f32)) bitsLt_bf16_f32 := by
  show StableHlo.after _ _ _ = _
  after_results

theorem v10_eq (c : Dev nD) (i : S2048x128.Idx) : (V m c main_v10 : Vec Ideal S2048x128 .bf16) i = padArr (m ((c : Thread nD τ).loc main_arg8)) i - padArr (m ((c : Thread nD τ).loc main_arg8)) i :=
  (congrFun (v10_term m c) i).trans (low_apply (padArr (m ((c : Thread nD τ).loc main_arg8))) i)

/-- The stage's data, from the arguments. -/
def given (c : Dev nD) : Args := Args.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))

theorem args_congr {A B : Args} (yh : A.yh = B.yh) (yr : A.yr = B.yr) (x : A.x = B.x) (md : A.md = B.md) (wo : A.wo = B.wo) (g : A.g = B.g) (b : A.b = B.b) (wg : A.wg = B.wg) (wu : A.wu = B.wu) (wd : A.wd = B.wd) : A = B := by
  cases A; cases B; simp_all

theorem found_eq (c : Dev nD) : found m c = given m c :=
  args_congr
    (funext fun r => funext fun k => congrFun (V_main_arg0 m c) (ix2 r k))
    (funext fun r => funext fun k => congrFun (V_main_arg1 m c) (ix2 r k))
    (funext fun r => v2_eq m c r)
    (funext fun s => funext fun k => v3_eq m c s k)
    (funext fun k => funext fun j => congrFun (v13_eq m c) (ix2 k j))
    (funext fun j => v11_eq m c j)
    (funext fun j => v12_eq m c j)
    (funext fun k => funext fun j => congrFun (v14_eq m c) (ix2 k j))
    (funext fun k => funext fun j => congrFun (v15_eq m c) (ix2 k j))
    (funext fun k => funext fun j => congrFun (v16_eq m c) (ix2 k j))

/-- The third result, from the arguments. -/
theorem split_eq (c : Dev nD) : (found m c).splitArr (mat (n := 2048) (V m c main_v7)) (mat (n := 2048) (V m c main_v10))
    = (given m c).splitArr (padded (m ((c : Thread nD τ).loc main_arg8))) (fun k e => padded (m ((c : Thread nD τ).loc main_arg8)) k e - padded (m ((c : Thread nD τ).loc main_arg8)) k e) := by
  rw [found_eq]
  refine congrArg₂ (given m c).splitArr (funext fun k => funext fun e => (v7_eq m c (ix2 k e)).trans (padArr_apply _ k e)) (funext fun k => funext fun e => ?_)
  refine (v10_eq m c (ix2 k e)).trans ?_
  show padArr _ (ix2 k e) - padArr _ (ix2 k e) = _
  rw [padArr_apply]

end Cert.Kernel4Ideal.Out

end
-- ==== Proof.OutBatch0.lean ====
/-
  The output stage's reference, first batch: its values at a sequence `p`, a position `q` and a column, in the formulas of one row.
-/
module

public import proofs.«01_k».proof.Proof.Gen.Reference4Ideal.Read
public import proofs.«01_k».proof.Proof.OutSpec
public import Idealize.ShloMosaic.Lib.Pipeline.Value
public import Idealize.ShloMosaic.Lib.Pointwise

@[expose] public section

set_option maxRecDepth 16384

noncomputable section

namespace Cert.Reference4Ideal.Batch0

open Cert.Reference4Ideal Cert.Reference4Ideal.Gen Cert.Reference4Ideal.Read Idealize.ShloMosaic Idealize.ShloMosaic.TcCoe Idealize.SL.Sem
open Cert.OutStage

theorem dot_out (x : FVec Ideal S32x256x2048 .f32) (w : FVec Ideal S2048x2048 .f32) (p : Fin 32) (q : Fin 256) (j : Fin 2048) :
    Host.dotGeneral (F := Ideal) dot_S32x256x2048_S2048x2048_S32x256x2048_2_0_01_1_n_n none x w (ix3 p q j) = ∑ k : Fin 2048, x (ix3 p q k) * w (ix2 k j) := by
  simp only [pointwise]
  exact zero_add _

theorem dot_up (x : FVec Ideal S32x256x2048 .f32) (w : FVec Ideal S2048x512 .f32) (p : Fin 32) (q : Fin 256) (j : Fin 512) :
    Host.dotGeneral (F := Ideal) dot_S32x256x2048_S2048x512_S32x256x512_2_0_01_1_n_n none x w (ix3 p q j) = ∑ k : Fin 2048, x (ix3 p q k) * w (ix2 k j) := by
  simp only [pointwise]
  exact zero_add _

theorem dot_down (x : FVec Ideal S32x256x512 .f32) (w : FVec Ideal S512x2048 .f32) (p : Fin 32) (q : Fin 256) (j : Fin 2048) :
    Host.dotGeneral (F := Ideal) dot_S32x256x512_S512x2048_S32x256x2048_2_0_01_1_n_n none x w (ix3 p q j) = ∑ k : Fin 512, x (ix3 p q k) * w (ix2 k j) := by
  simp only [pointwise]
  exact zero_add _

theorem dot_router (x : FVec Ideal S32x256x2048 .f32) (w : FVec Ideal S2048x64 .f32) (p : Fin 32) (q : Fin 256) (j : Fin 64) :
    Host.dotGeneral (F := Ideal) dot_S32x256x2048_S2048x64_S32x256x64_2_0_01_1_n_n none x w (ix3 p q j) = ∑ k : Fin 2048, x (ix3 p q k) * w (ix2 k j) := by
  simp only [pointwise]
  exact zero_add _

/-- The row of the joined rows. -/
def row (p : Fin 32) (q : Fin 256) : Fin 40960 := ⟨256 * p.val + q.val, by omega⟩

theorem seq_row (p : Fin 32) (q : Fin 256) : seqOf (row p q) = 0 := by
  apply Fin.ext
  show (if (row p q).val < 8192 then 0 else 1 + ((row p q).val - 8192) / 4096) = _
  have e : (row p q).val = 256 * p.val + q.val := rfl
  rw [e]
  have hp := p.isLt
  have hq := q.isLt
  rw [if_pos (by omega)]
  rfl

theorem x_row (x2 : S32x256x2048.Idx → EReal) (x3 : S8x4096x2048.Idx → EReal) (p : Fin 32) (q : Fin 256) (j : Fin 2048) : bothRows x2 x3 (row p q) j = x2 (ix3 p q j) := by
  have e : (row p q).val = 256 * p.val + q.val := rfl
  have hp := p.isLt
  have hq := q.isLt
  unfold bothRows
  rw [dif_pos (by omega)]
  congr 1
  funext z
  apply Fin.ext
  match z with
  | ⟨0, _⟩ => show (row p q).val / 256 = p.val; omega
  | ⟨1, _⟩ => show (row p q).val % 256 = q.val; omega
  | ⟨2, _⟩ => rfl

theorem yh_apply (x0 : S40960x1024.Idx → EReal) (p : Fin 32) (q : Fin 256) (k : Fin 1024) : val_main_v3 (F := Ideal) x0 (ix3 p q k) = x0 (ix2 (row p q) k) := by
  unfold val_main_v3 val_main_v2 val_main_v0 row
  simp only [pointwise]
  congr 1
  funext z
  apply Fin.ext
  match z with
  | ⟨0, _⟩ => show _ = _; simp <;> omega
  | ⟨1, _⟩ => show 0 + k.val = k.val; omega

theorem yr_apply (x1 : S40960x1024.Idx → EReal) (p : Fin 32) (q : Fin 256) (k : Fin 1024) : val_main_v5 (F := Ideal) x1 (ix3 p q k) = x1 (ix2 (row p q) k) := by
  unfold val_main_v5 val_main_v4 val_main_v1 row
  simp only [pointwise]
  congr 1
  funext z
  apply Fin.ext
  match z with
  | ⟨0, _⟩ => show _ = _; simp <;> omega
  | ⟨1, _⟩ => show 0 + k.val = k.val; omega

/-- The mixers' row times the output matrix. -/
theorem mix_apply (x0 x1 : S40960x1024.Idx → EReal) (x5 : S2048x2048.Idx → EReal) (p : Fin 32) (q : Fin 256) (j : Fin 2048) :
    val_main_v15 (F := Ideal) x0 x1 x5 (ix3 p q j) = mix (fun k => x0 (ix2 (row p q) k)) (fun k => x1 (ix2 (row p q) k)) (fun k j => x5 (ix2 k j)) j := by
  unfold val_main_v15
  rw [dot_out]
  refine (Fin.sum_univ_add (a := 1024) (b := 1024) (fun k : Fin 2048 => val_main_v14 (F := Ideal) x0 x1 (ix3 p q k) * x5 (ix2 k j))).trans ?_
  unfold mix
  refine congrArg₂ (· + ·) (Finset.sum_congr rfl fun k _ => ?_) (Finset.sum_congr rfl fun k _ => ?_)
  · refine congrArg₂ (· * ·) ?_ rfl
    refine Eq.trans ?_ (yh_apply x0 p q k)
    unfold val_main_v14
    generalize val_main_v3 (F := Ideal) x0 = y0
    generalize val_main_v5 (F := Ideal) x1 = y1
    simp only [pointwise]
    have hk : (Fin.castAdd 1024 k : Fin (1024 + 1024)).val < 1024 := k.isLt
    rw [dif_pos hk]
    rfl
  · refine congrArg₂ (· * ·) ?_ rfl
    refine Eq.trans ?_ (yr_apply x1 p q k)
    unfold val_main_v14
    generalize val_main_v3 (F := Ideal) x0 = y0
    generalize val_main_v5 (F := Ideal) x1 = y1
    simp only [pointwise]
    have hk : ¬ (Fin.natAdd 1024 k : Fin (1024 + 1024)).val < 1024 := by show ¬ 1024 + k.val < 1024; omega
    rw [dif_neg hk]
    congr 1
    funext z
    apply Fin.ext
    match z with
    | ⟨0, _⟩ => rfl
    | ⟨1, _⟩ => rfl
    | ⟨2, _⟩ => show 1024 + k.val - 1024 = k.val; omega

theorem part2_apply (x4 : S16x12288.Idx → EReal) (j : Fin 2048) : val_main_v10 (F := Ideal) x4 (ix3 0 0 j) = x4 (ix2 0 ⟨2048 * 2 + j.val, by omega⟩) := by
  unfold val_main_v10 val_main_v7 val_main_v6
  simp only [pointwise]
  congr 1
  funext z
  apply Fin.ext
  match z with
  | ⟨0, _⟩ => rfl
  | ⟨1, _⟩ => show 0 + (4096 + j.val) = 2048 * 2 + j.val; omega

theorem part3_apply (x4 : S16x12288.Idx → EReal) (j : Fin 2048) : val_main_v11 (F := Ideal) x4 (ix3 0 0 j) = x4 (ix2 0 ⟨2048 * 3 + j.val, by omega⟩) := by
  unfold val_main_v11 val_main_v7 val_main_v6
  simp only [pointwise]
  congr 1
  funext z
  apply Fin.ext
  match z with
  | ⟨0, _⟩ => rfl
  | ⟨1, _⟩ => show 0 + (6144 + j.val) = 2048 * 3 + j.val; omega

theorem part4_apply (x4 : S16x12288.Idx → EReal) (j : Fin 2048) : val_main_v12 (F := Ideal) x4 (ix3 0 0 j) = x4 (ix2 0 ⟨2048 * 4 + j.val, by omega⟩) := by
  unfold val_main_v12 val_main_v7 val_main_v6
  simp only [pointwise]
  congr 1
  funext z
  apply Fin.ext
  match z with
  | ⟨0, _⟩ => rfl
  | ⟨1, _⟩ => show 0 + (8192 + j.val) = 2048 * 4 + j.val; omega

theorem part5_apply (x4 : S16x12288.Idx → EReal) (j : Fin 2048) : val_main_v13 (F := Ideal) x4 (ix3 0 0 j) = x4 (ix2 0 ⟨2048 * 5 + j.val, by omega⟩) := by
  unfold val_main_v13 val_main_v7 val_main_v6
  simp only [pointwise]
  congr 1
  funext z
  apply Fin.ext
  match z with
  | ⟨0, _⟩ => rfl
  | ⟨1, _⟩ => show 0 + (10240 + j.val) = 2048 * 5 + j.val; omega

section
variable (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (p : Fin 32) (q : Fin 256)

theorem part_eq (c : Fin 6) (j : Fin 2048) : (Args.of x0 x1 x2 x3 x4 x5 x6 x7 x9 x10 x11).part (row p q) c j = x4 (ix2 0 ⟨2048 * c.val + j.val, by omega⟩) := by
  show x4 (ix2 (seqOf (row p q)) _) = _
  rw [seq_row]

/-- The row before the norm. -/
abbrev preRow : Row := pre ((Args.of x0 x1 x2 x3 x4 x5 x6 x7 x9 x10 x11).x (row p q)) ((Args.of x0 x1 x2 x3 x4 x5 x6 x7 x9 x10 x11).part (row p q) 2) (mix ((Args.of x0 x1 x2 x3 x4 x5 x6 x7 x9 x10 x11).yh (row p q)) ((Args.of x0 x1 x2 x3 x4 x5 x6 x7 x9 x10 x11).yr (row p q)) (Args.of x0 x1 x2 x3 x4 x5 x6 x7 x9 x10 x11).wo)

theorem pre_apply (j : Fin 2048) : val_main_v20 (F := Ideal) x0 x1 x2 x4 x5 (ix3 p q j) = preRow x0 x1 x2 x3 x4 x5 x6 x7 x9 x10 x11 p q j := by
  have e : val_main_v20 (F := Ideal) x0 x1 x2 x4 x5 (ix3 p q j) = calpha * x2 (ix3 p q j) + val_main_v10 (F := Ideal) x4 (ix3 0 0 j) * val_main_v15 (F := Ideal) x0 x1 x5 (ix3 p q j) := by
    unfold val_main_v20 val_main_v17 val_main_v19 val_main_v18 val_main_v16
    generalize val_main_v10 (F := Ideal) x4 = y0
    generalize val_main_v15 (F := Ideal) x0 x1 x5 = y1
    simp only [pointwise]
    rfl
  rw [e, mix_apply, part2_apply x4 j]
  refine congrArg₂ (· + ·) (congrArg (calpha * ·) (x_row x2 x3 p q j).symm) (congrArg₂ (· * ·) (part_eq x0 x1 x2 x3 x4 x5 x6 x7 x9 x10 x11 p q 2 j).symm rfl)

end

section
variable (x0 : S40960x1024.Idx → EReal) (x1 : S40960x1024.Idx → EReal) (x2 : S32x256x2048.Idx → EReal) (x4 : S16x12288.Idx → EReal) (x5 : S2048x2048.Idx → EReal) (p : Fin 32) (q : Fin 256)

theorem mean_apply : val_main_v24 (F := Ideal) x0 x1 x2 x4 x5 (ix3 p q 0) = mean (fun j => val_main_v20 (F := Ideal) x0 x1 x2 x4 x5 (ix3 p q j)) := by
  have e : val_main_v24 (F := Ideal) x0 x1 x2 x4 x5 (ix3 p q 0) = Ideal.div (val_main_v21 (F := Ideal) x0 x1 x2 x4 x5 (ix2 p q)) clen := by
    unfold val_main_v24 val_main_v22 val_main_v23
    generalize val_main_v21 (F := Ideal) x0 x1 x2 x4 x5 = y0
    simp only [pointwise]
    rfl
  rw [e, val_main_v21_apply]
  refine congrArg (fun s => Ideal.div s clen) ?_
  refine (congrArg (· + _) (show _ = (0 : EReal) from ?_)).trans ((zero_add _).trans (Finset.sum_congr rfl fun k _ => congrArg _ ?_))
  · unfold val_main_cst_0
    simp only [pointwise]
  · funext z; match z with | ⟨0, _⟩ => rfl | ⟨1, _⟩ => rfl | ⟨2, _⟩ => rfl

theorem centred_apply (j : Fin 2048) : val_main_v35 (F := Ideal) x0 x1 x2 x4 x5 (ix3 p q j) = val_main_v20 (F := Ideal) x0 x1 x2 x4 x5 (ix3 p q j) - mean (fun j => val_main_v20 (F := Ideal) x0 x1 x2 x4 x5 (ix3 p q j)) := by
  rw [← mean_apply]
  unfold val_main_v35 val_main_v34
  generalize val_main_v24 (F := Ideal) x0 x1 x2 x4 x5 = y0
  generalize val_main_v20 (F := Ideal) x0 x1 x2 x4 x5 = y1
  simp only [pointwise]
  rfl

theorem square_apply (j : Fin 2048) : val_main_v29 (F := Ideal) x0 x1 x2 x4 x5 (ix3 p q j)
    = (val_main_v20 (F := Ideal) x0 x1 x2 x4 x5 (ix3 p q j) - mean (fun j => val_main_v20 (F := Ideal) x0 x1 x2 x4 x5 (ix3 p q j))) * (val_main_v20 (F := Ideal) x0 x1 x2 x4 x5 (ix3 p q j) - mean (fun j => val_main_v20 (F := Ideal) x0 x1 x2 x4 x5 (ix3 p q j))) := by
  rw [← centred_apply]
  rfl

theorem var_apply : val_main_v33 (F := Ideal) x0 x1 x2 x4 x5 (ix3 p q 0) = var (fun j => val_main_v20 (F := Ideal) x0 x1 x2 x4 x5 (ix3 p q j)) := by
  have e : val_main_v33 (F := Ideal) x0 x1 x2 x4 x5 (ix3 p q 0) = Ideal.div (val_main_v30 (F := Ideal) x0 x1 x2 x4 x5 (ix2 p q)) clen := by
    unfold val_main_v33 val_main_v31 val_main_v32
    generalize val_main_v30 (F := Ideal) x0 x1 x2 x4 x5 = y0
    simp only [pointwise]
    rfl
  rw [e, val_main_v30_apply]
  refine congrArg (fun s => Ideal.div s clen) ?_
  refine (congrArg (· + _) (show _ = (0 : EReal) from ?_)).trans ((zero_add _).trans (Finset.sum_congr rfl fun k _ => (congrArg _ ?_).trans (square_apply x0 x1 x2 x4 x5 p q k)))
  · unfold val_main_cst_2
    simp only [pointwise]
  · funext z; match z with | ⟨0, _⟩ => rfl | ⟨1, _⟩ => rfl | ⟨2, _⟩ => rfl

end

section
variable (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (p : Fin 32) (q : Fin 256)

/-- The row after the norm. -/
theorem hid_apply (j : Fin 2048) : val_main_v46 (F := Ideal) x0 x1 x2 x4 x5 x6 x7 (ix3 p q j) = (Args.of x0 x1 x2 x3 x4 x5 x6 x7 x9 x10 x11).hid (row p q) j := by
  have e : val_main_v46 (F := Ideal) x0 x1 x2 x4 x5 x6 x7 (ix3 p q j)
      = val_main_v35 (F := Ideal) x0 x1 x2 x4 x5 (ix3 p q j) * Ideal.rsqrt (val_main_v33 (F := Ideal) x0 x1 x2 x4 x5 (ix3 p q 0) + ceps) * x6 (ix1 j) + x7 (ix1 j) := by
    unfold val_main_v46 val_main_v43 val_main_v45 val_main_v44 val_main_v42 val_main_v41 val_main_v40 val_main_v39 val_main_v38 val_main_v37 val_main_v36
    generalize val_main_v35 (F := Ideal) x0 x1 x2 x4 x5 = y0
    generalize val_main_v33 (F := Ideal) x0 x1 x2 x4 x5 = y1
    simp only [pointwise]
    rfl
  rw [e, centred_apply, var_apply]
  simp only [pre_apply x0 x1 x2 x3 x4 x5 x6 x7 x9 x10 x11 p q]
  rfl

/-- The row after the modulation. -/
theorem mod_apply (j : Fin 2048) : val_main_v52 (F := Ideal) x0 x1 x2 x4 x5 x6 x7 (ix3 p q j) = (Args.of x0 x1 x2 x3 x4 x5 x6 x7 x9 x10 x11).mod (row p q) j := by
  have e : val_main_v52 (F := Ideal) x0 x1 x2 x4 x5 x6 x7 (ix3 p q j)
      = val_main_v46 (F := Ideal) x0 x1 x2 x4 x5 x6 x7 (ix3 p q j) * (1 + val_main_v12 (F := Ideal) x4 (ix3 0 0 j)) + val_main_v11 (F := Ideal) x4 (ix3 0 0 j) := by
    unfold val_main_v52 val_main_v51 val_main_v50 val_main_v49 val_main_v48 val_main_v47 val_main_cst_5
    generalize val_main_v46 (F := Ideal) x0 x1 x2 x4 x5 x6 x7 = y0
    generalize val_main_v12 (F := Ideal) x4 = y1
    generalize val_main_v11 (F := Ideal) x4 = y2
    simp only [pointwise]
    rfl
  rw [e, hid_apply x0 x1 x2 x3 x4 x5 x6 x7 x9 x10 x11 p q, part4_apply x4 j, part3_apply x4 j]
  refine congrArg₂ (· + ·) (congrArg₂ (· * ·) rfl (congrArg (1 + ·) (part_eq x0 x1 x2 x3 x4 x5 x6 x7 x9 x10 x11 p q 4 j).symm)) (part_eq x0 x1 x2 x3 x4 x5 x6 x7 x9 x10 x11 p q 3 j).symm

theorem gate_apply (f : Fin 512) : val_main_v53 (F := Ideal) x0 x1 x2 x4 x5 x6 x7 x9 (ix3 p q f) = times ((Args.of x0 x1 x2 x3 x4 x5 x6 x7 x9 x10 x11).mod (row p q)) (Args.of x0 x1 x2 x3 x4 x5 x6 x7 x9 x10 x11).wg f := by
  unfold val_main_v53
  rw [dot_up]
  simp only [mod_apply x0 x1 x2 x3 x4 x5 x6 x7 x9 x10 x11 p q]
  rfl

theorem up_apply (f : Fin 512) : val_main_v55 (F := Ideal) x0 x1 x2 x4 x5 x6 x7 x10 (ix3 p q f) = times ((Args.of x0 x1 x2 x3 x4 x5 x6 x7 x9 x10 x11).mod (row p q)) (Args.of x0 x1 x2 x3 x4 x5 x6 x7 x9 x10 x11).wu f := by
  unfold val_main_v55
  rw [dot_up]
  simp only [mod_apply x0 x1 x2 x3 x4 x5 x6 x7 x9 x10 x11 p q]
  rfl

theorem sharedHid_apply (f : Fin 512) : val_main_v56 (F := Ideal) x0 x1 x2 x4 x5 x6 x7 x9 x10 (ix3 p q f) = sharedHid ((Args.of x0 x1 x2 x3 x4 x5 x6 x7 x9 x10 x11).mod (row p q)) (Args.of x0 x1 x2 x3 x4 x5 x6 x7 x9 x10 x11).wg (Args.of x0 x1 x2 x3 x4 x5 x6 x7 x9 x10 x11).wu f := by
  have e : val_main_v56 (F := Ideal) x0 x1 x2 x4 x5 x6 x7 x9 x10 (ix3 p q f)
      = val_main_v53 (F := Ideal) x0 x1 x2 x4 x5 x6 x7 x9 (ix3 p q f) * Ideal.logistic (val_main_v53 (F := Ideal) x0 x1 x2 x4 x5 x6 x7 x9 (ix3 p q f)) * val_main_v55 (F := Ideal) x0 x1 x2 x4 x5 x6 x7 x10 (ix3 p q f) := by
    unfold val_main_v56 val_main_v54 val_main_call0_v5 val_main_call0_v4 val_main_call0_v3 val_main_call0_v2 val_main_call0_v1 val_main_call0_v0 val_main_call0_cst val_main_call0_cst_0
    generalize val_main_v53 (F := Ideal) x0 x1 x2 x4 x5 x6 x7 x9 = y0
    generalize val_main_v55 (F := Ideal) x0 x1 x2 x4 x5 x6 x7 x10 = y1
    simp only [pointwise]
    rfl
  rw [e, gate_apply x0 x1 x2 x3 x4 x5 x6 x7 x9 x10 x11 p q, up_apply x0 x1 x2 x3 x4 x5 x6 x7 x9 x10 x11 p q]
  rfl

/-- The base row. -/
theorem base_apply (j : Fin 2048) : val_main_v62 (F := Ideal) x0 x1 x2 x4 x5 x6 x7 x9 x10 x11 (ix3 p q j) = (Args.of x0 x1 x2 x3 x4 x5 x6 x7 x9 x10 x11).baseRow (row p q) j := by
  have e : val_main_v62 (F := Ideal) x0 x1 x2 x4 x5 x6 x7 x9 x10 x11 (ix3 p q j)
      = calpha * val_main_v46 (F := Ideal) x0 x1 x2 x4 x5 x6 x7 (ix3 p q j) + val_main_v13 (F := Ideal) x4 (ix3 0 0 j) * val_main_v57 (F := Ideal) x0 x1 x2 x4 x5 x6 x7 x9 x10 x11 (ix3 p q j) := by
    unfold val_main_v62 val_main_v61 val_main_v60 val_main_v59 val_main_v58
    generalize val_main_v46 (F := Ideal) x0 x1 x2 x4 x5 x6 x7 = y0
    generalize val_main_v13 (F := Ideal) x4 = y1
    generalize val_main_v57 (F := Ideal) x0 x1 x2 x4 x5 x6 x7 x9 x10 x11 = y2
    simp only [pointwise]
    rfl
  rw [e, hid_apply x0 x1 x2 x3 x4 x5 x6 x7 x9 x10 x11 p q, part5_apply x4 j]
  refine congrArg₂ (· + ·) rfl (congrArg₂ (· * ·) (part_eq x0 x1 x2 x3 x4 x5 x6 x7 x9 x10 x11 p q 5 j).symm ?_)
  unfold val_main_v57
  rw [dot_down]
  simp only [sharedHid_apply x0 x1 x2 x3 x4 x5 x6 x7 x9 x10 x11 p q]
  rfl

/-- The logits. -/
theorem logit_apply (x8 : S2048x64.Idx → EReal) (e : Fin 64) : val_main_v63 (F := Ideal) x0 x1 x2 x4 x5 x6 x7 x8 (ix3 p q e) = times ((Args.of x0 x1 x2 x3 x4 x5 x6 x7 x9 x10 x11).mod (row p q)) (fun k e => x8 (ix2 k e)) e := by
  unfold val_main_v63
  rw [dot_router]
  simp only [mod_apply x0 x1 x2 x3 x4 x5 x6 x7 x9 x10 x11 p q]
  rfl

end

end Cert.Reference4Ideal.Batch0

end
-- ==== Proof.OutBatch1.lean ====
/-
  The output stage's reference, second batch: its values at a sequence `p`, a position `q` and a column, in the formulas of one row.
-/
module

public import proofs.«01_k».proof.Proof.Gen.Reference4Ideal.Read
public import proofs.«01_k».proof.Proof.OutSpec
public import Idealize.ShloMosaic.Lib.Pipeline.Value
public import Idealize.ShloMosaic.Lib.Pointwise

@[expose] public section

set_option maxRecDepth 16384

noncomputable section

namespace Cert.Reference4Ideal.Batch1

open Cert.Reference4Ideal Cert.Reference4Ideal.Gen Cert.Reference4Ideal.Read Idealize.ShloMosaic Idealize.ShloMosaic.TcCoe Idealize.SL.Sem
open Cert.OutStage

theorem dot_out (x : FVec Ideal S8x4096x2048 .f32) (w : FVec Ideal S2048x2048 .f32) (p : Fin 8) (q : Fin 4096) (j : Fin 2048) :
    Host.dotGeneral (F := Ideal) dot_S8x4096x2048_S2048x2048_S8x4096x2048_2_0_01_1_n_n none x w (ix3 p q j) = ∑ k : Fin 2048, x (ix3 p q k) * w (ix2 k j) := by
  simp only [pointwise]
  exact zero_add _

theorem dot_up (x : FVec Ideal S8x4096x2048 .f32) (w : FVec Ideal S2048x512 .f32) (p : Fin 8) (q : Fin 4096) (j : Fin 512) :
    Host.dotGeneral (F := Ideal) dot_S8x4096x2048_S2048x512_S8x4096x512_2_0_01_1_n_n none x w (ix3 p q j) = ∑ k : Fin 2048, x (ix3 p q k) * w (ix2 k j) := by
  simp only [pointwise]
  exact zero_add _

theorem dot_down (x : FVec Ideal S8x4096x512 .f32) (w : FVec Ideal S512x2048 .f32) (p : Fin 8) (q : Fin 4096) (j : Fin 2048) :
    Host.dotGeneral (F := Ideal) dot_S8x4096x512_S512x2048_S8x4096x2048_2_0_01_1_n_n none x w (ix3 p q j) = ∑ k : Fin 512, x (ix3 p q k) * w (ix2 k j) := by
  simp only [pointwise]
  exact zero_add _

theorem dot_router (x : FVec Ideal S8x4096x2048 .f32) (w : FVec Ideal S2048x64 .f32) (p : Fin 8) (q : Fin 4096) (j : Fin 64) :
    Host.dotGeneral (F := Ideal) dot_S8x4096x2048_S2048x64_S8x4096x64_2_0_01_1_n_n none x w (ix3 p q j) = ∑ k : Fin 2048, x (ix3 p q k) * w (ix2 k j) := by
  simp only [pointwise]
  exact zero_add _

/-- The row of the joined rows. -/
def row (p : Fin 8) (q : Fin 4096) : Fin 40960 := ⟨8192 + 4096 * p.val + q.val, by omega⟩

theorem seq_row (p : Fin 8) (q : Fin 4096) : seqOf (row p q) = ⟨1 + p.val, by omega⟩ := by
  apply Fin.ext
  show (if (row p q).val < 8192 then 0 else 1 + ((row p q).val - 8192) / 4096) = _
  have e : (row p q).val = 8192 + 4096 * p.val + q.val := rfl
  rw [e]
  have hp := p.isLt
  have hq := q.isLt
  rw [if_neg (by omega)]
  show _ = 1 + p.val
  omega

theorem x_row (x2 : S32x256x2048.Idx → EReal) (x3 : S8x4096x2048.Idx → EReal) (p : Fin 8) (q : Fin 4096) (j : Fin 2048) : bothRows x2 x3 (row p q) j = x3 (ix3 p q j) := by
  have e : (row p q).val = 8192 + 4096 * p.val + q.val := rfl
  have hp := p.isLt
  have hq := q.isLt
  unfold bothRows
  rw [dif_neg (by omega)]
  congr 1
  funext z
  apply Fin.ext
  match z with
  | ⟨0, _⟩ => show ((row p q).val - 8192) / 4096 = p.val; omega
  | ⟨1, _⟩ => show ((row p q).val - 8192) % 4096 = q.val; omega
  | ⟨2, _⟩ => rfl

theorem yh_apply (x0 : S40960x1024.Idx → EReal) (p : Fin 8) (q : Fin 4096) (k : Fin 1024) : val_main_v65 (F := Ideal) x0 (ix3 p q k) = x0 (ix2 (row p q) k) := by
  unfold val_main_v65 val_main_v64 val_main_v0 row
  simp only [pointwise]
  congr 1
  funext z
  apply Fin.ext
  match z with
  | ⟨0, _⟩ => show _ = _; simp <;> omega
  | ⟨1, _⟩ => show 0 + k.val = k.val; omega

theorem yr_apply (x1 : S40960x1024.Idx → EReal) (p : Fin 8) (q : Fin 4096) (k : Fin 1024) : val_main_v67 (F := Ideal) x1 (ix3 p q k) = x1 (ix2 (row p q) k) := by
  unfold val_main_v67 val_main_v66 val_main_v1 row
  simp only [pointwise]
  congr 1
  funext z
  apply Fin.ext
  match z with
  | ⟨0, _⟩ => show _ = _; simp <;> omega
  | ⟨1, _⟩ => show 0 + k.val = k.val; omega

/-- The mixers' row times the output matrix. -/
theorem mix_apply (x0 x1 : S40960x1024.Idx → EReal) (x5 : S2048x2048.Idx → EReal) (p : Fin 8) (q : Fin 4096) (j : Fin 2048) :
    val_main_v77 (F := Ideal) x0 x1 x5 (ix3 p q j) = mix (fun k => x0 (ix2 (row p q) k)) (fun k => x1 (ix2 (row p q) k)) (fun k j => x5 (ix2 k j)) j := by
  unfold val_main_v77
  rw [dot_out]
  refine (Fin.sum_univ_add (a := 1024) (b := 1024) (fun k : Fin 2048 => val_main_v76 (F := Ideal) x0 x1 (ix3 p q k) * x5 (ix2 k j))).trans ?_
  unfold mix
  refine congrArg₂ (· + ·) (Finset.sum_congr rfl fun k _ => ?_) (Finset.sum_congr rfl fun k _ => ?_)
  · refine congrArg₂ (· * ·) ?_ rfl
    refine Eq.trans ?_ (yh_apply x0 p q k)
    unfold val_main_v76
    generalize val_main_v65 (F := Ideal) x0 = y0
    generalize val_main_v67 (F := Ideal) x1 = y1
    simp only [pointwise]
    have hk : (Fin.castAdd 1024 k : Fin (1024 + 1024)).val < 1024 := k.isLt
    rw [dif_pos hk]
    rfl
  · refine congrArg₂ (· * ·) ?_ rfl
    refine Eq.trans ?_ (yr_apply x1 p q k)
    unfold val_main_v76
    generalize val_main_v65 (F := Ideal) x0 = y0
    generalize val_main_v67 (F := Ideal) x1 = y1
    simp only [pointwise]
    have hk : ¬ (Fin.natAdd 1024 k : Fin (1024 + 1024)).val < 1024 := by show ¬ 1024 + k.val < 1024; omega
    rw [dif_neg hk]
    congr 1
    funext z
    apply Fin.ext
    match z with
    | ⟨0, _⟩ => rfl
    | ⟨1, _⟩ => rfl
    | ⟨2, _⟩ => show 1024 + k.val - 1024 = k.val; omega

theorem part2_apply (x4 : S16x12288.Idx → EReal) (p : Fin 8) (j : Fin 2048) : val_main_v72 (F := Ideal) x4 (ix3 p 0 j) = x4 (ix2 ⟨1 + p.val, by omega⟩ ⟨2048 * 2 + j.val, by omega⟩) := by
  unfold val_main_v72 val_main_v69 val_main_v68
  simp only [pointwise]
  congr 1
  funext z
  apply Fin.ext
  match z with
  | ⟨0, _⟩ => show 1 + (0 + p.val) = 1 + p.val; omega
  | ⟨1, _⟩ => show 0 + (4096 + j.val) = 2048 * 2 + j.val; omega

theorem part3_apply (x4 : S16x12288.Idx → EReal) (p : Fin 8) (j : Fin 2048) : val_main_v73 (F := Ideal) x4 (ix3 p 0 j) = x4 (ix2 ⟨1 + p.val, by omega⟩ ⟨2048 * 3 + j.val, by omega⟩) := by
  unfold val_main_v73 val_main_v69 val_main_v68
  simp only [pointwise]
  congr 1
  funext z
  apply Fin.ext
  match z with
  | ⟨0, _⟩ => show 1 + (0 + p.val) = 1 + p.val; omega
  | ⟨1, _⟩ => show 0 + (6144 + j.val) = 2048 * 3 + j.val; omega

theorem part4_apply (x4 : S16x12288.Idx → EReal) (p : Fin 8) (j : Fin 2048) : val_main_v74 (F := Ideal) x4 (ix3 p 0 j) = x4 (ix2 ⟨1 + p.val, by omega⟩ ⟨2048 * 4 + j.val, by omega⟩) := by
  unfold val_main_v74 val_main_v69 val_main_v68
  simp only [pointwise]
  congr 1
  funext z
  apply Fin.ext
  match z with
  | ⟨0, _⟩ => show 1 + (0 + p.val) = 1 + p.val; omega
  | ⟨1, _⟩ => show 0 + (8192 + j.val) = 2048 * 4 + j.val; omega

theorem part5_apply (x4 : S16x12288.Idx → EReal) (p : Fin 8) (j : Fin 2048) : val_main_v75 (F := Ideal) x4 (ix3 p 0 j) = x4 (ix2 ⟨1 + p.val, by omega⟩ ⟨2048 * 5 + j.val, by omega⟩) := by
  unfold val_main_v75 val_main_v69 val_main_v68
  simp only [pointwise]
  congr 1
  funext z
  apply Fin.ext
  match z with
  | ⟨0, _⟩ => show 1 + (0 + p.val) = 1 + p.val; omega
  | ⟨1, _⟩ => show 0 + (10240 + j.val) = 2048 * 5 + j.val; omega

section
variable (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (p : Fin 8) (q : Fin 4096)

theorem part_eq (c : Fin 6) (j : Fin 2048) : (Args.of x0 x1 x2 x3 x4 x5 x6 x7 x9 x10 x11).part (row p q) c j = x4 (ix2 ⟨1 + p.val, by omega⟩ ⟨2048 * c.val + j.val, by omega⟩) := by
  show x4 (ix2 (seqOf (row p q)) _) = _
  rw [seq_row]

/-- The row before the norm. -/
abbrev preRow : Row := pre ((Args.of x0 x1 x2 x3 x4 x5 x6 x7 x9 x10 x11).x (row p q)) ((Args.of x0 x1 x2 x3 x4 x5 x6 x7 x9 x10 x11).part (row p q) 2) (mix ((Args.of x0 x1 x2 x3 x4 x5 x6 x7 x9 x10 x11).yh (row p q)) ((Args.of x0 x1 x2 x3 x4 x5 x6 x7 x9 x10 x11).yr (row p q)) (Args.of x0 x1 x2 x3 x4 x5 x6 x7 x9 x10 x11).wo)

theorem pre_apply (j : Fin 2048) : val_main_v82 (F := Ideal) x0 x1 x3 x4 x5 (ix3 p q j) = preRow x0 x1 x2 x3 x4 x5 x6 x7 x9 x10 x11 p q j := by
  have e : val_main_v82 (F := Ideal) x0 x1 x3 x4 x5 (ix3 p q j) = calpha * x3 (ix3 p q j) + val_main_v72 (F := Ideal) x4 (ix3 p 0 j) * val_main_v77 (F := Ideal) x0 x1 x5 (ix3 p q j) := by
    unfold val_main_v82 val_main_v79 val_main_v81 val_main_v80 val_main_v78
    generalize val_main_v72 (F := Ideal) x4 = y0
    generalize val_main_v77 (F := Ideal) x0 x1 x5 = y1
    simp only [pointwise]
    rfl
  rw [e, mix_apply, part2_apply x4 p j]
  refine congrArg₂ (· + ·) (congrArg (calpha * ·) (x_row x2 x3 p q j).symm) (congrArg₂ (· * ·) (part_eq x0 x1 x2 x3 x4 x5 x6 x7 x9 x10 x11 p q 2 j).symm rfl)

end

section
variable (x0 : S40960x1024.Idx → EReal) (x1 : S40960x1024.Idx → EReal) (x3 : S8x4096x2048.Idx → EReal) (x4 : S16x12288.Idx → EReal) (x5 : S2048x2048.Idx → EReal) (p : Fin 8) (q : Fin 4096)

theorem mean_apply : val_main_v86 (F := Ideal) x0 x1 x3 x4 x5 (ix3 p q 0) = mean (fun j => val_main_v82 (F := Ideal) x0 x1 x3 x4 x5 (ix3 p q j)) := by
  have e : val_main_v86 (F := Ideal) x0 x1 x3 x4 x5 (ix3 p q 0) = Ideal.div (val_main_v83 (F := Ideal) x0 x1 x3 x4 x5 (ix2 p q)) clen := by
    unfold val_main_v86 val_main_v84 val_main_v85
    generalize val_main_v83 (F := Ideal) x0 x1 x3 x4 x5 = y0
    simp only [pointwise]
    rfl
  rw [e, val_main_v83_apply]
  refine congrArg (fun s => Ideal.div s clen) ?_
  refine (congrArg (· + _) (show _ = (0 : EReal) from ?_)).trans ((zero_add _).trans (Finset.sum_congr rfl fun k _ => congrArg _ ?_))
  · unfold val_main_cst_8
    simp only [pointwise]
  · funext z; match z with | ⟨0, _⟩ => rfl | ⟨1, _⟩ => rfl | ⟨2, _⟩ => rfl

theorem centred_apply (j : Fin 2048) : val_main_v97 (F := Ideal) x0 x1 x3 x4 x5 (ix3 p q j) = val_main_v82 (F := Ideal) x0 x1 x3 x4 x5 (ix3 p q j) - mean (fun j => val_main_v82 (F := Ideal) x0 x1 x3 x4 x5 (ix3 p q j)) := by
  rw [← mean_apply]
  unfold val_main_v97 val_main_v96
  generalize val_main_v86 (F := Ideal) x0 x1 x3 x4 x5 = y0
  generalize val_main_v82 (F := Ideal) x0 x1 x3 x4 x5 = y1
  simp only [pointwise]
  rfl

theorem square_apply (j : Fin 2048) : val_main_v91 (F := Ideal) x0 x1 x3 x4 x5 (ix3 p q j)
    = (val_main_v82 (F := Ideal) x0 x1 x3 x4 x5 (ix3 p q j) - mean (fun j => val_main_v82 (F := Ideal) x0 x1 x3 x4 x5 (ix3 p q j))) * (val_main_v82 (F := Ideal) x0 x1 x3 x4 x5 (ix3 p q j) - mean (fun j => val_main_v82 (F := Ideal) x0 x1 x3 x4 x5 (ix3 p q j))) := by
  rw [← centred_apply]
  rfl

theorem var_apply : val_main_v95 (F := Ideal) x0 x1 x3 x4 x5 (ix3 p q 0) = var (fun j => val_main_v82 (F := Ideal) x0 x1 x3 x4 x5 (ix3 p q j)) := by
  have e : val_main_v95 (F := Ideal) x0 x1 x3 x4 x5 (ix3 p q 0) = Ideal.div (val_main_v92 (F := Ideal) x0 x1 x3 x4 x5 (ix2 p q)) clen := by
    unfold val_main_v95 val_main_v93 val_main_v94
    generalize val_main_v92 (F := Ideal) x0 x1 x3 x4 x5 = y0
    simp only [pointwise]
    rfl
  rw [e, val_main_v92_apply]
  refine congrArg (fun s => Ideal.div s clen) ?_
  refine (congrArg (· + _) (show _ = (0 : EReal) from ?_)).trans ((zero_add _).trans (Finset.sum_congr rfl fun k _ => (congrArg _ ?_).trans (square_apply x0 x1 x3 x4 x5 p q k)))
  · unfold val_main_cst_10
    simp only [pointwise]
  · funext z; match z with | ⟨0, _⟩ => rfl | ⟨1, _⟩ => rfl | ⟨2, _⟩ => rfl

end

section
variable (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (p : Fin 8) (q : Fin 4096)

/-- The row after the norm. -/
theorem hid_apply (j : Fin 2048) : val_main_v108 (F := Ideal) x0 x1 x3 x4 x5 x6 x7 (ix3 p q j) = (Args.of x0 x1 x2 x3 x4 x5 x6 x7 x9 x10 x11).hid (row p q) j := by
  have e : val_main_v108 (F := Ideal) x0 x1 x3 x4 x5 x6 x7 (ix3 p q j)
      = val_main_v97 (F := Ideal) x0 x1 x3 x4 x5 (ix3 p q j) * Ideal.rsqrt (val_main_v95 (F := Ideal) x0 x1 x3 x4 x5 (ix3 p q 0) + ceps) * x6 (ix1 j) + x7 (ix1 j) := by
    unfold val_main_v108 val_main_v105 val_main_v107 val_main_v106 val_main_v104 val_main_v103 val_main_v102 val_main_v101 val_main_v100 val_main_v99 val_main_v98
    generalize val_main_v97 (F := Ideal) x0 x1 x3 x4 x5 = y0
    generalize val_main_v95 (F := Ideal) x0 x1 x3 x4 x5 = y1
    simp only [pointwise]
    rfl
  rw [e, centred_apply, var_apply]
  simp only [pre_apply x0 x1 x2 x3 x4 x5 x6 x7 x9 x10 x11 p q]
  rfl

/-- The row after the modulation. -/
theorem mod_apply (j : Fin 2048) : val_main_v114 (F := Ideal) x0 x1 x3 x4 x5 x6 x7 (ix3 p q j) = (Args.of x0 x1 x2 x3 x4 x5 x6 x7 x9 x10 x11).mod (row p q) j := by
  have e : val_main_v114 (F := Ideal) x0 x1 x3 x4 x5 x6 x7 (ix3 p q j)
      = val_main_v108 (F := Ideal) x0 x1 x3 x4 x5 x6 x7 (ix3 p q j) * (1 + val_main_v74 (F := Ideal) x4 (ix3 p 0 j)) + val_main_v73 (F := Ideal) x4 (ix3 p 0 j) := by
    unfold val_main_v114 val_main_v113 val_main_v112 val_main_v111 val_main_v110 val_main_v109 val_main_cst_13
    generalize val_main_v108 (F := Ideal) x0 x1 x3 x4 x5 x6 x7 = y0
    generalize val_main_v74 (F := Ideal) x4 = y1
    generalize val_main_v73 (F := Ideal) x4 = y2
    simp only [pointwise]
    rfl
  rw [e, hid_apply x0 x1 x2 x3 x4 x5 x6 x7 x9 x10 x11 p q, part4_apply x4 p j, part3_apply x4 p j]
  refine congrArg₂ (· + ·) (congrArg₂ (· * ·) rfl (congrArg (1 + ·) (part_eq x0 x1 x2 x3 x4 x5 x6 x7 x9 x10 x11 p q 4 j).symm)) (part_eq x0 x1 x2 x3 x4 x5 x6 x7 x9 x10 x11 p q 3 j).symm

theorem gate_apply (f : Fin 512) : val_main_v115 (F := Ideal) x0 x1 x3 x4 x5 x6 x7 x9 (ix3 p q f) = times ((Args.of x0 x1 x2 x3 x4 x5 x6 x7 x9 x10 x11).mod (row p q)) (Args.of x0 x1 x2 x3 x4 x5 x6 x7 x9 x10 x11).wg f := by
  unfold val_main_v115
  rw [dot_up]
  simp only [mod_apply x0 x1 x2 x3 x4 x5 x6 x7 x9 x10 x11 p q]
  rfl

theorem up_apply (f : Fin 512) : val_main_v117 (F := Ideal) x0 x1 x3 x4 x5 x6 x7 x10 (ix3 p q f) = times ((Args.of x0 x1 x2 x3 x4 x5 x6 x7 x9 x10 x11).mod (row p q)) (Args.of x0 x1 x2 x3 x4 x5 x6 x7 x9 x10 x11).wu f := by
  unfold val_main_v117
  rw [dot_up]
  simp only [mod_apply x0 x1 x2 x3 x4 x5 x6 x7 x9 x10 x11 p q]
  rfl

theorem sharedHid_apply (f : Fin 512) : val_main_v118 (F := Ideal) x0 x1 x3 x4 x5 x6 x7 x9 x10 (ix3 p q f) = sharedHid ((Args.of x0 x1 x2 x3 x4 x5 x6 x7 x9 x10 x11).mod (row p q)) (Args.of x0 x1 x2 x3 x4 x5 x6 x7 x9 x10 x11).wg (Args.of x0 x1 x2 x3 x4 x5 x6 x7 x9 x10 x11).wu f := by
  have e : val_main_v118 (F := Ideal) x0 x1 x3 x4 x5 x6 x7 x9 x10 (ix3 p q f)
      = val_main_v115 (F := Ideal) x0 x1 x3 x4 x5 x6 x7 x9 (ix3 p q f) * Ideal.logistic (val_main_v115 (F := Ideal) x0 x1 x3 x4 x5 x6 x7 x9 (ix3 p q f)) * val_main_v117 (F := Ideal) x0 x1 x3 x4 x5 x6 x7 x10 (ix3 p q f) := by
    unfold val_main_v118 val_main_v116 val_main_call1_v5 val_main_call1_v4 val_main_call1_v3 val_main_call1_v2 val_main_call1_v1 val_main_call1_v0 val_main_call1_cst val_main_call1_cst_0
    generalize val_main_v115 (F := Ideal) x0 x1 x3 x4 x5 x6 x7 x9 = y0
    generalize val_main_v117 (F := Ideal) x0 x1 x3 x4 x5 x6 x7 x10 = y1
    simp only [pointwise]
    rfl
  rw [e, gate_apply x0 x1 x2 x3 x4 x5 x6 x7 x9 x10 x11 p q, up_apply x0 x1 x2 x3 x4 x5 x6 x7 x9 x10 x11 p q]
  rfl

/-- The base row. -/
theorem base_apply (j : Fin 2048) : val_main_v124 (F := Ideal) x0 x1 x3 x4 x5 x6 x7 x9 x10 x11 (ix3 p q j) = (Args.of x0 x1 x2 x3 x4 x5 x6 x7 x9 x10 x11).baseRow (row p q) j := by
  have e : val_main_v124 (F := Ideal) x0 x1 x3 x4 x5 x6 x7 x9 x10 x11 (ix3 p q j)
      = calpha * val_main_v108 (F := Ideal) x0 x1 x3 x4 x5 x6 x7 (ix3 p q j) + val_main_v75 (F := Ideal) x4 (ix3 p 0 j) * val_main_v119 (F := Ideal) x0 x1 x3 x4 x5 x6 x7 x9 x10 x11 (ix3 p q j) := by
    unfold val_main_v124 val_main_v123 val_main_v122 val_main_v121 val_main_v120
    generalize val_main_v108 (F := Ideal) x0 x1 x3 x4 x5 x6 x7 = y0
    generalize val_main_v75 (F := Ideal) x4 = y1
    generalize val_main_v119 (F := Ideal) x0 x1 x3 x4 x5 x6 x7 x9 x10 x11 = y2
    simp only [pointwise]
    rfl
  rw [e, hid_apply x0 x1 x2 x3 x4 x5 x6 x7 x9 x10 x11 p q, part5_apply x4 p j]
  refine congrArg₂ (· + ·) rfl (congrArg₂ (· * ·) (part_eq x0 x1 x2 x3 x4 x5 x6 x7 x9 x10 x11 p q 5 j).symm ?_)
  unfold val_main_v119
  rw [dot_down]
  simp only [sharedHid_apply x0 x1 x2 x3 x4 x5 x6 x7 x9 x10 x11 p q]
  rfl

/-- The logits. -/
theorem logit_apply (x8 : S2048x64.Idx → EReal) (e : Fin 64) : val_main_v125 (F := Ideal) x0 x1 x3 x4 x5 x6 x7 x8 (ix3 p q e) = times ((Args.of x0 x1 x2 x3 x4 x5 x6 x7 x9 x10 x11).mod (row p q)) (fun k e => x8 (ix2 k e)) e := by
  unfold val_main_v125
  rw [dot_router]
  simp only [mod_apply x0 x1 x2 x3 x4 x5 x6 x7 x9 x10 x11 p q]
  rfl

end

end Cert.Reference4Ideal.Batch1

end
-- ==== Proof.OutRef.lean ====
/-
  The output stage's reference: its three results, and its run.
-/
module

public import proofs.«01_k».proof.Proof.Gen.Reference4Ideal.Run
public import proofs.«01_k».proof.Proof.OutBatch0
public import proofs.«01_k».proof.Proof.OutBatch1
public import Idealize.ShloMosaic.Lib.KernelVsHost

@[expose] public section

set_option maxRecDepth 16384

noncomputable section

namespace Cert.Reference4Ideal.Out

open Cert.Reference4Ideal Cert.Reference4Ideal.Gen Cert.Reference4Ideal.Read Idealize.ShloMosaic Idealize.ShloMosaic.TcCoe Idealize.SL.Sem
open Cert.OutStage

theorem row0 (r : Fin 40960) (h : r.val < 8192) : Batch0.row ⟨r.val / 256, by omega⟩ ⟨r.val % 256, by omega⟩ = r := by
  apply Fin.ext
  show 256 * (r.val / 256) + r.val % 256 = r.val
  omega

theorem row1 (r : Fin 40960) (h : ¬ r.val < 8192) : Batch1.row ⟨(r.val - 8192) / 4096, by omega⟩ ⟨(r.val - 8192) % 4096, by omega⟩ = r := by
  apply Fin.ext
  show 8192 + 4096 * ((r.val - 8192) / 4096) + (r.val - 8192) % 4096 = r.val
  omega

theorem base_apply (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (r : Fin 40960) (j : Fin 2048) :
    val_main_v128 (F := Ideal) x0 x1 x2 x3 x4 x5 x6 x7 x9 x10 x11 (ix2 r j) = (Args.of x0 x1 x2 x3 x4 x5 x6 x7 x9 x10 x11).baseRow r j := by
  unfold val_main_v128
  by_cases h : r.val < 8192
  · have e : ∀ i, i = ix3 (⟨r.val / 256, by omega⟩ : Fin 32) (⟨r.val % 256, by omega⟩ : Fin 256) j → val_main_v62 (F := Ideal) x0 x1 x2 x4 x5 x6 x7 x9 x10 x11 i = (Args.of x0 x1 x2 x3 x4 x5 x6 x7 x9 x10 x11).baseRow r j := by
      intro i hi
      rw [hi, Batch0.base_apply x0 x1 x2 x3 x4 x5 x6 x7 x9 x10 x11 _ _ j, row0 r h]
      try rfl
    have e' := e (idx_main_v126 (ix2 (⟨r.val, h⟩ : Fin 8192) j)) (by
      funext z
      apply Fin.ext
      match z with
      | ⟨0, _⟩ => show (r.val * 2048 + j.val) / 524288 = r.val / 256; omega
      | ⟨1, _⟩ => show (r.val * 2048 + j.val) / 2048 % 256 = r.val % 256; omega
      | ⟨2, _⟩ => show (r.val * 2048 + j.val) % 2048 = j.val; omega)
    rw [← val_main_v126_apply] at e'
    refine Eq.trans ?_ e'
    generalize val_main_v126 (F := Ideal) x0 x1 x2 x4 x5 x6 x7 x9 x10 x11 = y0
    generalize val_main_v127 (F := Ideal) x0 x1 x3 x4 x5 x6 x7 x9 x10 x11 = y1
    simp only [pointwise]
    rw [dif_pos h]
  · have e : ∀ i, i = ix3 (⟨(r.val - 8192) / 4096, by omega⟩ : Fin 8) (⟨(r.val - 8192) % 4096, by omega⟩ : Fin 4096) j → val_main_v124 (F := Ideal) x0 x1 x3 x4 x5 x6 x7 x9 x10 x11 i = (Args.of x0 x1 x2 x3 x4 x5 x6 x7 x9 x10 x11).baseRow r j := by
      intro i hi
      rw [hi, Batch1.base_apply x0 x1 x2 x3 x4 x5 x6 x7 x9 x10 x11 _ _ j, row1 r h]
      try rfl
    have e' := e (idx_main_v127 (ix2 (⟨r.val - 8192, by omega⟩ : Fin 32768) j)) (by
      funext z
      apply Fin.ext
      match z with
      | ⟨0, _⟩ => show ((r.val - 8192) * 2048 + j.val) / 8388608 = (r.val - 8192) / 4096; omega
      | ⟨1, _⟩ => show ((r.val - 8192) * 2048 + j.val) / 2048 % 4096 = (r.val - 8192) % 4096; omega
      | ⟨2, _⟩ => show ((r.val - 8192) * 2048 + j.val) % 2048 = j.val; omega)
    rw [← val_main_v127_apply] at e'
    refine Eq.trans ?_ e'
    generalize val_main_v126 (F := Ideal) x0 x1 x2 x4 x5 x6 x7 x9 x10 x11 = y0
    generalize val_main_v127 (F := Ideal) x0 x1 x3 x4 x5 x6 x7 x9 x10 x11 = y1
    simp only [pointwise]
    rw [dif_neg h]
    congr 1

theorem mod_apply (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (r : Fin 40960) (j : Fin 2048) :
    val_main_v131 (F := Ideal) x0 x1 x2 x3 x4 x5 x6 x7 (ix2 r j) = (Args.of x0 x1 x2 x3 x4 x5 x6 x7 x9 x10 x11).mod r j := by
  unfold val_main_v131
  by_cases h : r.val < 8192
  · have e : ∀ i, i = ix3 (⟨r.val / 256, by omega⟩ : Fin 32) (⟨r.val % 256, by omega⟩ : Fin 256) j → val_main_v52 (F := Ideal) x0 x1 x2 x4 x5 x6 x7 i = (Args.of x0 x1 x2 x3 x4 x5 x6 x7 x9 x10 x11).mod r j := by
      intro i hi
      rw [hi, Batch0.mod_apply x0 x1 x2 x3 x4 x5 x6 x7 x9 x10 x11 _ _ j, row0 r h]
      try rfl
    have e' := e (idx_main_v129 (ix2 (⟨r.val, h⟩ : Fin 8192) j)) (by
      funext z
      apply Fin.ext
      match z with
      | ⟨0, _⟩ => show (r.val * 2048 + j.val) / 524288 = r.val / 256; omega
      | ⟨1, _⟩ => show (r.val * 2048 + j.val) / 2048 % 256 = r.val % 256; omega
      | ⟨2, _⟩ => show (r.val * 2048 + j.val) % 2048 = j.val; omega)
    rw [← val_main_v129_apply] at e'
    refine Eq.trans ?_ e'
    generalize val_main_v129 (F := Ideal) x0 x1 x2 x4 x5 x6 x7 = y0
    generalize val_main_v130 (F := Ideal) x0 x1 x3 x4 x5 x6 x7 = y1
    simp only [pointwise]
    rw [dif_pos h]
  · have e : ∀ i, i = ix3 (⟨(r.val - 8192) / 4096, by omega⟩ : Fin 8) (⟨(r.val - 8192) % 4096, by omega⟩ : Fin 4096) j → val_main_v114 (F := Ideal) x0 x1 x3 x4 x5 x6 x7 i = (Args.of x0 x1 x2 x3 x4 x5 x6 x7 x9 x10 x11).mod r j := by
      intro i hi
      rw [hi, Batch1.mod_apply x0 x1 x2 x3 x4 x5 x6 x7 x9 x10 x11 _ _ j, row1 r h]
      try rfl
    have e' := e (idx_main_v130 (ix2 (⟨r.val - 8192, by omega⟩ : Fin 32768) j)) (by
      funext z
      apply Fin.ext
      match z with
      | ⟨0, _⟩ => show ((r.val - 8192) * 2048 + j.val) / 8388608 = (r.val - 8192) / 4096; omega
      | ⟨1, _⟩ => show ((r.val - 8192) * 2048 + j.val) / 2048 % 4096 = (r.val - 8192) % 4096; omega
      | ⟨2, _⟩ => show ((r.val - 8192) * 2048 + j.val) % 2048 = j.val; omega)
    rw [← val_main_v130_apply] at e'
    refine Eq.trans ?_ e'
    generalize val_main_v129 (F := Ideal) x0 x1 x2 x4 x5 x6 x7 = y0
    generalize val_main_v130 (F := Ideal) x0 x1 x3 x4 x5 x6 x7 = y1
    simp only [pointwise]
    rw [dif_neg h]
    congr 1

theorem logit_apply (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (x8 : S2048x64.Idx → EReal) (r : Fin 40960) (j : Fin 64) :
    val_main_v134 (F := Ideal) x0 x1 x2 x3 x4 x5 x6 x7 x8 (ix2 r j) = times ((Args.of x0 x1 x2 x3 x4 x5 x6 x7 x9 x10 x11).mod r) (fun k e => x8 (ix2 k e)) j := by
  unfold val_main_v134
  by_cases h : r.val < 8192
  · have e : ∀ i, i = ix3 (⟨r.val / 256, by omega⟩ : Fin 32) (⟨r.val % 256, by omega⟩ : Fin 256) j → val_main_v63 (F := Ideal) x0 x1 x2 x4 x5 x6 x7 x8 i = times ((Args.of x0 x1 x2 x3 x4 x5 x6 x7 x9 x10 x11).mod r) (fun k e => x8 (ix2 k e)) j := by
      intro i hi
      rw [hi, Batch0.logit_apply x0 x1 x2 x3 x4 x5 x6 x7 x9 x10 x11 _ _ x8 j, row0 r h]
      try rfl
    have e' := e (idx_main_v132 (ix2 (⟨r.val, h⟩ : Fin 8192) j)) (by
      funext z
      apply Fin.ext
      match z with
      | ⟨0, _⟩ => show (r.val * 64 + j.val) / 16384 = r.val / 256; omega
      | ⟨1, _⟩ => show (r.val * 64 + j.val) / 64 % 256 = r.val % 256; omega
      | ⟨2, _⟩ => show (r.val * 64 + j.val) % 64 = j.val; omega)
    rw [← val_main_v132_apply] at e'
    refine Eq.trans ?_ e'
    generalize val_main_v132 (F := Ideal) x0 x1 x2 x4 x5 x6 x7 x8 = y0
    generalize val_main_v133 (F := Ideal) x0 x1 x3 x4 x5 x6 x7 x8 = y1
    simp only [pointwise]
    rw [dif_pos h]
  · have e : ∀ i, i = ix3 (⟨(r.val - 8192) / 4096, by omega⟩ : Fin 8) (⟨(r.val - 8192) % 4096, by omega⟩ : Fin 4096) j → val_main_v125 (F := Ideal) x0 x1 x3 x4 x5 x6 x7 x8 i = times ((Args.of x0 x1 x2 x3 x4 x5 x6 x7 x9 x10 x11).mod r) (fun k e => x8 (ix2 k e)) j := by
      intro i hi
      rw [hi, Batch1.logit_apply x0 x1 x2 x3 x4 x5 x6 x7 x9 x10 x11 _ _ x8 j, row1 r h]
      try rfl
    have e' := e (idx_main_v133 (ix2 (⟨r.val - 8192, by omega⟩ : Fin 32768) j)) (by
      funext z
      apply Fin.ext
      match z with
      | ⟨0, _⟩ => show ((r.val - 8192) * 64 + j.val) / 262144 = (r.val - 8192) / 4096; omega
      | ⟨1, _⟩ => show ((r.val - 8192) * 64 + j.val) / 64 % 4096 = (r.val - 8192) % 4096; omega
      | ⟨2, _⟩ => show ((r.val - 8192) * 64 + j.val) % 64 = j.val; omega)
    rw [← val_main_v133_apply] at e'
    refine Eq.trans ?_ e'
    generalize val_main_v132 (F := Ideal) x0 x1 x2 x4 x5 x6 x7 x8 = y0
    generalize val_main_v133 (F := Ideal) x0 x1 x3 x4 x5 x6 x7 x8 = y1
    simp only [pointwise]
    rw [dif_neg h]
    congr 1

section
variable (x0 : S40960x1024.Idx → EReal) (x1 : S40960x1024.Idx → EReal) (x2 : S32x256x2048.Idx → EReal) (x3 : S8x4096x2048.Idx → EReal) (x4 : S16x12288.Idx → EReal) (x5 : S2048x2048.Idx → EReal) (x6 : S2048.Idx → EReal) (x7 : S2048.Idx → EReal) (x9 : S2048x512.Idx → EReal) (x10 : S2048x512.Idx → EReal) (x11 : S512x2048.Idx → EReal) (x8 : S2048x64.Idx → EReal)

/-- The first result. -/
theorem base_eq : val_main_v128 (F := Ideal) x0 x1 x2 x3 x4 x5 x6 x7 x9 x10 x11 = (Args.of x0 x1 x2 x3 x4 x5 x6 x7 x9 x10 x11).baseArr := by
  funext i
  have hi : i = ix2 (⟨(i 0).val, (i 0).isLt⟩ : Fin 40960) (⟨(i 1).val, (i 1).isLt⟩ : Fin 2048) := by
    funext z; match z with | ⟨0, _⟩ => rfl | ⟨1, _⟩ => rfl
  rw [hi]
  exact base_apply x0 x1 x2 x3 x4 x5 x6 x7 x9 x10 x11 _ _

/-- The second result. -/
theorem short_eq : val_main_v135 (F := Ideal) x0 x1 x2 x3 x4 x5 x6 x7 = (Args.of x0 x1 x2 x3 x4 x5 x6 x7 x9 x10 x11).short := by
  funext i
  have h0 : (i 0).val < 655360 := (i 0).isLt
  have h1 : (i 1).val < 128 := (i 1).isLt
  have e : idx_main_v135 i = ix2 (⟨(i 0).val / 16, by omega⟩ : Fin 40960) (⟨128 * ((i 0).val % 16) + (i 1).val, by omega⟩ : Fin 2048) := by
    funext z
    apply Fin.ext
    match z with
    | ⟨0, _⟩ => show ((i 0).val * 128 + (i 1).val) / 2048 = (i 0).val / 16; omega
    | ⟨1, _⟩ => show ((i 0).val * 128 + (i 1).val) % 2048 = 128 * ((i 0).val % 16) + (i 1).val; omega
  rw [val_main_v135_apply, e, mod_apply x0 x1 x2 x3 x4 x5 x6 x7 x9 x10 x11]
  rfl

/-- The third result. -/
theorem logit_eq : val_main_v136 (F := Ideal) x0 x1 x2 x3 x4 x5 x6 x7 x8 = (Args.of x0 x1 x2 x3 x4 x5 x6 x7 x9 x10 x11).logitArr (padded x8) := by
  funext i
  obtain ⟨r, j, rfl⟩ : ∃ (r : Fin 40960) (j : Fin 128), i = ix2 r j := ⟨i 0, i 1, by funext z; match z with | ⟨0, _⟩ => rfl | ⟨1, _⟩ => rfl⟩
  unfold val_main_v136
  by_cases h : j.val < 64
  · refine (pad_apply_of_inside _ _ _ _ _ _ _ (ix2 r j) (ix2 r ⟨j.val, h⟩ : S40960x64.Idx) (fun a => ?_)).trans ?_
    · match a with
      | ⟨0, _⟩ => show r.val = 0 + r.val * 1; omega
      | ⟨1, _⟩ => show j.val = 0 + j.val * 1; omega
    · rw [logit_apply x0 x1 x2 x3 x4 x5 x6 x7 x9 x10 x11]
      show times _ _ _ = times _ _ _
      unfold times
      refine Finset.sum_congr rfl fun k _ => ?_
      refine congrArg₂ (· * ·) rfl ?_
      show _ = padded x8 k j
      unfold padded
      rw [dif_pos h]
  · refine (pad_apply_of_not_inside _ _ _ _ _ _ _ (ix2 r j) ⟨1, by decide⟩ (fun hh => h ?_)).trans ?_
    · have h3 : (j.val - 0) / (0 + 1) < 64 := hh.2.2
      omega
    · have e0 : ∀ z, val_main_call2_v0 (F := Ideal) z = 0 := fun z => by
        unfold val_main_call2_v0 val_main_c
        show (((0#32 : BitVec 32).toInt : ℝ) : EReal) = 0
        simp
      rw [e0]
      show 0 = times _ _ _
      unfold times
      refine (Finset.sum_eq_zero fun k _ => ?_).symm
      show _ * padded x8 k j = 0
      unfold padded
      rw [dif_neg h, mul_zero]

end

section
variable (m : (ℓ : Loc nD τ sig) → Buf (Elt Ideal) ℓ)

/-- The stage's data, from the reference's arguments. -/
def given (c : Dev nD) : Args := Args.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))

/-- The reference's first result, of its arguments. -/
theorem out0 (c : Dev nD) : Cert.Reference4Ideal.Value.res_main_v128 m c = (given m c).baseArr := (val_main_v128_eq m c).trans (base_eq ..)

/-- Its second result. -/
theorem out1 (c : Dev nD) : Cert.Reference4Ideal.Value.res_main_v135 m c = (given m c).short := (val_main_v135_eq m c).trans (short_eq (x9 := m ((c : Thread nD τ).loc main_arg9)) (x10 := m ((c : Thread nD τ).loc main_arg10)) (x11 := m ((c : Thread nD τ).loc main_arg11)) ..)

/-- Its third result. -/
theorem out2 (c : Dev nD) : Cert.Reference4Ideal.Value.res_main_v136 m c = (given m c).logitArr (padded (m ((c : Thread nD τ).loc main_arg8))) := (val_main_v136_eq m c).trans (logit_eq (x9 := m ((c : Thread nD τ).loc main_arg9)) (x10 := m ((c : Thread nD τ).loc main_arg10)) (x11 := m ((c : Thread nD τ).loc main_arg11)) ..)

end

end Cert.Reference4Ideal.Out

end
-- ==== Proof.OutFinite.lean ====
/-
  The output stage's rows are real where its arguments are, and a real number less itself is zero: so the logits made from
  high and low parts are the plain products.
-/
module

public import proofs.«01_k».proof.Proof.OutSpec
public import Idealize.ShloMosaic.Lib.Pointwise

@[expose] public section

set_option maxRecDepth 16384

noncomputable section

namespace Cert.OutStage

open Idealize.ShloMosaic

/-- The value is a real number. -/
def Real' (x : EReal) : Prop := ∃ r : ℝ, x = r

theorem Real'.coe (r : ℝ) : Real' (r : EReal) := ⟨r, rfl⟩

theorem Real'.zero : Real' 0 := ⟨0, rfl⟩

theorem Real'.one : Real' 1 := ⟨1, rfl⟩

theorem Real'.add {x y : EReal} : Real' x → Real' y → Real' (x + y)
  | ⟨a, ha⟩, ⟨b, hb⟩ => ⟨a + b, by rw [ha, hb, EReal.coe_add]⟩

theorem Real'.sub {x y : EReal} : Real' x → Real' y → Real' (x - y)
  | ⟨a, ha⟩, ⟨b, hb⟩ => ⟨a - b, by rw [ha, hb, EReal.coe_sub]⟩

theorem Real'.mul {x y : EReal} : Real' x → Real' y → Real' (x * y)
  | ⟨a, ha⟩, ⟨b, hb⟩ => ⟨a * b, by rw [ha, hb, EReal.coe_mul]⟩

theorem Real'.sum {ι : Type} (s : Finset ι) (f : ι → EReal) (h : ∀ i, Real' (f i)) : Real' (∑ i ∈ s, f i) := by
  classical
  induction s using Finset.induction_on with
  | empty => rw [Finset.sum_empty]; exact .zero
  | insert a s ha ih => rw [Finset.sum_insert ha]; exact (h a).add ih

theorem Real'.sub_self {x : EReal} : Real' x → x - x = 0
  | ⟨a, ha⟩ => by rw [ha, ← EReal.coe_sub, _root_.sub_self, EReal.coe_zero]

/-- A value whose absolute value is below infinity is real. -/
theorem Real'.of_abs {x : EReal} (h : max x (-x) < ⊤) : Real' x := by
  induction x using EReal.rec with
  | bot => simp at h
  | coe r => exact ⟨r, rfl⟩
  | top => simp at h

theorem calpha_real : Real' calpha := by
  unfold calpha
  simp only [Ideal.ofBits, Ideal.ieee]
  simp
  exact (Real'.coe _).mul (.coe _)

/-- The row length is a positive real. -/
theorem clen_pos : ∃ c : ℝ, 0 < c ∧ clen = (c : EReal) := by
  refine ⟨8388608 * (2 ^ 12)⁻¹, by norm_num, ?_⟩
  unfold clen
  simp [Ideal.ofBits, Ideal.ieee]

/-- The norm's offset is a positive real. -/
theorem ceps_pos : ∃ c : ℝ, 0 < c ∧ ceps = (c : EReal) := by
  unfold ceps
  simp only [Ideal.ofBits, Ideal.ieee]
  simp
  exact ⟨10995116 * (2 ^ 40)⁻¹, by norm_num, by rw [EReal.coe_mul]⟩

theorem mean_real (v : Row) (h : ∀ j, Real' (v j)) : Real' (mean v) := by
  obtain ⟨c, hc, e⟩ := clen_pos
  unfold mean
  rw [e, Ideal.div_coe hc.ne']
  exact (Real'.sum _ _ h).mul (.coe _)

/-- The variance of a real row is a real number, not negative. -/
theorem var_nonneg (v : Row) (h : ∀ j, Real' (v j)) : ∃ w : ℝ, 0 ≤ w ∧ var v = (w : EReal) := by
  obtain ⟨c, hc, e⟩ := clen_pos
  have key : ∀ s : Finset (Fin 2048), ∃ w : ℝ, 0 ≤ w ∧ ∑ k ∈ s, (v k - mean v) * (v k - mean v) = (w : EReal) := by
    intro s
    induction s using Finset.induction_on with
    | empty => exact ⟨0, le_refl _, by rw [Finset.sum_empty]; rfl⟩
    | insert a s ha ih =>
      obtain ⟨w, hw, ew⟩ := ih
      obtain ⟨d, hd⟩ := (h a).sub (mean_real v h)
      exact ⟨d * d + w, add_nonneg (mul_self_nonneg d) hw, by rw [Finset.sum_insert ha, ew, hd, ← EReal.coe_mul, ← EReal.coe_add]⟩
  obtain ⟨w, hw, ew⟩ := key Finset.univ
  refine ⟨w * (1 / c), mul_nonneg hw (by positivity), ?_⟩
  unfold var
  rw [e, Ideal.div_coe hc.ne', ew, ← EReal.coe_mul]

theorem rsqrt_real (v : Row) (h : ∀ j, Real' (v j)) : Real' (Ideal.rsqrt (var v + ceps)) := by
  obtain ⟨w, hw, ew⟩ := var_nonneg v h
  obtain ⟨c, hc, ec⟩ := ceps_pos
  have hp : 0 < w + c := by linarith
  rw [ew, ec, ← EReal.coe_add, Ideal.rsqrt_coe, if_neg (not_lt.2 hp.le), if_neg hp.ne']
  exact .coe _

theorem times_real {n : Nat} {N : Type} (v : Fin n → EReal) (W : Fin n → N → EReal) (j : N) (hv : ∀ k, Real' (v k)) (hW : ∀ k j, Real' (W k j)) : Real' (∑ k, v k * W k j) :=
  Real'.sum _ _ fun k => (hv k).mul (hW k j)

theorem norm_real (v g b : Row) (hv : ∀ j, Real' (v j)) (hg : ∀ j, Real' (g j)) (hb : ∀ j, Real' (b j)) (j : Fin 2048) : Real' (norm v g b j) :=
  ((((hv j).sub (mean_real v hv)).mul (rsqrt_real v hv)).mul (hg j)).add (hb j)

/-- The arguments the modulated rows are made of are real. -/
structure Args.Finite (A : Args) : Prop where
  yh : ∀ r k, Real' (A.yh r k)
  yr : ∀ r k, Real' (A.yr r k)
  x : ∀ r k, Real' (A.x r k)
  md : ∀ s k, Real' (A.md s k)
  wo : ∀ k j, Real' (A.wo k j)
  g : ∀ j, Real' (A.g j)
  b : ∀ j, Real' (A.b j)

/-- So the modulated rows are real. -/
theorem mod_real (A : Args) (h : A.Finite) (r : Fin 40960) (j : Fin 2048) : Real' (A.mod r j) := by
  have hm : ∀ j, Real' (mix (A.yh r) (A.yr r) A.wo j) := fun j =>
    (Real'.sum _ _ fun k => (h.yh r k).mul (h.wo _ j)).add (Real'.sum _ _ fun k => (h.yr r k).mul (h.wo _ j))
  have hp : ∀ j, Real' (pre (A.x r) (A.part r 2) (mix (A.yh r) (A.yr r) A.wo) j) := fun j =>
    (calpha_real.mul (h.x r j)).add ((h.md _ _).mul (hm j))
  exact ((norm_real _ _ _ hp h.g h.b j).mul (Real'.one.add (h.md _ _))).add (h.md _ _)

theorem padded_real (w : (⟨2, ![2048, 64]⟩ : Shape).Idx → EReal) (hw : ∀ i, Real' (w i)) (k : Fin 2048) (e : Fin 128) : Real' (padded w k e) := by
  unfold padded
  split
  · exact hw _
  · exact .zero

/-- The logits made from high and low parts are the plain products, for real rows and real weights. -/
theorem split_eq_logit (A : Args) (h : A.Finite) (w : (⟨2, ![2048, 64]⟩ : Shape).Idx → EReal) (hw : ∀ i, Real' (w i)) :
    A.splitArr (padded w) (fun k e => padded w k e - padded w k e) = A.logitArr (padded w) := by
  funext i
  have e1 : ∀ k e, padded w k e - padded w k e = 0 := fun k e => (padded_real w hw k e).sub_self
  have e2 : ∀ k, A.mod (i 0) k - A.mod (i 0) k = 0 := fun k => (mod_real A h (i 0) k).sub_self
  show (_ + times _ _ _) + times _ _ _ = times _ _ _
  unfold times
  have s1 : ∑ k, A.mod (i 0) k * (padded w k (i 1) - padded w k (i 1)) = 0 := Finset.sum_eq_zero fun k _ => by
    rw [show padded w k (i 1) - padded w k (i 1) = 0 from e1 k (i 1), mul_zero]
  have s2 : ∑ k, (A.mod (i 0) k - A.mod (i 0) k) * padded w k (i 1) = 0 := Finset.sum_eq_zero fun k _ => by rw [e2, zero_mul]
  refine (congrArg₂ (· + ·) (congrArg₂ (· + ·) rfl s1) s2).trans ?_
  rw [add_zero]
  exact add_zero _

end Cert.OutStage

end
-- ==== Proof.OutPre.lean ====
/-
  What the output stage's precondition says: the entries of its first nine arguments are real numbers.
-/
module

public import proofs.«01_k».proof.Pre_finite
public import proofs.«01_k».proof.Proof.OutFinite
public import Idealize.ShloMosaic.Lib.ReduceAll
public import Idealize.ShloMosaic.Lib.Affine

@[expose] public section

set_option maxRecDepth 16384

noncomputable section

namespace Cert.OutStage

open Idealize.ShloMosaic
open Cert.Pre_finite

/-- The word of infinity is the top of the extended reals. -/
theorem inf_top : Ideal.ofBits FTy.f32 0x7F800000#32 = ⊤ := by
  simp [Ideal.ofBits, Ideal.ieee]

instance : Subsingleton S_.Idx := ⟨fun a b => funext fun z => z.elim0⟩

/-- An array whose entries all compare below infinity, in absolute value, is real. -/
theorem real_of_reduce {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) : Real' (x i) := by
  have h := Host.reduce_andi_all _ _ hr hu j e i
  have h' : BitVec.ofBool (decide (max (x i) (-(x i)) < Ideal.ofBits FTy.f32 0x7F800000#32)) = 1#1 := h
  rw [inf_top] at h'
  refine Real'.of_abs ?_
  by_contra hn
  rw [decide_eq_false hn] at h'
  exact absurd h' (by decide)

/-- Where the precondition is all ones, the first nine arguments are real. -/
theorem finite_of [Facts] (a0 a1 : FVec Ideal S40960x1024 .bf16) (a2 : FVec Ideal S32x256x2048 .f32) (a3 : FVec Ideal S8x4096x2048 .f32) (a4 : FVec Ideal S16x12288 .f32) (a5 : FVec Ideal S2048x2048 .f32)
    (a6 a7 : FVec Ideal S2048 .f32) (a8 : FVec Ideal S2048x64 .f32) (a9 a10 : FVec Ideal S2048x512 .f32) (a11 : FVec Ideal S512x2048 .f32)
    (h : ∀ i, fn a0 a1 a2 a3 a4 a5 a6 a7 a8 a9 a10 a11 i = 1#1) :
    (∀ i, Real' (a0 i)) ∧ (∀ i, Real' (a1 i)) ∧ (∀ i, Real' (a2 i)) ∧ (∀ i, Real' (a3 i)) ∧ (∀ i, Real' (a4 i)) ∧ (∀ i, Real' (a5 i)) ∧ (∀ i, Real' (a6 i)) ∧ (∀ i, Real' (a7 i)) ∧ (∀ i, Real' (a8 i)) := by
  let j : S_.Idx := fun z => z.elim0
  obtain ⟨h7, r8⟩ := IntOp.andi_eq_one.1 (h j)
  obtain ⟨h6, r7⟩ := IntOp.andi_eq_one.1 h7
  obtain ⟨h5, r6⟩ := IntOp.andi_eq_one.1 h6
  obtain ⟨h4, r5⟩ := IntOp.andi_eq_one.1 h5
  obtain ⟨h3, r4⟩ := IntOp.andi_eq_one.1 h4
  obtain ⟨h2, r3⟩ := IntOp.andi_eq_one.1 h3
  obtain ⟨h1, r2⟩ := IntOp.andi_eq_one.1 h2
  obtain ⟨r0, r1⟩ := IntOp.andi_eq_one.1 h1
  clear h h1 h2 h3 h4 h5 h6 h7
  exact ⟨real_of_reduce (extf .f32 a0 Facts.bitsLt_bf16_f32) _ Facts.reducesTo_S40960x1024_S_d0_1 _ j r0,
    real_of_reduce (extf .f32 a1 Facts.bitsLt_bf16_f32) _ Facts.reducesTo_S40960x1024_S_d0_1 _ j r1,
    real_of_reduce a2 _ Facts.reducesTo_S32x256x2048_S_d0_1_2 _ j r2,
    real_of_reduce a3 _ Facts.reducesTo_S8x4096x2048_S_d0_1_2 _ j r3,
    real_of_reduce a4 _ Facts.reducesTo_S16x12288_S_d0_1 _ j r4,
    real_of_reduce a5 _ Facts.reducesTo_S2048x2048_S_d0_1 _ j r5,
    real_of_reduce a6 _ Facts.reducesTo_S2048_S_d0 _ j r6,
    real_of_reduce a7 _ Facts.reducesTo_S2048_S_d0 _ j r7,
    real_of_reduce a8 _ Facts.reducesTo_S2048x64_S_d0_1 _ j r8⟩

/-- So the stage's data are real. -/
theorem finite_args (a0 a1 : S40960x1024.Idx → EReal) (a2 : S32x256x2048.Idx → EReal) (a3 : S8x4096x2048.Idx → EReal) (a4 : S16x12288.Idx → EReal) (a5 : S2048x2048.Idx → EReal)
    (a6 a7 : S2048.Idx → EReal) (a9 a10 : S2048x512.Idx → EReal) (a11 : S512x2048.Idx → EReal)
    (h0 : ∀ i, Real' (a0 i)) (h1 : ∀ i, Real' (a1 i)) (h2 : ∀ i, Real' (a2 i)) (h3 : ∀ i, Real' (a3 i)) (h4 : ∀ i, Real' (a4 i)) (h5 : ∀ i, Real' (a5 i))
    (h6 : ∀ i, Real' (a6 i)) (h7 : ∀ i, Real' (a7 i)) : (Args.of a0 a1 a2 a3 a4 a5 a6 a7 a9 a10 a11).Finite where
  yh r k := h0 _
  yr r k := h1 _
  x r k := by
    show Real' (bothRows a2 a3 r k)
    unfold bothRows
    split
    · exact h2 _
    · exact h3 _
  md s k := h4 _
  wo k j := h5 _
  g j := h6 _
  b j := h7 _

end Cert.OutStage

end
-- ==== Proof.AdaKernel.lean ====
/-
  THE MODULATIONS: what the kernel's result array holds after the run, and the agreement with the reference.

  The grid is 12 column tiles. Every point multiplies the conditioning rows, each entry times its logistic, by one column
  tile of the weights and adds the bias; the product is made of three, from a high and a low part of either factor. On
  real arguments the low parts are zero, so the array ends holding, at row `r` and column `j`,
  `∑ k, c r k * logistic (c r k) * w k j + b j`.
-/
module

public import proofs.«01_k».proof.Pre_finite_cond
public import proofs.«01_k».proof.Proof.OutPre
public import proofs.«01_k».proof.Proof.Gen.Kernel5Ideal.Value
public import proofs.«01_k».proof.Proof.Gen.Reference5Ideal.Run
public import Idealize.ShloMosaic.Lib.Pointwise

@[expose] public section

set_option maxRecDepth 16384

noncomputable section

namespace Cert.Kernel5Ideal.Ada

open Cert.Kernel5Ideal Cert.Kernel5Ideal.Gen Idealize.ShloMosaic Idealize.ShloMosaic.TcCoe Idealize.SL.Sem Idealize.ShloMosaic.StableHlo
open Idealize.ShloMosaic.Pipeline (Dat)
open Cert.OutStage (Real')

variable (m : (ℓ : Loc nD τ sig) → Buf (Elt Ideal) ℓ) (ρ : Dev nD → PrngReg)

theorem hz : (![0, 0] : Fin 2 → Nat) = fun _ => 0 := funext fun a => by fin_cases a <;> rfl

/-- A number times its logistic. -/
def silu (x : EReal) : EReal := x * Ideal.logistic x

/-- It is real where the number is. -/
theorem silu_real {x : EReal} : Real' x → Real' (silu x) := by
  rintro ⟨r, rfl⟩
  unfold silu
  rw [Ideal.logistic_coe]
  exact .mul (.coe _) (.coe _)

/-- What a point stores, at an index, on real blocks. -/
theorem pay_apply (x : Vec Ideal S16x2048 .f32) (w : Vec Ideal S2048x1024 .f32) (b : Vec Ideal S1x1024 .f32)
    (hx : ∀ i, Real' (x i)) (hw : ∀ i, Real' (w i)) (p : Fin 16) (q : Fin 1024) :
    k0_pay1 x w b (ix2 p q) = (∑ k : Fin 2048, silu (x (ix2 p k)) * w (ix2 k q)) + b (ix2 0 q) := by
  unfold k0_pay1
  simp only [pointwise]
  have e1 : ∀ k : Fin 2048, w (ix2 k q) - w (ix2 k q) = 0 := fun k => (hw _).sub_self
  have e2 : ∀ k : Fin 2048, x (ix2 p k) * Ideal.logistic (x (ix2 p k)) - x (ix2 p k) * Ideal.logistic (x (ix2 p k)) = 0 := fun k =>
    (silu_real (hx _)).sub_self
  simp only [e1, e2, mul_zero, zero_mul, Finset.sum_const_zero, zero_add, add_zero]
  rfl

/-- The modulations as a function of the conditioning rows, the weights and the bias. -/
def modulations (x : Vec Ideal S16x2048 .f32) (w : Vec Ideal S2048x12288 .f32) (b : Vec Ideal S12288 .f32) (i : S16x12288.Idx) : EReal :=
  (∑ k : Fin 2048, silu (x (ix2 (i 0) k)) * w (ix2 k (i 1))) + b (ix1 (i 1))

/-- The index maps in closed form. -/
theorem maps : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The result's blocks tile it. -/
theorem cover (i : S16x12288.Idx) : ∃ t : Fin cfg0.N, (cfg0.win 3).flush t = true ∧ i ∈ ((cfg0.win 3).blk t).view.set := by
  have h0 : (i 0).val < 16 := (i 0).isLt
  have h1 : (i 1).val < 12288 := (i 1).isLt
  have ht : (i 1).val / 1024 < cfg0.N := by show _ < grid0.N; rw [N_0]; omega
  refine ⟨⟨_, ht⟩, flush0_3 _, ?_⟩
  show i ∈ ((View.whole main_v1).slice (win0_3.rect ⟨(i 1).val / 1024, ht⟩)).set
  rw [View.set_slice_whole, Rect.mem_set_unit]
  have e := (maps ⟨_, ht⟩).2.2.2
  intro a
  match a with
  | ⟨0, _⟩ => show win0_3.index ⟨_, ht⟩ 0 * 16 ≤ (i 0).val ∧ (i 0).val < win0_3.index ⟨_, ht⟩ 0 * 16 + 16; rw [congrFun e 0]; show 0 * 16 ≤ _ ∧ _ < 0 * 16 + 16; omega
  | ⟨1, _⟩ => show win0_3.index ⟨_, ht⟩ 1 * 1024 ≤ (i 1).val ∧ (i 1).val < win0_3.index ⟨_, ht⟩ 1 * 1024 + 1024; rw [congrFun e 1]; show (i 1).val / 1024 * 1024 ≤ _ ∧ _ < (i 1).val / 1024 * 1024 + 1024; omega

/-- The conditioning rows, the weights and the bias the call is given. -/
abbrev Xm (c : Dev nD) : Vec Ideal S16x2048 .f32 := m ((c : Thread nD τ).loc main_arg0)
abbrev Wm (c : Dev nD) : Vec Ideal S2048x12288 .f32 := m ((c : Thread nD τ).loc main_arg1)
abbrev Bm (c : Dev nD) : Vec Ideal S12288 .f32 := m ((c : Thread nD τ).loc main_arg2)

/-- Every point reads all the rows, -/
theorem iblk0 (c : Dev nD) (t : Fin cfg0.N) (p : Fin 16) (k : Fin 2048) : iblk m c 0 t (ix2 p k) = Xm m c (ix2 p k) := by
  have e := (maps t).1
  show V m c main_arg0 (((cfg0.win 0).blk t).view.emb (ix2 p k)) = _
  rw [V_main_arg0]
  show Xm m c _ = _
  congr 1
  funext x
  apply Fin.ext
  match x with
  | ⟨0, _⟩ => show win0_0.index t 0 * 16 + 1 * p.val = p.val; rw [congrFun e 0]; show 0 * 16 + 1 * p.val = _; omega
  | ⟨1, _⟩ => show win0_0.index t 1 * 2048 + 1 * k.val = k.val; rw [congrFun e 1]; show 0 * 2048 + 1 * k.val = _; omega

/-- its column tile of the weights -/
theorem iblk1 (c : Dev nD) (t : Fin cfg0.N) (k : Fin 2048) (q : Fin 1024) (j : Fin 12288) (hj : j.val = t.val * 1024 + q.val) :
    iblk m c 1 t (ix2 k q) = Wm m c (ix2 k j) := by
  have e := (maps t).2.1
  show V m c main_arg1 (((cfg0.win 1).blk t).view.emb (ix2 k q)) = _
  rw [V_main_arg1]
  show Wm m c _ = _
  congr 1
  funext x
  apply Fin.ext
  match x with
  | ⟨0, _⟩ => show win0_1.index t 0 * 2048 + 1 * k.val = k.val; rw [congrFun e 0]; show 0 * 2048 + 1 * k.val = _; omega
  | ⟨1, _⟩ => show win0_1.index t 1 * 1024 + 1 * q.val = j.val; rw [congrFun e 1, hj]; show t.val * 1024 + 1 * q.val = _; omega

/-- and of the bias. -/
theorem iblk2 (c : Dev nD) (t : Fin cfg0.N) (q : Fin 1024) (j : Fin 12288) (hj : j.val = t.val * 1024 + q.val) :
    iblk m c 2 t (ix2 0 q) = Bm m c (ix1 j) := by
  have e := (maps t).2.2.1
  have v : V m c main_v0 = shapeCast S1x12288 (Bm m c) shapeCasts_S12288_S1x12288 := by
    show StableHlo.after _ _ _ = _
    after_results
    rfl
  show V m c main_v0 (((cfg0.win 2).blk t).view.emb (ix2 0 q)) = _
  have e' : ((cfg0.win 2).blk t).view.emb (ix2 0 q) = (ix2 0 j : S1x12288.Idx) := by
    funext x
    apply Fin.ext
    match x with
    | ⟨0, _⟩ => show win0_2.index t 0 * 1 + 1 * 0 = 0; rw [congrFun e 0]; rfl
    | ⟨1, _⟩ => show win0_2.index t 1 * 1024 + 1 * q.val = j.val; rw [congrFun e 1, hj]; show t.val * 1024 + 1 * q.val = _; omega
  rw [e', v]
  simp only [pointwise]

/-- What a point writes back is its block of the modulations. -/
theorem flushed_eq (c : Dev nD) (hx : ∀ i, Real' (Xm m c i)) (hw : ∀ i, Real' (Wm m c i)) (t : Fin cfg0.N) :
    (dats m 0 c).flushed 3 t = ((cfg0.win 3).blk t).view.read (Elt Ideal) (modulations (Xm m c) (Wm m c) (Bm m c)) := by
  rw [Value.flushed3]
  funext y
  obtain ⟨p, q, rfl⟩ : ∃ (p : Fin 16) (q : Fin 1024), y = ix2 p q := ⟨y 0, y 1, by idx_vars y⟩
  have e := (maps t).2.2.2
  have ht : t.val < 12 := lt_of_lt_of_eq t.isLt N_0
  have e' : ((cfg0.win 3).blk t).view.emb (ix2 p q) = (ix2 p ⟨t.val * 1024 + q.val, by omega⟩ : S16x12288.Idx) := by
    funext x
    apply Fin.ext
    match x with
    | ⟨0, _⟩ => show win0_3.index t 0 * 16 + 1 * p.val = p.val; rw [congrFun e 0]; show 0 * 16 + 1 * p.val = _; omega
    | ⟨1, _⟩ => show win0_3.index t 1 * 1024 + 1 * q.val = t.val * 1024 + q.val; rw [congrFun e 1]; show t.val * 1024 + 1 * q.val = _; omega
  have hr0 : ∀ i, Real' (iblk m c 0 t i) := fun i => by
    obtain ⟨p, k, rfl⟩ : ∃ (p : Fin 16) (k : Fin 2048), i = ix2 p k := ⟨i 0, i 1, by idx_vars i⟩
    rw [iblk0]; exact hx _
  have hr1 : ∀ i, Real' (iblk m c 1 t i) := fun i => by
    obtain ⟨k, q, rfl⟩ : ∃ (k : Fin 2048) (q : Fin 1024), i = ix2 k q := ⟨i 0, i 1, by idx_vars i⟩
    rw [iblk1 m c t k q ⟨t.val * 1024 + q.val, by omega⟩ rfl]; exact hw _
  show out0_3 (iblk m c 0 t) (iblk m c 1 t) (iblk m c 2 t) (ix2 p q) = modulations (Xm m c) (Wm m c) (Bm m c) (((cfg0.win 3).blk t).view.emb (ix2 p q))
  unfold out0_3
  rw [View.canon_unit_zero (S := S16x1024) hz, View.ld_unit_zero (S := S16x2048) hz, View.ld_unit_zero (S := S2048x1024) hz, View.ld_unit_zero (S := S1x1024) hz,
    pay_apply _ _ _ hr0 hr1, e', iblk2 m c t q ⟨t.val * 1024 + q.val, by omega⟩ rfl]
  unfold modulations
  refine congrArg (· + _) (Finset.sum_congr rfl fun k _ => ?_)
  rw [iblk0, iblk1 m c t k q ⟨t.val * 1024 + q.val, by omega⟩ rfl]
  rfl

/-- The kernel's run on real rows and weights. -/
theorem run (h : ∀ c : Dev nD, (∀ i, Real' (Xm m c i)) ∧ (∀ i, Real' (Wm m c i))) :
    θ_run defs (onTc (τ := τ) (main (F := Ideal))) ⟨m, fun _ => 0, ρ⟩ fun r => ∀ c : Dev nD,
      r.2.mem ((c : Thread nD τ).loc main_v1) = modulations (Xm m c) (Wm m c) (Bm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ k c => ⟨(k c).1.trans ((dats m 0 c).arrAt_eq_of_cover 3 _ (fun t _ => flushed_eq m c (h c).1 (h c).2 t) cover), (k c).2⟩)
    (Value.run_blocks m ρ)

end Cert.Kernel5Ideal.Ada

namespace Cert.Reference5Ideal.Ada

open Cert.Reference5Ideal Cert.Reference5Ideal.Gen Idealize.ShloMosaic Idealize.ShloMosaic.TcCoe Idealize.SL.Sem
open Cert.Kernel5Ideal.Ada (silu modulations)
open Cert.OutStage (Real')

/-- Where the precondition is all ones, the rows and the weights are real. -/
theorem real_of [Cert.Pre_finite_cond.Facts] (a0 : FVec Ideal S16x2048 .f32) (a1 : FVec Ideal S2048x12288 .f32) (a2 : FVec Ideal S12288 .f32)
    (h : ∀ i, Cert.Pre_finite_cond.fn a0 a1 a2 i = 1#1) : (∀ i, Real' (a0 i)) ∧ (∀ i, Real' (a1 i)) := by
  let j : S_.Idx := fun z => z.elim0
  obtain ⟨r0, r1⟩ := IntOp.andi_eq_one.1 (h j)
  exact ⟨Cert.OutStage.real_of_reduce a0 _ Cert.Pre_finite_cond.Facts.reducesTo_S16x2048_S_d0_1 _ j r0,
    Cert.OutStage.real_of_reduce a1 _ Cert.Pre_finite_cond.Facts.reducesTo_S2048x12288_S_d0_1 _ j r1⟩

/-- The rows, each entry times its logistic, as the reference's operations make them. -/
def srows (x : FVec Ideal S16x2048 .f32) : FVec Ideal S16x2048 .f32 :=
  mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))

theorem srows_apply (x : FVec Ideal S16x2048 .f32) (i : S16x2048.Idx) : srows x i = silu (x i) := by
  unfold srows silu Ideal.logistic
  idx_vars i
  simp only [pointwise]

/-- The reference's result is the same function of the arguments. -/
theorem result_eq (x : FVec Ideal S16x2048 .f32) (w : FVec Ideal S2048x12288 .f32) (b : FVec Ideal S12288 .f32) :
    addf (Host.dotGeneral dot_S16x2048_S2048x12288_S16x12288_1_0_0_1_n_n none (srows x) w)
      (broadcastInDim S16x12288 ![0, 1] bcast_S1x12288_S16x12288_0_1 (broadcastInDim S1x12288 ![1] bcast_S12288_S1x12288_1 b)) = modulations x w b := by
  funext i
  idx_vars i
  simp only [pointwise, srows_apply]
  exact congrArg (· + _) (zero_add _)

end Cert.Reference5Ideal.Ada

end
-- ==== Proof.lean ====
/-
  THE CLAIMS, assembled: each frame from its program's run, each value claim from the two programs' runs read as one
  function of the arguments.
-/
module

public import proofs.«01_k».proof.Defs
public import proofs.«01_k».proof.Proof.Gen.Kernel.Loops
public import proofs.«01_k».proof.Proof.Gen.Kernel.Skeleton
public import proofs.«01_k».proof.Proof.Gen.Kernel.Frame
public import proofs.«01_k».proof.Proof.Gen.KernelIdeal.Loops
public import proofs.«01_k».proof.Proof.Gen.KernelIdeal.Skeleton
public import proofs.«01_k».proof.Proof.Gen.KernelIdeal.Frame
public import proofs.«01_k».proof.Proof.Gen.ReferenceIdeal.Run
public import proofs.«01_k».proof.Proof.Gen.Kernel2.Skeleton
public import proofs.«01_k».proof.Proof.Gen.Kernel2.Launch
public import proofs.«01_k».proof.Proof.Gen.Kernel2Ideal.Skeleton
public import proofs.«01_k».proof.Proof.Gen.Kernel2Ideal.Launch
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Skeleton
public import proofs.«01_k».proof.Proof.Gen.Kernel4.Launch
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Quiescent
public import proofs.«01_k».proof.Proof.ProjRef
public import proofs.«01_k».proof.Proof.RetFrameBits
public import proofs.«01_k».proof.Proof.RetRef
public import proofs.«01_k».proof.Proof.GmmPreBits
public import proofs.«01_k».proof.Proof.GmmBlocks
public import proofs.«01_k».proof.Proof.GmmRef
public import proofs.«01_k».proof.Proof.OutFrameBits
public import proofs.«01_k».proof.Proof.OutHost
public import proofs.«01_k».proof.Proof.OutRef
public import proofs.«01_k».proof.Proof.OutPre
public import proofs.«01_k».proof.Proof.AdaKernel

@[expose] public section

noncomputable section

namespace Cert.Proof

open Idealize.ShloMosaic Idealize.SL.Sem

/-- The projection's reference runs to its end and leaves its arguments alone. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The projection's kernel and its reference give the same result on the extended reals. -/
theorem algebraic_Kernel3Ideal_Reference3Ideal : algebraic_Kernel3Ideal_Reference3Ideal := by
  intro m ρ m' ρ' _ hagree
  refine ⟨_, Cert.Kernel3Ideal.Proj.run_args m ρ, ?_⟩
  refine (θ_run Cert.Reference3Ideal.defs _ _).mono (fun _ h c => ⟨?_, (h c).2⟩) (Cert.Reference3Ideal.Proj.run m' ρ')
  rw [(h c).1]
  obtain ⟨e0, e1, e2, e3⟩ := hagree c
  rw [e0, e1, e2, e3]

/-- The retention's reference runs to its end and leaves its arguments alone. -/
theorem quiescent_ReferenceIdeal : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The retention's kernel and its reference give the same three results on the extended reals. -/
theorem algebraic_KernelIdeal_ReferenceIdeal : algebraic_KernelIdeal_ReferenceIdeal := by
  intro m ρ m' ρ' _ hagree
  refine ⟨_, _, _, Cert.KernelIdeal.Ret.run_args m ρ, ?_⟩
  refine (θ_run Cert.ReferenceIdeal.defs _ _).mono (fun _ h c => ⟨?_, ?_, ?_, (h c).2.2.2⟩) (Cert.ReferenceIdeal.Ret.run m' ρ')
  · rw [(h c).1]; obtain ⟨e0, e1, e2⟩ := hagree c; rw [e0, e1, e2]
  · rw [(h c).2.1]; obtain ⟨e0, e1, e2⟩ := hagree c; rw [e0, e1]
  · rw [(h c).2.2.1]; obtain ⟨e0, e1, e2⟩ := hagree c; rw [e0, e2]

/-- The shapes the grouped products' precondition needs. -/
theorem facts_in_range : Cert.Pre_in_range.Facts := ⟨by decide, by decide⟩

/-- The grouped products' call, at its own arithmetic, leaves its arguments alone. -/
theorem quiescent_Kernel2 : @quiescent_Kernel2 Cert.Kernel2.Gen.facts facts_in_range := fun m ρ h =>
  Cert.Kernel2.Gmm.frame m ρ (@Cert.Kernel2.Gmm.ok_of_pre m facts_in_range h)

/-- So it does on the extended reals. -/
theorem quiescent_Kernel2Ideal : @quiescent_Kernel2Ideal Cert.Kernel2Ideal.Gen.facts facts_in_range := fun m ρ h =>
  Cert.Kernel2Ideal.Gmm.frame m ρ (@Cert.Kernel2Ideal.Gmm.ok_of_pre m facts_in_range h)

/-- The grouped products' reference runs to its end and leaves its arguments alone. -/
theorem quiescent_Reference2Ideal : @quiescent_Reference2Ideal Cert.Reference2Ideal.Gen.facts facts_in_range := fun m ρ _ =>
  (θ_run Cert.Reference2Ideal.defs _ _).mono (fun r h => ⟨fun c => (h c).2, sem_eq_zero_of_no_sems (by decide) r.2⟩)
    (Cert.Reference2Ideal.Value.run (F := Ideal) m ρ)

/-- The grouped products' kernel and its reference give the same result on the extended reals. -/
theorem algebraic_Kernel2Ideal_Reference2Ideal : @algebraic_Kernel2Ideal_Reference2Ideal Cert.Kernel2Ideal.Gen.facts Cert.Reference2Ideal.Gen.facts facts_in_range := by
  intro m ρ m' ρ' hpre hagree
  obtain ⟨h0, h1, h2⟩ := @Cert.Kernel2Ideal.Gmm.ranges m facts_in_range hpre
  refine ⟨_, Cert.Kernel2Ideal.Gmm.run m ρ (Cert.Kernel2Ideal.Gmm.ok_of m h0 h1 h2) h0 h1 h2, ?_⟩
  refine (θ_run Cert.Reference2Ideal.defs _ _).mono (fun _ h c => ⟨?_, (h c).2⟩) (Cert.Reference2Ideal.Value.run (F := Ideal) m' ρ')
  obtain ⟨e0, e1, e2, e3, e4, e5⟩ := hagree c
  obtain rfl : c = 0 := Subsingleton.elim _ _
  rw [(h 0).1, Cert.Reference2Ideal.Gmm.res_out m' 0 (fun b => by rw [e1]; exact h0 b) (by rw [e2]; exact h2), e0, e1, e2, e3, e4, e5]

/-- The shapes the output stage's precondition needs. -/
theorem facts_finite : Cert.Pre_finite.Facts := ⟨by decide, by decide, by decide, by decide, by decide, by decide, by decide, by decide, by decide, by decide, by decide, by decide, by decide, by decide, by decide, by decide⟩

/-- The output stage's reference runs to its end and leaves its arguments alone. -/
theorem quiescent_Reference4Ideal : @quiescent_Reference4Ideal Cert.Reference4Ideal.Gen.facts := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The output stage's kernel and its reference give the same three results on the extended reals, from real arguments. -/
theorem algebraic_Kernel4Ideal_Reference4Ideal : @algebraic_Kernel4Ideal_Reference4Ideal_pre_finite Cert.Kernel4Ideal.Gen.facts Cert.Reference4Ideal.Gen.facts facts_finite := by
  intro m ρ m' ρ' hpre hagree
  refine ⟨_, _, _, Cert.Kernel4Ideal.Out.run m ρ, ?_⟩
  refine (θ_run Cert.Reference4Ideal.defs _ _).mono (fun _ h c => ⟨?_, ?_, ?_, (h c).2.2.2⟩) (Cert.Reference4Ideal.Value.run (F := Ideal) m' ρ')
  · rw [(h c).1, Cert.Reference4Ideal.Out.out0, Cert.Kernel4Ideal.Out.found_eq]
    obtain ⟨e0, e1, e2, e3, e4, e5, e6, e7, e8, e9, e10, e11⟩ := hagree c
    unfold Cert.Reference4Ideal.Out.given
    rw [e0, e1, e2, e3, e4, e5, e6, e7, e9, e10, e11]
    rfl
  · rw [(h c).2.1, Cert.Reference4Ideal.Out.out1, Cert.Kernel4Ideal.Out.found_eq]
    obtain ⟨e0, e1, e2, e3, e4, e5, e6, e7, e8, e9, e10, e11⟩ := hagree c
    unfold Cert.Reference4Ideal.Out.given
    rw [e0, e1, e2, e3, e4, e5, e6, e7, e9, e10, e11]
    rfl
  · obtain ⟨f0, f1, f2, f3, f4, f5, f6, f7, f8⟩ := @Cert.OutStage.finite_of facts_finite _ _ _ _ _ _ _ _ _ _ _ _ (fun i => congrFun (hpre c) i)
    rw [(h c).2.2.1, Cert.Reference4Ideal.Out.out2, Cert.Kernel4Ideal.Out.split_eq]
    refine Eq.trans ?_ (Cert.OutStage.split_eq_logit _ (Cert.OutStage.finite_args _ _ _ _ _ _ _ _ _ _ _ f0 f1 f2 f3 f4 f5 f6 f7) _ f8).symm
    obtain ⟨e0, e1, e2, e3, e4, e5, e6, e7, e8, e9, e10, e11⟩ := hagree c
    unfold Cert.Reference4Ideal.Out.given
    rw [e0, e1, e2, e3, e4, e5, e6, e7, e8, e9, e10, e11]

/-- The modulations' reference runs to its end and leaves its arguments alone. -/
theorem quiescent_Reference5Ideal : @quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run (F := Ideal) m ρ)

/-- The shapes the modulations' precondition needs. -/
theorem facts_finite_cond : Cert.Pre_finite_cond.Facts := ⟨by decide, by decide, by decide, by decide, by decide⟩

/-- The modulations' kernel and its reference give the same result on the extended reals, from real rows and weights. -/
theorem algebraic_Kernel5Ideal_Reference5Ideal : @algebraic_Kernel5Ideal_Reference5Ideal_pre_finite_cond Cert.Kernel5Ideal.Gen.facts Cert.Reference5Ideal.Gen.facts facts_finite_cond := by
  intro m ρ m' ρ' hpre hagree
  refine ⟨_, Cert.Kernel5Ideal.Ada.run m ρ fun c => @Cert.Reference5Ideal.Ada.real_of facts_finite_cond _ _ _ (fun i => congrFun (hpre c) i), ?_⟩
  refine (θ_run Cert.Reference5Ideal.defs _ _).mono (fun _ h c => ⟨?_, (h c).2⟩) (Cert.Reference5Ideal.Value.run (F := Ideal) m' ρ')
  obtain ⟨e0, e1, e2⟩ := hagree c
  refine (h c).1.trans ((Cert.Reference5Ideal.Ada.result_eq _ _ _).trans ?_)
  rw [e0, e1, e2]

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts, facts_in_range, facts_finite, facts_finite_cond,
  fun m ρ _ => Cert.Kernel.Ret.frame m ρ, fun m ρ _ => Cert.KernelIdeal.Ret.frame m ρ, quiescent_ReferenceIdeal,
  quiescent_Kernel2, quiescent_Kernel2Ideal, quiescent_Reference2Ideal,
  fun m ρ _ => Cert.Kernel3.Gen.frame m ρ, fun m ρ _ => Cert.Kernel3Ideal.Gen.frame m ρ, quiescent_Reference3Ideal,
  fun m ρ _ => Cert.Kernel4.Out.frame m ρ, fun m ρ _ => Cert.Kernel4Ideal.Out.frame m ρ, fun m ρ _ => Cert.Kernel4Ideal.Out.frame m ρ, quiescent_Reference4Ideal, fun m ρ _ => quiescent_Reference4Ideal m ρ trivial,
  fun m ρ _ => Cert.Kernel5.Gen.frame m ρ, fun m ρ _ => Cert.Kernel5Ideal.Gen.frame m ρ, fun m ρ _ => Cert.Kernel5Ideal.Gen.frame m ρ, quiescent_Reference5Ideal, fun m ρ _ => quiescent_Reference5Ideal m ρ trivial,
  (trivial : preserves_Kernel_KernelIdeal), algebraic_KernelIdeal_ReferenceIdeal, (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal, (trivial : preserves_Kernel5_Kernel5Ideal), algebraic_Kernel5Ideal_Reference5Ideal⟩

end Cert.Proof

end
